-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v71_6)) (v1 : (c : Dev Cert.Kernel2Ideal.nD) → Buf (Elt Ideal) ((c.tc : Thread Cert.Kernel2Ideal.nD Cert.Kernel2Ideal.τ).loc Cert.Kernel2Ideal.main_v71_7)) (v2 : (c : Dev Cert.Kernel2Ideal.nD) → Buf (Elt Ideal) ((c.tc : Thread Cert.Kernel2Ideal.nD Cert.Kernel2Ideal.τ).loc Cert.Kernel2Ideal.main_v71_8)) (v3 : (c : Dev Cert.Kernel2Ideal.nD) → Buf (Elt Ideal) ((c.tc : Thread Cert.Kernel2Ideal.nD Cert.Kernel2Ideal.τ).loc Cert.Kernel2Ideal.main_v71_9)) (v4 : (c : Dev Cert.Kernel2Ideal.nD) → Buf (Elt Ideal) ((c.tc : Thread Cert.Kernel2Ideal.nD Cert.Kernel2Ideal.τ).loc Cert.Kernel2Ideal.main_v71_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71_6) = v0 c
          ∧ r.2.mem ((c.tc : Thread Cert.Kernel2Ideal.nD Cert.Kernel2Ideal.τ).loc Cert.Kernel2Ideal.main_v71_7) = v1 c
          ∧ r.2.mem ((c.tc : Thread Cert.Kernel2Ideal.nD Cert.Kernel2Ideal.τ).loc Cert.Kernel2Ideal.main_v71_8) = v2 c
          ∧ r.2.mem ((c.tc : Thread Cert.Kernel2Ideal.nD Cert.Kernel2Ideal.τ).loc Cert.Kernel2Ideal.main_v71_9) = v3 c
          ∧ r.2.mem ((c.tc : Thread Cert.Kernel2Ideal.nD Cert.Kernel2Ideal.τ).loc Cert.Kernel2Ideal.main_v71_10) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v38) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S256x512x128 : Shape := ⟨3, ![256, 512, 128]⟩
abbrev S256x256x128 : Shape := ⟨3, ![256, 256, 128]⟩
abbrev S32768x128 : Shape := ⟨2, ![32768, 128]⟩
abbrev S64x144x512 : Shape := ⟨3, ![64, 144, 512]⟩
abbrev S32768x32 : Shape := ⟨2, ![32768, 32]⟩
abbrev S32768x512 : Shape := ⟨2, ![32768, 512]⟩
abbrev S1x512x128 : Shape := ⟨3, ![1, 512, 128]⟩
abbrev S1x256x128 : Shape := ⟨3, ![1, 256, 128]⟩
abbrev S128x128 : Shape := ⟨2, ![128, 128]⟩
abbrev S4096x128 : Shape := ⟨2, ![4096, 128]⟩
abbrev S8x144x512 : Shape := ⟨3, ![8, 144, 512]⟩
abbrev S4096x32 : Shape := ⟨2, ![4096, 32]⟩
abbrev S128x512 : Shape := ⟨2, ![128, 512]⟩
abbrev S32x128x128 : Shape := ⟨3, ![32, 128, 128]⟩
abbrev S32x1024 : Shape := ⟨2, ![32, 1024]⟩
abbrev S128x1024 : Shape := ⟨2, ![128, 1024]⟩
abbrev S512x1024 : Shape := ⟨2, ![512, 1024]⟩
abbrev S144x1024 : Shape := ⟨2, ![144, 1024]⟩
abbrev S1x32x128 : Shape := ⟨3, ![1, 32, 128]⟩
abbrev S32x128 : Shape := ⟨2, ![32, 128]⟩
abbrev S8x128 : Shape := ⟨2, ![8, 128]⟩
abbrev S1x128 : Shape := ⟨2, ![1, 128]⟩
abbrev S512x1 : Shape := ⟨2, ![512, 1]⟩
abbrev S512x32 : Shape := ⟨2, ![512, 32]⟩
abbrev S512x128 : Shape := ⟨2, ![512, 128]⟩
abbrev S1x8x128 : Shape := ⟨3, ![1, 8, 128]⟩
abbrev S1x128x128 : Shape := ⟨3, ![1, 128, 128]⟩
abbrev S16x8x128 : Shape := ⟨3, ![16, 8, 128]⟩
abbrev S128 : Shape := ⟨1, ![128]⟩
abbrev S1x64x128 : Shape := ⟨3, ![1, 64, 128]⟩
abbrev S64x128 : Shape := ⟨2, ![64, 128]⟩
abbrev S1x1x128 : Shape := ⟨3, ![1, 1, 128]⟩
abbrev S1 : Shape := ⟨1, ![1]⟩
abbrev S1x1x1 : Shape := ⟨3, ![1, 1, 1]⟩
abbrev S512x512 : Shape := ⟨2, ![512, 512]⟩
abbrev S1x1024 : Shape := ⟨2, ![1, 1024]⟩
abbrev S1x144x512 : Shape := ⟨3, ![1, 144, 512]⟩
abbrev S144x512 : Shape := ⟨2, ![144, 512]⟩

abbrev nBuf : Space → Nat
  | .hbm => 7
  | .vmem => 20
  | .smem => 0
  | _ => 0

abbrev bufTy : (tb : Table) → Fin (tcTables nBuf tb) → BufTy
  | .hbm, ⟨0, _⟩ => ⟨S256x512x128, .bf16⟩
  | .hbm, ⟨1, _⟩ => ⟨S256x256x128, .bf16⟩
  | .hbm, ⟨2, _⟩ => ⟨S32768x128, .f32⟩
  | .hbm, ⟨3, _⟩ => ⟨S32768x128, .bf16⟩
  | .hbm, ⟨4, _⟩ => ⟨S64x144x512, .bf16⟩
  | .hbm, ⟨5, _⟩ => ⟨S32768x32, .bf16⟩
  | .hbm, ⟨6, _⟩ => ⟨S32768x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S128x128, .f32⟩
  | .local _ .vmem, ⟨5, _⟩ => ⟨S128x128, .f32⟩
  | .local _ .vmem, ⟨6, _⟩ => ⟨S4096x128, .bf16⟩
  | .local _ .vmem, ⟨7, _⟩ => ⟨S4096x128, .bf16⟩
  | .local _ .vmem, ⟨8, _⟩ => ⟨S8x144x512, .bf16⟩
  | .local _ .vmem, ⟨9, _⟩ => ⟨S8x144x512, .bf16⟩
  | .local _ .vmem, ⟨10, _⟩ => ⟨S4096x32, .bf16⟩
  | .local _ .vmem, ⟨11, _⟩ => ⟨S4096x32, .bf16⟩
  | .local _ .vmem, ⟨12, _⟩ => ⟨S128x512, .bf16⟩
  | .local _ .vmem, ⟨13, _⟩ => ⟨S128x512, .bf16⟩
  | .local _ .vmem, ⟨14, _⟩ => ⟨S4096x128, .i32⟩
  | .local _ .vmem, ⟨15, _⟩ => ⟨S32x128x128, .i32⟩
  | .local _ .vmem, ⟨16, _⟩ => ⟨S32x1024, .bf16⟩
  | .local _ .vmem, ⟨17, _⟩ => ⟨S128x1024, .bf16⟩
  | .local _ .vmem, ⟨18, _⟩ => ⟨S512x1024, .bf16⟩
  | .local _ .vmem, ⟨19, _⟩ => ⟨S144x1024, .f32⟩
  | _, _ => ⟨S256x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_35 : BitVec 32 := 1#32
  ⟨c0_i32_33, v66, c1_i32_35⟩
def k0_mult1 (i : grid0.Coords) (k0_t1 : Fin (k0_t1_loop i).trips) : BitVec 32 :=
  let c0_i32_33 : BitVec 32 := 0#32
  let c1_i32_35 : BitVec 32 := 1#32
  let arg15 : BitVec 32 := Scf.iv c0_i32_33 c1_i32_35 k0_t1
  let c512_i32_223 : BitVec 32 := 512#32
  let v755 : BitVec 32 := Scalar.muli arg15 c512_i32_223
  v755
def k0_off1 (i : grid0.Coords) (k0_t1 : Fin (k0_t1_loop i).trips) : Fin 2 → Nat :=
  let c0_i32_33 : BitVec 32 := 0#32
  let c1_i32_35 : BitVec 32 := 1#32
  let arg15 : BitVec 32 := Scf.iv c0_i32_33 c1_i32_35 k0_t1
  let c512_i32_223 : BitVec 32 := 512#32
  let v755 : BitVec 32 := Scalar.muli arg15 c512_i32_223
  let v756 : BitVec 32 := v755
  let v757 : Index := Scalar.indexCast v756
  let c0_224 : Index := 0#32
  ![v757.toNat, 0]
def k0_off2 (i : grid0.Coords) (k0_t1 : Fin (k0_t1_loop i).trips) : Fin 2 → Nat :=
  let c0_i32_33 : BitVec 32 := 0#32
  let c1_i32_35 : BitVec 32 := 1#32
  let arg15 : BitVec 32 := Scf.iv c0_i32_33 c1_i32_35 k0_t1
  let c512_i32_223 : BitVec 32 := 512#32
  let v755 : BitVec 32 := Scalar.muli arg15 c512_i32_223
  let v756 : BitVec 32 := v755
  let v831 : Index := Scalar.indexCast v756
  let c0_239 : Index := 0#32
  ![v831.toNat, 0]
def k0_mult2 (i : grid0.Coords) (k0_t1 : Fin (k0_t1_loop i).trips) : BitVec 32 :=
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let c0_i32_477 : BitVec 32 := 0#32
  let v1590 : BitVec 32 := Scalar.addi v1589 c0_i32_477
  let c8_i32_478 : BitVec 32 := 8#32
  let v1591 : BitVec 32 := Scalar.muli v1590 c8_i32_478
  v1591
def k0_off3 (i : grid0.Coords) (k0_t1 : Fin (k0_t1_loop i).trips) (c0_i32_477 : BitVec 32) : Fin 3 → Nat :=
  let c0_479 : Index := 0#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1593 : Index := Scalar.indexCast v1592
  let c0_480 : Index := 0#32
  ![0, v1593.toNat, 0]
def k0_off4 (i : grid0.Coords) (k0_t1 : Fin (k0_t1_loop i).trips) (c0_i32_477 : BitVec 32) : Fin 3 → Nat :=
  let c1_481 : Index := 1#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1597 : Index := Scalar.indexCast v1592
  let c0_482 : Index := 0#32
  ![1, v1597.toNat, 0]
def k0_off5 (i : grid0.Coords) (k0_t1 : Fin (k0_t1_loop i).trips) (c0_i32_477 : BitVec 32) : Fin 3 → Nat :=
  let c2_483 : Index := 2#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1601 : Index := Scalar.indexCast v1592
  let c0_484 : Index := 0#32
  ![2, v1601.toNat, 0]
def k0_off6 (i : grid0.Coords) (k0_t1 : Fin (k0_t1_loop i).trips) (c0_i32_477 : BitVec 32) : Fin 3 → Nat :=
  let c3_485 : Index := 3#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1605 : Index := Scalar.indexCast v1592
  let c0_486 : Index := 0#32
  ![3, v1605.toNat, 0]
def k0_off7 (i : grid0.Coords) (k0_t1 : Fin (k0_t1_loop i).trips) (c0_i32_477 : BitVec 32) : Fin 3 → Nat :=
  let c4_487 : Index := 4#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1609 : Index := Scalar.indexCast v1592
  let c0_488 : Index := 0#32
  ![4, v1609.toNat, 0]
def k0_off8 (i : grid0.Coords) (k0_t1 : Fin (k0_t1_loop i).trips) (c0_i32_477 : BitVec 32) : Fin 3 → Nat :=
  let c5_489 : Index := 5#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1613 : Index := Scalar.indexCast v1592
  let c0_490 : Index := 0#32
  ![5, v1613.toNat, 0]
def k0_off9 (i : grid0.Coords) (k0_t1 : Fin (k0_t1_loop i).trips) (c0_i32_477 : BitVec 32) : Fin 3 → Nat :=
  let c6_491 : Index := 6#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1617 : Index := Scalar.indexCast v1592
  let c0_492 : Index := 0#32
  ![6, v1617.toNat, 0]
def k0_off10 (i : grid0.Coords) (k0_t1 : Fin (k0_t1_loop i).trips) (c0_i32_477 : BitVec 32) : Fin 3 → Nat :=
  let c7_493 : Index := 7#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1621 : Index := Scalar.indexCast v1592
  let c0_494 : Index := 0#32
  ![7, v1621.toNat, 0]
def k0_off11 (i : grid0.Coords) (k0_t1 : Fin (k0_t1_loop i).trips) (c0_i32_477 : BitVec 32) : Fin 3 → Nat :=
  let c8_495 : Index := 8#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1625 : Index := Scalar.indexCast v1592
  let c0_496 : Index := 0#32
  ![8, v1625.toNat, 0]
def k0_off12 (i : grid0.Coords) (k0_t1 : Fin (k0_t1_loop i).trips) (c0_i32_477 : BitVec 32) : Fin 3 → Nat :=
  let c9_497 : Index := 9#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1629 : Index := Scalar.indexCast v1592
  let c0_498 : Index := 0#32
  ![9, v1629.toNat, 0]
def k0_off13 (i : grid0.Coords) (k0_t1 : Fin (k0_t1_loop i).trips) (c0_i32_477 : BitVec 32) : Fin 3 → Nat :=
  let c10_499 : Index := 10#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1633 : Index := Scalar.indexCast v1592
  let c0_500 : Index := 0#32
  ![10, v1633.toNat, 0]
def k0_off14 (i : grid0.Coords) (k0_t1 : Fin (k0_t1_loop i).trips) (c0_i32_477 : BitVec 32) : Fin 3 → Nat :=
  let c11_501 : Index := 11#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1637 : Index := Scalar.indexCast v1592
  let c0_502 : Index := 0#32
  ![11, v1637.toNat, 0]
def k0_off15 (i : grid0.Coords) (k0_t1 : Fin (k0_t1_loop i).trips) (c0_i32_477 : BitVec 32) : Fin 3 → Nat :=
  let c12_503 : Index := 12#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1641 : Index := Scalar.indexCast v1592
  let c0_504 : Index := 0#32
  ![12, v1641.toNat, 0]
def k0_off16 (i : grid0.Coords) (k0_t1 : Fin (k0_t1_loop i).trips) (c0_i32_477 : BitVec 32) : Fin 3 → Nat :=
  let c13_505 : Index := 13#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1645 : Index := Scalar.indexCast v1592
  let c0_506 : Index := 0#32
  ![13, v1645.toNat, 0]
def k0_off17 (i : grid0.Coords) (k0_t1 : Fin (k0_t1_loop i).trips) (c0_i32_477 : BitVec 32) : Fin 3 → Nat :=
  let c14_507 : Index := 14#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1649 : Index := Scalar.indexCast v1592
  let c0_508 : Index := 0#32
  ![14, v1649.toNat, 0]
def k0_off18 (i : grid0.Coords) (k0_t1 : Fin (k0_t1_loop i).trips) (c0_i32_477 : BitVec 32) : Fin 3 → Nat :=
  let c15_509 : Index := 15#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1653 : Index := Scalar.indexCast v1592
  let c0_510 : Index := 0#32
  ![15, v1653.toNat, 0]
def k0_off19 (i : grid0.Coords) (k0_t1 : Fin (k0_t1_loop i).trips) (c0_i32_477 : BitVec 32) : Fin 3 → Nat :=
  let c16_511 : Index := 16#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1657 : Index := Scalar.indexCast v1592
  let c0_512 : Index := 0#32
  ![16, v1657.toNat, 0]
def k0_off20 (i : grid0.Coords) (k0_t1 : Fin (k0_t1_loop i).trips) (c0_i32_477 : BitVec 32) : Fin 3 → Nat :=
  let c17_513 : Index := 17#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1661 : Index := Scalar.indexCast v1592
  let c0_514 : Index := 0#32
  ![17, v1661.toNat, 0]
def k0_off21 (i : grid0.Coords) (k0_t1 : Fin (k0_t1_loop i).trips) (c0_i32_477 : BitVec 32) : Fin 3 → Nat :=
  let c18_515 : Index := 18#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1665 : Index := Scalar.indexCast v1592
  let c0_516 : Index := 0#32
  ![18, v1665.toNat, 0]
def k0_off22 (i : grid0.Coords) (k0_t1 : Fin (k0_t1_loop i).trips) (c0_i32_477 : BitVec 32) : Fin 3 → Nat :=
  let c19_517 : Index := 19#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1669 : Index := Scalar.indexCast v1592
  let c0_518 : Index := 0#32
  ![19, v1669.toNat, 0]
def k0_off23 (i : grid0.Coords) (k0_t1 : Fin (k0_t1_loop i).trips) (c0_i32_477 : BitVec 32) : Fin 3 → Nat :=
  let c20_519 : Index := 20#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1673 : Index := Scalar.indexCast v1592
  let c0_520 : Index := 0#32
  ![20, v1673.toNat, 0]
def k0_off24 (i : grid0.Coords) (k0_t1 : Fin (k0_t1_loop i).trips) (c0_i32_477 : BitVec 32) : Fin 3 → Nat :=
  let c21_521 : Index := 21#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1677 : Index := Scalar.indexCast v1592
  let c0_522 : Index := 0#32
  ![21, v1677.toNat, 0]
def k0_off25 (i : grid0.Coords) (k0_t1 : Fin (k0_t1_loop i).trips) (c0_i32_477 : BitVec 32) : Fin 3 → Nat :=
  let c22_523 : Index := 22#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1681 : Index := Scalar.indexCast v1592
  let c0_524 : Index := 0#32
  ![22, v1681.toNat, 0]
def k0_off26 (i : grid0.Coords) (k0_t1 : Fin (k0_t1_loop i).trips) (c0_i32_477 : BitVec 32) : Fin 3 → Nat :=
  let c23_525 : Index := 23#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1685 : Index := Scalar.indexCast v1592
  let c0_526 : Index := 0#32
  ![23, v1685.toNat, 0]
def k0_off27 (i : grid0.Coords) (k0_t1 : Fin (k0_t1_loop i).trips) (c0_i32_477 : BitVec 32) : Fin 3 → Nat :=
  let c24_527 : Index := 24#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1689 : Index := Scalar.indexCast v1592
  let c0_528 : Index := 0#32
  ![24, v1689.toNat, 0]
def k0_off28 (i : grid0.Coords) (k0_t1 : Fin (k0_t1_loop i).trips) (c0_i32_477 : BitVec 32) : Fin 3 → Nat :=
  let c25_529 : Index := 25#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1693 : Index := Scalar.indexCast v1592
  let c0_530 : Index := 0#32
  ![25, v1693.toNat, 0]
def k0_off29 (i : grid0.Coords) (k0_t1 : Fin (k0_t1_loop i).trips) (c0_i32_477 : BitVec 32) : Fin 3 → Nat :=
  let c26_531 : Index := 26#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1697 : Index := Scalar.indexCast v1592
  let c0_532 : Index := 0#32
  ![26, v1697.toNat, 0]
def k0_off30 (i : grid0.Coords) (k0_t1 : Fin (k0_t1_loop i).trips) (c0_i32_477 : BitVec 32) : Fin 3 → Nat :=
  let c27_533 : Index := 27#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1701 : Index := Scalar.indexCast v1592
  let c0_534 : Index := 0#32
  ![27, v1701.toNat, 0]
def k0_off31 (i : grid0.Coords) (k0_t1 : Fin (k0_t1_loop i).trips) (c0_i32_477 : BitVec 32) : Fin 3 → Nat :=
  let c28_535 : Index := 28#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1705 : Index := Scalar.indexCast v1592
  let c0_536 : Index := 0#32
  ![28, v1705.toNat, 0]
def k0_off32 (i : grid0.Coords) (k0_t1 : Fin (k0_t1_loop i).trips) (c0_i32_477 : BitVec 32) : Fin 3 → Nat :=
  let c29_537 : Index := 29#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1709 : Index := Scalar.indexCast v1592
  let c0_538 : Index := 0#32
  ![29, v1709.toNat, 0]
def k0_off33 (i : grid0.Coords) (k0_t1 : Fin (k0_t1_loop i).trips) (c0_i32_477 : BitVec 32) : Fin 3 → Nat :=
  let c30_539 : Index := 30#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1713 : Index := Scalar.indexCast v1592
  let c0_540 : Index := 0#32
  ![30, v1713.toNat, 0]
def k0_off34 (i : grid0.Coords) (k0_t1 : Fin (k0_t1_loop i).trips) (c0_i32_477 : BitVec 32) : Fin 3 → Nat :=
  let c31_541 : Index := 31#32
  let c0_i32_33 : BitVec 32 := 0#32
  let c1_i32_35 : BitVec 32 := 1#32
  let arg15 : BitVec 32 := Scf.iv c0_i32_33 c1_i32_35 k0_t1
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1717 : Index := Scalar.indexCast v1592
  let c0_542 : Index := 0#32
  ![31, v1717.toNat, 0]
def k0_mult3 (i : grid0.Coords) (k0_t1 : Fin (k0_t1_loop i).trips) : BitVec 32 :=
  let c0_i32_33 : BitVec 32 := 0#32
  let c1_i32_35 : BitVec 32 := 1#32
  let arg15 : BitVec 32 := Scf.iv c0_i32_33 c1_i32_35 k0_t1
  let c2_i32_783 : BitVec 32 := 2#32
  let v2473 : BitVec 32 := Scalar.muli arg15 c2_i32_783
  let c1_i32_784 : BitVec 32 := 1#32
  let v2474 : BitVec 32 := Scalar.addi v2473 c1_i32_784
  let c8_i32_785 : BitVec 32 := 8#32
  let v2475 : BitVec 32 := Scalar.muli v2474 c8_i32_785
  v2475
@[reducible] def k0_t2_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let v63 : BitVec 32 := Scalar.addi c0_i32_33 v62
  let c1_i32_36 : BitVec 32 := 1#32
  ⟨v66, v63, c1_i32_36⟩
def k0_mult4 (i : grid0.Coords) (k0_t2 : Fin (k0_t2_loop i).trips) : BitVec 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c512_i32_223 : BitVec 32 := 512#32
  let v755 : BitVec 32 := Scalar.muli arg15 c512_i32_223
  v755
def k0_off35 (i : grid0.Coords) (k0_t2 : Fin (k0_t2_loop i).trips) : Fin 2 → Nat :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c512_i32_223 : BitVec 32 := 512#32
  let v755 : BitVec 32 := Scalar.muli arg15 c512_i32_223
  let v756 : BitVec 32 := v755
  let v757 : Index := Scalar.indexCast v756
  let c0_224 : Index := 0#32
  ![v757.toNat, 0]
def k0_off36 (i : grid0.Coords) (k0_t2 : Fin (k0_t2_loop i).trips) : Fin 2 → Nat :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c512_i32_223 : BitVec 32 := 512#32
  let v755 : BitVec 32 := Scalar.muli arg15 c512_i32_223
  let v756 : BitVec 32 := v755
  let v831 : Index := Scalar.indexCast v756
  let c0_239 : Index := 0#32
  ![v831.toNat, 0]
def k0_mult5 (i : grid0.Coords) (k0_t2 : Fin (k0_t2_loop i).trips) : BitVec 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let c0_i32_477 : BitVec 32 := 0#32
  let v1590 : BitVec 32 := Scalar.addi v1589 c0_i32_477
  let c8_i32_478 : BitVec 32 := 8#32
  let v1591 : BitVec 32 := Scalar.muli v1590 c8_i32_478
  v1591
def k0_off37 (i : grid0.Coords) (k0_t2 : Fin (k0_t2_loop i).trips) (c0_i32_477 : BitVec 32) : Fin 3 → Nat :=
  let c0_479 : Index := 0#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1593 : Index := Scalar.indexCast v1592
  let c0_480 : Index := 0#32
  ![0, v1593.toNat, 0]
def k0_off38 (i : grid0.Coords) (k0_t2 : Fin (k0_t2_loop i).trips) (c0_i32_477 : BitVec 32) : Fin 3 → Nat :=
  let c1_481 : Index := 1#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1597 : Index := Scalar.indexCast v1592
  let c0_482 : Index := 0#32
  ![1, v1597.toNat, 0]
def k0_off39 (i : grid0.Coords) (k0_t2 : Fin (k0_t2_loop i).trips) (c0_i32_477 : BitVec 32) : Fin 3 → Nat :=
  let c2_483 : Index := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1601 : Index := Scalar.indexCast v1592
  let c0_484 : Index := 0#32
  ![2, v1601.toNat, 0]
def k0_off40 (i : grid0.Coords) (k0_t2 : Fin (k0_t2_loop i).trips) (c0_i32_477 : BitVec 32) : Fin 3 → Nat :=
  let c3_485 : Index := 3#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1605 : Index := Scalar.indexCast v1592
  let c0_486 : Index := 0#32
  ![3, v1605.toNat, 0]
def k0_off41 (i : grid0.Coords) (k0_t2 : Fin (k0_t2_loop i).trips) (c0_i32_477 : BitVec 32) : Fin 3 → Nat :=
  let c4_487 : Index := 4#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1609 : Index := Scalar.indexCast v1592
  let c0_488 : Index := 0#32
  ![4, v1609.toNat, 0]
def k0_off42 (i : grid0.Coords) (k0_t2 : Fin (k0_t2_loop i).trips) (c0_i32_477 : BitVec 32) : Fin 3 → Nat :=
  let c5_489 : Index := 5#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1613 : Index := Scalar.indexCast v1592
  let c0_490 : Index := 0#32
  ![5, v1613.toNat, 0]
def k0_off43 (i : grid0.Coords) (k0_t2 : Fin (k0_t2_loop i).trips) (c0_i32_477 : BitVec 32) : Fin 3 → Nat :=
  let c6_491 : Index := 6#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1617 : Index := Scalar.indexCast v1592
  let c0_492 : Index := 0#32
  ![6, v1617.toNat, 0]
def k0_off44 (i : grid0.Coords) (k0_t2 : Fin (k0_t2_loop i).trips) (c0_i32_477 : BitVec 32) : Fin 3 → Nat :=
  let c7_493 : Index := 7#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1621 : Index := Scalar.indexCast v1592
  let c0_494 : Index := 0#32
  ![7, v1621.toNat, 0]
def k0_off45 (i : grid0.Coords) (k0_t2 : Fin (k0_t2_loop i).trips) (c0_i32_477 : BitVec 32) : Fin 3 → Nat :=
  let c8_495 : Index := 8#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1625 : Index := Scalar.indexCast v1592
  let c0_496 : Index := 0#32
  ![8, v1625.toNat, 0]
def k0_off46 (i : grid0.Coords) (k0_t2 : Fin (k0_t2_loop i).trips) (c0_i32_477 : BitVec 32) : Fin 3 → Nat :=
  let c9_497 : Index := 9#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1629 : Index := Scalar.indexCast v1592
  let c0_498 : Index := 0#32
  ![9, v1629.toNat, 0]
def k0_off47 (i : grid0.Coords) (k0_t2 : Fin (k0_t2_loop i).trips) (c0_i32_477 : BitVec 32) : Fin 3 → Nat :=
  let c10_499 : Index := 10#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1633 : Index := Scalar.indexCast v1592
  let c0_500 : Index := 0#32
  ![10, v1633.toNat, 0]
def k0_off48 (i : grid0.Coords) (k0_t2 : Fin (k0_t2_loop i).trips) (c0_i32_477 : BitVec 32) : Fin 3 → Nat :=
  let c11_501 : Index := 11#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1637 : Index := Scalar.indexCast v1592
  let c0_502 : Index := 0#32
  ![11, v1637.toNat, 0]
def k0_off49 (i : grid0.Coords) (k0_t2 : Fin (k0_t2_loop i).trips) (c0_i32_477 : BitVec 32) : Fin 3 → Nat :=
  let c12_503 : Index := 12#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1641 : Index := Scalar.indexCast v1592
  let c0_504 : Index := 0#32
  ![12, v1641.toNat, 0]
def k0_off50 (i : grid0.Coords) (k0_t2 : Fin (k0_t2_loop i).trips) (c0_i32_477 : BitVec 32) : Fin 3 → Nat :=
  let c13_505 : Index := 13#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1645 : Index := Scalar.indexCast v1592
  let c0_506 : Index := 0#32
  ![13, v1645.toNat, 0]
def k0_off51 (i : grid0.Coords) (k0_t2 : Fin (k0_t2_loop i).trips) (c0_i32_477 : BitVec 32) : Fin 3 → Nat :=
  let c14_507 : Index := 14#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1649 : Index := Scalar.indexCast v1592
  let c0_508 : Index := 0#32
  ![14, v1649.toNat, 0]
def k0_off52 (i : grid0.Coords) (k0_t2 : Fin (k0_t2_loop i).trips) (c0_i32_477 : BitVec 32) : Fin 3 → Nat :=
  let c15_509 : Index := 15#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1653 : Index := Scalar.indexCast v1592
  let c0_510 : Index := 0#32
  ![15, v1653.toNat, 0]
def k0_off53 (i : grid0.Coords) (k0_t2 : Fin (k0_t2_loop i).trips) (c0_i32_477 : BitVec 32) : Fin 3 → Nat :=
  let c16_511 : Index := 16#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1657 : Index := Scalar.indexCast v1592
  let c0_512 : Index := 0#32
  ![16, v1657.toNat, 0]
def k0_off54 (i : grid0.Coords) (k0_t2 : Fin (k0_t2_loop i).trips) (c0_i32_477 : BitVec 32) : Fin 3 → Nat :=
  let c17_513 : Index := 17#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1661 : Index := Scalar.indexCast v1592
  let c0_514 : Index := 0#32
  ![17, v1661.toNat, 0]
def k0_off55 (i : grid0.Coords) (k0_t2 : Fin (k0_t2_loop i).trips) (c0_i32_477 : BitVec 32) : Fin 3 → Nat :=
  let c18_515 : Index := 18#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1665 : Index := Scalar.indexCast v1592
  let c0_516 : Index := 0#32
  ![18, v1665.toNat, 0]
def k0_off56 (i : grid0.Coords) (k0_t2 : Fin (k0_t2_loop i).trips) (c0_i32_477 : BitVec 32) : Fin 3 → Nat :=
  let c19_517 : Index := 19#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1669 : Index := Scalar.indexCast v1592
  let c0_518 : Index := 0#32
  ![19, v1669.toNat, 0]
def k0_off57 (i : grid0.Coords) (k0_t2 : Fin (k0_t2_loop i).trips) (c0_i32_477 : BitVec 32) : Fin 3 → Nat :=
  let c20_519 : Index := 20#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1673 : Index := Scalar.indexCast v1592
  let c0_520 : Index := 0#32
  ![20, v1673.toNat, 0]
def k0_off58 (i : grid0.Coords) (k0_t2 : Fin (k0_t2_loop i).trips) (c0_i32_477 : BitVec 32) : Fin 3 → Nat :=
  let c21_521 : Index := 21#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1677 : Index := Scalar.indexCast v1592
  let c0_522 : Index := 0#32
  ![21, v1677.toNat, 0]
def k0_off59 (i : grid0.Coords) (k0_t2 : Fin (k0_t2_loop i).trips) (c0_i32_477 : BitVec 32) : Fin 3 → Nat :=
  let c22_523 : Index := 22#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1681 : Index := Scalar.indexCast v1592
  let c0_524 : Index := 0#32
  ![22, v1681.toNat, 0]
def k0_off60 (i : grid0.Coords) (k0_t2 : Fin (k0_t2_loop i).trips) (c0_i32_477 : BitVec 32) : Fin 3 → Nat :=
  let c23_525 : Index := 23#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1685 : Index := Scalar.indexCast v1592
  let c0_526 : Index := 0#32
  ![23, v1685.toNat, 0]
def k0_off61 (i : grid0.Coords) (k0_t2 : Fin (k0_t2_loop i).trips) (c0_i32_477 : BitVec 32) : Fin 3 → Nat :=
  let c24_527 : Index := 24#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1689 : Index := Scalar.indexCast v1592
  let c0_528 : Index := 0#32
  ![24, v1689.toNat, 0]
def k0_off62 (i : grid0.Coords) (k0_t2 : Fin (k0_t2_loop i).trips) (c0_i32_477 : BitVec 32) : Fin 3 → Nat :=
  let c25_529 : Index := 25#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1693 : Index := Scalar.indexCast v1592
  let c0_530 : Index := 0#32
  ![25, v1693.toNat, 0]
def k0_off63 (i : grid0.Coords) (k0_t2 : Fin (k0_t2_loop i).trips) (c0_i32_477 : BitVec 32) : Fin 3 → Nat :=
  let c26_531 : Index := 26#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1697 : Index := Scalar.indexCast v1592
  let c0_532 : Index := 0#32
  ![26, v1697.toNat, 0]
def k0_off64 (i : grid0.Coords) (k0_t2 : Fin (k0_t2_loop i).trips) (c0_i32_477 : BitVec 32) : Fin 3 → Nat :=
  let c27_533 : Index := 27#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1701 : Index := Scalar.indexCast v1592
  let c0_534 : Index := 0#32
  ![27, v1701.toNat, 0]
def k0_off65 (i : grid0.Coords) (k0_t2 : Fin (k0_t2_loop i).trips) (c0_i32_477 : BitVec 32) : Fin 3 → Nat :=
  let c28_535 : Index := 28#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1705 : Index := Scalar.indexCast v1592
  let c0_536 : Index := 0#32
  ![28, v1705.toNat, 0]
def k0_off66 (i : grid0.Coords) (k0_t2 : Fin (k0_t2_loop i).trips) (c0_i32_477 : BitVec 32) : Fin 3 → Nat :=
  let c29_537 : Index := 29#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1709 : Index := Scalar.indexCast v1592
  let c0_538 : Index := 0#32
  ![29, v1709.toNat, 0]
def k0_off67 (i : grid0.Coords) (k0_t2 : Fin (k0_t2_loop i).trips) (c0_i32_477 : BitVec 32) : Fin 3 → Nat :=
  let c30_539 : Index := 30#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1713 : Index := Scalar.indexCast v1592
  let c0_540 : Index := 0#32
  ![30, v1713.toNat, 0]
def k0_off68 (i : grid0.Coords) (k0_t2 : Fin (k0_t2_loop i).trips) (c0_i32_477 : BitVec 32) : Fin 3 → Nat :=
  let c31_541 : Index := 31#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_476 : BitVec 32 := 2#32
  let v1589 : BitVec 32 := Scalar.muli arg15 c2_i32_476
  let v1590 : BitVec 32 := Scalar.addi v1589 c0_i32_477
  let c8_i32_478 : BitVec 32 := 8#32
  let v1591 : BitVec 32 := Scalar.muli v1590 c8_i32_478
  let v1592 : BitVec 32 := v1591
  let v1717 : Index := Scalar.indexCast v1592
  let c0_542 : Index := 0#32
  ![31, v1717.toNat, 0]
def k0_mult6 (i : grid0.Coords) (k0_t2 : Fin (k0_t2_loop i).trips) : BitVec 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v62 : BitVec 32 := Scalar.subi v4 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg15 : BitVec 32 := Scf.iv v66 c1_i32_36 k0_t2
  let c2_i32_783 : BitVec 32 := 2#32
  let v2473 : BitVec 32 := Scalar.muli arg15 c2_i32_783
  let c1_i32_784 : BitVec 32 := 1#32
  let v2474 : BitVec 32 := Scalar.addi v2473 c1_i32_784
  let c8_i32_785 : BitVec 32 := 8#32
  let v2475 : BitVec 32 := Scalar.muli v2474 c8_i32_785
  v2475
@[reducible] def k0_t3_loop (i : grid0.Coords) : Scf.Loop 32 :=
  let c0_i32_230 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v768 : BitVec 32 := Scalar.subi v4 c0_i32_230
  let c1_i32_231 : BitVec 32 := 1#32
  let v770 : BitVec 32 := Scalar.divsi v768 c1_i32_231
  let v771 : BitVec 32 := Scalar.muli v770 c1_i32_231
  let v772 : BitVec 32 := Scalar.addi c0_i32_230 v771
  let c1_i32_232 : BitVec 32 := 1#32
  ⟨c0_i32_230, v772, c1_i32_232⟩
def k0_mult7 (i : grid0.Coords) (k0_t3 : Fin (k0_t3_loop i).trips) : BitVec 32 :=
  let c0_i32_230 : BitVec 32 := 0#32
  let c1_i32_232 : BitVec 32 := 1#32
  let arg15 : BitVec 32 := Scf.iv c0_i32_230 c1_i32_232 k0_t3
  let c512_i32_261 : BitVec 32 := 512#32
  let v826 : BitVec 32 := Scalar.muli arg15 c512_i32_261
  v826
def k0_off69 (i : grid0.Coords) (k0_t3 : Fin (k0_t3_loop i).trips) : Fin 2 → Nat :=
  let c0_i32_230 : BitVec 32 := 0#32
  let c1_i32_232 : BitVec 32 := 1#32
  let arg15 : BitVec 32 := Scf.iv c0_i32_230 c1_i32_232 k0_t3
  let c512_i32_261 : BitVec 32 := 512#32
  let v826 : BitVec 32 := Scalar.muli arg15 c512_i32_261
  let v827 : BitVec 32 := v826
  let v828 : Index := Scalar.indexCast v827
  let c0_262 : Index := 0#32
  ![v828.toNat, 0]
def k0_off70 (i : grid0.Coords) (k0_t3 : Fin (k0_t3_loop i).trips) : Fin 3 → Nat :=
  let c0_i32_230 : BitVec 32 := 0#32
  let c1_i32_232 : BitVec 32 := 1#32
  let arg15 : BitVec 32 := Scf.iv c0_i32_230 c1_i32_232 k0_t3
  let v982 : Index := Scalar.indexCast arg15
  let c0_299 : Index := 0#32
  let c0_300 : Index := 0#32
  ![v982.toNat, 0, 0]
@[reducible] def k0_t4_loop (i : grid0.Coords) : Scf.Loop 32 :=
  let c0_i32_230 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v768 : BitVec 32 := Scalar.subi v4 c0_i32_230
  let c1_i32_231 : BitVec 32 := 1#32
  let v770 : BitVec 32 := Scalar.divsi v768 c1_i32_231
  let v771 : BitVec 32 := Scalar.muli v770 c1_i32_231
  let v772 : BitVec 32 := Scalar.addi c0_i32_230 v771
  let v769 : BitVec 32 := Scalar.addi c0_i32_230 v768
  let c1_i32_233 : BitVec 32 := 1#32
  ⟨v772, v769, c1_i32_233⟩
def k0_mult8 (i : grid0.Coords) (k0_t4 : Fin (k0_t4_loop i).trips) : BitVec 32 :=
  let c0_i32_230 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v768 : BitVec 32 := Scalar.subi v4 c0_i32_230
  let c1_i32_231 : BitVec 32 := 1#32
  let v770 : BitVec 32 := Scalar.divsi v768 c1_i32_231
  let v771 : BitVec 32 := Scalar.muli v770 c1_i32_231
  let v772 : BitVec 32 := Scalar.addi c0_i32_230 v771
  let c1_i32_233 : BitVec 32 := 1#32
  let arg15 : BitVec 32 := Scf.iv v772 c1_i32_233 k0_t4
  let c512_i32_261 : BitVec 32 := 512#32
  let v826 : BitVec 32 := Scalar.muli arg15 c512_i32_261
  v826
def k0_off71 (i : grid0.Coords) (k0_t4 : Fin (k0_t4_loop i).trips) : Fin 2 → Nat :=
  let c0_i32_230 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v768 : BitVec 32 := Scalar.subi v4 c0_i32_230
  let c1_i32_231 : BitVec 32 := 1#32
  let v770 : BitVec 32 := Scalar.divsi v768 c1_i32_231
  let v771 : BitVec 32 := Scalar.muli v770 c1_i32_231
  let v772 : BitVec 32 := Scalar.addi c0_i32_230 v771
  let c1_i32_233 : BitVec 32 := 1#32
  let arg15 : BitVec 32 := Scf.iv v772 c1_i32_233 k0_t4
  let c512_i32_261 : BitVec 32 := 512#32
  let v826 : BitVec 32 := Scalar.muli arg15 c512_i32_261
  let v827 : BitVec 32 := v826
  let v828 : Index := Scalar.indexCast v827
  let c0_262 : Index := 0#32
  ![v828.toNat, 0]
def k0_off72 (i : grid0.Coords) (k0_t4 : Fin (k0_t4_loop i).trips) : Fin 3 → Nat :=
  let c0_i32_230 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v768 : BitVec 32 := Scalar.subi v4 c0_i32_230
  let c1_i32_231 : BitVec 32 := 1#32
  let v770 : BitVec 32 := Scalar.divsi v768 c1_i32_231
  let v771 : BitVec 32 := Scalar.muli v770 c1_i32_231
  let v772 : BitVec 32 := Scalar.addi c0_i32_230 v771
  let c1_i32_233 : BitVec 32 := 1#32
  let arg15 : BitVec 32 := Scf.iv v772 c1_i32_233 k0_t4
  let v982 : Index := Scalar.indexCast arg15
  let c0_299 : Index := 0#32
  let c0_300 : Index := 0#32
  ![v982.toNat, 0, 0]
@[reducible] def k0_t5_loop (i : grid0.Coords) : Scf.Loop 32 :=
  let c0_i32_228 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v761 : BitVec 32 := Scalar.subi v4 c0_i32_228
  let c1_i32_229 : BitVec 32 := 1#32
  let v763 : BitVec 32 := Scalar.divsi v761 c1_i32_229
  let v764 : BitVec 32 := Scalar.muli v763 c1_i32_229
  let v765 : BitVec 32 := Scalar.addi c0_i32_228 v764
  let c1_i32_230 : BitVec 32 := 1#32
  ⟨c0_i32_228, v765, c1_i32_230⟩
def k0_mult9 (i : grid0.Coords) (k0_t5 : Fin (k0_t5_loop i).trips) : BitVec 32 :=
  let c0_i32_228 : BitVec 32 := 0#32
  let c1_i32_230 : BitVec 32 := 1#32
  let arg15 : BitVec 32 := Scf.iv c0_i32_228 c1_i32_230 k0_t5
  let c512_i32_259 : BitVec 32 := 512#32
  let v819 : BitVec 32 := Scalar.muli arg15 c512_i32_259
  v819
def k0_off73 (i : grid0.Coords) (k0_t5 : Fin (k0_t5_loop i).trips) : Fin 2 → Nat :=
  let c0_i32_228 : BitVec 32 := 0#32
  let c1_i32_230 : BitVec 32 := 1#32
  let arg15 : BitVec 32 := Scf.iv c0_i32_228 c1_i32_230 k0_t5
  let c512_i32_259 : BitVec 32 := 512#32
  let v819 : BitVec 32 := Scalar.muli arg15 c512_i32_259
  let v820 : BitVec 32 := v819
  let v821 : Index := Scalar.indexCast v820
  let c0_260 : Index := 0#32
  ![v821.toNat, 0]
def k0_off74 (i : grid0.Coords) (k0_t5 : Fin (k0_t5_loop i).trips) : Fin 3 → Nat :=
  let c0_i32_228 : BitVec 32 := 0#32
  let c1_i32_230 : BitVec 32 := 1#32
  let arg15 : BitVec 32 := Scf.iv c0_i32_228 c1_i32_230 k0_t5
  let v959 : Index := Scalar.indexCast arg15
  let c0_293 : Index := 0#32
  let c0_294 : Index := 0#32
  ![v959.toNat, 0, 0]
@[reducible] def k0_t6_loop (i : grid0.Coords) : Scf.Loop 32 :=
  let c0_i32_228 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v761 : BitVec 32 := Scalar.subi v4 c0_i32_228
  let c1_i32_229 : BitVec 32 := 1#32
  let v763 : BitVec 32 := Scalar.divsi v761 c1_i32_229
  let v764 : BitVec 32 := Scalar.muli v763 c1_i32_229
  let v765 : BitVec 32 := Scalar.addi c0_i32_228 v764
  let v762 : BitVec 32 := Scalar.addi c0_i32_228 v761
  let c1_i32_231 : BitVec 32 := 1#32
  ⟨v765, v762, c1_i32_231⟩
def k0_mult10 (i : grid0.Coords) (k0_t6 : Fin (k0_t6_loop i).trips) : BitVec 32 :=
  let c0_i32_228 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v761 : BitVec 32 := Scalar.subi v4 c0_i32_228
  let c1_i32_229 : BitVec 32 := 1#32
  let v763 : BitVec 32 := Scalar.divsi v761 c1_i32_229
  let v764 : BitVec 32 := Scalar.muli v763 c1_i32_229
  let v765 : BitVec 32 := Scalar.addi c0_i32_228 v764
  let c1_i32_231 : BitVec 32 := 1#32
  let arg15 : BitVec 32 := Scf.iv v765 c1_i32_231 k0_t6
  let c512_i32_259 : BitVec 32 := 512#32
  let v819 : BitVec 32 := Scalar.muli arg15 c512_i32_259
  v819
def k0_off75 (i : grid0.Coords) (k0_t6 : Fin (k0_t6_loop i).trips) : Fin 2 → Nat :=
  let c0_i32_228 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v761 : BitVec 32 := Scalar.subi v4 c0_i32_228
  let c1_i32_229 : BitVec 32 := 1#32
  let v763 : BitVec 32 := Scalar.divsi v761 c1_i32_229
  let v764 : BitVec 32 := Scalar.muli v763 c1_i32_229
  let v765 : BitVec 32 := Scalar.addi c0_i32_228 v764
  let c1_i32_231 : BitVec 32 := 1#32
  let arg15 : BitVec 32 := Scf.iv v765 c1_i32_231 k0_t6
  let c512_i32_259 : BitVec 32 := 512#32
  let v819 : BitVec 32 := Scalar.muli arg15 c512_i32_259
  let v820 : BitVec 32 := v819
  let v821 : Index := Scalar.indexCast v820
  let c0_260 : Index := 0#32
  ![v821.toNat, 0]
def k0_off76 (i : grid0.Coords) (k0_t6 : Fin (k0_t6_loop i).trips) : Fin 3 → Nat :=
  let c0_i32_228 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c9_i32 : BitVec 32 := 9#32
  let v4 : BitVec 32 := Scalar.shrui v3 c9_i32
  let v761 : BitVec 32 := Scalar.subi v4 c0_i32_228
  let c1_i32_229 : BitVec 32 := 1#32
  let v763 : BitVec 32 := Scalar.divsi v761 c1_i32_229
  let v764 : BitVec 32 := Scalar.muli v763 c1_i32_229
  let v765 : BitVec 32 := Scalar.addi c0_i32_228 v764
  let c1_i32_231 : BitVec 32 := 1#32
  let arg15 : BitVec 32 := Scf.iv v765 c1_i32_231 k0_t6
  let v959 : Index := Scalar.indexCast arg15
  let c0_293 : Index := 0#32
  let c0_294 : Index := 0#32
  ![v959.toNat, 0, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference.lean ====
abbrev S256x512x128 : Shape := ⟨3, ![256, 512, 128]⟩
abbrev S256x256x128 : Shape := ⟨3, ![256, 256, 128]⟩
abbrev S32768x128 : Shape := ⟨2, ![32768, 128]⟩
abbrev S64x144x512 : Shape := ⟨3, ![64, 144, 512]⟩
abbrev S32768x32 : Shape := ⟨2, ![32768, 32]⟩
abbrev S32768x512 : Shape := ⟨2, ![32768, 512]⟩
abbrev S4096x128 : Shape := ⟨2, ![4096, 128]⟩
abbrev S128x128 : Shape := ⟨2, ![128, 128]⟩
abbrev S8x128 : Shape := ⟨2, ![8, 128]⟩
abbrev S1x32x128 : Shape := ⟨3, ![1, 32, 128]⟩
abbrev S32x128 : Shape := ⟨2, ![32, 128]⟩
abbrev S32x1024 : Shape := ⟨2, ![32, 1024]⟩
abbrev S1x128 : Shape := ⟨2, ![1, 128]⟩
abbrev S512x32 : Shape := ⟨2, ![512, 32]⟩
abbrev S512x1024 : Shape := ⟨2, ![512, 1024]⟩
abbrev S512x128 : Shape := ⟨2, ![512, 128]⟩
abbrev S512x1 : Shape := ⟨2, ![512, 1]⟩
abbrev S4096x1x128 : Shape := ⟨3, ![4096, 1, 128]⟩
abbrev S1x4096x128 : Shape := ⟨3, ![1, 4096, 128]⟩
abbrev S4096x4096x128 : Shape := ⟨3, ![4096, 4096, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S512x512 : Shape := ⟨2, ![512, 512]⟩
abbrev S64x128 : Shape := ⟨2, ![64, 128]⟩
abbrev S1x64x128 : Shape := ⟨3, ![1, 64, 128]⟩
abbrev S64x1024 : Shape := ⟨2, ![64, 1024]⟩
abbrev S128x1024 : Shape := ⟨2, ![128, 1024]⟩
abbrev S1x1024 : Shape := ⟨2, ![1, 1024]⟩
abbrev S144x1024 : Shape := ⟨2, ![144, 1024]⟩
abbrev S1024 : Shape := ⟨1, ![1024]⟩
abbrev S1x144x512 : Shape := ⟨3, ![1, 144, 512]⟩
abbrev S144x512 : Shape := ⟨2, ![144, 512]⟩
abbrev S128x512 : Shape := ⟨2, ![128, 512]⟩

abbrev nBuf : Space → Nat
  | .hbm => 7
  | .vmem => 8
  | .smem => 0
  | _ => 0

abbrev bufTy : (tb : Table) → Fin (tcTables nBuf tb) → BufTy
  | .hbm, ⟨0, _⟩ => ⟨S256x512x128, .bf16⟩
  | .hbm, ⟨1, _⟩ => ⟨S256x256x128, .bf16⟩
  | .hbm, ⟨2, _⟩ => ⟨S32768x128, .f32⟩
  | .hbm, ⟨3, _⟩ => ⟨S32768x128, .bf16⟩
  | .hbm, ⟨4, _⟩ => ⟨S64x144x512, .bf16⟩
  | .hbm, ⟨5, _⟩ => ⟨S32768x32, .bf16⟩
  | .hbm, ⟨6, _⟩ => ⟨S32768x512, .bf16⟩
  | .local _ .vmem, ⟨0, _⟩ => ⟨S256x512x128, .bf16⟩
  | .local _ .vmem, ⟨1, _⟩ => ⟨S256x256x128, .bf16⟩
  | .local _ .vmem, ⟨2, _⟩ => ⟨S32768x128, .f32⟩
  | .local _ .vmem, ⟨3, _⟩ => ⟨S32768x128, .bf16⟩
  | .local _ .vmem, ⟨4, _⟩ => ⟨S64x144x512, .bf16⟩
  | .local _ .vmem, ⟨5, _⟩ => ⟨S32768x32, .bf16⟩
  | .local _ .vmem, ⟨6, _⟩ => ⟨S32768x512, .bf16⟩
  | .local _ .vmem, ⟨7, _⟩ => ⟨S4096x128, .i32⟩
  | _, _ => ⟨S256x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  v8
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_3 : BitVec 32 := 128#32
  let v10 : BitVec 32 := Scalar.muli arg8 c128_i32_3
  v10
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_3 : BitVec 32 := 128#32
  let v10 : BitVec 32 := Scalar.muli arg8 c128_i32_3
  let v11 : BitVec 32 := v10
  let v12 : Index := Scalar.indexCast v11
  let c0 : Index := 0#32
  ![v12.toNat, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v18 : Index := Scalar.indexCast arg8
  let c0_4 : Index := 0#32
  let c0_5 : Index := 0#32
  ![v18.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v21 : Index := Scalar.indexCast arg8
  let c32 : Index := 32#32
  let c0_6 : Index := 0#32
  ![v21.toNat, 32, 0]
def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let v24 : Index := Scalar.indexCast arg8
  let c64 : Index := 64#32
  let c0_7 : Index := 0#32
  ![v24.toNat, 64, 0]
def k0_off5 (k0_t1 : Fin k0_t1_loop.trips) : Fin 3 → Nat :=
  let c0_i32 : BitVec 32 := 0#32
  let c1_i32 : BitVec 32 := 1#32
  let arg8 : BitVec 32 := Scf.iv c0_i32 c1_i32 k0_t1
  let v27 : Index := Scalar.indexCast arg8
  let c96 : Index := 96#32
  let c0_8 : Index := 0#32
  ![v27.toNat, 96, 0]
def k0_off6 (k0_t1 : Fin k0_t1_loop.trips) : Fin 3 → Nat :=
  let c0_i32 : BitVec 32 := 0#32
  let c1_i32 : BitVec 32 := 1#32
  let arg8 : BitVec 32 := Scf.iv c0_i32 c1_i32 k0_t1
  let v30 : Index := Scalar.indexCast arg8
  let c128 : Index := 128#32
  let c0_9 : Index := 0#32
  ![v30.toNat, 128, 0]
def k0_off7 (k0_t1 : Fin k0_t1_loop.trips) : Fin 3 → Nat :=
  let c0_i32 : BitVec 32 := 0#32
  let c1_i32 : BitVec 32 := 1#32
  let arg8 : BitVec 32 := Scf.iv c0_i32 c1_i32 k0_t1
  let v33 : Index := Scalar.indexCast arg8
  let c160 : Index := 160#32
  let c0_10 : Index := 0#32
  ![v33.toNat, 160, 0]
def k0_off8 (k0_t1 : Fin k0_t1_loop.trips) : Fin 3 → Nat :=
  let c0_i32 : BitVec 32 := 0#32
  let c1_i32 : BitVec 32 := 1#32
  let arg8 : BitVec 32 := Scf.iv c0_i32 c1_i32 k0_t1
  let v36 : Index := Scalar.indexCast arg8
  let c192 : Index := 192#32
  let c0_11 : Index := 0#32
  ![v36.toNat, 192, 0]
def k0_off9 (k0_t1 : Fin k0_t1_loop.trips) : Fin 3 → Nat :=
  let c0_i32 : BitVec 32 := 0#32
  let c1_i32 : BitVec 32 := 1#32
  let arg8 : BitVec 32 := Scf.iv c0_i32 c1_i32 k0_t1
  let v39 : Index := Scalar.indexCast arg8
  let c224 : Index := 224#32
  let c0_12 : Index := 0#32
  ![v39.toNat, 224, 0]
def k0_off10 (k0_t1 : Fin k0_t1_loop.trips) (c0_i32_14 : BitVec 32) : Fin 2 → Nat :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  let v9 : BitVec 32 := v8
  let v49 : BitVec 32 := Scalar.addi v9 c0_i32_14
  let v50 : Index := Scalar.indexCast v49
  let c0_15 : Index := 0#32
  ![v50.toNat, 0]
def k0_off11 (k0_t1 : Fin k0_t1_loop.trips) : Fin 3 → Nat :=
  let c0_i32 : BitVec 32 := 0#32
  let c1_i32 : BitVec 32 := 1#32
  let arg8 : BitVec 32 := Scf.iv c0_i32 c1_i32 k0_t1
  let v718 : Index := Scalar.indexCast arg8
  let c0_158 : Index := 0#32
  let c0_159 : Index := 0#32
  ![v718.toNat, 0, 0]
def k0_off12 (k0_t1 : Fin k0_t1_loop.trips) : Fin 3 → Nat :=
  let c0_i32 : BitVec 32 := 0#32
  let c1_i32 : BitVec 32 := 1#32
  let arg8 : BitVec 32 := Scf.iv c0_i32 c1_i32 k0_t1
  let v721 : Index := Scalar.indexCast arg8
  let c64_160 : Index := 64#32
  let c0_161 : Index := 0#32
  ![v721.toNat, 64, 0]
def k0_off13 (k0_t1 : Fin k0_t1_loop.trips) : Fin 3 → Nat :=
  let c0_i32 : BitVec 32 := 0#32
  let c1_i32 : BitVec 32 := 1#32
  let arg8 : BitVec 32 := Scf.iv c0_i32 c1_i32 k0_t1
  let v724 : Index := Scalar.indexCast arg8
  let c128_162 : Index := 128#32
  let c0_163 : Index := 0#32
  ![v724.toNat, 128, 0]
def k0_off14 (k0_t1 : Fin k0_t1_loop.trips) : Fin 3 → Nat :=
  let c0_i32 : BitVec 32 := 0#32
  let c1_i32 : BitVec 32 := 1#32
  let arg8 : BitVec 32 := Scf.iv c0_i32 c1_i32 k0_t1
  let v727 : Index := Scalar.indexCast arg8
  let c192_164 : Index := 192#32
  let c0_165 : Index := 0#32
  ![v727.toNat, 192, 0]
def k0_off15 (k0_t1 : Fin k0_t1_loop.trips) : Fin 3 → Nat :=
  let c0_i32 : BitVec 32 := 0#32
  let c1_i32 : BitVec 32 := 1#32
  let arg8 : BitVec 32 := Scf.iv c0_i32 c1_i32 k0_t1
  let v731 : Index := Scalar.indexCast arg8
  let c256 : Index := 256#32
  let c0_166 : Index := 0#32
  ![v731.toNat, 256, 0]
def k0_off16 (k0_t1 : Fin k0_t1_loop.trips) : Fin 3 → Nat :=
  let c0_i32 : BitVec 32 := 0#32
  let c1_i32 : BitVec 32 := 1#32
  let arg8 : BitVec 32 := Scf.iv c0_i32 c1_i32 k0_t1
  let v734 : Index := Scalar.indexCast arg8
  let c320 : Index := 320#32
  let c0_167 : Index := 0#32
  ![v734.toNat, 320, 0]
def k0_off17 (k0_t1 : Fin k0_t1_loop.trips) : Fin 3 → Nat :=
  let c0_i32 : BitVec 32 := 0#32
  let c1_i32 : BitVec 32 := 1#32
  let arg8 : BitVec 32 := Scf.iv c0_i32 c1_i32 k0_t1
  let v737 : Index := Scalar.indexCast arg8
  let c384 : Index := 384#32
  let c0_168 : Index := 0#32
  ![v737.toNat, 384, 0]
def k0_off18 (k0_t1 : Fin k0_t1_loop.trips) : Fin 3 → Nat :=
  let c0_i32 : BitVec 32 := 0#32
  let c1_i32 : BitVec 32 := 1#32
  let arg8 : BitVec 32 := Scf.iv c0_i32 c1_i32 k0_t1
  let v740 : Index := Scalar.indexCast arg8
  let c448 : Index := 448#32
  let c0_169 : Index := 0#32
  ![v740.toNat, 448, 0]
@[reducible] def k0_t2_loop (k0_t1 : Fin k0_t1_loop.trips) : Scf.Loop 32 :=
  let c0_i32_173 : BitVec 32 := 0#32
  let c0_i32 : BitVec 32 := 0#32
  let c1_i32 : BitVec 32 := 1#32
  let arg8 : BitVec 32 := Scf.iv c0_i32 c1_i32 k0_t1
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_175 : BitVec 32 := 1#32
  ⟨c0_i32_173, v752, c1_i32_175⟩
def k0_mult3 (k0_t1 : Fin k0_t1_loop.trips) (k0_t2 : Fin (k0_t2_loop k0_t1).trips) : BitVec 32 :=
  let c0_i32_173 : BitVec 32 := 0#32
  let c1_i32_175 : BitVec 32 := 1#32
  let arg9 : BitVec 32 := Scf.iv c0_i32_173 c1_i32_175 k0_t2
  let c512_i32_180 : BitVec 32 := 512#32
  let v797 : BitVec 32 := Scalar.muli arg9 c512_i32_180
  v797
def k0_off19 (k0_t1 : Fin k0_t1_loop.trips) (k0_t2 : Fin (k0_t2_loop k0_t1).trips) : Fin 2 → Nat :=
  let c0_i32_173 : BitVec 32 := 0#32
  let c1_i32_175 : BitVec 32 := 1#32
  let arg9 : BitVec 32 := Scf.iv c0_i32_173 c1_i32_175 k0_t2
  let c512_i32_180 : BitVec 32 := 512#32
  let v797 : BitVec 32 := Scalar.muli arg9 c512_i32_180
  let v798 : BitVec 32 := v797
  let v799 : Index := Scalar.indexCast v798
  let c0_181 : Index := 0#32
  ![v799.toNat, 0]
def k0_mult4 (k0_t1 : Fin k0_t1_loop.trips) (k0_t2 : Fin (k0_t2_loop k0_t1).trips) : BitVec 32 :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  let v9 : BitVec 32 := v8
  let c0_i32_173 : BitVec 32 := 0#32
  let c1_i32_175 : BitVec 32 := 1#32
  let arg9 : BitVec 32 := Scf.iv c0_i32_173 c1_i32_175 k0_t2
  let c512_i32_180 : BitVec 32 := 512#32
  let v797 : BitVec 32 := Scalar.muli arg9 c512_i32_180
  let v798 : BitVec 32 := v797
  let v827 : BitVec 32 := Scalar.addi v9 v798
  v827
def k0_off20 (k0_t1 : Fin k0_t1_loop.trips) (k0_t2 : Fin (k0_t2_loop k0_t1).trips) : Fin 2 → Nat :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  let v9 : BitVec 32 := v8
  let c0_i32_173 : BitVec 32 := 0#32
  let c1_i32_175 : BitVec 32 := 1#32
  let arg9 : BitVec 32 := Scf.iv c0_i32_173 c1_i32_175 k0_t2
  let c512_i32_180 : BitVec 32 := 512#32
  let v797 : BitVec 32 := Scalar.muli arg9 c512_i32_180
  let v798 : BitVec 32 := v797
  let v827 : BitVec 32 := Scalar.addi v9 v798
  let v828 : BitVec 32 := v827
  let v829 : Index := Scalar.indexCast v828
  let c0_187 : Index := 0#32
  ![v829.toNat, 0]
def k0_off21 (k0_t1 : Fin k0_t1_loop.trips) (k0_t2 : Fin (k0_t2_loop k0_t1).trips) : Fin 3 → Nat :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c8_i32 : BitVec 32 := 8#32
  let v845 : BitVec 32 := Scalar.muli v1 c8_i32
  let c0_i32_173 : BitVec 32 := 0#32
  let c1_i32_175 : BitVec 32 := 1#32
  let arg9 : BitVec 32 := Scf.iv c0_i32_173 c1_i32_175 k0_t2
  let v846 : BitVec 32 := Scalar.addi v845 arg9
  let v847 : Index := Scalar.indexCast v846
  let c0_190 : Index := 0#32
  let c0_191 : Index := 0#32
  ![v847.toNat, 0, 0]
@[reducible] def k0_t3_loop (k0_t1 : Fin k0_t1_loop.trips) : Scf.Loop 32 :=
  let c0_i32_173 : BitVec 32 := 0#32
  let c0_i32 : BitVec 32 := 0#32
  let c1_i32 : BitVec 32 := 1#32
  let arg8 : BitVec 32 := Scf.iv c0_i32 c1_i32 k0_t1
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let v749 : BitVec 32 := Scalar.addi c0_i32_173 v748
  let c1_i32_176 : BitVec 32 := 1#32
  ⟨v752, v749, c1_i32_176⟩
def k0_mult5 (k0_t1 : Fin k0_t1_loop.trips) (k0_t3 : Fin (k0_t3_loop k0_t1).trips) : BitVec 32 :=
  let c0_i32_173 : BitVec 32 := 0#32
  let c0_i32 : BitVec 32 := 0#32
  let c1_i32 : BitVec 32 := 1#32
  let arg8 : BitVec 32 := Scf.iv c0_i32 c1_i32 k0_t1
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_176 : BitVec 32 := 1#32
  let arg9 : BitVec 32 := Scf.iv v752 c1_i32_176 k0_t3
  let c512_i32_180 : BitVec 32 := 512#32
  let v797 : BitVec 32 := Scalar.muli arg9 c512_i32_180
  v797
def k0_off22 (k0_t1 : Fin k0_t1_loop.trips) (k0_t3 : Fin (k0_t3_loop k0_t1).trips) : Fin 2 → Nat :=
  let c0_i32_173 : BitVec 32 := 0#32
  let c0_i32 : BitVec 32 := 0#32
  let c1_i32 : BitVec 32 := 1#32
  let arg8 : BitVec 32 := Scf.iv c0_i32 c1_i32 k0_t1
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_176 : BitVec 32 := 1#32
  let arg9 : BitVec 32 := Scf.iv v752 c1_i32_176 k0_t3
  let c512_i32_180 : BitVec 32 := 512#32
  let v797 : BitVec 32 := Scalar.muli arg9 c512_i32_180
  let v798 : BitVec 32 := v797
  let v799 : Index := Scalar.indexCast v798
  let c0_181 : Index := 0#32
  ![v799.toNat, 0]
def k0_mult6 (k0_t1 : Fin k0_t1_loop.trips) (k0_t3 : Fin (k0_t3_loop k0_t1).trips) : BitVec 32 :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  let v9 : BitVec 32 := v8
  let c0_i32_173 : BitVec 32 := 0#32
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_176 : BitVec 32 := 1#32
  let arg9 : BitVec 32 := Scf.iv v752 c1_i32_176 k0_t3
  let c512_i32_180 : BitVec 32 := 512#32
  let v797 : BitVec 32 := Scalar.muli arg9 c512_i32_180
  let v798 : BitVec 32 := v797
  let v827 : BitVec 32 := Scalar.addi v9 v798
  v827
def k0_off23 (k0_t1 : Fin k0_t1_loop.trips) (k0_t3 : Fin (k0_t3_loop k0_t1).trips) : Fin 2 → Nat :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c4096_i32 : BitVec 32 := 4096#32
  let v8 : BitVec 32 := Scalar.muli v1 c4096_i32
  let v9 : BitVec 32 := v8
  let c0_i32_173 : BitVec 32 := 0#32
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_176 : BitVec 32 := 1#32
  let arg9 : BitVec 32 := Scf.iv v752 c1_i32_176 k0_t3
  let c512_i32_180 : BitVec 32 := 512#32
  let v797 : BitVec 32 := Scalar.muli arg9 c512_i32_180
  let v798 : BitVec 32 := v797
  let v827 : BitVec 32 := Scalar.addi v9 v798
  let v828 : BitVec 32 := v827
  let v829 : Index := Scalar.indexCast v828
  let c0_187 : Index := 0#32
  ![v829.toNat, 0]
def k0_off24 (k0_t1 : Fin k0_t1_loop.trips) (k0_t3 : Fin (k0_t3_loop k0_t1).trips) : Fin 3 → Nat :=
  let c0_i32 : BitVec 32 := 0#32
  let c1_i32 : BitVec 32 := 1#32
  let arg8 : BitVec 32 := Scf.iv c0_i32 c1_i32 k0_t1
  let c5_i32 : BitVec 32 := 5#32
  let v1 : BitVec 32 := Scalar.shrui arg8 c5_i32
  let c8_i32 : BitVec 32 := 8#32
  let v845 : BitVec 32 := Scalar.muli v1 c8_i32
  let c0_i32_173 : BitVec 32 := 0#32
  let c31_i32 : BitVec 32 := 31#32
  let v2 : BitVec 32 := Scalar.andi arg8 c31_i32
  let c128_i32 : BitVec 32 := 128#32
  let v3 : BitVec 32 := Scalar.muli v2 c128_i32
  let c128_i32_1 : BitVec 32 := 128#32
  let v4 : BitVec 32 := Scalar.addi v3 c128_i32_1
  let c512_i32 : BitVec 32 := 512#32
  let v5 : BitVec 32 := Scalar.addi v4 c512_i32
  let c1_i32_2 : BitVec 32 := 1#32
  let v6 : BitVec 32 := Scalar.subi v5 c1_i32_2
  let c9_i32 : BitVec 32 := 9#32
  let v7 : BitVec 32 := Scalar.shrui v6 c9_i32
  let v748 : BitVec 32 := Scalar.subi v7 c0_i32_173
  let c1_i32_174 : BitVec 32 := 1#32
  let v750 : BitVec 32 := Scalar.divsi v748 c1_i32_174
  let v751 : BitVec 32 := Scalar.muli v750 c1_i32_174
  let v752 : BitVec 32 := Scalar.addi c0_i32_173 v751
  let c1_i32_176 : BitVec 32 := 1#32
  let arg9 : BitVec 32 := Scf.iv v752 c1_i32_176 k0_t3
  let v846 : BitVec 32 := Scalar.addi v845 arg9
  let v847 : Index := Scalar.indexCast v846
  let c0_190 : Index := 0#32
  let c0_191 : Index := 0#32
  ![v847.toNat, 0, 0]
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_178 : BitVec 32 := 128#32
  let v793 : BitVec 32 := Scalar.muli arg8 c128_i32_178
  v793
def k0_off25 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_178 : BitVec 32 := 128#32
  let v793 : BitVec 32 := Scalar.muli arg8 c128_i32_178
  let v794 : BitVec 32 := v793
  let v795 : Index := Scalar.indexCast v794
  let c0_179 : Index := 0#32
  ![v795.toNat, 0]
abbrev stage0_0 : Fin 1 → Memref sig .tc .vmem S256x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x144x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S32768x1024 : Shape := ⟨2, ![32768, 1024]⟩
abbrev S32768x1 : Shape := ⟨2, ![32768, 1]⟩
abbrev S1024 : Shape := ⟨1, ![1024]⟩
abbrev S1024x5168 : Shape := ⟨2, ![1024, 5168]⟩
abbrev S64 : Shape := ⟨1, ![64]⟩
abbrev S128x128 : Shape := ⟨2, ![128, 128]⟩
abbrev S128 : Shape := ⟨1, ![128]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x8 : Shape := ⟨2, ![1024, 8]⟩
abbrev S1024x4 : Shape := ⟨2, ![1024, 4]⟩
abbrev S1024x1024 : Shape := ⟨2, ![1024, 1024]⟩
abbrev S_ : Shape := ⟨0, ![]⟩
abbrev S1024x80 : Shape := ⟨2, ![1024, 80]⟩
abbrev S1024x5248 : Shape := ⟨2, ![1024, 5248]⟩
abbrev S1x64 : Shape := ⟨2, ![1, 64]⟩
abbrev S2x64 : Shape := ⟨2, ![2, 64]⟩
abbrev S1x128 : Shape := ⟨2, ![1, 128]⟩
abbrev S1x1024 : Shape := ⟨2, ![1, 1024]⟩
abbrev S8 : Shape := ⟨1, ![8]⟩
abbrev S4 : Shape := ⟨1, ![4]⟩
abbrev S16x128 : Shape := ⟨2, ![16, 128]⟩
abbrev S128x1 : Shape := ⟨2, ![128, 1]⟩
abbrev S1 : Shape := ⟨1, ![1]⟩
abbrev S256x512x128 : Shape := ⟨3, ![256, 512, 128]⟩
abbrev S32768x128 : Shape := ⟨2, ![32768, 128]⟩
abbrev S64x144x512 : Shape := ⟨3, ![64, 144, 512]⟩
abbrev S256x256x128 : Shape := ⟨3, ![256, 256, 128]⟩
abbrev S32768x32 : Shape := ⟨2, ![32768, 32]⟩
abbrev S32768x512 : Shape := ⟨2, ![32768, 512]⟩
abbrev S512x1024 : Shape := ⟨2, ![512, 1024]⟩
abbrev S512x1 : Shape := ⟨2, ![512, 1]⟩
abbrev S4x512x128 : Shape := ⟨3, ![4, 512, 128]⟩
abbrev S512x128 : Shape := ⟨2, ![512, 128]⟩
abbrev S1x144x512 : Shape := ⟨3, ![1, 144, 512]⟩
abbrev S4x256x128 : Shape := ⟨3, ![4, 256, 128]⟩
abbrev S512x32 : Shape := ⟨2, ![512, 32]⟩
abbrev S512x512 : Shape := ⟨2, ![512, 512]⟩
abbrev S512 : Shape := ⟨1, ![512]⟩
abbrev S1x128x128 : Shape := ⟨3, ![1, 128, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 123
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x5168, .f32⟩
  | .hbm, ⟨4, _⟩ => ⟨S64, .f32⟩
  | .hbm, ⟨5, _⟩ => ⟨S64, .f32⟩
  | .hbm, ⟨6, _⟩ => ⟨S128x128, .f32⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S128, .f32⟩
  | .hbm, ⟨11, _⟩ => ⟨S128, .f32⟩
  | .hbm, ⟨12, _⟩ => ⟨S128, .i32⟩
  | .hbm, ⟨13, _⟩ => ⟨S128, .i1⟩
  | .hbm, ⟨14, _⟩ => ⟨S128, .i1⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S1024x256, .f32⟩
  | .hbm, ⟨22, _⟩ => ⟨S1024x32, .f32⟩
  | .hbm, ⟨23, _⟩ => ⟨S1024x8, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x4, .f32⟩
  | .hbm, ⟨29, _⟩ => ⟨S1024x4, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x80, .f32⟩
  | .hbm, ⟨34, _⟩ => ⟨S1024x128, .f32⟩
  | .hbm, ⟨35, _⟩ => ⟨S1024x5248, .f32⟩
  | .hbm, ⟨36, _⟩ => ⟨S1024x5248, .bf16⟩
  | .hbm, ⟨37, _⟩ => ⟨S128x128, .bf16⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x64, .f32⟩
  | .hbm, ⟨43, _⟩ => ⟨S2x64, .f32⟩
  | .hbm, ⟨44, _⟩ => ⟨S128, .f32⟩
  | .hbm, ⟨45, _⟩ => ⟨S1x128, .f32⟩
  | .hbm, ⟨46, _⟩ => ⟨S1x1024, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S16x128, .f32⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S128x1, .i32⟩
  | .hbm, ⟨76, _⟩ => ⟨S128, .f32⟩
  | .hbm, ⟨77, _⟩ => ⟨S_, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .i32⟩
  | .hbm, ⟨82, _⟩ => ⟨S1, .i32⟩
  | .hbm, ⟨83, _⟩ => ⟨S16x128, .f32⟩
  | .hbm, ⟨84, _⟩ => ⟨S_, .i32⟩
  | .hbm, ⟨85, _⟩ => ⟨S1, .i32⟩
  | .hbm, ⟨86, _⟩ => ⟨S16x128, .f32⟩
  | .hbm, ⟨87, _⟩ => ⟨S_, .i32⟩
  | .hbm, ⟨88, _⟩ => ⟨S1, .i32⟩
  | .hbm, ⟨89, _⟩ => ⟨S16x128, .f32⟩
  | .hbm, ⟨90, _⟩ => ⟨S_, .i32⟩
  | .hbm, ⟨91, _⟩ => ⟨S128, .i32⟩
  | .hbm, ⟨92, _⟩ => ⟨S128, .i32⟩
  | .hbm, ⟨93, _⟩ => ⟨S128, .i32⟩
  | .hbm, ⟨94, _⟩ => ⟨S128x1, .i32⟩
  | .hbm, ⟨95, _⟩ => ⟨S128, .f32⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .i32⟩
  | .hbm, ⟨101, _⟩ => ⟨S1, .i32⟩
  | .hbm, ⟨102, _⟩ => ⟨S16x128, .f32⟩
  | .hbm, ⟨103, _⟩ => ⟨S_, .i32⟩
  | .hbm, ⟨104, _⟩ => ⟨S1, .i32⟩
  | .hbm, ⟨105, _⟩ => ⟨S16x128, .f32⟩
  | .hbm, ⟨106, _⟩ => ⟨S_, .i32⟩
  | .hbm, ⟨107, _⟩ => ⟨S1, .i32⟩
  | .hbm, ⟨108, _⟩ => ⟨S16x128, .f32⟩
  | .hbm, ⟨109, _⟩ => ⟨S_, .i32⟩
  | .hbm, ⟨110, _⟩ => ⟨S1, .i32⟩
  | .hbm, ⟨111, _⟩ => ⟨S16x128, .f32⟩
  | .hbm, ⟨112, _⟩ => ⟨S256x512x128, .bf16⟩
  | .hbm, ⟨113, _⟩ => ⟨S32768x128, .bf16⟩
  | .hbm, ⟨114, _⟩ => ⟨S64x144x512, .bf16⟩
  | .hbm, ⟨115, _⟩ => ⟨S256x256x128, .bf16⟩
  | .hbm, ⟨116, _⟩ => ⟨S32768x32, .bf16⟩
  | .hbm, ⟨117, _⟩ => ⟨S32768x128, .f32⟩
  | .hbm, ⟨118, _⟩ => ⟨S32768x1024, .f32⟩
  | .hbm, ⟨119, _⟩ => ⟨S32768x512, .bf16⟩
  | .hbm, ⟨120, _⟩ => ⟨S32768x512, .bf16⟩
  | .hbm, ⟨121, _⟩ => ⟨S32768x1024, .bf16⟩
  | .hbm, ⟨122, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x5248, .bf16⟩
  | .local _ .vmem, ⟨6, _⟩ => ⟨S16x128, .f32⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S4x512x128, .bf16⟩
  | .local _ .vmem, ⟨11, _⟩ => ⟨S4x512x128, .bf16⟩
  | .local _ .vmem, ⟨12, _⟩ => ⟨S512x128, .bf16⟩
  | .local _ .vmem, ⟨13, _⟩ => ⟨S512x128, .bf16⟩
  | .local _ .vmem, ⟨14, _⟩ => ⟨S1x144x512, .bf16⟩
  | .local _ .vmem, ⟨15, _⟩ => ⟨S1x144x512, .bf16⟩
  | .local _ .vmem, ⟨16, _⟩ => ⟨S4x256x128, .bf16⟩
  | .local _ .vmem, ⟨17, _⟩ => ⟨S4x256x128, .bf16⟩
  | .local _ .vmem, ⟨18, _⟩ => ⟨S512x32, .bf16⟩
  | .local _ .vmem, ⟨19, _⟩ => ⟨S512x32, .bf16⟩
  | .local _ .vmem, ⟨20, _⟩ => ⟨S512x128, .f32⟩
  | .local _ .vmem, ⟨21, _⟩ => ⟨S512x128, .f32⟩
  | .local _ .vmem, ⟨22, _⟩ => ⟨S512x1024, .f32⟩
  | .local _ .vmem, ⟨23, _⟩ => ⟨S512x1024, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_cst_2 : Ref sig .tc := ⟨.hbm, 10, rfl⟩
abbrev main_cst_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_cst_7 : Ref sig .tc := ⟨.hbm, 15, rfl⟩
abbrev main_cst_8 : Ref sig .tc := ⟨.hbm, 16, rfl⟩
abbrev main_cst_9 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_10 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_v33 : Ref sig .tc := ⟨.hbm, 54, rfl⟩
abbrev main_cst_13 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_v39 : Ref sig .tc := ⟨.hbm, 62, rfl⟩
abbrev main_cst_15 : Ref sig .tc := ⟨.hbm, 63, rfl⟩
abbrev main_v40 : Ref sig .tc := ⟨.hbm, 64, rfl⟩
abbrev main_v41 : Ref sig .tc := ⟨.hbm, 65, rfl⟩
abbrev main_cst_16 : Ref sig .tc := ⟨.hbm, 66, rfl⟩
abbrev main_v42 : Ref sig .tc := ⟨.hbm, 67, rfl⟩
abbrev main_v43 : Ref sig .tc := ⟨.hbm, 68, rfl⟩
abbrev main_cst_17 : Ref sig .tc := ⟨.hbm, 69, rfl⟩
abbrev main_v44 : Ref sig .tc := ⟨.hbm, 70, rfl⟩
abbrev main_c_18 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_call0_v0 : Ref sig .tc := ⟨.hbm, 78, rfl⟩
abbrev main_call0_v1 : Ref sig .tc := ⟨.hbm, 79, rfl⟩
abbrev main_v50 : Ref sig .tc := ⟨.hbm, 80, rfl⟩
abbrev main_c_20 : Ref sig .tc := ⟨.hbm, 81, rfl⟩
abbrev main_v51 : Ref sig .tc := ⟨.hbm, 82, rfl⟩
abbrev main_v52 : Ref sig .tc := ⟨.hbm, 83, rfl⟩
abbrev main_c_21 : Ref sig .tc := ⟨.hbm, 84, rfl⟩
abbrev main_v53 : Ref sig .tc := ⟨.hbm, 85, rfl⟩
abbrev main_v54 : Ref sig .tc := ⟨.hbm, 86, rfl⟩
abbrev main_c_22 : Ref sig .tc := ⟨.hbm, 87, rfl⟩
abbrev main_v55 : Ref sig .tc := ⟨.hbm, 88, rfl⟩
abbrev main_v56 : Ref sig .tc := ⟨.hbm, 89, rfl⟩
abbrev main_c_23 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_24 : Ref sig .tc := ⟨.hbm, 96, rfl⟩
abbrev main_call1_v0 : Ref sig .tc := ⟨.hbm, 97, rfl⟩
abbrev main_call1_v1 : Ref sig .tc := ⟨.hbm, 98, rfl⟩
abbrev main_v62 : Ref sig .tc := ⟨.hbm, 99, rfl⟩
abbrev main_c_25 : Ref sig .tc := ⟨.hbm, 100, rfl⟩
abbrev main_v63 : Ref sig .tc := ⟨.hbm, 101, rfl⟩
abbrev main_v64 : Ref sig .tc := ⟨.hbm, 102, rfl⟩
abbrev main_c_26 : Ref sig .tc := ⟨.hbm, 103, rfl⟩
abbrev main_v65 : Ref sig .tc := ⟨.hbm, 104, rfl⟩
abbrev main_v66 : Ref sig .tc := ⟨.hbm, 105, rfl⟩
abbrev main_c_27 : Ref sig .tc := ⟨.hbm, 106, rfl⟩
abbrev main_v67 : Ref sig .tc := ⟨.hbm, 107, rfl⟩
abbrev main_v68 : Ref sig .tc := ⟨.hbm, 108, rfl⟩
abbrev main_c_28 : Ref sig .tc := ⟨.hbm, 109, rfl⟩
abbrev main_v69 : Ref sig .tc := ⟨.hbm, 110, rfl⟩
abbrev main_v70 : Ref sig .tc := ⟨.hbm, 111, rfl⟩
abbrev main_v71_0 : Ref sig .tc := ⟨.hbm, 112, rfl⟩
abbrev main_v71_1 : Ref sig .tc := ⟨.hbm, 113, rfl⟩
abbrev main_v71_2 : Ref sig .tc := ⟨.hbm, 114, rfl⟩
abbrev main_v71_3 : Ref sig .tc := ⟨.hbm, 115, rfl⟩
abbrev main_v71_4 : Ref sig .tc := ⟨.hbm, 116, rfl⟩
abbrev main_v71_5 : Ref sig .tc := ⟨.hbm, 117, rfl⟩
abbrev main_v71_6 : Ref sig .tc := ⟨.hbm, 118, rfl⟩
abbrev main_v71_7 : Ref sig .tc := ⟨.hbm, 119, rfl⟩
abbrev main_v71_8 : Ref sig .tc := ⟨.hbm, 120, rfl⟩
abbrev main_v71_9 : Ref sig .tc := ⟨.hbm, 121, rfl⟩
abbrev main_v71_10 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x144x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S32768x1024 : Shape := ⟨2, ![32768, 1024]⟩
abbrev S32768x1 : Shape := ⟨2, ![32768, 1]⟩
abbrev S1024 : Shape := ⟨1, ![1024]⟩
abbrev S1024x5168 : Shape := ⟨2, ![1024, 5168]⟩
abbrev S64 : Shape := ⟨1, ![64]⟩
abbrev S_ : Shape := ⟨0, ![]⟩
abbrev S32768 : Shape := ⟨1, ![32768]⟩
abbrev S1x1024 : Shape := ⟨2, ![1, 1024]⟩
abbrev S32768x5168 : Shape := ⟨2, ![32768, 5168]⟩
abbrev S32768x512 : Shape := ⟨2, ![32768, 512]⟩
abbrev S32768x128 : Shape := ⟨2, ![32768, 128]⟩
abbrev S32768x256 : Shape := ⟨2, ![32768, 256]⟩
abbrev S32768x32 : Shape := ⟨2, ![32768, 32]⟩
abbrev S32768x8 : Shape := ⟨2, ![32768, 8]⟩
abbrev S32768x4 : Shape := ⟨2, ![32768, 4]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x5168, .f32⟩
  | .hbm, ⟨4, _⟩ => ⟨S64, .f32⟩
  | .hbm, ⟨5, _⟩ => ⟨S64, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x5168, .f32⟩
  | .hbm, ⟨23, _⟩ => ⟨S32768x512, .f32⟩
  | .hbm, ⟨24, _⟩ => ⟨S32768x128, .f32⟩
  | .hbm, ⟨25, _⟩ => ⟨S32768x128, .f32⟩
  | .hbm, ⟨26, _⟩ => ⟨S32768x256, .f32⟩
  | .hbm, ⟨27, _⟩ => ⟨S32768x32, .f32⟩
  | .hbm, ⟨28, _⟩ => ⟨S32768x8, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x4, .f32⟩
  | .hbm, ⟨34, _⟩ => ⟨S32768x4, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x512, .bf16⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S32768x512, .bf16⟩
  | .hbm, ⟨48, _⟩ => ⟨S32768x1024, .bf16⟩
  | .hbm, ⟨49, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 32
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S32768x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S_, .f32⟩
  | .hbm, ⟨14, _⟩ => ⟨S1024x92, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S92, .f32⟩
  | .hbm, ⟨22, _⟩ => ⟨S128, .f32⟩
  | .hbm, ⟨23, _⟩ => ⟨S1x128, .f32⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x128, .i32⟩
  | .hbm, ⟨31, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x128, .i32⟩
  | .local _ .vmem, ⟨22, _⟩ => ⟨S512x128, .i32⟩
  | .local _ .vmem, ⟨23, _⟩ => ⟨S512x128, .f32⟩
  | .local _ .vmem, ⟨24, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x1024 : Shape := ⟨2, ![32768, 1024]⟩
abbrev S32768x512 : Shape := ⟨2, ![32768, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S32768x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x512, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.Bits.lean ====
/- Words and their bits: thirty-two words transposed by five rounds of exchanges, and the choice of the 256th largest word bit
   by bit, as statements about finite sets. Untrusted. -/
module

public import Idealize.ShloMosaic.Lib.IndicatorCount
public import Idealize.ShloMosaic.Lib.WordArith
public import Idealize.ShloMosaic.Lib.NatWords
public import Idealize.ShloMosaic.Lib.NatWordsOrder
public import Mathlib.Tactic.Positivity
public import Mathlib.Tactic.Ring

@[expose] public section

namespace Cert.Proof.Sel

/-! ## The transposition of thirty-two words -/

/-- The first word of a pair after the exchange at distance `j` under the mask `m`. -/
def swapLo (j : ℕ) (m a b : BitVec 32) : BitVec 32 := a ^^^ ((a ^^^ (b >>> j)) &&& m)

/-- The second word of a pair after the exchange. -/
def swapHi (j : ℕ) (m a b : BitVec 32) : BitVec 32 := b ^^^ (((a ^^^ (b >>> j)) &&& m) <<< j)

/-- One round: the words whose indices differ in bit `s` alone are exchanged. -/
def exch (s : ℕ) (m : BitVec 32) (a : ℕ → BitVec 32) (k : ℕ) : BitVec 32 :=
  bif k.testBit s then swapHi (2 ^ s) m (a (k - 2 ^ s)) (a k) else swapLo (2 ^ s) m (a k) (a (k + 2 ^ s))

/-- Where a bit comes from in one round. -/
def src (s : ℕ) (kb : ℕ × ℕ) : ℕ × ℕ :=
  if kb.1.testBit s = kb.2.testBit s then (bif kb.1.testBit s then (kb.1 - 2 ^ s, kb.2 - 2 ^ s) else (kb.1 + 2 ^ s, kb.2 + 2 ^ s)) else kb

theorem exch_bit (s : ℕ) (m : BitVec 32) (hm : ∀ b < 32, m.getLsbD b = !b.testBit s)
    (hb : ∀ b < 32, b.testBit s = true → 2 ^ s ≤ b ∧ (b - 2 ^ s).testBit s = false)
    (a : ℕ → BitVec 32) (k b : ℕ) (hb' : b < 32) :
    (exch s m a k).getLsbD b = (a (src s (k, b)).1).getLsbD (src s (k, b)).2 := by
  unfold exch src
  cases hk : k.testBit s <;> cases hbs : b.testBit s
  · simp [swapLo, hm b hb', hbs, hk]
    rw [Nat.add_comm b]
  · simp [swapLo, hm b hb', hbs, hk]
  · simp only [swapHi, cond_true, BitVec.getLsbD_xor, BitVec.getLsbD_shiftLeft, BitVec.getLsbD_and, BitVec.getLsbD_ushiftRight]
    by_cases hlt : b < 2 ^ s
    · simp [hlt, hbs, hk]
    · have e : ∀ c, 2 ^ s ≤ b → c = b - 2 ^ s → c.testBit s = true := by
        intro c hc hc'
        have h1 := Nat.testBit_two_pow_add_eq c s
        rw [hc', show 2 ^ s + (b - 2 ^ s) = b by omega, hbs] at h1
        rw [hc']; simpa using h1.symm
      rw [hm (b - 2 ^ s) (lt_of_le_of_lt (Nat.sub_le _ _) hb'), e _ (by omega) rfl]
      simp [hbs, hk]
  · obtain ⟨h1, h2⟩ := hb b hb' hbs
    simp only [swapHi, cond_true, BitVec.getLsbD_xor, BitVec.getLsbD_shiftLeft, BitVec.getLsbD_and, BitVec.getLsbD_ushiftRight]
    rw [hm (b - 2 ^ s) (lt_of_le_of_lt (Nat.sub_le _ _) hb'), h2, show 2 ^ s + (b - 2 ^ s) = b by omega]
    simp [hb', show ¬ b < 2 ^ s by omega, hbs, hk]
    generalize (a k)[b] = x; generalize (a (k - 2 ^ s)).getLsbD _ = y
    revert x y; decide

/-- The five rounds. -/
def transposed (a : ℕ → BitVec 32) : ℕ → BitVec 32 :=
  exch 0 0x55555555#32 (exch 1 0x33333333#32 (exch 2 0x0F0F0F0F#32 (exch 3 0x00FF00FF#32 (exch 4 0x0000FFFF#32 a))))

theorem transposed_bit (a : ℕ → BitVec 32) (p b : ℕ) (hp : p < 32) (hb : b < 32) :
    (transposed a p).getLsbD b = (a (31 - b)).getLsbD (31 - p) := by
  have H : ∀ p < 32, ∀ b < 32, (src 0 (p, b)).2 < 32 ∧ (src 1 (src 0 (p, b))).2 < 32 ∧ (src 2 (src 1 (src 0 (p, b)))).2 < 32
      ∧ (src 3 (src 2 (src 1 (src 0 (p, b))))).2 < 32 ∧ src 4 (src 3 (src 2 (src 1 (src 0 (p, b))))) = (31 - b, 31 - p) := by
    decide
  obtain ⟨h0, h1, h2, h3, h4⟩ := H p hp b hb
  unfold transposed
  rw [exch_bit 0 _ (by decide) (by decide) _ p b hb]
  rw [exch_bit 1 _ (by decide) (by decide) _ _ _ h0]
  rw [exch_bit 2 _ (by decide) (by decide) _ _ _ h1]
  rw [exch_bit 3 _ (by decide) (by decide) _ _ _ h2]
  rw [exch_bit 4 _ (by decide) (by decide) _ _ _ h3]
  simp only [Prod.mk.eta, h4]

/-! ## The choice, bit by bit -/

section Choice

variable {α : Type} [DecidableEq α] (u : α → BitVec 32) (A₀ : Finset α)

/-- What is known after `p` bits: of the candidates those are left whose first `p` bits are the threshold's, and as many of
    them are wanted as are missing to 256. -/
structure Picked (p : ℕ) (A : Finset α) (k : ℕ) (t : BitVec 32) : Prop where
  le : p ≤ 32
  low : ∃ T, t.toNat = 2 ^ (32 - p) * T
  left : A = A₀.filter fun x => (u x).toNat / 2 ^ (32 - p) = t.toNat / 2 ^ (32 - p)
  count : k + (A₀.filter fun x => t.toNat / 2 ^ (32 - p) < (u x).toNat / 2 ^ (32 - p)).card = 256
  pos : 1 ≤ k
  enough : k ≤ A.card

theorem Picked.start (h : 256 ≤ A₀.card) : Picked u A₀ 0 A₀ 256 0#32 where
  le := by omega
  low := ⟨0, rfl⟩
  left := by
    ext x; simp only [Finset.mem_filter]
    have := (u x).isLt
    simp [Nat.div_eq_of_lt this]
  count := by
    have : (A₀.filter fun x => (0#32).toNat / 2 ^ (32 - 0) < (u x).toNat / 2 ^ (32 - 0)) = ∅ := by
      ext x; have := (u x).isLt; simp [Nat.div_eq_of_lt this]; omega
    rw [this]; rfl
  pos := by omega
  enough := h

theorem half (p n : ℕ) (hp : p < 32) : n / 2 ^ (31 - p) = 2 * (n / 2 ^ (32 - p)) + (n.testBit (31 - p)).toNat := by
  have e : 2 ^ (32 - p) = 2 ^ (31 - p) * 2 := by rw [← pow_succ]; congr 1; omega
  rw [e, ← Nat.div_div_eq_div_mul, Nat.testBit_eq_decide_div_mod_eq]
  rcases Nat.mod_two_eq_zero_or_one (n / 2 ^ (31 - p)) with h | h <;> simp [h] <;> omega

theorem Picked.take {p : ℕ} {A : Finset α} {k : ℕ} {t : BitVec 32} (h : Picked u A₀ p A k t) (hp : p < 32)
    (hc : k ≤ (A.filter fun x => (u x).getLsbD (31 - p) = true).card) :
    Picked u A₀ (p + 1) (A.filter fun x => (u x).getLsbD (31 - p) = true) k (t ||| BitVec.ofNat 32 (2 ^ (31 - p))) := by
  obtain ⟨T, hT⟩ := h.low
  have hP : 0 < 2 ^ (31 - p) := by positivity
  have e : 2 ^ (32 - p) = 2 ^ (31 - p) * 2 := by rw [← pow_succ]; congr 1; omega
  have et : (t ||| BitVec.ofNat 32 (2 ^ (31 - p))).toNat = 2 ^ (31 - p) * (2 * T + 1) := by
    rw [BitVec.toNat_or, BitVec.toNat_ofNat, Nat.mod_eq_of_lt (Nat.pow_lt_pow_right (by decide) (by omega)), hT,
      ← Nat.two_pow_add_eq_or_of_lt (by rw [e]; omega), e]; ring
  have e1 : t.toNat / 2 ^ (32 - p) = T := by rw [hT]; exact Nat.mul_div_cancel_left _ (by positivity)
  have e2 : (t ||| BitVec.ofNat 32 (2 ^ (31 - p))).toNat / 2 ^ (31 - p) = 2 * T + 1 := by
    rw [et]; exact Nat.mul_div_cancel_left _ hP
  have e3 : 32 - (p + 1) = 31 - p := by omega
  refine ⟨by omega, ⟨2 * T + 1, by rw [e3, et]⟩, ?_, ?_, h.pos, hc⟩
  · rw [e3, e2]
    conv_lhs => rw [h.left]
    rw [Finset.filter_filter]
    refine Finset.filter_congr fun x _ => ?_
    rw [e1, half p _ hp, BitVec.testBit_toNat]
    cases (u x).getLsbD (31 - p) <;> simp <;> omega
  · rw [e3, e2, ← h.count]
    congr 2
    refine Finset.filter_congr fun x _ => ?_
    rw [e1, half p _ hp]
    cases (u x).toNat.testBit (31 - p) <;> simp <;> omega

theorem Picked.leave {p : ℕ} {A : Finset α} {k : ℕ} {t : BitVec 32} (h : Picked u A₀ p A k t) (hp : p < 32)
    (hc : (A.filter fun x => (u x).getLsbD (31 - p) = true).card < k) :
    Picked u A₀ (p + 1) (A.filter fun x => ¬ (u x).getLsbD (31 - p) = true)
      (k - (A.filter fun x => (u x).getLsbD (31 - p) = true).card) t := by
  obtain ⟨T, hT⟩ := h.low
  have hP : 0 < 2 ^ (31 - p) := by positivity
  have e : 2 ^ (32 - p) = 2 ^ (31 - p) * 2 := by rw [← pow_succ]; congr 1; omega
  have et : t.toNat = 2 ^ (31 - p) * (2 * T) := by rw [hT, e]; ring
  have e1 : t.toNat / 2 ^ (32 - p) = T := by rw [hT]; exact Nat.mul_div_cancel_left _ (by positivity)
  have e2 : t.toNat / 2 ^ (31 - p) = 2 * T := by rw [et]; exact Nat.mul_div_cancel_left _ hP
  have e3 : 32 - (p + 1) = 31 - p := by omega
  have hsum := Finset.card_filter_add_card_filter_not (s := A) (fun x => (u x).getLsbD (31 - p) = true)
  have hen := h.enough
  have hcount := h.count
  refine ⟨by omega, ⟨2 * T, by rw [e3, et]⟩, ?_, ?_, by omega, by omega⟩
  · rw [e3, e2]
    conv_lhs => rw [h.left]
    rw [Finset.filter_filter]
    refine Finset.filter_congr fun x _ => ?_
    rw [e1, half p _ hp, BitVec.testBit_toNat]
    cases (u x).getLsbD (31 - p) <;> simp <;> omega
  · rw [e3, e2]
    have hd : (A₀.filter fun x => 2 * T < (u x).toNat / 2 ^ (31 - p))
        = (A₀.filter fun x => t.toNat / 2 ^ (32 - p) < (u x).toNat / 2 ^ (32 - p))
          ∪ (A.filter fun x => (u x).getLsbD (31 - p) = true) := by
      conv_rhs => rw [h.left]
      rw [Finset.filter_filter, ← Finset.filter_or]
      refine Finset.filter_congr fun x _ => ?_
      rw [e1, half p _ hp, BitVec.testBit_toNat]
      cases (u x).getLsbD (31 - p) <;> simp <;> omega
    rw [hd, Finset.card_union_of_disjoint]
    · omega
    · rw [h.left, Finset.disjoint_left]
      intro x hx hx'
      simp only [Finset.mem_filter] at hx hx'
      omega

/-- After all thirty-two bits: the candidates left are those at the threshold. -/
theorem Picked.done {A : Finset α} {k : ℕ} {t : BitVec 32} (h : Picked u A₀ 32 A k t) :
    A = (A₀.filter fun x => u x = t) ∧ k + (A₀.filter fun x => t < u x).card = 256 ∧ 1 ≤ k ∧ k ≤ A.card := by
  refine ⟨?_, ?_, h.pos, h.enough⟩
  · conv_lhs => rw [h.left]
    refine Finset.filter_congr fun x _ => ?_
    simp [BitVec.toNat_inj]
  · rw [← h.count]
    congr 2
    refine Finset.filter_congr fun x _ => ?_
    simp [BitVec.lt_def]

end Choice

end Cert.Proof.Sel

end
-- ==== Proof.Radix.lean ====
/- The choice of the 256th largest word over whole vectors: words of thirty-two flags each, thinned plane by plane, the lanes'
   counts kept as floats. Untrusted. -/
module

public import proofs.«01_k».proof.Proof.Bits
public import Idealize.ShloMosaic.Lib.Pointwise
public import Idealize.ShloMosaic.Lib.Pipeline.Value

@[expose] public section

namespace Cert.Proof.Sel

open Idealize.ShloMosaic Idealize.ShloMosaic.Bits

/-- The words of the flags: 128 rows of words by 128 lanes. -/
abbrev ShW : Shape := ⟨2, ![128, 128]⟩
abbrev ShW3 : Shape := ⟨3, ![1, 128, 128]⟩
abbrev ShG : Shape := ⟨3, ![16, 8, 128]⟩
abbrev ShT : Shape := ⟨2, ![8, 128]⟩
abbrev ShV : Shape := ⟨1, ![128]⟩
abbrev ShL : Shape := ⟨2, ![1, 128]⟩

noncomputable section

theorem casts_W_G : ShW.ShapeCasts ShG := by decide
theorem casts_V_L : ShV.ShapeCasts ShL := by decide
theorem reduces_G_T : ShG.Reduces [0] ShT := by decide
theorem reduces_T_V : ShT.Reduces [0] ShV := by decide

/-- The number of set bits of a lane's words, as a float: the tiles of eight rows in the integers, the eight rows in floats. -/
def laneCount (w : IVec ShW 32) : FVec Bits ShL .f32 :=
  shapeCast ShL (multiReduction .add [0] ShV (sitofp .f32 (multiReductionI .add [0] ShT (shapeCast ShG (ctpop w) casts_W_G) 0#32
    reduces_G_T rfl)) 0x00000000#32 reduces_T_V (.inl rfl) rfl) casts_V_L

/-- The flags of a lane. -/
def flags (w : IVec ShW 32) (l : Fin 128) : Finset (Fin 128 × Fin 32) :=
  Finset.univ.filter fun x => (w (ix2 x.1 l)).getLsbD x.2 = true

theorem ctpop_card (x : BitVec 32) : (IntOp.ctpop x).toNat = (Finset.univ.filter fun b : Fin 32 => x.getLsbD b = true).card := by
  rw [WordArith.toNat_ctpop]
  have h : ((List.range 32).filter fun i => x.getLsbD i).length = ((List.finRange 32).filter fun b : Fin 32 => x.getLsbD b).length := by
    rw [← List.map_coe_finRange_eq_range, List.filter_map, List.length_map]; rfl
  rw [h, ← List.toFinset_card_of_nodup ((List.nodup_finRange 32).filter _)]
  congr 1; ext b; simp

theorem fold_addi_toNat {ι : Type} [DecidableEq ι] (S : Finset ι) (f : ι → BitVec 32) (n : ι → ℕ) (h : ∀ i ∈ S, (f i).toNat = n i)
    (hs : S.sum n < 2 ^ 32) : (S.fold IntOp.addi 0#32 f).toNat = S.sum n := by
  revert h hs
  induction S using Finset.induction_on with
  | empty => intro h hs; rfl
  | insert a S ha ih =>
    intro h hs
    rw [Finset.sum_insert ha] at hs ⊢
    rw [Finset.fold_insert ha]
    show (f a + S.fold IntOp.addi 0#32 f).toNat = _
    rw [BitVec.toNat_add, ih (fun i hi => h i (Finset.mem_insert_of_mem hi)) (lt_of_le_of_lt (Nat.le_add_left _ _) hs), h a (Finset.mem_insert_self _ _),
      Nat.mod_eq_of_lt hs]

theorem laneCount_apply (w : IVec ShW 32) (l : Fin 128) : laneCount w (ix2 0 l) = f32OfNat (flags w l).card := by
  -- one row of the eight: the sixteen tiles' words
  have hrow : ∀ s : Fin 8, (multiReductionI .add [0] ShT (shapeCast ShG (ctpop w) casts_W_G) 0#32 reduces_G_T rfl (ix2 s l)).toNat
      = ∑ q : Fin 16, (IntOp.ctpop (w (ix2 ⟨q.val * 8 + s.val, by omega⟩ l))).toNat := by
    intro s
    refine (congrArg BitVec.toNat ((multiReductionI_eq_fold .add _ 0#32 reduces_G_T rfl _).trans
      (reduces_G_T.fold_filter_drop_single IntOp.addi _ _ _))).trans ?_
    refine fold_addi_toNat _ _ _ (fun q _ => ?_) ?_
    · have hq : q.val < 16 := q.isLt
      congr 1
      show shapeCast ShG (ctpop w) _ (reduces_G_T.lift (ix2 s l) q) = _
      rw [shapeCast_apply (ctpop w) _ _ (ix2 ⟨q.val * 8 + s.val, by omega⟩ l)]
      · rfl
      · rw [Shape.rowMajor_val_two, Shape.rowMajor_val_succ, Shape.rowMajor_val_two]
        show _ = q.val * (8 * (128 * 1)) + (s.val * 128 + l.val)
        show (q.val * 8 + s.val) * 128 + l.val = _
        ring
    · refine lt_of_le_of_lt (Finset.sum_le_card_nsmul _ _ 32 fun q _ => WordArith.toNat_ctpop_le _) (by decide)
  have hle : ∀ s : Fin 8, (∑ q : Fin 16, (IntOp.ctpop (w (ix2 ⟨q.val * 8 + s.val, by omega⟩ l))).toNat) ≤ 512 := fun s =>
    le_trans (Finset.sum_le_card_nsmul _ _ 32 fun q _ => WordArith.toNat_ctpop_le _) (by decide)
  unfold laneCount
  rw [shapeCast_apply _ _ _ (ix1 l) (by rw [Shape.rowMajor_val_one, Shape.rowMajor_val_two]; simp)]
  have hsum : (reduceFiber reduces_T_V (ix1 l)).sum (fun i => (multiReductionI .add [0] ShT (shapeCast ShG (ctpop w) casts_W_G) 0#32 reduces_G_T rfl i).toNat)
      = (flags w l).card := by
    unfold reduceFiber
    rw [reduces_T_V.sum_filter_drop_single]
    have e : ∀ s : Fin 8, reduces_T_V.lift (ix1 l) s = ix2 s l := by
      intro s; funext c; revert c; intro c; fin_cases c <;> rfl
    have hc : (flags w l).card = ∑ r : Fin 128, (IntOp.ctpop (w (ix2 r l))).toNat := by
      unfold flags
      rw [Finset.card_filter, ← Finset.univ_product_univ, Finset.sum_product]
      refine Finset.sum_congr rfl fun r _ => ?_
      rw [ctpop_card, Finset.card_filter]
    rw [hc]
    calc _ = ∑ s : Fin 8, ∑ q : Fin 16, (IntOp.ctpop (w (ix2 ⟨q.val * 8 + s.val, by omega⟩ l))).toNat :=
          Finset.sum_congr rfl fun s _ => by rw [e]; exact hrow s
      _ = _ := by
          rw [Finset.sum_comm]
          refine (Finset.sum_product (s := (Finset.univ : Finset (Fin 16))) (t := (Finset.univ : Finset (Fin 8)))
            (f := fun x => (IntOp.ctpop (w (ix2 ⟨x.1.val * 8 + x.2.val, by omega⟩ l))).toNat)).symm.trans ?_
          rw [Finset.univ_product_univ]
          exact Fintype.sum_equiv finProdFinEquiv _ _ fun x => by
            congr 3; apply congrArg (fun r => ix2 r l); apply Fin.ext; simp [finProdFinEquiv]; omega
  rw [multiReduction_add_nat [0] reduces_T_V _ (ix1 l) _ (fun i hi => ?_) ?_, hsum]
  · rw [hsum]
    refine lt_of_le_of_lt (Finset.card_le_univ _) (by simp)
  · show natOfF32? (sitofp32 (multiReductionI .add [0] ShT (shapeCast ShG (ctpop w) casts_W_G) 0#32 reduces_G_T rfl i)) = _
    have hi' : i = ix2 (i 0) l := by
      rw [← reduces_T_V.lift_drop i, hi]; funext c; revert c; intro c; fin_cases c <;> rfl
    have hlt : (multiReductionI .add [0] ShT (shapeCast ShG (ctpop w) casts_W_G) 0#32 reduces_G_T rfl i).toNat ≤ 512 := by
      rw [hi']; exact (hrow (i 0)).le.trans (hle (i 0))
    rw [sitofp32_eq_f32OfNat _ (le_refl 32) (by omega), natOfF32?_f32OfNat _ (by omega)]

/-! ## The thinning, plane by plane -/

/-- One plane: the flagged words that have it set, their number, and whether they are as many as are wanted. -/
def thinTake (plane : IVec ShW3 32) (alive : IVec ShW 32) (k : FVec Bits ShL .f32) : IVec ShL 1 :=
  cmpf .oge (laneCount (andi alive (shapeCast ShW plane (by decide)))) k

def thinAlive (plane : IVec ShW3 32) (alive : IVec ShW 32) (k : FVec Bits ShL .f32) : IVec ShW 32 :=
  select (broadcastTo ShW (shapeCast ShL (thinTake plane alive k) (by decide)) (by decide)) (andi alive (shapeCast ShW plane (by decide)))
    (xori alive (andi alive (shapeCast ShW plane (by decide))))

def thinK (plane : IVec ShW3 32) (alive : IVec ShW 32) (k : FVec Bits ShL .f32) : FVec Bits ShL .f32 :=
  select (thinTake plane alive k) k (subf k (laneCount (andi alive (shapeCast ShW plane (by decide)))))

def thinT (bit : BitVec 32) (plane : IVec ShW3 32) (alive : IVec ShW 32) (k : FVec Bits ShL .f32) (t : IVec ShL 32) : IVec ShL 32 :=
  select (thinTake plane alive k) (ori t (broadcast ShL bit)) t

/-- The lane's part of a state of the thinning. -/
structure Lane (u : Fin 128 × Fin 32 → BitVec 32) (A₀ : Finset (Fin 128 × Fin 32)) (p : ℕ) (l : Fin 128) (alive : IVec ShW 32)
    (k : FVec Bits ShL .f32) (t : IVec ShL 32) (n : ℕ) : Prop where
  picked : Picked u A₀ p (flags alive l) n (t (ix2 0 l))
  wanted : k (ix2 0 l) = f32OfNat n

theorem flags_and (a b : IVec ShW 32) (l : Fin 128) : flags (andi a b) l = (flags a l).filter fun x => (b (ix2 x.1 l)).getLsbD x.2 = true := by
  unfold flags
  rw [Finset.filter_filter]
  refine Finset.filter_congr fun x _ => ?_
  show (a _ &&& b _).getLsbD _ = true ↔ _
  rw [BitVec.getLsbD_and, Bool.and_eq_true]

theorem flags_xor (a b : IVec ShW 32) (l : Fin 128) :
    flags (xori a (andi a b)) l = (flags a l).filter fun x => ¬ (b (ix2 x.1 l)).getLsbD x.2 = true := by
  unfold flags
  rw [Finset.filter_filter]
  refine Finset.filter_congr fun x _ => ?_
  show (a _ ^^^ (a _ &&& b _)).getLsbD _ = true ↔ _
  rw [BitVec.getLsbD_xor, BitVec.getLsbD_and]
  cases (a (ix2 x.1 l)).getLsbD x.2 <;> cases (b (ix2 x.1 l)).getLsbD x.2 <;> simp

theorem cast_plane (plane : IVec ShW3 32) (r l : Fin 128) : shapeCast ShW plane (by decide) (ix2 r l) = plane (ix3 0 r l) := by
  refine shapeCast_apply _ _ _ _ ?_
  rw [Shape.rowMajor_val_two, Shape.rowMajor_val_succ, Shape.rowMajor_val_two]
  show 0 * (128 * (128 * 1)) + (r.val * 128 + l.val) = _
  show _ = r.val * 128 + l.val
  ring

/-- One plane thins a lane as the choice takes a bit, where the plane's flags are that bit. -/
theorem Lane.step {u : Fin 128 × Fin 32 → BitVec 32} {A₀ : Finset (Fin 128 × Fin 32)} {p : ℕ} {l : Fin 128} {alive : IVec ShW 32}
    {k : FVec Bits ShL .f32} {t : IVec ShL 32} (plane : IVec ShW3 32) (bit : BitVec 32) (hp : p < 32) (hbit : bit = BitVec.ofNat 32 (2 ^ (31 - p)))
    (hplane : ∀ x ∈ A₀, (plane (ix3 0 x.1 l)).getLsbD x.2 = (u x).getLsbD (31 - p))
    (h : ∃ n, Lane u A₀ p l alive k t n) :
    ∃ n, Lane u A₀ (p + 1) l (thinAlive plane alive k) (thinK plane alive k) (thinT bit plane alive k t) n := by
  obtain ⟨n, hpk, hk⟩ := h
  have hsub : flags alive l ⊆ A₀ := by rw [hpk.left]; exact Finset.filter_subset _ _
  have hones : flags (andi alive (shapeCast ShW plane (by decide))) l = (flags alive l).filter fun x => (u x).getLsbD (31 - p) = true := by
    rw [flags_and]
    refine Finset.filter_congr fun x hx => ?_
    rw [cast_plane, hplane x (hsub hx)]
  have hrest : flags (xori alive (andi alive (shapeCast ShW plane (by decide)))) l = (flags alive l).filter fun x => ¬ (u x).getLsbD (31 - p) = true := by
    rw [flags_xor]
    refine Finset.filter_congr fun x hx => ?_
    rw [cast_plane, hplane x (hsub hx)]
  have hcard : (flags alive l).card ≤ 4096 := le_trans (Finset.card_le_univ _) (by simp)
  have hc : ((flags alive l).filter fun x => (u x).getLsbD (31 - p) = true).card ≤ 4096 := le_trans (Finset.card_filter_le _ _) hcard
  have hn := hpk.enough
  have htake : thinTake plane alive k (ix2 0 l) = BitVec.ofBool (decide (n ≤ ((flags alive l).filter fun x => (u x).getLsbD (31 - p) = true).card)) := by
    show cmpf32 .oge (laneCount _ (ix2 0 l)) (k (ix2 0 l)) = _
    rw [laneCount_apply, hones, hk, cmpf32_oge_nat (by omega) (by omega)]
  have hal : ∀ r, thinAlive plane alive k (ix2 r l) = if thinTake plane alive k (ix2 0 l) = 1#1
      then andi alive (shapeCast ShW plane (by decide)) (ix2 r l) else xori alive (andi alive (shapeCast ShW plane (by decide))) (ix2 r l) := by
    intro r
    show Scalar.select (broadcastTo ShW (shapeCast ShL (thinTake plane alive k) (by decide)) (by decide) (ix2 r l)) _ _ = _
    rw [shapeCast_self]
    have : broadcastTo ShW (thinTake plane alive k) (by decide) (ix2 r l) = thinTake plane alive k (ix2 0 l) := by
      unfold broadcastTo; congr 1; funext c; revert c; intro c; fin_cases c <;> rfl
    rw [this]; rfl
  by_cases hle : n ≤ ((flags alive l).filter fun x => (u x).getLsbD (31 - p) = true).card
  · have h1 : thinTake plane alive k (ix2 0 l) = 1#1 := by rw [htake, decide_eq_true hle]; rfl
    refine ⟨n, ?_, ?_⟩
    · have e : flags (thinAlive plane alive k) l = (flags alive l).filter fun x => (u x).getLsbD (31 - p) = true := by
        rw [← hones]; unfold flags
        refine Finset.filter_congr fun x _ => ?_
        rw [hal, if_pos h1]
      have e2 : thinT bit plane alive k t (ix2 0 l) = t (ix2 0 l) ||| BitVec.ofNat 32 (2 ^ (31 - p)) := by
        show Scalar.select (thinTake plane alive k (ix2 0 l)) (t (ix2 0 l) ||| bit) _ = _
        rw [h1, hbit]; rfl
      rw [e, e2]; exact hpk.take u A₀ hp hle
    · show Scalar.select (thinTake plane alive k (ix2 0 l)) (k (ix2 0 l)) _ = _
      rw [h1]; exact hk
  · have h1 : ¬ thinTake plane alive k (ix2 0 l) = 1#1 := by rw [htake, decide_eq_false hle]; decide
    refine ⟨n - ((flags alive l).filter fun x => (u x).getLsbD (31 - p) = true).card, ?_, ?_⟩
    · have e : flags (thinAlive plane alive k) l = (flags alive l).filter fun x => ¬ (u x).getLsbD (31 - p) = true := by
        rw [← hrest]; unfold flags
        refine Finset.filter_congr fun x _ => ?_
        rw [hal, if_neg h1]
      have e2 : thinT bit plane alive k t (ix2 0 l) = t (ix2 0 l) := by
        show Scalar.select (thinTake plane alive k (ix2 0 l)) _ (t (ix2 0 l)) = _
        unfold Scalar.select; exact if_neg h1
      rw [e, e2]; exact hpk.leave u A₀ hp (by omega)
    · show Scalar.select (thinTake plane alive k (ix2 0 l)) _ (subf32 (k (ix2 0 l)) (laneCount _ (ix2 0 l))) = _
      unfold Scalar.select
      rw [laneCount_apply, hones, hk, subf32_nat _ _ (by omega) (by omega)]
      exact if_neg h1

end

end Cert.Proof.Sel

end
-- ==== Proof.Offsets.lean ====
/- Where the scoring loop's stores land, in closed form: trip `k` writes 512 rows of the keys, and in each of its two
   groups rows `16 k + 8 g …` of every bit plane. Untrusted. -/
module

public import proofs.«01_k».proof.Proof.Gen.Kernel.Skeleton

@[expose] public section

noncomputable section

namespace Cert.Proof.Sel

open Cert.Kernel Cert.Kernel.Gen Idealize.ShloMosaic

theorem off2_eq : ∀ (i : grid0.Coords) (k : Fin (k0_t1_loop i).trips), k0_off2 i k = ![512 * k.val, 0] := by
  decide +kernel

theorem off3_eq : ∀ (i : grid0.Coords) (k : Fin (k0_t1_loop i).trips) (r : Fin 2),
    k0_off3 i k (BitVec.ofNat 32 r.val) = ![0, 16 * k.val + 8 * r.val, 0] := by
  decide +kernel

theorem row_eq (i : grid0.Coords) (k : Fin (k0_t1_loop i).trips) (r : Fin 2) :
    k0_off3 i k (BitVec.ofNat 32 r.val) 1 = 16 * k.val + 8 * r.val := by
  rw [off3_eq]; rfl

instance (i : grid0.Coords) (k : Fin (k0_t1_loop i).trips) : ClosedOff (k0_off2 i k) := ⟨_, off2_eq i k⟩

instance (i : grid0.Coords) (k : Fin (k0_t1_loop i).trips) : ClosedOff (k0_off3 i k 0#32) :=
  ⟨![0, 16 * k.val + 0, 0], congrArg (fun x => ![0, x, 0]) (row_eq i k 0)⟩

instance (i : grid0.Coords) (k : Fin (k0_t1_loop i).trips) : ClosedOff (k0_off3 i k 1#32) :=
  ⟨![0, 16 * k.val + 8, 0], congrArg (fun x => ![0, x, 0]) (row_eq i k 1)⟩

instance (i : grid0.Coords) (k : Fin (k0_t1_loop i).trips) : ClosedOff (k0_off4 i k 0#32) :=
  ⟨![1, 16 * k.val + 0, 0], congrArg (fun x => ![1, x, 0]) (row_eq i k 0)⟩

instance (i : grid0.Coords) (k : Fin (k0_t1_loop i).trips) : ClosedOff (k0_off4 i k 1#32) :=
  ⟨![1, 16 * k.val + 8, 0], congrArg (fun x => ![1, x, 0]) (row_eq i k 1)⟩

instance (i : grid0.Coords) (k : Fin (k0_t1_loop i).trips) : ClosedOff (k0_off5 i k 0#32) :=
  ⟨![2, 16 * k.val + 0, 0], congrArg (fun x => ![2, x, 0]) (row_eq i k 0)⟩

instance (i : grid0.Coords) (k : Fin (k0_t1_loop i).trips) : ClosedOff (k0_off5 i k 1#32) :=
  ⟨![2, 16 * k.val + 8, 0], congrArg (fun x => ![2, x, 0]) (row_eq i k 1)⟩

instance (i : grid0.Coords) (k : Fin (k0_t1_loop i).trips) : ClosedOff (k0_off6 i k 0#32) :=
  ⟨![3, 16 * k.val + 0, 0], congrArg (fun x => ![3, x, 0]) (row_eq i k 0)⟩

instance (i : grid0.Coords) (k : Fin (k0_t1_loop i).trips) : ClosedOff (k0_off6 i k 1#32) :=
  ⟨![3, 16 * k.val + 8, 0], congrArg (fun x => ![3, x, 0]) (row_eq i k 1)⟩

instance (i : grid0.Coords) (k : Fin (k0_t1_loop i).trips) : ClosedOff (k0_off7 i k 0#32) :=
  ⟨![4, 16 * k.val + 0, 0], congrArg (fun x => ![4, x, 0]) (row_eq i k 0)⟩

instance (i : grid0.Coords) (k : Fin (k0_t1_loop i).trips) : ClosedOff (k0_off7 i k 1#32) :=
  ⟨![4, 16 * k.val + 8, 0], congrArg (fun x => ![4, x, 0]) (row_eq i k 1)⟩

instance (i : grid0.Coords) (k : Fin (k0_t1_loop i).trips) : ClosedOff (k0_off8 i k 0#32) :=
  ⟨![5, 16 * k.val + 0, 0], congrArg (fun x => ![5, x, 0]) (row_eq i k 0)⟩

instance (i : grid0.Coords) (k : Fin (k0_t1_loop i).trips) : ClosedOff (k0_off8 i k 1#32) :=
  ⟨![5, 16 * k.val + 8, 0], congrArg (fun x => ![5, x, 0]) (row_eq i k 1)⟩

instance (i : grid0.Coords) (k : Fin (k0_t1_loop i).trips) : ClosedOff (k0_off9 i k 0#32) :=
  ⟨![6, 16 * k.val + 0, 0], congrArg (fun x => ![6, x, 0]) (row_eq i k 0)⟩

instance (i : grid0.Coords) (k : Fin (k0_t1_loop i).trips) : ClosedOff (k0_off9 i k 1#32) :=
  ⟨![6, 16 * k.val + 8, 0], congrArg (fun x => ![6, x, 0]) (row_eq i k 1)⟩

instance (i : grid0.Coords) (k : Fin (k0_t1_loop i).trips) : ClosedOff (k0_off10 i k 0#32) :=
  ⟨![7, 16 * k.val + 0, 0], congrArg (fun x => ![7, x, 0]) (row_eq i k 0)⟩

instance (i : grid0.Coords) (k : Fin (k0_t1_loop i).trips) : ClosedOff (k0_off10 i k 1#32) :=
  ⟨![7, 16 * k.val + 8, 0], congrArg (fun x => ![7, x, 0]) (row_eq i k 1)⟩

instance (i : grid0.Coords) (k : Fin (k0_t1_loop i).trips) : ClosedOff (k0_off11 i k 0#32) :=
  ⟨![8, 16 * k.val + 0, 0], congrArg (fun x => ![8, x, 0]) (row_eq i k 0)⟩

instance (i : grid0.Coords) (k : Fin (k0_t1_loop i).trips) : ClosedOff (k0_off11 i k 1#32) :=
  ⟨![8, 16 * k.val + 8, 0], congrArg (fun x => ![8, x, 0]) (row_eq i k 1)⟩

instance (i : grid0.Coords) (k : Fin (k0_t1_loop i).trips) : ClosedOff (k0_off12 i k 0#32) :=
  ⟨![9, 16 * k.val + 0, 0], congrArg (fun x => ![9, x, 0]) (row_eq i k 0)⟩

instance (i : grid0.Coords) (k : Fin (k0_t1_loop i).trips) : ClosedOff (k0_off12 i k 1#32) :=
  ⟨![9, 16 * k.val + 8, 0], congrArg (fun x => ![9, x, 0]) (row_eq i k 1)⟩

instance (i : grid0.Coords) (k : Fin (k0_t1_loop i).trips) : ClosedOff (k0_off13 i k 0#32) :=
  ⟨![10, 16 * k.val + 0, 0], congrArg (fun x => ![10, x, 0]) (row_eq i k 0)⟩

instance (i : grid0.Coords) (k : Fin (k0_t1_loop i).trips) : ClosedOff (k0_off13 i k 1#32) :=
  ⟨![10, 16 * k.val + 8, 0], congrArg (fun x => ![10, x, 0]) (row_eq i k 1)⟩

instance (i : grid0.Coords) (k : Fin (k0_t1_loop i).trips) : ClosedOff (k0_off14 i k 0#32) :=
  ⟨![11, 16 * k.val + 0, 0], congrArg (fun x => ![11, x, 0]) (row_eq i k 0)⟩

instance (i : grid0.Coords) (k : Fin (k0_t1_loop i).trips) : ClosedOff (k0_off14 i k 1#32) :=
  ⟨![11, 16 * k.val + 8, 0], congrArg (fun x => ![11, x, 0]) (row_eq i k 1)⟩

instance (i : grid0.Coords) (k : Fin (k0_t1_loop i).trips) : ClosedOff (k0_off15 i k 0#32) :=
  ⟨![12, 16 * k.val + 0, 0], congrArg (fun x => ![12, x, 0]) (row_eq i k 0)⟩

instance (i : grid0.Coords) (k : Fin (k0_t1_loop i).trips) : ClosedOff (k0_off15 i k 1#32) :=
  ⟨![12, 16 * k.val + 8, 0], congrArg (fun x => ![12, x, 0]) (row_eq i k 1)⟩

instance (i : grid0.Coords) (k : Fin (k0_t1_loop i).trips) : ClosedOff (k0_off16 i k 0#32) :=
  ⟨![13, 16 * k.val + 0, 0], congrArg (fun x => ![13, x, 0]) (row_eq i k 0)⟩

instance (i : grid0.Coords) (k : Fin (k0_t1_loop i).trips) : ClosedOff (k0_off16 i k 1#32) :=
  ⟨![13, 16 * k.val + 8, 0], congrArg (fun x => ![13, x, 0]) (row_eq i k 1)⟩

instance (i : grid0.Coords) (k : Fin (k0_t1_loop i).trips) : ClosedOff (k0_off17 i k 0#32) :=
  ⟨![14, 16 * k.val + 0, 0], congrArg (fun x => ![14, x, 0]) (row_eq i k 0)⟩

instance (i : grid0.Coords) (k : Fin (k0_t1_loop i).trips) : ClosedOff (k0_off17 i k 1#32) :=
  ⟨![14, 16 * k.val + 8, 0], congrArg (fun x => ![14, x, 0]) (row_eq i k 1)⟩

instance (i : grid0.Coords) (k : Fin (k0_t1_loop i).trips) : ClosedOff (k0_off18 i k 0#32) :=
  ⟨![15, 16 * k.val + 0, 0], congrArg (fun x => ![15, x, 0]) (row_eq i k 0)⟩

instance (i : grid0.Coords) (k : Fin (k0_t1_loop i).trips) : ClosedOff (k0_off18 i k 1#32) :=
  ⟨![15, 16 * k.val + 8, 0], congrArg (fun x => ![15, x, 0]) (row_eq i k 1)⟩

instance (i : grid0.Coords) (k : Fin (k0_t1_loop i).trips) : ClosedOff (k0_off19 i k 0#32) :=
  ⟨![16, 16 * k.val + 0, 0], congrArg (fun x => ![16, x, 0]) (row_eq i k 0)⟩

instance (i : grid0.Coords) (k : Fin (k0_t1_loop i).trips) : ClosedOff (k0_off19 i k 1#32) :=
  ⟨![16, 16 * k.val + 8, 0], congrArg (fun x => ![16, x, 0]) (row_eq i k 1)⟩

instance (i : grid0.Coords) (k : Fin (k0_t1_loop i).trips) : ClosedOff (k0_off20 i k 0#32) :=
  ⟨![17, 16 * k.val + 0, 0], congrArg (fun x => ![17, x, 0]) (row_eq i k 0)⟩

instance (i : grid0.Coords) (k : Fin (k0_t1_loop i).trips) : ClosedOff (k0_off20 i k 1#32) :=
  ⟨![17, 16 * k.val + 8, 0], congrArg (fun x => ![17, x, 0]) (row_eq i k 1)⟩

instance (i : grid0.Coords) (k : Fin (k0_t1_loop i).trips) : ClosedOff (k0_off21 i k 0#32) :=
  ⟨![18, 16 * k.val + 0, 0], congrArg (fun x => ![18, x, 0]) (row_eq i k 0)⟩

instance (i : grid0.Coords) (k : Fin (k0_t1_loop i).trips) : ClosedOff (k0_off21 i k 1#32) :=
  ⟨![18, 16 * k.val + 8, 0], congrArg (fun x => ![18, x, 0]) (row_eq i k 1)⟩

instance (i : grid0.Coords) (k : Fin (k0_t1_loop i).trips) : ClosedOff (k0_off22 i k 0#32) :=
  ⟨![19, 16 * k.val + 0, 0], congrArg (fun x => ![19, x, 0]) (row_eq i k 0)⟩

instance (i : grid0.Coords) (k : Fin (k0_t1_loop i).trips) : ClosedOff (k0_off22 i k 1#32) :=
  ⟨![19, 16 * k.val + 8, 0], congrArg (fun x => ![19, x, 0]) (row_eq i k 1)⟩

instance (i : grid0.Coords) (k : Fin (k0_t1_loop i).trips) : ClosedOff (k0_off23 i k 0#32) :=
  ⟨![20, 16 * k.val + 0, 0], congrArg (fun x => ![20, x, 0]) (row_eq i k 0)⟩

instance (i : grid0.Coords) (k : Fin (k0_t1_loop i).trips) : ClosedOff (k0_off23 i k 1#32) :=
  ⟨![20, 16 * k.val + 8, 0], congrArg (fun x => ![20, x, 0]) (row_eq i k 1)⟩

instance (i : grid0.Coords) (k : Fin (k0_t1_loop i).trips) : ClosedOff (k0_off24 i k 0#32) :=
  ⟨![21, 16 * k.val + 0, 0], congrArg (fun x => ![21, x, 0]) (row_eq i k 0)⟩

instance (i : grid0.Coords) (k : Fin (k0_t1_loop i).trips) : ClosedOff (k0_off24 i k 1#32) :=
  ⟨![21, 16 * k.val + 8, 0], congrArg (fun x => ![21, x, 0]) (row_eq i k 1)⟩

instance (i : grid0.Coords) (k : Fin (k0_t1_loop i).trips) : ClosedOff (k0_off25 i k 0#32) :=
  ⟨![22, 16 * k.val + 0, 0], congrArg (fun x => ![22, x, 0]) (row_eq i k 0)⟩

instance (i : grid0.Coords) (k : Fin (k0_t1_loop i).trips) : ClosedOff (k0_off25 i k 1#32) :=
  ⟨![22, 16 * k.val + 8, 0], congrArg (fun x => ![22, x, 0]) (row_eq i k 1)⟩

instance (i : grid0.Coords) (k : Fin (k0_t1_loop i).trips) : ClosedOff (k0_off26 i k 0#32) :=
  ⟨![23, 16 * k.val + 0, 0], congrArg (fun x => ![23, x, 0]) (row_eq i k 0)⟩

instance (i : grid0.Coords) (k : Fin (k0_t1_loop i).trips) : ClosedOff (k0_off26 i k 1#32) :=
  ⟨![23, 16 * k.val + 8, 0], congrArg (fun x => ![23, x, 0]) (row_eq i k 1)⟩

instance (i : grid0.Coords) (k : Fin (k0_t1_loop i).trips) : ClosedOff (k0_off27 i k 0#32) :=
  ⟨![24, 16 * k.val + 0, 0], congrArg (fun x => ![24, x, 0]) (row_eq i k 0)⟩

instance (i : grid0.Coords) (k : Fin (k0_t1_loop i).trips) : ClosedOff (k0_off27 i k 1#32) :=
  ⟨![24, 16 * k.val + 8, 0], congrArg (fun x => ![24, x, 0]) (row_eq i k 1)⟩

instance (i : grid0.Coords) (k : Fin (k0_t1_loop i).trips) : ClosedOff (k0_off28 i k 0#32) :=
  ⟨![25, 16 * k.val + 0, 0], congrArg (fun x => ![25, x, 0]) (row_eq i k 0)⟩

instance (i : grid0.Coords) (k : Fin (k0_t1_loop i).trips) : ClosedOff (k0_off28 i k 1#32) :=
  ⟨![25, 16 * k.val + 8, 0], congrArg (fun x => ![25, x, 0]) (row_eq i k 1)⟩

instance (i : grid0.Coords) (k : Fin (k0_t1_loop i).trips) : ClosedOff (k0_off29 i k 0#32) :=
  ⟨![26, 16 * k.val + 0, 0], congrArg (fun x => ![26, x, 0]) (row_eq i k 0)⟩

instance (i : grid0.Coords) (k : Fin (k0_t1_loop i).trips) : ClosedOff (k0_off29 i k 1#32) :=
  ⟨![26, 16 * k.val + 8, 0], congrArg (fun x => ![26, x, 0]) (row_eq i k 1)⟩

instance (i : grid0.Coords) (k : Fin (k0_t1_loop i).trips) : ClosedOff (k0_off30 i k 0#32) :=
  ⟨![27, 16 * k.val + 0, 0], congrArg (fun x => ![27, x, 0]) (row_eq i k 0)⟩

instance (i : grid0.Coords) (k : Fin (k0_t1_loop i).trips) : ClosedOff (k0_off30 i k 1#32) :=
  ⟨![27, 16 * k.val + 8, 0], congrArg (fun x => ![27, x, 0]) (row_eq i k 1)⟩

instance (i : grid0.Coords) (k : Fin (k0_t1_loop i).trips) : ClosedOff (k0_off31 i k 0#32) :=
  ⟨![28, 16 * k.val + 0, 0], congrArg (fun x => ![28, x, 0]) (row_eq i k 0)⟩

instance (i : grid0.Coords) (k : Fin (k0_t1_loop i).trips) : ClosedOff (k0_off31 i k 1#32) :=
  ⟨![28, 16 * k.val + 8, 0], congrArg (fun x => ![28, x, 0]) (row_eq i k 1)⟩

instance (i : grid0.Coords) (k : Fin (k0_t1_loop i).trips) : ClosedOff (k0_off32 i k 0#32) :=
  ⟨![29, 16 * k.val + 0, 0], congrArg (fun x => ![29, x, 0]) (row_eq i k 0)⟩

instance (i : grid0.Coords) (k : Fin (k0_t1_loop i).trips) : ClosedOff (k0_off32 i k 1#32) :=
  ⟨![29, 16 * k.val + 8, 0], congrArg (fun x => ![29, x, 0]) (row_eq i k 1)⟩

instance (i : grid0.Coords) (k : Fin (k0_t1_loop i).trips) : ClosedOff (k0_off33 i k 0#32) :=
  ⟨![30, 16 * k.val + 0, 0], congrArg (fun x => ![30, x, 0]) (row_eq i k 0)⟩

instance (i : grid0.Coords) (k : Fin (k0_t1_loop i).trips) : ClosedOff (k0_off33 i k 1#32) :=
  ⟨![30, 16 * k.val + 8, 0], congrArg (fun x => ![30, x, 0]) (row_eq i k 1)⟩

instance (i : grid0.Coords) (k : Fin (k0_t1_loop i).trips) : ClosedOff (k0_off34 i k 0#32) :=
  ⟨![31, 16 * k.val + 0, 0], congrArg (fun x => ![31, x, 0]) (row_eq i k 0)⟩

instance (i : grid0.Coords) (k : Fin (k0_t1_loop i).trips) : ClosedOff (k0_off34 i k 1#32) :=
  ⟨![31, 16 * k.val + 8, 0], congrArg (fun x => ![31, x, 0]) (row_eq i k 1)⟩

/-- The second scoring loop, the remainder of the division by the step one, never runs. -/
theorem t2_trips : ∀ i : grid0.Coords, (k0_t2_loop i).trips = 0 := by decide +kernel

end Cert.Proof.Sel

end
-- ==== Proof.Score.lean ====
/- The scoring loop of the sparse attention, by one symbolic trip: what it reads (the index keys and the index queries), what
   it writes (the keys' rows and the bit planes). The contents after the loop are the trips' pieces over what was there.
   The second loop, which the division by the step one leaves no trip of, keeps everything. Untrusted. -/
module

public import proofs.«01_k».proof.Proof.Offsets
public import proofs.«01_k».proof.Proof.Gen.Kernel.Loops
public import proofs.«01_k».proof.Proof.Gen.Kernel.Frame

@[expose] public section

set_option maxRecDepth 8192
set_option maxHeartbeats 4000000

noncomputable section

namespace Cert.Proof.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What one trip holds: the index keys and the index queries read, the keys' rows and the planes at any contents. -/
abbrev ScoreTrip (c : Dev nD) (arg7 : Memref sig .tc .vmem S4096x32 .bf16) (arg9 : Memref sig .tc .vmem S4096x128 .i32) (arg10 : Memref sig .tc .vmem S32x128x128 .i32) (arg11 : Memref sig .tc .vmem S32x1024 .bf16) (X7 : BufTy.Contents (Elt F) arg7.view.ty) (X11 : BufTy.Contents (Elt F) arg11.view.ty) (f9 : BufTy.Contents (Elt F) arg9.view.ty) (f10 : BufTy.Contents (Elt F) arg10.view.ty) : sProp 𝕄 :=
  iprop((arg7.view.loc (c : Thread nD τ) ↦[arg7.view.set]{fullShare} X7) ∗ (arg11.view.loc (c : Thread nD τ) ↦[arg11.view.set]{fullShare} X11) ∗ (arg9.view.loc (c : Thread nD τ) ↦[arg9.view.set]{fullShare} f9) ∗ (arg10.view.loc (c : Thread nD τ) ↦[arg10.view.set]{fullShare} f10))

/-- One trip at a symbolic `k`: the pieces it writes to the keys' rows and to the planes. -/
@[irreducible] def scoreTrip (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (k : Fin (k0_t1_loop i).trips) :
    Σ' (L9 : List (View.Piece (Elt F) S4096x128 .i32)), { L10 : List (View.Piece (Elt F) S32x128x128 .i32) // ∀ (E : Set ℕ) (f9 : BufTy.Contents (Elt F) arg9.view.ty) (f10 : BufTy.Contents (Elt F) arg10.view.ty),
      ScoreTrip (F := F) c arg7 arg9 arg10 arg11 X7 X11 f9 f10
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v4 v54 v55 v56 v61 k ())
          (fun _ => ScoreTrip (F := F) c arg7 arg9 arg10 arg11 X7 X11 (arg9.view.writes (Elt F) f9 L9) (arg10.view.writes (Elt F) f10 L10)) } := by
  refine ⟨?_, ?_, fun E f9 f10 => ?run⟩
  case run =>
    unfold k0_t1_body
    iintro ⟨H7, H11, H9, H10⟩
    sl_exec
    sl_step
    sl_close

/-- The pieces the trips before `k` wrote, last first: to the keys' rows and to the planes. -/
def scorePieces (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) : Nat → List (View.Piece (Elt F) S4096x128 .i32) × List (View.Piece (Elt F) S32x128x128 .i32)
  | 0 => ([], [])
  | k + 1 => if h : k < (k0_t1_loop i).trips then
      ((scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨k, h⟩).1 ++ (scorePieces c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).1,
       (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨k, h⟩).2.1 ++ (scorePieces c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2)
    else scorePieces c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k

theorem scorePieces_succ (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (k : Fin (k0_t1_loop i).trips) :
    scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 (k.val + 1)
      = ((scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).1 ++ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k.val).1,
         (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.1 ++ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k.val).2) := by
  rw [scorePieces]; exact dif_pos k.isLt

set_option warn.classDefReducibility false in
/-- The scoring loop by its invariant: the trips' pieces over the contents at entry. -/
@[sl_loop] def scoreLoop (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (G9 : BufTy.Contents (Elt F) arg9.view.ty) (G10 : BufTy.Contents (Elt F) arg10.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v4 v54 v55 v56 v61 where
  inv := fun k _ => iprop((arg7.view.loc (c : Thread nD τ) ↦[arg7.view.set]{fullShare} X7) ∗ (arg11.view.loc (c : Thread nD τ) ↦[arg11.view.set]{fullShare} X11)
    ∗ (∃ f, (arg9.view.loc (c : Thread nD τ) ↦[arg9.view.set]{fullShare} f) ∗ ⌜f = arg9.view.writes (Elt F) G9 (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).1⌝)
    ∗ (∃ f, (arg10.view.loc (c : Thread nD τ) ↦[arg10.view.set]{fullShare} f) ∗ ⌜f = arg10.view.writes (Elt F) G10 (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2⌝))
  step k acc := by
    iintro ⟨H7, H11, ⟨%f9, H9, %h9⟩, ⟨%f10, H10, %h10⟩⟩
    iapply (wp_wand_r Idealize.ShloMosaic.frame (wpE (defs₀ (F := F)) Variants.none (c : Thread nD τ) none) Set.univ)
    isplitl [H7 H11 H9 H10]
    · iapply ((scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.2 Set.univ f9 f10)
      isplitl [H7]; · iexact H7
      isplitl [H11]; · iexact H11
      isplitl [H9]; · iexact H9
      iexact H10
    · iintro %yld ⟨H7, H11, H9, H10⟩
      isplitl [H7]; · iexact H7
      isplitl [H11]; · iexact H11
      simp only [scorePieces_succ]
      isplitl [H9]
      · iexists _; isplitl [H9]; · iexact H9
        ipureintro; rw [h9, ← View.writes_append]
      · iexists _; isplitl [H10]; · iexact H10
        ipureintro; rw [h10, ← View.writes_append]

set_option warn.classDefReducibility false in
/-- The remainder loop: no trip, nothing held. -/
@[sl_loop] def restLoop (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (v66 : BitVec 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v4 v54 v55 v56 v61 v66 where
  inv := fun _ _ => iprop(emp)
  step k acc := (Nat.not_lt_zero _ (lt_of_lt_of_eq k.isLt (t2_trips i))).elim

end Cert.Proof.Sel

end
-- ==== Proof.Planes.lean ====
/- The bit planes a scoring trip writes are the transposition of the thirty-two words of each row of eight. Untrusted. -/
module

public import proofs.«01_k».proof.Proof.Score
public import proofs.«01_k».proof.Proof.Radix
public import Mathlib.Tactic.IntervalCases

@[expose] public section

set_option maxRecDepth 8192
set_option maxHeartbeats 4000000

noncomputable section

namespace Cert.Proof.Sel

open Cert.Kernel Cert.Kernel.Gen
open Idealize.ShloMosaic Idealize.ShloMosaic.TcCoe

variable {F : FTy → Type} [BitOps F]

/-- The exchange of two vectors of words at the distance `j` under the mask `m`: the first one's, the second one's. -/
def vLo (j m : BitVec 32) (A B : IVec S8x128 32) : IVec S8x128 32 :=
  xori A (andi (xori A (shrui B (broadcast S8x128 j))) (broadcast S8x128 m))
def vHi (j m : BitVec 32) (A B : IVec S8x128 32) : IVec S8x128 32 :=
  xori B (shli (andi (xori A (shrui B (broadcast S8x128 j))) (broadcast S8x128 m)) (broadcast S8x128 j))

/-- One round of exchanges, and the five. -/
def vExch (s : ℕ) (j m : BitVec 32) (a : ℕ → IVec S8x128 32) (k : ℕ) : IVec S8x128 32 :=
  bif k.testBit s then vHi j m (a (k - 2 ^ s)) (a k) else vLo j m (a k) (a (k + 2 ^ s))
def vTransposed (a : ℕ → IVec S8x128 32) : ℕ → IVec S8x128 32 :=
  vExch 0 1#32 0x55555555#32 (vExch 1 2#32 0x33333333#32 (vExch 2 4#32 0x0F0F0F0F#32 (vExch 3 8#32 0x00FF00FF#32 (vExch 4 16#32 0x0000FFFF#32 a))))

theorem slices_word (g i : ℕ) (h : g < 2) : S512x128.Slices ![g * 256 + i % 32 * 8, 0] S8x128 := by
  refine ⟨rfl, fun a => ?_⟩
  fin_cases a
  · show g * 256 + i % 32 * 8 + 8 ≤ 512
    omega
  · exact le_refl 128

/-- The word `i` of the eight rows of group `g`. -/
def word (B : IVec S512x128 32) (g : ℕ) (h : g < 2) (i : ℕ) : IVec S8x128 32 :=
  extractStridedSlice S8x128 ![g * 256 + i % 32 * 8, 0] B (slices_word g i h)

/-- The plane `p` of group `g`. -/
def planeOf (B : IVec S512x128 32) (g : ℕ) (h : g < 2) (p : ℕ) : IVec S1x8x128 32 :=
  shapeCast S1x8x128 (vTransposed (word B g h) p) Facts₀.shapeCasts_S8x128_S1x8x128

/-- A piece at an offset of another spelling is the same piece. -/
theorem piece_eq {off off' : Fin 3 → ℕ} (h : off = off') (inb : ∀ a, off a + S1x8x128.size a ≤ S32x128x128.size a)
    (inb' : ∀ a, off' a + S1x8x128.size a ≤ S32x128x128.size a) {w w' : IVec S1x8x128 32} (hw : w = w') :
    (⟨Rect.unit off S1x8x128.size inb, w⟩ : View.Piece (Elt F) S32x128x128 .i32) = ⟨Rect.unit off' S1x8x128.size inb', w'⟩ := by
  subst h; subst hw; rfl

theorem plane_inb (k : ℕ) (hk : k < 8) (n : Fin 64) (a : Fin 3) :
    (![31 - n.val % 32, 16 * k + 8 * (1 - n.val / 32), 0] : Fin 3 → ℕ) a + S1x8x128.size a ≤ S32x128x128.size a := by
  fin_cases a
  · show 31 - n.val % 32 + 1 ≤ 32
    omega
  · show 16 * k + 8 * (1 - n.val / 32) + 8 ≤ 128
    omega
  · exact le_refl 128

/-- The write number `63 - n` of trip `k`: plane `31 - n % 32` of group `1 - n / 32`. -/
def planePiece (k : ℕ) (hk : k < 8) (B : IVec S512x128 32) (n : Fin 64) : View.Piece (Elt F) S32x128x128 .i32 :=
  ⟨Rect.unit ![31 - n.val % 32, 16 * k + 8 * (1 - n.val / 32), 0] S1x8x128.size (plane_inb k hk n),
    planeOf B (1 - n.val / 32) (by omega) (31 - n.val % 32)⟩

theorem t1_trips_le : ∀ i : grid0.Coords, (k0_t1_loop i).trips ≤ 8 := by decide +kernel

theorem t1_lt {i : grid0.Coords} (k : Fin (k0_t1_loop i).trips) : k.val < 8 := lt_of_lt_of_le k.isLt (t1_trips_le i)

/-- What a trip writes to the planes, in closed form. -/
theorem scoreTrip_planes (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (k : Fin (k0_t1_loop i).trips) :
    (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.1
      = [planePiece k.val (t1_lt k) (scoreTrip.sl.r_3 (F := F) i arg7 arg11 v54 v55 v56 v61 X7 X11 k) 0,
        planePiece k.val (t1_lt k) (scoreTrip.sl.r_3 (F := F) i arg7 arg11 v54 v55 v56 v61 X7 X11 k) 1,
        planePiece k.val (t1_lt k) (scoreTrip.sl.r_3 (F := F) i arg7 arg11 v54 v55 v56 v61 X7 X11 k) 2,
        planePiece k.val (t1_lt k) (scoreTrip.sl.r_3 (F := F) i arg7 arg11 v54 v55 v56 v61 X7 X11 k) 3,
        planePiece k.val (t1_lt k) (scoreTrip.sl.r_3 (F := F) i arg7 arg11 v54 v55 v56 v61 X7 X11 k) 4,
        planePiece k.val (t1_lt k) (scoreTrip.sl.r_3 (F := F) i arg7 arg11 v54 v55 v56 v61 X7 X11 k) 5,
        planePiece k.val (t1_lt k) (scoreTrip.sl.r_3 (F := F) i arg7 arg11 v54 v55 v56 v61 X7 X11 k) 6,
        planePiece k.val (t1_lt k) (scoreTrip.sl.r_3 (F := F) i arg7 arg11 v54 v55 v56 v61 X7 X11 k) 7,
        planePiece k.val (t1_lt k) (scoreTrip.sl.r_3 (F := F) i arg7 arg11 v54 v55 v56 v61 X7 X11 k) 8,
        planePiece k.val (t1_lt k) (scoreTrip.sl.r_3 (F := F) i arg7 arg11 v54 v55 v56 v61 X7 X11 k) 9,
        planePiece k.val (t1_lt k) (scoreTrip.sl.r_3 (F := F) i arg7 arg11 v54 v55 v56 v61 X7 X11 k) 10,
        planePiece k.val (t1_lt k) (scoreTrip.sl.r_3 (F := F) i arg7 arg11 v54 v55 v56 v61 X7 X11 k) 11,
        planePiece k.val (t1_lt k) (scoreTrip.sl.r_3 (F := F) i arg7 arg11 v54 v55 v56 v61 X7 X11 k) 12,
        planePiece k.val (t1_lt k) (scoreTrip.sl.r_3 (F := F) i arg7 arg11 v54 v55 v56 v61 X7 X11 k) 13,
        planePiece k.val (t1_lt k) (scoreTrip.sl.r_3 (F := F) i arg7 arg11 v54 v55 v56 v61 X7 X11 k) 14,
        planePiece k.val (t1_lt k) (scoreTrip.sl.r_3 (F := F) i arg7 arg11 v54 v55 v56 v61 X7 X11 k) 15,
        planePiece k.val (t1_lt k) (scoreTrip.sl.r_3 (F := F) i arg7 arg11 v54 v55 v56 v61 X7 X11 k) 16,
        planePiece k.val (t1_lt k) (scoreTrip.sl.r_3 (F := F) i arg7 arg11 v54 v55 v56 v61 X7 X11 k) 17,
        planePiece k.val (t1_lt k) (scoreTrip.sl.r_3 (F := F) i arg7 arg11 v54 v55 v56 v61 X7 X11 k) 18,
        planePiece k.val (t1_lt k) (scoreTrip.sl.r_3 (F := F) i arg7 arg11 v54 v55 v56 v61 X7 X11 k) 19,
        planePiece k.val (t1_lt k) (scoreTrip.sl.r_3 (F := F) i arg7 arg11 v54 v55 v56 v61 X7 X11 k) 20,
        planePiece k.val (t1_lt k) (scoreTrip.sl.r_3 (F := F) i arg7 arg11 v54 v55 v56 v61 X7 X11 k) 21,
        planePiece k.val (t1_lt k) (scoreTrip.sl.r_3 (F := F) i arg7 arg11 v54 v55 v56 v61 X7 X11 k) 22,
        planePiece k.val (t1_lt k) (scoreTrip.sl.r_3 (F := F) i arg7 arg11 v54 v55 v56 v61 X7 X11 k) 23,
        planePiece k.val (t1_lt k) (scoreTrip.sl.r_3 (F := F) i arg7 arg11 v54 v55 v56 v61 X7 X11 k) 24,
        planePiece k.val (t1_lt k) (scoreTrip.sl.r_3 (F := F) i arg7 arg11 v54 v55 v56 v61 X7 X11 k) 25,
        planePiece k.val (t1_lt k) (scoreTrip.sl.r_3 (F := F) i arg7 arg11 v54 v55 v56 v61 X7 X11 k) 26,
        planePiece k.val (t1_lt k) (scoreTrip.sl.r_3 (F := F) i arg7 arg11 v54 v55 v56 v61 X7 X11 k) 27,
        planePiece k.val (t1_lt k) (scoreTrip.sl.r_3 (F := F) i arg7 arg11 v54 v55 v56 v61 X7 X11 k) 28,
        planePiece k.val (t1_lt k) (scoreTrip.sl.r_3 (F := F) i arg7 arg11 v54 v55 v56 v61 X7 X11 k) 29,
        planePiece k.val (t1_lt k) (scoreTrip.sl.r_3 (F := F) i arg7 arg11 v54 v55 v56 v61 X7 X11 k) 30,
        planePiece k.val (t1_lt k) (scoreTrip.sl.r_3 (F := F) i arg7 arg11 v54 v55 v56 v61 X7 X11 k) 31,
        planePiece k.val (t1_lt k) (scoreTrip.sl.r_3 (F := F) i arg7 arg11 v54 v55 v56 v61 X7 X11 k) 32,
        planePiece k.val (t1_lt k) (scoreTrip.sl.r_3 (F := F) i arg7 arg11 v54 v55 v56 v61 X7 X11 k) 33,
        planePiece k.val (t1_lt k) (scoreTrip.sl.r_3 (F := F) i arg7 arg11 v54 v55 v56 v61 X7 X11 k) 34,
        planePiece k.val (t1_lt k) (scoreTrip.sl.r_3 (F := F) i arg7 arg11 v54 v55 v56 v61 X7 X11 k) 35,
        planePiece k.val (t1_lt k) (scoreTrip.sl.r_3 (F := F) i arg7 arg11 v54 v55 v56 v61 X7 X11 k) 36,
        planePiece k.val (t1_lt k) (scoreTrip.sl.r_3 (F := F) i arg7 arg11 v54 v55 v56 v61 X7 X11 k) 37,
        planePiece k.val (t1_lt k) (scoreTrip.sl.r_3 (F := F) i arg7 arg11 v54 v55 v56 v61 X7 X11 k) 38,
        planePiece k.val (t1_lt k) (scoreTrip.sl.r_3 (F := F) i arg7 arg11 v54 v55 v56 v61 X7 X11 k) 39,
        planePiece k.val (t1_lt k) (scoreTrip.sl.r_3 (F := F) i arg7 arg11 v54 v55 v56 v61 X7 X11 k) 40,
        planePiece k.val (t1_lt k) (scoreTrip.sl.r_3 (F := F) i arg7 arg11 v54 v55 v56 v61 X7 X11 k) 41,
        planePiece k.val (t1_lt k) (scoreTrip.sl.r_3 (F := F) i arg7 arg11 v54 v55 v56 v61 X7 X11 k) 42,
        planePiece k.val (t1_lt k) (scoreTrip.sl.r_3 (F := F) i arg7 arg11 v54 v55 v56 v61 X7 X11 k) 43,
        planePiece k.val (t1_lt k) (scoreTrip.sl.r_3 (F := F) i arg7 arg11 v54 v55 v56 v61 X7 X11 k) 44,
        planePiece k.val (t1_lt k) (scoreTrip.sl.r_3 (F := F) i arg7 arg11 v54 v55 v56 v61 X7 X11 k) 45,
        planePiece k.val (t1_lt k) (scoreTrip.sl.r_3 (F := F) i arg7 arg11 v54 v55 v56 v61 X7 X11 k) 46,
        planePiece k.val (t1_lt k) (scoreTrip.sl.r_3 (F := F) i arg7 arg11 v54 v55 v56 v61 X7 X11 k) 47,
        planePiece k.val (t1_lt k) (scoreTrip.sl.r_3 (F := F) i arg7 arg11 v54 v55 v56 v61 X7 X11 k) 48,
        planePiece k.val (t1_lt k) (scoreTrip.sl.r_3 (F := F) i arg7 arg11 v54 v55 v56 v61 X7 X11 k) 49,
        planePiece k.val (t1_lt k) (scoreTrip.sl.r_3 (F := F) i arg7 arg11 v54 v55 v56 v61 X7 X11 k) 50,
        planePiece k.val (t1_lt k) (scoreTrip.sl.r_3 (F := F) i arg7 arg11 v54 v55 v56 v61 X7 X11 k) 51,
        planePiece k.val (t1_lt k) (scoreTrip.sl.r_3 (F := F) i arg7 arg11 v54 v55 v56 v61 X7 X11 k) 52,
        planePiece k.val (t1_lt k) (scoreTrip.sl.r_3 (F := F) i arg7 arg11 v54 v55 v56 v61 X7 X11 k) 53,
        planePiece k.val (t1_lt k) (scoreTrip.sl.r_3 (F := F) i arg7 arg11 v54 v55 v56 v61 X7 X11 k) 54,
        planePiece k.val (t1_lt k) (scoreTrip.sl.r_3 (F := F) i arg7 arg11 v54 v55 v56 v61 X7 X11 k) 55,
        planePiece k.val (t1_lt k) (scoreTrip.sl.r_3 (F := F) i arg7 arg11 v54 v55 v56 v61 X7 X11 k) 56,
        planePiece k.val (t1_lt k) (scoreTrip.sl.r_3 (F := F) i arg7 arg11 v54 v55 v56 v61 X7 X11 k) 57,
        planePiece k.val (t1_lt k) (scoreTrip.sl.r_3 (F := F) i arg7 arg11 v54 v55 v56 v61 X7 X11 k) 58,
        planePiece k.val (t1_lt k) (scoreTrip.sl.r_3 (F := F) i arg7 arg11 v54 v55 v56 v61 X7 X11 k) 59,
        planePiece k.val (t1_lt k) (scoreTrip.sl.r_3 (F := F) i arg7 arg11 v54 v55 v56 v61 X7 X11 k) 60,
        planePiece k.val (t1_lt k) (scoreTrip.sl.r_3 (F := F) i arg7 arg11 v54 v55 v56 v61 X7 X11 k) 61,
        planePiece k.val (t1_lt k) (scoreTrip.sl.r_3 (F := F) i arg7 arg11 v54 v55 v56 v61 X7 X11 k) 62,
        planePiece k.val (t1_lt k) (scoreTrip.sl.r_3 (F := F) i arg7 arg11 v54 v55 v56 v61 X7 X11 k) 63] := by
  unfold scoreTrip
  exact congrArg₂ List.cons (piece_eq (congrArg (fun x => ![31, x, 0]) (row_eq i k 1)) _ _ rfl) (congrArg₂ List.cons (piece_eq (congrArg (fun x => ![30, x, 0]) (row_eq i k 1)) _ _ rfl) (
    congrArg₂ List.cons (piece_eq (congrArg (fun x => ![29, x, 0]) (row_eq i k 1)) _ _ rfl) (congrArg₂ List.cons (piece_eq (congrArg (fun x => ![28, x, 0]) (row_eq i k 1)) _ _ rfl) (
    congrArg₂ List.cons (piece_eq (congrArg (fun x => ![27, x, 0]) (row_eq i k 1)) _ _ rfl) (congrArg₂ List.cons (piece_eq (congrArg (fun x => ![26, x, 0]) (row_eq i k 1)) _ _ rfl) (
    congrArg₂ List.cons (piece_eq (congrArg (fun x => ![25, x, 0]) (row_eq i k 1)) _ _ rfl) (congrArg₂ List.cons (piece_eq (congrArg (fun x => ![24, x, 0]) (row_eq i k 1)) _ _ rfl) (
    congrArg₂ List.cons (piece_eq (congrArg (fun x => ![23, x, 0]) (row_eq i k 1)) _ _ rfl) (congrArg₂ List.cons (piece_eq (congrArg (fun x => ![22, x, 0]) (row_eq i k 1)) _ _ rfl) (
    congrArg₂ List.cons (piece_eq (congrArg (fun x => ![21, x, 0]) (row_eq i k 1)) _ _ rfl) (congrArg₂ List.cons (piece_eq (congrArg (fun x => ![20, x, 0]) (row_eq i k 1)) _ _ rfl) (
    congrArg₂ List.cons (piece_eq (congrArg (fun x => ![19, x, 0]) (row_eq i k 1)) _ _ rfl) (congrArg₂ List.cons (piece_eq (congrArg (fun x => ![18, x, 0]) (row_eq i k 1)) _ _ rfl) (
    congrArg₂ List.cons (piece_eq (congrArg (fun x => ![17, x, 0]) (row_eq i k 1)) _ _ rfl) (congrArg₂ List.cons (piece_eq (congrArg (fun x => ![16, x, 0]) (row_eq i k 1)) _ _ rfl) (
    congrArg₂ List.cons (piece_eq (congrArg (fun x => ![15, x, 0]) (row_eq i k 1)) _ _ rfl) (congrArg₂ List.cons (piece_eq (congrArg (fun x => ![14, x, 0]) (row_eq i k 1)) _ _ rfl) (
    congrArg₂ List.cons (piece_eq (congrArg (fun x => ![13, x, 0]) (row_eq i k 1)) _ _ rfl) (congrArg₂ List.cons (piece_eq (congrArg (fun x => ![12, x, 0]) (row_eq i k 1)) _ _ rfl) (
    congrArg₂ List.cons (piece_eq (congrArg (fun x => ![11, x, 0]) (row_eq i k 1)) _ _ rfl) (congrArg₂ List.cons (piece_eq (congrArg (fun x => ![10, x, 0]) (row_eq i k 1)) _ _ rfl) (
    congrArg₂ List.cons (piece_eq (congrArg (fun x => ![9, x, 0]) (row_eq i k 1)) _ _ rfl) (congrArg₂ List.cons (piece_eq (congrArg (fun x => ![8, x, 0]) (row_eq i k 1)) _ _ rfl) (
    congrArg₂ List.cons (piece_eq (congrArg (fun x => ![7, x, 0]) (row_eq i k 1)) _ _ rfl) (congrArg₂ List.cons (piece_eq (congrArg (fun x => ![6, x, 0]) (row_eq i k 1)) _ _ rfl) (
    congrArg₂ List.cons (piece_eq (congrArg (fun x => ![5, x, 0]) (row_eq i k 1)) _ _ rfl) (congrArg₂ List.cons (piece_eq (congrArg (fun x => ![4, x, 0]) (row_eq i k 1)) _ _ rfl) (
    congrArg₂ List.cons (piece_eq (congrArg (fun x => ![3, x, 0]) (row_eq i k 1)) _ _ rfl) (congrArg₂ List.cons (piece_eq (congrArg (fun x => ![2, x, 0]) (row_eq i k 1)) _ _ rfl) (
    congrArg₂ List.cons (piece_eq (congrArg (fun x => ![1, x, 0]) (row_eq i k 1)) _ _ rfl) (congrArg₂ List.cons (piece_eq (congrArg (fun x => ![0, x, 0]) (row_eq i k 1)) _ _ rfl) (
    congrArg₂ List.cons (piece_eq (congrArg (fun x => ![31, x, 0]) (row_eq i k 0)) _ _ rfl) (congrArg₂ List.cons (piece_eq (congrArg (fun x => ![30, x, 0]) (row_eq i k 0)) _ _ rfl) (
    congrArg₂ List.cons (piece_eq (congrArg (fun x => ![29, x, 0]) (row_eq i k 0)) _ _ rfl) (congrArg₂ List.cons (piece_eq (congrArg (fun x => ![28, x, 0]) (row_eq i k 0)) _ _ rfl) (
    congrArg₂ List.cons (piece_eq (congrArg (fun x => ![27, x, 0]) (row_eq i k 0)) _ _ rfl) (congrArg₂ List.cons (piece_eq (congrArg (fun x => ![26, x, 0]) (row_eq i k 0)) _ _ rfl) (
    congrArg₂ List.cons (piece_eq (congrArg (fun x => ![25, x, 0]) (row_eq i k 0)) _ _ rfl) (congrArg₂ List.cons (piece_eq (congrArg (fun x => ![24, x, 0]) (row_eq i k 0)) _ _ rfl) (
    congrArg₂ List.cons (piece_eq (congrArg (fun x => ![23, x, 0]) (row_eq i k 0)) _ _ rfl) (congrArg₂ List.cons (piece_eq (congrArg (fun x => ![22, x, 0]) (row_eq i k 0)) _ _ rfl) (
    congrArg₂ List.cons (piece_eq (congrArg (fun x => ![21, x, 0]) (row_eq i k 0)) _ _ rfl) (congrArg₂ List.cons (piece_eq (congrArg (fun x => ![20, x, 0]) (row_eq i k 0)) _ _ rfl) (
    congrArg₂ List.cons (piece_eq (congrArg (fun x => ![19, x, 0]) (row_eq i k 0)) _ _ rfl) (congrArg₂ List.cons (piece_eq (congrArg (fun x => ![18, x, 0]) (row_eq i k 0)) _ _ rfl) (
    congrArg₂ List.cons (piece_eq (congrArg (fun x => ![17, x, 0]) (row_eq i k 0)) _ _ rfl) (congrArg₂ List.cons (piece_eq (congrArg (fun x => ![16, x, 0]) (row_eq i k 0)) _ _ rfl) (
    congrArg₂ List.cons (piece_eq (congrArg (fun x => ![15, x, 0]) (row_eq i k 0)) _ _ rfl) (congrArg₂ List.cons (piece_eq (congrArg (fun x => ![14, x, 0]) (row_eq i k 0)) _ _ rfl) (
    congrArg₂ List.cons (piece_eq (congrArg (fun x => ![13, x, 0]) (row_eq i k 0)) _ _ rfl) (congrArg₂ List.cons (piece_eq (congrArg (fun x => ![12, x, 0]) (row_eq i k 0)) _ _ rfl) (
    congrArg₂ List.cons (piece_eq (congrArg (fun x => ![11, x, 0]) (row_eq i k 0)) _ _ rfl) (congrArg₂ List.cons (piece_eq (congrArg (fun x => ![10, x, 0]) (row_eq i k 0)) _ _ rfl) (
    congrArg₂ List.cons (piece_eq (congrArg (fun x => ![9, x, 0]) (row_eq i k 0)) _ _ rfl) (congrArg₂ List.cons (piece_eq (congrArg (fun x => ![8, x, 0]) (row_eq i k 0)) _ _ rfl) (
    congrArg₂ List.cons (piece_eq (congrArg (fun x => ![7, x, 0]) (row_eq i k 0)) _ _ rfl) (congrArg₂ List.cons (piece_eq (congrArg (fun x => ![6, x, 0]) (row_eq i k 0)) _ _ rfl) (
    congrArg₂ List.cons (piece_eq (congrArg (fun x => ![5, x, 0]) (row_eq i k 0)) _ _ rfl) (congrArg₂ List.cons (piece_eq (congrArg (fun x => ![4, x, 0]) (row_eq i k 0)) _ _ rfl) (
    congrArg₂ List.cons (piece_eq (congrArg (fun x => ![3, x, 0]) (row_eq i k 0)) _ _ rfl) (congrArg₂ List.cons (piece_eq (congrArg (fun x => ![2, x, 0]) (row_eq i k 0)) _ _ rfl) (
    congrArg₂ List.cons (piece_eq (congrArg (fun x => ![1, x, 0]) (row_eq i k 0)) _ _ rfl) (congrArg₂ List.cons (piece_eq (congrArg (fun x => ![0, x, 0]) (row_eq i k 0)) _ _ rfl) (
    rfl))))))))))))))))))))))))))))))))))))))))))))))))))))))))))))))))

/-! ## The planes' bits -/

theorem vLo_apply (s : ℕ) (hs : s < 5) (j m : BitVec 32) (hj : j = BitVec.ofNat 32 (2 ^ s)) (A B : IVec S8x128 32) (y : S8x128.Idx) :
    vLo j m A B y = swapLo (2 ^ s) m (A y) (B y) := by
  subst hj
  interval_cases s <;> rfl

theorem vHi_apply (s : ℕ) (hs : s < 5) (j m : BitVec 32) (hj : j = BitVec.ofNat 32 (2 ^ s)) (A B : IVec S8x128 32) (y : S8x128.Idx) :
    vHi j m A B y = swapHi (2 ^ s) m (A y) (B y) := by
  subst hj
  interval_cases s <;> rfl

theorem vExch_apply (s : ℕ) (hs : s < 5) (j m : BitVec 32) (hj : j = BitVec.ofNat 32 (2 ^ s)) (a : ℕ → IVec S8x128 32) (k : ℕ) (y : S8x128.Idx) :
    vExch s j m a k y = exch s m (fun n => a n y) k := by
  unfold vExch exch
  cases k.testBit s
  · exact vLo_apply s hs j m hj _ _ y
  · exact vHi_apply s hs j m hj _ _ y

theorem vTransposed_apply (a : ℕ → IVec S8x128 32) (p : ℕ) (y : S8x128.Idx) :
    vTransposed a p y = transposed (fun n => a n y) p := by
  unfold vTransposed transposed
  refine (vExch_apply 0 (by decide) _ _ rfl _ _ _).trans (congrArg (fun f => exch 0 _ f p) (funext fun n => ?_))
  refine (vExch_apply 1 (by decide) _ _ rfl _ _ _).trans (congrArg (fun f => exch 1 _ f n) (funext fun n => ?_))
  refine (vExch_apply 2 (by decide) _ _ rfl _ _ _).trans (congrArg (fun f => exch 2 _ f n) (funext fun n => ?_))
  refine (vExch_apply 3 (by decide) _ _ rfl _ _ _).trans (congrArg (fun f => exch 3 _ f n) (funext fun n => ?_))
  exact vExch_apply 4 (by decide) _ _ rfl _ _ _

/-- What plane `p` holds at row `r` where `Bs` are the tiles of words, -/
def planesV (Bs : ℕ → IVec S512x128 32) (p r : ℕ) (l : Fin 128) : BitVec 32 :=
  vTransposed (word (Bs (r / 16)) (r / 8 % 2) (Nat.mod_lt _ (by decide))) p (ix2 (⟨r % 8, Nat.mod_lt _ (by decide)⟩ : Fin 8) l)

/-- and all of them. -/
def planesG (Bs : ℕ → IVec S512x128 32) : S32x128x128.Idx → BitVec 32 := fun y => planesV Bs (y 0).val (y 1).val (y 2)

theorem planesV_bit (Bs : ℕ → IVec S512x128 32) (p b : ℕ) (hp : p < 32) (hb : b < 32) (r l : Fin 128) :
    (planesV Bs p r.val l).getLsbD b
      = (Bs (r.val / 16) (ix2 (⟨r.val / 8 % 2 * 256 + (31 - b) * 8 + r.val % 8, by omega⟩ : Fin 512) l)).getLsbD (31 - p) := by
  unfold planesV
  rw [vTransposed_apply, transposed_bit _ p b hp hb]
  refine congrArg (fun x : BitVec 32 => x.getLsbD (31 - p)) (congrArg (Bs (r.val / 16)) (funext fun a => Fin.ext ?_))
  fin_cases a
  · show r.val / 8 % 2 * 256 + (31 - b) % 32 * 8 + r.val % 8 = r.val / 8 % 2 * 256 + (31 - b) * 8 + r.val % 8
    rw [Nat.mod_eq_of_lt (show 31 - b < 32 by omega)]
  · show 0 + l.val = l.val
    omega

theorem planeOf_apply (B : IVec S512x128 32) (g : ℕ) (h : g < 2) (p : ℕ) (z : Fin 1) (s : Fin 8) (l : Fin 128) :
    planeOf B g h p (ix3 z s l) = vTransposed (word B g h) p (ix2 s l) := by
  refine shapeCast_apply _ _ _ _ ?_
  rw [Shape.rowMajor_val_two, Shape.rowMajor_val_succ, Shape.rowMajor_val_two]
  show s.val * 128 + l.val = z.val * (8 * (128 * 1)) + (s.val * 128 + l.val)
  omega

theorem planePiece_apply (Bs : ℕ → IVec S512x128 32) (k : ℕ) (hk : k < 8) (n : Fin 64) (x : (planePiece (F := F) k hk (Bs k) n).1.shape.Idx) :
    (planePiece (F := F) k hk (Bs k) n).2 x = planesG Bs ((planePiece (F := F) k hk (Bs k) n).1.emb x) := by
  obtain ⟨z, s, l, rfl⟩ : ∃ (z : Fin 1) (s : Fin 8) (l : Fin 128), x = ix3 z s l := ⟨x 0, x 1, x 2, eq_ix3 x⟩
  refine (planeOf_apply _ _ _ _ z s l).trans ?_
  have h0 : 31 - n.val % 32 + 1 * z.val = 31 - n.val % 32 := by omega
  have h1 : (16 * k + 8 * (1 - n.val / 32) + 1 * s.val) / 16 = k := by omega
  have h2 : (16 * k + 8 * (1 - n.val / 32) + 1 * s.val) / 8 % 2 = 1 - n.val / 32 := by omega
  have h3 : (16 * k + 8 * (1 - n.val / 32) + 1 * s.val) % 8 = s.val := by omega
  have h4 : (⟨0 + 1 * l.val, by omega⟩ : Fin 128) = l := Fin.ext (by show 0 + 1 * l.val = l.val; omega)
  show _ = planesV Bs (31 - n.val % 32 + 1 * z.val) (16 * k + 8 * (1 - n.val / 32) + 1 * s.val) ⟨0 + 1 * l.val, _⟩
  rw [h4, h0]
  unfold planesV
  have key : ∀ (a b c : ℕ) (hb : b < 2) (hc : c < 8), a = k → b = 1 - n.val / 32 → c = s.val →
      vTransposed (word (Bs k) (1 - n.val / 32) (by omega)) (31 - n.val % 32) (ix2 s l)
        = vTransposed (word (Bs a) b hb) (31 - n.val % 32) (ix2 (⟨c, hc⟩ : Fin 8) l) := by
    rintro a b c hb hc rfl rfl rfl; rfl
  exact key _ _ _ _ _ h1 h2 h3

/-- The pieces of one trip agree with the planes of the tiles, and cover the trip's sixteen rows of every plane. -/
theorem scoreTrip_agree (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (k : Fin (k0_t1_loop i).trips)
    (Bs : ℕ → IVec S512x128 32) (hB : Bs k.val = scoreTrip.sl.r_3 (F := F) i arg7 arg11 v54 v55 v56 v61 X7 X11 k) :
    (∀ p ∈ (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.1, ∀ x : p.1.shape.Idx, p.2 x = planesG Bs (p.1.emb x))
    ∧ ∀ (p : Fin 32) (r l : Fin 128), r.val / 16 = k.val → ∃ q ∈ (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.1, (ix3 p r l : S32x128x128.Idx) ∈ q.1.set := by
  have hL : (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).2.1 = List.ofFn (planePiece (F := F) k.val (t1_lt k) (Bs k.val)) := by
    rw [scoreTrip_planes, ← hB]; rfl
  rw [hL]
  constructor
  · intro p hp
    obtain ⟨n, rfl⟩ := (List.mem_ofFn).1 hp
    exact planePiece_apply Bs k.val (t1_lt k) n
  · intro p r l hr
    refine ⟨_, (List.mem_ofFn).2 ⟨⟨(1 - r.val / 8 % 2) * 32 + (31 - p.val), by omega⟩, rfl⟩, ?_⟩
    unfold planePiece
    rw [Rect.mem_set_unit]
    intro a
    fin_cases a
    · show 31 - ((1 - r.val / 8 % 2) * 32 + (31 - p.val)) % 32 ≤ p.val ∧ p.val < 31 - ((1 - r.val / 8 % 2) * 32 + (31 - p.val)) % 32 + 1
      omega
    · show 16 * k.val + 8 * (1 - ((1 - r.val / 8 % 2) * 32 + (31 - p.val)) / 32) ≤ r.val
        ∧ r.val < 16 * k.val + 8 * (1 - ((1 - r.val / 8 % 2) * 32 + (31 - p.val)) / 32) + 8
      omega
    · show 0 ≤ l.val ∧ l.val < 0 + 128
      omega

/-- What the trips' pieces leave in the planes. -/
theorem scorePieces_planes (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty)
    (Bs : ℕ → IVec S512x128 32) (hB : ∀ k : Fin (k0_t1_loop i).trips, Bs k.val = scoreTrip.sl.r_3 (F := F) i arg7 arg11 v54 v55 v56 v61 X7 X11 k)
    (n : ℕ) (hn : n ≤ (k0_t1_loop i).trips) :
    (∀ p ∈ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).2, ∀ x : p.1.shape.Idx, p.2 x = planesG Bs (p.1.emb x))
    ∧ ∀ (p : Fin 32) (r l : Fin 128), r.val / 16 < n → ∃ q ∈ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).2, (ix3 p r l : S32x128x128.Idx) ∈ q.1.set := by
  induction n with
  | zero => exact ⟨fun p hp => absurd hp List.not_mem_nil, fun p r l h => absurd h (Nat.not_lt_zero _)⟩
  | succ n ih =>
    obtain ⟨h1, h2⟩ := ih (Nat.le_of_succ_le hn)
    obtain ⟨g1, g2⟩ := scoreTrip_agree (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨n, hn⟩ Bs (hB ⟨n, hn⟩)
    rw [scorePieces_succ (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨n, hn⟩]
    constructor
    · intro p hp
      rcases List.mem_append.1 hp with hp | hp
      · exact g1 p hp
      · exact h1 p hp
    · intro p r l hr
      rcases Nat.lt_succ_iff_lt_or_eq.1 hr with hr | hr
      · obtain ⟨q, hq, hm⟩ := h2 p r l hr
        exact ⟨q, List.mem_append_right _ hq, hm⟩
      · obtain ⟨q, hq, hm⟩ := g2 p r l hr
        exact ⟨q, List.mem_append_left _ hq, hm⟩

end Cert.Proof.Sel

end
-- ==== Proof.Levels.lean ====
/- The thinning of the flags by the thirty-two planes, as a recursion: what the values named along the way are. Untrusted. -/
module

public import proofs.«01_k».proof.Proof.Radix
public import proofs.«01_k».proof.Proof.Gen.Kernel.Skeleton

@[expose] public section

set_option maxRecDepth 8192
set_option maxHeartbeats 400000

noncomputable section

namespace Cert.Proof.Sel

open Cert.Kernel Cert.Kernel.Gen
open Idealize.ShloMosaic Idealize.ShloMosaic.Bits

/-- The flags alive, how many are still wanted and the choice so far, before plane `p`. -/
def lev (P : ℕ → IVec ShW3 32) (A₀ : IVec ShW 32) : ℕ → IVec ShW 32 × FVec Bits ShL .f32 × IVec ShL 32
  | 0 => (A₀, k0_pay1480 (F := Bits), broadcast ShL 0#32)
  | p + 1 => (thinAlive (P p) (lev P A₀ p).1 (lev P A₀ p).2.1, thinK (P p) (lev P A₀ p).1 (lev P A₀ p).2.1,
      thinT (BitVec.ofNat 32 (2 ^ (31 - p))) (P p) (lev P A₀ p).1 (lev P A₀ p).2.1 (lev P A₀ p).2.2)

/-- The words' ones, counted within the tiles of eight rows. -/
def rowCount (w : IVec ShW 32) : IVec ShT 32 :=
  multiReductionI .add [0] ShT (shapeCast ShG (ctpop w) casts_W_G) 0#32 reduces_G_T rfl

/-- The values named along the way, as values of the recursion. -/
theorem levels (P : ℕ → IVec ShW3 32) (v4 : BitVec 32) (A₀ : IVec ShW 32) (hA : A₀ = k0_pay1479 v4)
    {r_62 : IVec ShL 32}
    {r_61 : FVec Bits ShL .f32}
    {r_60 : IVec ShW 32}
    {r_59 : FVec Bits ShL .f32}
    {r_58 : IVec ShW 32}
    {r_57 : IVec ShL 1}
    {r_56 : IVec ShL 32}
    {r_55 : FVec Bits ShL .f32}
    {r_54 : IVec ShT 32}
    {r_53 : IVec ShW 32}
    {r_52 : IVec ShL 32}
    {r_51 : FVec Bits ShL .f32}
    {r_50 : IVec ShW 32}
    {r_49 : IVec ShL 32}
    {r_48 : FVec Bits ShL .f32}
    {r_47 : IVec ShW 32}
    {r_46 : IVec ShL 1}
    {r_45 : FVec Bits ShL .f32}
    {r_44 : IVec ShW 32}
    {r_43 : IVec ShL 32}
    {r_42 : FVec Bits ShL .f32}
    {r_41 : IVec ShW 32}
    {r_40 : IVec ShW 32}
    {r_39 : IVec ShL 32}
    {r_38 : FVec Bits ShL .f32}
    {r_37 : IVec ShW 32}
    {r_36 : FVec Bits ShL .f32}
    {r_35 : IVec ShW 32}
    {r_34 : IVec ShL 1}
    {r_33 : IVec ShL 32}
    {r_32 : FVec Bits ShL .f32}
    {r_31 : IVec ShT 32}
    {r_30 : IVec ShW 32}
    {r_29 : IVec ShL 32}
    {r_28 : FVec Bits ShL .f32}
    {r_27 : IVec ShW 32}
    {r_26 : IVec ShL 32}
    {r_25 : FVec Bits ShL .f32}
    {r_24 : IVec ShW 32}
    {r_23 : IVec ShL 1}
    {r_22 : FVec Bits ShL .f32}
    {r_21 : IVec ShW 32}
    {r_20 : IVec ShL 32}
    {r_19 : FVec Bits ShL .f32}
    {r_18 : IVec ShW 32}
    {r_17 : IVec ShW 32}
    {r_16 : IVec ShL 32}
    {r_15 : FVec Bits ShL .f32}
    {r_14 : IVec ShW 32}
    {r_13 : FVec Bits ShL .f32}
    {r_12 : IVec ShW 32}
    {r_11 : IVec ShL 1}
    {r_10 : IVec ShL 32}
    {r_9 : FVec Bits ShL .f32}
    {r_8 : IVec ShT 32}
    {r_7 : IVec ShW 32}
    {r_6 : IVec ShL 32}
    {r_5 : FVec Bits ShL .f32}
    {r_4 : IVec ShW 32}
    {r_3 : IVec ShL 32}
    {r_2 : FVec Bits ShL .f32}
    {r_1 : IVec ShW 32}
    (e_62 : r_62 = k0_pay1662 (F := Bits) r_55 r_56 r_57 r_58 r_59 (P 30) (P 31))
    (e_61 : r_61 = k0_pay1661 (F := Bits) r_55 r_57 r_58 r_59 (P 30) (P 31))
    (e_60 : r_60 = k0_pay1660 (F := Bits) r_55 r_57 r_58 r_59 (P 30) (P 31))
    (e_59 : r_59 = k0_pay1650 (F := Bits) r_50 r_51 r_53 r_54 (P 28) (P 29))
    (e_58 : r_58 = k0_pay1649 (F := Bits) r_50 r_51 r_53 r_54 (P 28) (P 29))
    (e_57 : r_57 = k0_pay1648 (F := Bits) r_50 r_51 r_53 r_54 (P 28) (P 29))
    (e_56 : r_56 = k0_pay1645 (F := Bits) r_50 r_51 r_52 r_53 r_54 (P 28))
    (e_55 : r_55 = k0_pay1644 (F := Bits) r_50 r_51 r_53 r_54 (P 28))
    (e_54 : r_54 = k0_pay1635 (F := Bits) r_47 r_48 (P 25) (P 26) (P 27))
    (e_53 : r_53 = k0_pay1634 (F := Bits) r_47 r_48 (P 25) (P 26) (P 27))
    (e_52 : r_52 = k0_pay1633 (F := Bits) r_47 r_48 r_49 (P 25) (P 26))
    (e_51 : r_51 = k0_pay1632 (F := Bits) r_47 r_48 (P 25) (P 26))
    (e_50 : r_50 = k0_pay1631 (F := Bits) r_47 r_48 (P 25) (P 26))
    (e_49 : r_49 = k0_pay1622 (F := Bits) r_41 r_42 r_43 r_44 r_45 r_46 (P 23) (P 24))
    (e_48 : r_48 = k0_pay1621 (F := Bits) r_41 r_42 r_44 r_45 r_46 (P 23) (P 24))
    (e_47 : r_47 = k0_pay1620 (F := Bits) r_41 r_42 r_44 r_45 r_46 (P 23) (P 24))
    (e_46 : r_46 = k0_pay1609 (F := Bits) r_37 r_38 r_40 (P 21) (P 22))
    (e_45 : r_45 = k0_pay1608 (F := Bits) r_37 r_38 r_40 (P 21) (P 22))
    (e_44 : r_44 = k0_pay1607 (F := Bits) r_37 r_38 r_40 (P 21) (P 22))
    (e_43 : r_43 = k0_pay1606 (F := Bits) r_37 r_38 r_39 r_40 (P 21))
    (e_42 : r_42 = k0_pay1605 (F := Bits) r_37 r_38 r_40 (P 21))
    (e_41 : r_41 = k0_pay1604 (F := Bits) r_37 r_38 r_40 (P 21))
    (e_40 : r_40 = k0_pay1595 (F := Bits) (P 20))
    (e_39 : r_39 = k0_pay1594 (F := Bits) r_32 r_33 r_34 r_35 r_36 (P 18) (P 19))
    (e_38 : r_38 = k0_pay1593 (F := Bits) r_32 r_34 r_35 r_36 (P 18) (P 19))
    (e_37 : r_37 = k0_pay1592 (F := Bits) r_32 r_34 r_35 r_36 (P 18) (P 19))
    (e_36 : r_36 = k0_pay1582 (F := Bits) r_27 r_28 r_30 r_31 (P 16) (P 17))
    (e_35 : r_35 = k0_pay1581 (F := Bits) r_27 r_28 r_30 r_31 (P 16) (P 17))
    (e_34 : r_34 = k0_pay1580 (F := Bits) r_27 r_28 r_30 r_31 (P 16) (P 17))
    (e_33 : r_33 = k0_pay1577 (F := Bits) r_27 r_28 r_29 r_30 r_31 (P 16))
    (e_32 : r_32 = k0_pay1576 (F := Bits) r_27 r_28 r_30 r_31 (P 16))
    (e_31 : r_31 = k0_pay1567 (F := Bits) r_24 r_25 (P 13) (P 14) (P 15))
    (e_30 : r_30 = k0_pay1566 (F := Bits) r_24 r_25 (P 13) (P 14) (P 15))
    (e_29 : r_29 = k0_pay1565 (F := Bits) r_24 r_25 r_26 (P 13) (P 14))
    (e_28 : r_28 = k0_pay1564 (F := Bits) r_24 r_25 (P 13) (P 14))
    (e_27 : r_27 = k0_pay1563 (F := Bits) r_24 r_25 (P 13) (P 14))
    (e_26 : r_26 = k0_pay1554 (F := Bits) r_18 r_19 r_20 r_21 r_22 r_23 (P 11) (P 12))
    (e_25 : r_25 = k0_pay1553 (F := Bits) r_18 r_19 r_21 r_22 r_23 (P 11) (P 12))
    (e_24 : r_24 = k0_pay1552 (F := Bits) r_18 r_19 r_21 r_22 r_23 (P 11) (P 12))
    (e_23 : r_23 = k0_pay1541 (F := Bits) r_14 r_15 r_17 (P 9) (P 10))
    (e_22 : r_22 = k0_pay1540 (F := Bits) r_14 r_15 r_17 (P 9) (P 10))
    (e_21 : r_21 = k0_pay1539 (F := Bits) r_14 r_15 r_17 (P 9) (P 10))
    (e_20 : r_20 = k0_pay1538 (F := Bits) r_14 r_15 r_16 r_17 (P 9))
    (e_19 : r_19 = k0_pay1537 (F := Bits) r_14 r_15 r_17 (P 9))
    (e_18 : r_18 = k0_pay1536 (F := Bits) r_14 r_15 r_17 (P 9))
    (e_17 : r_17 = k0_pay1527 (F := Bits) (P 8))
    (e_16 : r_16 = k0_pay1526 (F := Bits) r_9 r_10 r_11 r_12 r_13 (P 6) (P 7))
    (e_15 : r_15 = k0_pay1525 (F := Bits) r_9 r_11 r_12 r_13 (P 6) (P 7))
    (e_14 : r_14 = k0_pay1524 (F := Bits) r_9 r_11 r_12 r_13 (P 6) (P 7))
    (e_13 : r_13 = k0_pay1514 (F := Bits) r_4 r_5 r_7 r_8 (P 4) (P 5))
    (e_12 : r_12 = k0_pay1513 (F := Bits) r_4 r_5 r_7 r_8 (P 4) (P 5))
    (e_11 : r_11 = k0_pay1512 (F := Bits) r_4 r_5 r_7 r_8 (P 4) (P 5))
    (e_10 : r_10 = k0_pay1509 (F := Bits) r_4 r_5 r_6 r_7 r_8 (P 4))
    (e_9 : r_9 = k0_pay1508 (F := Bits) r_4 r_5 r_7 r_8 (P 4))
    (e_8 : r_8 = k0_pay1499 (F := Bits) r_1 r_2 (P 1) (P 2) (P 3))
    (e_7 : r_7 = k0_pay1498 (F := Bits) r_1 r_2 (P 1) (P 2) (P 3))
    (e_6 : r_6 = k0_pay1497 (F := Bits) r_1 r_2 r_3 (P 1) (P 2))
    (e_5 : r_5 = k0_pay1496 (F := Bits) r_1 r_2 (P 1) (P 2))
    (e_4 : r_4 = k0_pay1495 (F := Bits) r_1 r_2 (P 1) (P 2))
    (e_3 : r_3 = k0_pay1486 (F := Bits) v4 (P 0))
    (e_2 : r_2 = k0_pay1485 (F := Bits) v4 (P 0))
    (e_1 : r_1 = k0_pay1484 (F := Bits) v4 (P 0))
    : r_60 = (lev P A₀ 32).1 ∧ r_61 = (lev P A₀ 32).2.1 ∧ r_62 = xori (lev P A₀ 32).2.2 (broadcast ShL 2147483648#32) := by
  subst hA
  have m_1 : r_1 = (lev P (k0_pay1479 v4) 1).1 := by
    rw [e_1]; rfl
  have m_2 : r_2 = (lev P (k0_pay1479 v4) 1).2.1 := by
    rw [e_2]; rfl
  have m_3 : r_3 = (lev P (k0_pay1479 v4) 1).2.2 := by
    rw [e_3]; rfl
  have m_4 : r_4 = (lev P (k0_pay1479 v4) 3).1 := by
    rw [e_4, m_1, m_2]; rfl
  have m_5 : r_5 = (lev P (k0_pay1479 v4) 3).2.1 := by
    rw [e_5, m_1, m_2]; rfl
  have m_6 : r_6 = (lev P (k0_pay1479 v4) 3).2.2 := by
    rw [e_6, m_1, m_2, m_3]; rfl
  have m_7 : r_7 = andi (lev P (k0_pay1479 v4) 3).1 (shapeCast ShW (P 3) (by decide)) := by
    rw [e_7, m_1, m_2]; rfl
  have m_8 : r_8 = rowCount (andi (lev P (k0_pay1479 v4) 3).1 (shapeCast ShW (P 3) (by decide))) := by
    rw [e_8, m_1, m_2]; rfl
  have m_9 : r_9 = (lev P (k0_pay1479 v4) 5).2.1 := by
    rw [e_9, m_4, m_5, m_7, m_8]; rfl
  have m_10 : r_10 = (lev P (k0_pay1479 v4) 5).2.2 := by
    rw [e_10, m_4, m_5, m_6, m_7, m_8]; rfl
  have m_11 : r_11 = thinTake (P 5) (lev P (k0_pay1479 v4) 5).1 (lev P (k0_pay1479 v4) 5).2.1 := by
    rw [e_11, m_4, m_5, m_7, m_8]; rfl
  have m_12 : r_12 = (lev P (k0_pay1479 v4) 6).1 := by
    rw [e_12, m_4, m_5, m_7, m_8]; rfl
  have m_13 : r_13 = subf (lev P (k0_pay1479 v4) 5).2.1 (laneCount (andi (lev P (k0_pay1479 v4) 5).1 (shapeCast ShW (P 5) (by decide)))) := by
    rw [e_13, m_4, m_5, m_7, m_8]; rfl
  have m_14 : r_14 = (lev P (k0_pay1479 v4) 8).1 := by
    rw [e_14, m_9, m_11, m_12, m_13]; rfl
  have m_15 : r_15 = (lev P (k0_pay1479 v4) 8).2.1 := by
    rw [e_15, m_9, m_11, m_12, m_13]; rfl
  have m_16 : r_16 = (lev P (k0_pay1479 v4) 8).2.2 := by
    rw [e_16, m_9, m_10, m_11, m_12, m_13]; rfl
  have m_17 : r_17 = shapeCast ShW (P 8) (by decide) := by
    rw [e_17]; rfl
  have m_18 : r_18 = (lev P (k0_pay1479 v4) 10).1 := by
    rw [e_18, m_14, m_15, m_17]; rfl
  have m_19 : r_19 = (lev P (k0_pay1479 v4) 10).2.1 := by
    rw [e_19, m_14, m_15, m_17]; rfl
  have m_20 : r_20 = (lev P (k0_pay1479 v4) 10).2.2 := by
    rw [e_20, m_14, m_15, m_16, m_17]; rfl
  have m_21 : r_21 = andi (lev P (k0_pay1479 v4) 10).1 (shapeCast ShW (P 10) (by decide)) := by
    rw [e_21, m_14, m_15, m_17]; rfl
  have m_22 : r_22 = laneCount (andi (lev P (k0_pay1479 v4) 10).1 (shapeCast ShW (P 10) (by decide))) := by
    rw [e_22, m_14, m_15, m_17]; rfl
  have m_23 : r_23 = thinTake (P 10) (lev P (k0_pay1479 v4) 10).1 (lev P (k0_pay1479 v4) 10).2.1 := by
    rw [e_23, m_14, m_15, m_17]; rfl
  have m_24 : r_24 = (lev P (k0_pay1479 v4) 13).1 := by
    rw [e_24, m_18, m_19, m_21, m_22, m_23]; rfl
  have m_25 : r_25 = (lev P (k0_pay1479 v4) 13).2.1 := by
    rw [e_25, m_18, m_19, m_21, m_22, m_23]; rfl
  have m_26 : r_26 = (lev P (k0_pay1479 v4) 13).2.2 := by
    rw [e_26, m_18, m_19, m_20, m_21, m_22, m_23]; rfl
  have m_27 : r_27 = (lev P (k0_pay1479 v4) 15).1 := by
    rw [e_27, m_24, m_25]; rfl
  have m_28 : r_28 = (lev P (k0_pay1479 v4) 15).2.1 := by
    rw [e_28, m_24, m_25]; rfl
  have m_29 : r_29 = (lev P (k0_pay1479 v4) 15).2.2 := by
    rw [e_29, m_24, m_25, m_26]; rfl
  have m_30 : r_30 = andi (lev P (k0_pay1479 v4) 15).1 (shapeCast ShW (P 15) (by decide)) := by
    rw [e_30, m_24, m_25]; rfl
  have m_31 : r_31 = rowCount (andi (lev P (k0_pay1479 v4) 15).1 (shapeCast ShW (P 15) (by decide))) := by
    rw [e_31, m_24, m_25]; rfl
  have m_32 : r_32 = (lev P (k0_pay1479 v4) 17).2.1 := by
    rw [e_32, m_27, m_28, m_30, m_31]; rfl
  have m_33 : r_33 = (lev P (k0_pay1479 v4) 17).2.2 := by
    rw [e_33, m_27, m_28, m_29, m_30, m_31]; rfl
  have m_34 : r_34 = thinTake (P 17) (lev P (k0_pay1479 v4) 17).1 (lev P (k0_pay1479 v4) 17).2.1 := by
    rw [e_34, m_27, m_28, m_30, m_31]; rfl
  have m_35 : r_35 = (lev P (k0_pay1479 v4) 18).1 := by
    rw [e_35, m_27, m_28, m_30, m_31]; rfl
  have m_36 : r_36 = subf (lev P (k0_pay1479 v4) 17).2.1 (laneCount (andi (lev P (k0_pay1479 v4) 17).1 (shapeCast ShW (P 17) (by decide)))) := by
    rw [e_36, m_27, m_28, m_30, m_31]; rfl
  have m_37 : r_37 = (lev P (k0_pay1479 v4) 20).1 := by
    rw [e_37, m_32, m_34, m_35, m_36]; rfl
  have m_38 : r_38 = (lev P (k0_pay1479 v4) 20).2.1 := by
    rw [e_38, m_32, m_34, m_35, m_36]; rfl
  have m_39 : r_39 = (lev P (k0_pay1479 v4) 20).2.2 := by
    rw [e_39, m_32, m_33, m_34, m_35, m_36]; rfl
  have m_40 : r_40 = shapeCast ShW (P 20) (by decide) := by
    rw [e_40]; rfl
  have m_41 : r_41 = (lev P (k0_pay1479 v4) 22).1 := by
    rw [e_41, m_37, m_38, m_40]; rfl
  have m_42 : r_42 = (lev P (k0_pay1479 v4) 22).2.1 := by
    rw [e_42, m_37, m_38, m_40]; rfl
  have m_43 : r_43 = (lev P (k0_pay1479 v4) 22).2.2 := by
    rw [e_43, m_37, m_38, m_39, m_40]; rfl
  have m_44 : r_44 = andi (lev P (k0_pay1479 v4) 22).1 (shapeCast ShW (P 22) (by decide)) := by
    rw [e_44, m_37, m_38, m_40]; rfl
  have m_45 : r_45 = laneCount (andi (lev P (k0_pay1479 v4) 22).1 (shapeCast ShW (P 22) (by decide))) := by
    rw [e_45, m_37, m_38, m_40]; rfl
  have m_46 : r_46 = thinTake (P 22) (lev P (k0_pay1479 v4) 22).1 (lev P (k0_pay1479 v4) 22).2.1 := by
    rw [e_46, m_37, m_38, m_40]; rfl
  have m_47 : r_47 = (lev P (k0_pay1479 v4) 25).1 := by
    rw [e_47, m_41, m_42, m_44, m_45, m_46]; rfl
  have m_48 : r_48 = (lev P (k0_pay1479 v4) 25).2.1 := by
    rw [e_48, m_41, m_42, m_44, m_45, m_46]; rfl
  have m_49 : r_49 = (lev P (k0_pay1479 v4) 25).2.2 := by
    rw [e_49, m_41, m_42, m_43, m_44, m_45, m_46]; rfl
  have m_50 : r_50 = (lev P (k0_pay1479 v4) 27).1 := by
    rw [e_50, m_47, m_48]; rfl
  have m_51 : r_51 = (lev P (k0_pay1479 v4) 27).2.1 := by
    rw [e_51, m_47, m_48]; rfl
  have m_52 : r_52 = (lev P (k0_pay1479 v4) 27).2.2 := by
    rw [e_52, m_47, m_48, m_49]; rfl
  have m_53 : r_53 = andi (lev P (k0_pay1479 v4) 27).1 (shapeCast ShW (P 27) (by decide)) := by
    rw [e_53, m_47, m_48]; rfl
  have m_54 : r_54 = rowCount (andi (lev P (k0_pay1479 v4) 27).1 (shapeCast ShW (P 27) (by decide))) := by
    rw [e_54, m_47, m_48]; rfl
  have m_55 : r_55 = (lev P (k0_pay1479 v4) 29).2.1 := by
    rw [e_55, m_50, m_51, m_53, m_54]; rfl
  have m_56 : r_56 = (lev P (k0_pay1479 v4) 29).2.2 := by
    rw [e_56, m_50, m_51, m_52, m_53, m_54]; rfl
  have m_57 : r_57 = thinTake (P 29) (lev P (k0_pay1479 v4) 29).1 (lev P (k0_pay1479 v4) 29).2.1 := by
    rw [e_57, m_50, m_51, m_53, m_54]; rfl
  have m_58 : r_58 = (lev P (k0_pay1479 v4) 30).1 := by
    rw [e_58, m_50, m_51, m_53, m_54]; rfl
  have m_59 : r_59 = subf (lev P (k0_pay1479 v4) 29).2.1 (laneCount (andi (lev P (k0_pay1479 v4) 29).1 (shapeCast ShW (P 29) (by decide)))) := by
    rw [e_59, m_50, m_51, m_53, m_54]; rfl
  have m_60 : r_60 = (lev P (k0_pay1479 v4) 32).1 := by
    rw [e_60, m_55, m_57, m_58, m_59]; rfl
  have m_61 : r_61 = (lev P (k0_pay1479 v4) 32).2.1 := by
    rw [e_61, m_55, m_57, m_58, m_59]; rfl
  have m_62 : r_62 = xori (lev P (k0_pay1479 v4) 32).2.2 (broadcast ShL 2147483648#32) := by
    rw [e_62, m_55, m_56, m_57, m_58, m_59]; rfl
  exact ⟨m_60, m_61, m_62⟩

end Cert.Proof.Sel

end
-- ==== Proof.Threshold.lean ====
/- What the thinned flags say of the keys themselves: the choice with the sign turned back is the one value such that, with the
   count still wanted, two hundred and fifty-six of the rows in view are taken. And that value is the greatest of the keys in
   view that two hundred and fifty-six are at least as great as. Untrusted. -/
module

public import proofs.«01_k».proof.Proof.Radix
public import proofs.«01_k».proof.Proof.Planes
public import proofs.«01_k».proof.Proof.Levels
public import Idealize.ShloMosaic.Lib.SortNet.Extract

@[expose] public section

set_option maxRecDepth 8192
set_option maxHeartbeats 400000

noncomputable section

namespace Cert.Proof.Sel

open Cert.Kernel Cert.Kernel.Gen
open Idealize.ShloMosaic Idealize.ShloMosaic.Bits Idealize.ShloMosaic.SortNet

/-- A word with its sign bit turned, as a number. -/
theorem turn_toNat (x : BitVec 32) :
    (x ^^^ 2147483648#32).toNat = if x.toNat < 2 ^ 31 then x.toNat + 2 ^ 31 else x.toNat - 2 ^ 31 := by
  have key : ∀ n : ℕ, n < 2 ^ 31 → n ^^^ 2 ^ 31 = 2 ^ 31 + n := by
    intro n hn
    apply Nat.eq_of_testBit_eq
    intro i
    rw [Nat.testBit_xor, Nat.testBit_two_pow]
    rcases Nat.lt_trichotomy i 31 with h | rfl | h
    · rw [Nat.testBit_two_pow_add_gt h]; simp [show ¬ 31 = i by omega]
    · rw [Nat.testBit_two_pow_add_eq, Nat.testBit_lt_two_pow hn]; rfl
    · have h1 : n < 2 ^ i := lt_of_lt_of_le hn (Nat.pow_le_pow_right (by decide) (by omega))
      have h2 : 2 ^ 31 + n < 2 ^ i := by
        have : 2 ^ 32 ≤ 2 ^ i := Nat.pow_le_pow_right (by decide) (by omega)
        omega
      rw [Nat.testBit_lt_two_pow h1, Nat.testBit_lt_two_pow h2]; simp [show ¬ 31 = i by omega]
  have hx := x.isLt
  rw [BitVec.toNat_xor]
  show x.toNat ^^^ 2 ^ 31 = _
  split
  · rename_i h; rw [key _ h]; omega
  · rename_i h
    have e : x.toNat = (x.toNat - 2 ^ 31) ^^^ 2 ^ 31 := by rw [key _ (by omega)]; omega
    conv_lhs => rw [e]
    rw [Nat.xor_assoc, Nat.xor_self, Nat.xor_zero]

/-- Turning the sign bit takes the order of the signed words to the order of the unsigned ones. -/
theorem turn_lt (x y : BitVec 32) : (x ^^^ 2147483648#32 < y ^^^ 2147483648#32) ↔ x.toInt < y.toInt := by
  rw [BitVec.lt_def, turn_toNat, turn_toNat, BitVec.toInt_eq_toNat_cond, BitVec.toInt_eq_toNat_cond]
  have hx := x.isLt
  have hy := y.isLt
  split <;> split <;> split <;> split <;> omega

theorem turn_turn (x : BitVec 32) : x ^^^ 2147483648#32 ^^^ 2147483648#32 = x := by
  rw [BitVec.xor_assoc, BitVec.xor_self, BitVec.xor_zero]

/-- The row of the keys a flag stands for. -/
def rowOf (r b : ℕ) : ℕ := r / 16 * 512 + r / 8 % 2 * 256 + (31 - b) * 8 + r % 8

def rowEquiv : Fin 128 × Fin 32 ≃ Fin 4096 where
  toFun x := ⟨rowOf x.1 x.2, by unfold rowOf; omega⟩
  invFun y := (⟨y.val / 512 * 16 + y.val / 256 % 2 * 8 + y.val % 8, by omega⟩, ⟨31 - y.val / 8 % 32, by omega⟩)
  left_inv x := by
    obtain ⟨r, b⟩ := x
    refine Prod.ext (Fin.ext ?_) (Fin.ext ?_)
    · show rowOf r b / 512 * 16 + rowOf r b / 256 % 2 * 8 + rowOf r b % 8 = r.val
      unfold rowOf; omega
    · show 31 - rowOf r b / 8 % 32 = b.val
      unfold rowOf; omega
  right_inv y := by
    refine Fin.ext ?_
    show rowOf (y.val / 512 * 16 + y.val / 256 % 2 * 8 + y.val % 8) (31 - y.val / 8 % 32) = y.val
    unfold rowOf; omega

/-- The flags of the rows of `n` tiles. -/
def flagsAt (n : ℕ) : Finset (Fin 128 × Fin 32) := Finset.univ.filter fun x => x.1.val / 8 < 2 * n

/-- The rows of `n` tiles where `p`. -/
def rowsAt (n : ℕ) (p : ℕ → Prop) [DecidablePred p] : Finset (Fin 4096) := Finset.univ.filter fun r => r.val < 512 * n ∧ p r.val

theorem card_rows (n : ℕ) (p : ℕ → Prop) [DecidablePred p] :
    ((flagsAt n).filter fun x => p (rowOf x.1 x.2)).card = (rowsAt n p).card := by
  unfold flagsAt rowsAt
  rw [Finset.filter_filter]
  refine Finset.card_equiv rowEquiv fun x => ?_
  obtain ⟨r, b⟩ := x
  simp only [Finset.mem_filter, Finset.mem_univ, true_and]
  have : r.val / 8 < 2 * n ↔ rowOf r b < 512 * n := by unfold rowOf; omega
  rw [this]; rfl

theorem card_flagsAt (n : ℕ) (hn : n ≤ 8) : (flagsAt n).card = 512 * n := by
  have h := card_rows n (fun _ => True)
  simp only [Finset.filter_true] at h
  rw [h]
  unfold rowsAt
  simp only [and_true]
  have e : (Finset.univ.filter fun r : Fin 4096 => r.val < 512 * n) = Finset.univ.map (Fin.castLEEmb (by omega : 512 * n ≤ 4096)) := by
    ext r
    simp only [Finset.mem_filter, Finset.mem_univ, true_and, Finset.mem_map, Fin.castLEEmb_apply]
    exact ⟨fun h => ⟨⟨r.val, h⟩, rfl⟩, fun ⟨a, h⟩ => h ▸ a.isLt⟩
  rw [e, Finset.card_map, Finset.card_univ, Fintype.card_fin]

/-- The rows numbered along an axis. -/
theorem iota_zero {s : Shape} (d : Fin s.rank) (h : s.Iotas .tc 32 [d]) (y : s.Idx) : iota .tc s 32 [d] h y = BitVec.ofNat 32 (y d).val := by
  show BitVec.ofNat 32 (0 * s.size d + (y d).val) = _
  rw [Nat.zero_mul, Nat.zero_add]

/-- The flags at entry: the rows of the tiles in view. -/
theorem flags_start (n : ℕ) (hn : n ≤ 8) (l : Fin 128) : flags (k0_pay1479 (BitVec.ofNat 32 n)) l = flagsAt n := by
  have h : ∀ (n : Fin 9) (r : Fin 128), (Scalar.cmpi .slt (Scalar.shrui (BitVec.ofNat 32 r.val) 3#32) (Scalar.muli (BitVec.ofNat 32 n.val) 2#32) = 1#1)
      ↔ r.val / 8 < 2 * n.val := by decide +kernel
  unfold flags flagsAt
  refine Finset.filter_congr fun x _ => ?_
  rw [← h ⟨n, by omega⟩ x.1]
  have hi := iota_zero (s := S128x128) 0 iota_S128x128_d0_w32 (ix2 x.1 l)
  show (Scalar.select (Scalar.cmpi .slt (Scalar.shrui (iota .tc S128x128 32 [0] iota_S128x128_d0_w32 (ix2 x.1 l)) 3#32) (Scalar.muli (BitVec.ofNat 32 n) 2#32))
    4294967295#32 0#32).getLsbD x.2 = true ↔ _
  rw [hi]
  show (Scalar.select (Scalar.cmpi .slt (Scalar.shrui (BitVec.ofNat 32 x.1.val) 3#32) (Scalar.muli (BitVec.ofNat 32 n) 2#32)) 4294967295#32 0#32).getLsbD x.2 = true ↔ _
  by_cases hc : Scalar.cmpi .slt (Scalar.shrui (BitVec.ofNat 32 x.1.val) 3#32) (Scalar.muli (BitVec.ofNat 32 n) 2#32) = 1#1
  · rw [hc]
    have : ∀ b : Fin 32, (Scalar.select 1#1 4294967295#32 0#32 : BitVec 32).getLsbD b = true ↔ (1#1 : BitVec 1) = 1#1 := by decide
    exact this x.2
  · have h0 : Scalar.cmpi .slt (Scalar.shrui (BitVec.ofNat 32 x.1.val) 3#32) (Scalar.muli (BitVec.ofNat 32 n) 2#32) = 0#1 := by
      generalize Scalar.cmpi .slt (Scalar.shrui (BitVec.ofNat 32 x.1.val) 3#32) (Scalar.muli (BitVec.ofNat 32 n) 2#32) = b at hc
      revert b; decide
    rw [h0]
    have : ∀ b : Fin 32, (Scalar.select 0#1 4294967295#32 0#32 : BitVec 32).getLsbD b = true ↔ (0#1 : BitVec 1) = 1#1 := by decide
    exact this x.2

/-- `t` is the threshold of the keys of `n` tiles, `k` are wanted of the `a` equal to it. -/
structure Chosen (key : ℕ → BitVec 32) (n : ℕ) (t : BitVec 32) (k a : ℕ) : Prop where
  above : k + (rowsAt n fun r => t.toInt < (key r).toInt).card = 256
  tie : a = (rowsAt n fun r => key r = t).card
  pos : 1 ≤ k
  enough : k ≤ a

/-- The thinning over the planes of the turned keys, at a lane. -/
theorem chosen_of_levels (P : ℕ → IVec ShW3 32) (n : ℕ) (h1 : 1 ≤ n) (hn : n ≤ 8) (l : Fin 128) (key : ℕ → BitVec 32)
    (hP : ∀ p, p < 32 → ∀ x ∈ flagsAt n, (P p (ix3 0 x.1 l)).getLsbD x.2 = (key (rowOf x.1 x.2) ^^^ 2147483648#32).getLsbD (31 - p)) :
    ∃ k a, Chosen key n ((lev P (k0_pay1479 (BitVec.ofNat 32 n)) 32).2.2 (ix2 0 l) ^^^ 2147483648#32) k a
      ∧ (lev P (k0_pay1479 (BitVec.ofNat 32 n)) 32).2.1 (ix2 0 l) = f32OfNat k
      ∧ laneCount (lev P (k0_pay1479 (BitVec.ofNat 32 n)) 32).1 (ix2 0 l) = f32OfNat a ∧ a ≤ 4096 := by
  have hl : ∀ p, p ≤ 32 → ∃ m, Lane (fun x => key (rowOf x.1 x.2) ^^^ 2147483648#32) (flagsAt n) p l (lev P (k0_pay1479 (BitVec.ofNat 32 n)) p).1
      (lev P (k0_pay1479 (BitVec.ofNat 32 n)) p).2.1 (lev P (k0_pay1479 (BitVec.ofNat 32 n)) p).2.2 m := by
    intro p
    induction p with
    | zero =>
      intro _
      refine ⟨256, ⟨?_, ?_⟩⟩
      · have := Picked.start (u := fun x : Fin 128 × Fin 32 => key (rowOf x.1 x.2) ^^^ 2147483648#32) (A₀ := flagsAt n) (by rw [card_flagsAt n hn]; omega)
        rw [← flags_start n hn l] at this ⊢
        exact this
      · show (ofBits .f32 0x43800000#32 : Bits .f32) = f32OfNat 256
        rw [f32OfNat_eq 256 (by decide)]; decide
    | succ p ih =>
      intro hp
      exact Lane.step (P p) _ (by omega) rfl (hP p (by omega)) (ih (by omega))
  obtain ⟨k, hk⟩ := hl 32 (le_refl _)
  obtain ⟨hA, hc, hpos, hen⟩ := hk.picked.done
  generalize hT : (lev P (k0_pay1479 (BitVec.ofNat 32 n)) 32).2.2 (ix2 0 l) = T at hA hc
  have hcard : (flags (lev P (k0_pay1479 (BitVec.ofNat 32 n)) 32).1 l).card = (rowsAt n fun r => key r = T ^^^ 2147483648#32).card := by
    rw [hA, ← card_rows]
    refine congrArg Finset.card (Finset.filter_congr fun x _ => ?_)
    constructor
    · intro h; rw [← h, turn_turn]
    · intro h; show key _ ^^^ _ = _; rw [h, turn_turn]
  refine ⟨k, _, ⟨?_, rfl, hpos, ?_⟩, hk.wanted, ?_, ?_⟩
  · rw [← hc, ← card_rows]
    congr 2
    refine Finset.filter_congr fun x _ => ?_
    rw [← turn_lt, turn_turn]
  · rw [← hcard]; exact hen
  · rw [laneCount_apply, hcard]
  · exact (Finset.card_le_univ _).trans (by rw [Fintype.card_fin])

/-- The greatest key in view that two hundred and fifty-six in view are at least as great as is the threshold. -/
theorem Chosen.greatest {key : ℕ → BitVec 32} {n : ℕ} {t : BitVec 32} {k a : ℕ} (h : Chosen key n t k a) (g : Fin 4096 → BitVec 32)
    (hg : ∀ c : Fin 4096, g c = if c.val < 512 * n ∧ 256 ≤ (rowsAt n fun r => (key c.val).toInt ≤ (key r).toInt).card then key c.val else 2147483648#32) :
    Finset.fold IntOp.maxsi 2147483648#32 g Finset.univ = t := by
  obtain ⟨h1, h2, h3⟩ := fold_maxsi_spec g Finset.univ 2147483648#32
  refine BitVec.eq_of_toInt_eq (le_antisymm ?_ ?_)
  · rcases h3 with h3 | ⟨c, _, h3⟩
    · rw [h3]; exact intMin_toInt_le t
    · rw [h3, hg]
      split
      · rename_i hc
        by_contra hlt
        have hs : (rowsAt n fun r => (key c.val).toInt ≤ (key r).toInt) ⊆ rowsAt n fun r => t.toInt < (key r).toInt := by
          intro r hr
          unfold rowsAt at hr ⊢
          simp only [Finset.mem_filter, Finset.mem_univ, true_and] at hr ⊢
          exact ⟨hr.1, by omega⟩
        have := Finset.card_le_card hs
        have := h.above
        have := h.pos
        omega
      · exact intMin_toInt_le t
  · have hp : 0 < (rowsAt n fun r => key r = t).card := by rw [← h.tie]; have := h.pos; have := h.enough; omega
    obtain ⟨c, hc⟩ := Finset.card_pos.1 hp
    have hc' : c.val < 512 * n ∧ key c.val = t := by
      unfold rowsAt at hc; simpa only [Finset.mem_filter, Finset.mem_univ, true_and] using hc
    have hcount : 256 ≤ (rowsAt n fun r => (key c.val).toInt ≤ (key r).toInt).card := by
      have hd : Disjoint (rowsAt n fun r => t.toInt < (key r).toInt) (rowsAt n fun r => key r = t) := by
        rw [Finset.disjoint_left]
        intro r hr hr'
        unfold rowsAt at hr hr'
        simp only [Finset.mem_filter, Finset.mem_univ, true_and] at hr hr'
        rw [hr'.2] at hr
        exact lt_irrefl _ hr.2
      have hs : (rowsAt n fun r => t.toInt < (key r).toInt).disjUnion (rowsAt n fun r => key r = t) hd
          ⊆ rowsAt n fun r => (key c.val).toInt ≤ (key r).toInt := by
        intro r hr
        rw [Finset.mem_disjUnion] at hr
        unfold rowsAt at hr ⊢
        simp only [Finset.mem_filter, Finset.mem_univ, true_and] at hr ⊢
        rw [hc'.2]
        rcases hr with hr | hr
        · exact ⟨hr.1, le_of_lt hr.2⟩
        · exact ⟨hr.1, by rw [hr.2]⟩
      have := Finset.card_le_card hs
      rw [Finset.card_disjUnion] at this
      have := h.above
      have := h.tie
      have := h.enough
      omega
    have := h2 c (Finset.mem_univ _)
    rw [hg c, if_pos ⟨hc'.1, hcount⟩, hc'.2] at this
    exact this

end Cert.Proof.Sel

end
-- ==== Proof.Blocks.lean ====
/- One block of the reference, by one symbolic trip of its loop over the blocks: what it reads, the rows it writes, and the
   loop by its invariant. Untrusted. -/
module

public import proofs.«01_k».proof.Proof.Gen.Reference.Loops
public import proofs.«01_k».proof.Proof.Gen.Reference.Frame

@[expose] public section

set_option maxRecDepth 8192
set_option maxHeartbeats 4000000

noncomputable section

namespace Cert.Proof.Plain

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- One trip at a symbolic `k`: the pieces it writes to the output's rows . -/
@[irreducible] def blockTrip (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    { L6 : List (View.Piece (Elt F) S32768x512 .bf16) // ∀ (E : Set ℕ) (f7 : BufTy.Contents (Elt F) arg7.view.ty) (f6 : BufTy.Contents (Elt F) arg6.view.ty),
      iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7))
      ⊢ wp frame (wpE (defs₀ (F := F)) Variants.none (c : Thread nD τ) none) E (k0_t1_body (F := F) arg0 harg0 arg1 harg1 arg2 harg2 arg3 harg3 arg4 harg4 arg5 harg5 arg6 harg6 arg7 harg7 k ())
          (fun _ => (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) f6 L6)) ∗ ∃ f, (arg7.view.loc (c : Thread nD τ) ↦[arg7.view.set]{fullShare} f)) : sProp 𝕄)) } := by
  refine ⟨?_, fun E f7 f6 => ?run⟩
  case run =>
    unfold k0_t1_body
    iintro ⟨H0, H1, H2, H3, H4, H5, H6, H7⟩
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · sl_close
    iexists _; iexact H7

end Cert.Proof.Plain

end
-- ==== Proof.Counted.lean ====
/- The reference's threshold, found by counting, at a lane: what was chosen. Untrusted. -/
module

public import proofs.«01_k».proof.Proof.Threshold
public import proofs.«01_k».proof.Proof.Blocks

@[expose] public section

set_option maxRecDepth 8192
set_option maxHeartbeats 400000

noncomputable section

namespace Cert.Proof.Plain

open Cert.Reference Cert.Reference.Gen
open Idealize.ShloMosaic Idealize.ShloMosaic.TcCoe Idealize.ShloMosaic.Bits
open Cert.Proof.Sel (Chosen rowsAt iota_zero)

/-- Ones and zeros summed along an axis: the number of the ones. -/
theorem count_ones {s t : Shape} {a : Fin s.rank} (h : s.Reduces [a] t) (x : IVec s 1) (y : t.Idx) :
    multiReductionI .add [a] t (select x (broadcast s 1#32) (broadcast s 0#32)) 0#32 h rfl y
      = BitVec.ofNat 32 (Finset.univ.filter fun r => x (h.lift y r) = 1#1).card := by
  refine ((multiReductionI_eq_fold .add _ 0#32 h rfl _).trans (h.fold_filter_drop_single IntOp.addi _ _ _)).trans ?_
  refine Eq.trans ?_ (IndicatorCount.fold_addi_setWidth_eq_card (w := 32) (fun r => x (h.lift y r)) Finset.univ)
  refine congrArg (fun g => Finset.fold IntOp.addi 0#32 g Finset.univ) (funext fun r => ?_)
  show Scalar.select (x (h.lift y r)) 1#32 0#32 = (x (h.lift y r)).setWidth 32
  generalize x (h.lift y r) = b
  revert b
  decide

/-- Rows in view whose key is at least the column's. -/
def countMask (v7 : BitVec 32) (key : IVec S4096x128 32) : IVec S4096x4096x128 1 :=
  andi
        (cmpi .sge (broadcastTo S4096x4096x128 (shapeCast S4096x1x128 key shapeCasts_S4096x128_S4096x1x128) broadcasts_S4096x1x128_S4096x4096x128)
          (broadcastTo S4096x4096x128 (shapeCast S1x4096x128 key shapeCasts_S4096x128_S1x4096x128) broadcasts_S1x4096x128_S4096x4096x128))
        (broadcastTo S4096x4096x128 (cmpi .slt (iota .tc S4096x1x128 32 [0] iota_S4096x1x128_d0_w32) (broadcast S4096x1x128 (Scalar.muli v7 512#32)))
          broadcasts_S4096x1x128_S4096x4096x128)

/-- For every key, whether two hundred and fifty-six keys in view are at least as large. -/
def atLeast (v7 : BitVec 32) (key : IVec S4096x128 32) : IVec S4096x128 1 :=
  cmpi .sge (multiReductionI .add [0] S4096x128
    (select (countMask v7 key)
      (broadcast S4096x4096x128 1#32) (broadcast S4096x4096x128 0#32))
    0#32 reduces_S4096x4096x128_S4096x128 rfl) (broadcast S4096x128 256#32)

theorem pay57_eq {F : FTy → Type} [BitOps F] (v7 : BitVec 32) (v17 : FVec F S8x128 .f32) (v48 : IVec S1x128 32) (v123 v198 v273 v348 v423 v498 v573 : IVec S512x128 32)
    (v625 v626 v627 : FVec F S512x128 .f32) :
    k0_pay57 v7 v17 v48 v123 v198 v273 v348 v423 v498 v573 v625 v626 v627 = atLeast v7 (k0_pay54 v17 v48 v123 v198 v273 v348 v423 v498 v573 v625 v626 v627) := rfl

/-- A lane's keys, row by row. -/
def column (key : IVec S4096x128 32) (l : Fin 128) (row : ℕ) : BitVec 32 := key (ix2 (Fin.ofNat 4096 row) l)

theorem column_val (key : IVec S4096x128 32) (l : Fin 128) (r : Fin 4096) : column key l r.val = key (ix2 r l) := by
  unfold column; congr 2; exact Fin.ext (Nat.mod_eq_of_lt r.isLt)

/-- A row is in view. -/
theorem seen_iff (n : ℕ) (hn : n ≤ 8) (r : Fin 4096) :
    Scalar.cmpi .slt (BitVec.ofNat 32 r.val) (Scalar.muli (BitVec.ofNat 32 n) 512#32) = 1#1 ↔ r.val < 512 * n := by
  have e : Scalar.muli (BitVec.ofNat 32 n) 512#32 = BitVec.ofNat 32 (512 * n) := by
    apply BitVec.eq_of_toNat_eq
    show (BitVec.ofNat 32 n * 512#32).toNat = _
    rw [BitVec.toNat_mul, BitVec.toNat_ofNat, BitVec.toNat_ofNat, BitVec.toNat_ofNat]
    omega
  rw [e]
  show BitVec.ofBool (BitVec.slt (BitVec.ofNat 32 r.val) (BitVec.ofNat 32 (512 * n))) = 1#1 ↔ _
  have h : BitVec.slt (BitVec.ofNat 32 r.val) (BitVec.ofNat 32 (512 * n)) = decide (r.val < 512 * n) := by
    unfold BitVec.slt
    rw [BitVec.toInt_eq_toNat_cond, BitVec.toInt_eq_toNat_cond, BitVec.toNat_ofNat, BitVec.toNat_ofNat]
    have := r.isLt
    apply decide_eq_decide.2
    rw [if_pos (by omega), if_pos (by omega)]
    omega
  rw [h]
  by_cases hc : r.val < 512 * n <;> simp [hc]

theorem bool_one (b : Bool) : BitVec.ofBool b = 1#1 ↔ b = true := by cases b <;> decide

theorem and_one (a b : BitVec 1) : IntOp.andi a b = 1#1 ↔ a = 1#1 ∧ b = 1#1 := by revert a b; decide

theorem seen_apply (n : ℕ) (hn : n ≤ 8) (r : Fin 4096) (l : Fin 128) : k0_pay56 (BitVec.ofNat 32 n) (ix2 r l) = 1#1 ↔ r.val < 512 * n := by
  show Scalar.cmpi .slt (iota .tc S4096x128 32 [0] iota_S4096x128_d0_w32 (ix2 r l)) (Scalar.muli (BitVec.ofNat 32 n) 512#32) = 1#1 ↔ _
  rw [iota_zero (s := S4096x128) 0 iota_S4096x128_d0_w32 (ix2 r l)]
  exact seen_iff n hn r

theorem atLeast_apply (n : ℕ) (hn : n ≤ 8) (key : IVec S4096x128 32) (c : Fin 4096) (l : Fin 128) :
    atLeast (BitVec.ofNat 32 n) key (ix2 c l) = 1#1
      ↔ 256 ≤ (rowsAt n fun r => (column key l c.val).toInt ≤ (column key l r).toInt).card := by
  have hp : ∀ r : Fin 4096, countMask (BitVec.ofNat 32 n) key (reduces_S4096x4096x128_S4096x128.lift (ix2 c l) r) = 1#1
      ↔ r.val < 512 * n ∧ (column key l c.val).toInt ≤ (column key l r.val).toInt := by
    intro r
    have e1 : broadcastTo S4096x4096x128 (shapeCast S4096x1x128 key shapeCasts_S4096x128_S4096x1x128) broadcasts_S4096x1x128_S4096x4096x128
        (reduces_S4096x4096x128_S4096x128.lift (ix2 c l) r) = key (ix2 r l) := by
      refine shapeCast_apply key shapeCasts_S4096x128_S4096x1x128 _ (ix2 r l) ?_
      rw [Shape.rowMajor_val_two, Shape.rowMajor_val_succ, Shape.rowMajor_val_two]
      show r.val * 128 + l.val = r.val * (1 * (128 * 1)) + (0 * 128 + l.val)
      omega
    have e2 : broadcastTo S4096x4096x128 (shapeCast S1x4096x128 key shapeCasts_S4096x128_S1x4096x128) broadcasts_S1x4096x128_S4096x4096x128
        (reduces_S4096x4096x128_S4096x128.lift (ix2 c l) r) = key (ix2 c l) := by
      refine shapeCast_apply key shapeCasts_S4096x128_S1x4096x128 _ (ix2 c l) ?_
      rw [Shape.rowMajor_val_two, Shape.rowMajor_val_succ, Shape.rowMajor_val_two]
      show c.val * 128 + l.val = 0 * (4096 * (128 * 1)) + (c.val * 128 + l.val)
      omega
    rw [column_val, column_val]
    refine (and_one _ _).trans (and_comm.trans (and_congr ?_ ?_))
    · refine (iff_of_eq (congrArg (fun w => Scalar.cmpi .slt w (Scalar.muli (BitVec.ofNat 32 n) 512#32) = 1#1)
        (iota_zero (s := S4096x1x128) 0 iota_S4096x1x128_d0_w32 _))).trans (seen_iff n hn r)
    · refine (iff_of_eq (congrArg (fun w => w = 1#1) (congrArg₂ (IntOp.cmpi .sge) e1 e2))).trans ?_
      show BitVec.ofBool (BitVec.sle (key (ix2 c l)) (key (ix2 r l))) = 1#1 ↔ _
      rw [bool_one]
      exact decide_eq_true_iff
  have hcard : (Finset.univ.filter fun r : Fin 4096 => countMask (BitVec.ofNat 32 n) key (reduces_S4096x4096x128_S4096x128.lift (ix2 c l) r) = 1#1)
      = rowsAt n fun r => (column key l c.val).toInt ≤ (column key l r).toInt := Finset.filter_congr fun r _ => hp r
  have hle : (rowsAt n fun r => (column key l c.val).toInt ≤ (column key l r).toInt).card ≤ 4096 := (Finset.card_le_univ _).trans (by rw [Fintype.card_fin])
  have hred := (count_ones reduces_S4096x4096x128_S4096x128 (countMask (BitVec.ofNat 32 n) key) (ix2 c l)).trans
    (congrArg (fun S : Finset (Fin 4096) => BitVec.ofNat 32 S.card) hcard)
  refine (iff_of_eq (congrArg (fun w => IntOp.cmpi .sge w 256#32 = 1#1) hred)).trans ?_
  generalize (rowsAt n fun r => (column key l c.val).toInt ≤ (column key l r).toInt).card = m at hle
  show BitVec.ofBool (BitVec.sle 256#32 (BitVec.ofNat 32 m)) = 1#1 ↔ _
  rw [bool_one]
  unfold BitVec.sle
  rw [decide_eq_true_iff, BitVec.toInt_eq_toNat_cond, BitVec.toInt_eq_toNat_cond, BitVec.toNat_ofNat, BitVec.toNat_ofNat,
    if_pos (by omega), if_pos (by omega)]
  omega

/-- The threshold at a lane. -/
theorem thr_apply (n : ℕ) (hn : n ≤ 8) (key : IVec S4096x128 32) (l : Fin 128) {t : BitVec 32} {k a : ℕ} (h : Chosen (column key l) n t k a) :
    k0_pay58 key (k0_pay56 (BitVec.ofNat 32 n)) (atLeast (BitVec.ofNat 32 n) key) (ix2 0 l) = t := by
  unfold k0_pay58
  refine (shapeCast_apply _ _ _ (ix1 l) (by rw [Shape.rowMajor_val_one, Shape.rowMajor_val_two]; show l.val = 0 * 128 + l.val; omega)).trans ?_
  refine ((multiReductionI_eq_fold .maxsi _ 2147483648#32 reduces_S4096x128_S128 rfl _).trans
    (reduces_S4096x128_S128.fold_filter_drop_single IntOp.maxsi _ _ _)).trans ?_
  refine h.greatest _ fun c => ?_
  have e : reduces_S4096x128_S128.lift (ix1 l) c = ix2 c l := by funext a; revert a; intro a; fin_cases a <;> rfl
  show Scalar.select (IntOp.andi (k0_pay56 (BitVec.ofNat 32 n) (reduces_S4096x128_S128.lift (ix1 l) c)) (atLeast (BitVec.ofNat 32 n) key (reduces_S4096x128_S128.lift (ix1 l) c)))
    (key (reduces_S4096x128_S128.lift (ix1 l) c)) 2147483648#32 = _
  rw [e, column_val]
  have hs := seen_apply n hn c l
  have ha := atLeast_apply n hn key c l
  rw [column_val] at ha
  have hiff := (and_one (k0_pay56 (BitVec.ofNat 32 n) (ix2 c l)) (atLeast (BitVec.ofNat 32 n) key (ix2 c l))).trans (and_congr hs ha)
  exact if_congr hiff rfl rfl

/-- A row of the column summed over. -/
theorem lift_row (l : Fin 128) (r : Fin 4096) : reduces_S4096x128_S128.lift (ix1 l) r = ix2 r l := by
  funext a; revert a; intro a; fin_cases a <;> rfl

theorem sgt_one (x y : BitVec 32) : IntOp.cmpi .sgt x y = 1#1 ↔ y.toInt < x.toInt := by
  show BitVec.ofBool (BitVec.slt y x) = 1#1 ↔ _
  rw [bool_one]; exact decide_eq_true_iff

theorem eq_one (x y : BitVec 32) : IntOp.cmpi .eq x y = 1#1 ↔ x = y := by
  show BitVec.ofBool (x == y) = 1#1 ↔ _
  rw [bool_one]; exact beq_iff_eq

/-- How many of those equal to it are wanted. -/
theorem wanted_apply (n : ℕ) (hn : n ≤ 8) (key : IVec S4096x128 32) (l : Fin 128) {t : BitVec 32} {k a : ℕ} (h : Chosen (column key l) n t k a) :
    k0_pay59 key (k0_pay56 (BitVec.ofNat 32 n)) (atLeast (BitVec.ofNat 32 n) key) (ix2 0 l) = BitVec.ofNat 32 k := by
  have hp : ∀ r : Fin 4096, (andi (k0_pay56 (BitVec.ofNat 32 n)) (cmpi .sgt key
      (broadcastTo S4096x128 (k0_pay58 key (k0_pay56 (BitVec.ofNat 32 n)) (atLeast (BitVec.ofNat 32 n) key)) broadcasts_S1x128_S4096x128)))
        (reduces_S4096x128_S128.lift (ix1 l) r) = 1#1 ↔ r.val < 512 * n ∧ t.toInt < (column key l r.val).toInt := by
    intro r
    rw [column_val]
    refine (iff_of_eq (congrArg (fun y : S4096x128.Idx => (andi (k0_pay56 (BitVec.ofNat 32 n)) (cmpi .sgt key
      (broadcastTo S4096x128 (k0_pay58 key (k0_pay56 (BitVec.ofNat 32 n)) (atLeast (BitVec.ofNat 32 n) key)) broadcasts_S1x128_S4096x128))) y = 1#1)
      (lift_row l r))).trans ((and_one _ _).trans (and_congr (seen_apply n hn r l) ?_))
    have e2 : broadcastTo S4096x128 (k0_pay58 key (k0_pay56 (BitVec.ofNat 32 n)) (atLeast (BitVec.ofNat 32 n) key)) broadcasts_S1x128_S4096x128 (ix2 r l)
        = t := by
      refine (congrArg (k0_pay58 key (k0_pay56 (BitVec.ofNat 32 n)) (atLeast (BitVec.ofNat 32 n) key)) ?_).trans (thr_apply n hn key l h)
      funext a; revert a; intro a; fin_cases a <;> rfl
    refine (sgt_one _ _).trans ?_
    rw [e2]
  have hc : (Finset.univ.filter fun r : Fin 4096 => (andi (k0_pay56 (BitVec.ofNat 32 n)) (cmpi .sgt key
      (broadcastTo S4096x128 (k0_pay58 key (k0_pay56 (BitVec.ofNat 32 n)) (atLeast (BitVec.ofNat 32 n) key)) broadcasts_S1x128_S4096x128)))
        (reduces_S4096x128_S128.lift (ix1 l) r) = 1#1) = rowsAt n fun r => t.toInt < (column key l r).toInt := Finset.filter_congr fun r _ => hp r
  have hr := (count_ones reduces_S4096x128_S128 (andi (k0_pay56 (BitVec.ofNat 32 n)) (cmpi .sgt key
      (broadcastTo S4096x128 (k0_pay58 key (k0_pay56 (BitVec.ofNat 32 n)) (atLeast (BitVec.ofNat 32 n) key)) broadcasts_S1x128_S4096x128))) (ix1 l)).trans
    (congrArg (fun S : Finset (Fin 4096) => BitVec.ofNat 32 S.card) hc)
  have hcast := shapeCast_apply (multiReductionI .add [0] S128 (select (andi (k0_pay56 (BitVec.ofNat 32 n)) (cmpi .sgt key
      (broadcastTo S4096x128 (k0_pay58 key (k0_pay56 (BitVec.ofNat 32 n)) (atLeast (BitVec.ofNat 32 n) key)) broadcasts_S1x128_S4096x128)))
      (broadcast S4096x128 1#32) (broadcast S4096x128 0#32)) 0#32 reduces_S4096x128_S128 rfl) shapeCasts_S128_S1x128 (ix2 0 l) (ix1 l)
      (by rw [Shape.rowMajor_val_one, Shape.rowMajor_val_two]; show l.val = 0 * 128 + l.val; omega)
  refine (congrArg (fun w : BitVec 32 => 256#32 - w) (hcast.trans hr)).trans ?_
  have ha := h.above
  have hk : k = 256 - (rowsAt n fun r => t.toInt < (column key l r).toInt).card := by omega
  apply BitVec.eq_of_toNat_eq
  rw [BitVec.toNat_sub, BitVec.toNat_ofNat, BitVec.toNat_ofNat, BitVec.toNat_ofNat]
  omega

/-- The places where more are equal to the threshold than are wanted, the threshold a score. -/
def tieMask (key : IVec S4096x128 32) (seen many : IVec S4096x128 1) : IVec S1x128 1 :=
  andi (cmpi .sgt (shapeCast S1x128 (multiReductionI .add [0] S128
      (select (andi seen (cmpi .eq key (broadcastTo S4096x128 (k0_pay58 key seen many) broadcasts_S1x128_S4096x128))) (broadcast S4096x128 1#32) (broadcast S4096x128 0#32))
      0#32 reduces_S4096x128_S128 rfl) shapeCasts_S128_S1x128) (k0_pay59 key seen many))
    (cmpi .sgt (k0_pay58 key seen many) (broadcast S1x128 2394295605#32))

theorem equal_apply (n : ℕ) (hn : n ≤ 8) (key : IVec S4096x128 32) (l : Fin 128) {t : BitVec 32} {k a : ℕ} (h : Chosen (column key l) n t k a) :
    shapeCast S1x128 (multiReductionI .add [0] S128
      (select (andi (k0_pay56 (BitVec.ofNat 32 n)) (cmpi .eq key (broadcastTo S4096x128 (k0_pay58 key (k0_pay56 (BitVec.ofNat 32 n)) (atLeast (BitVec.ofNat 32 n) key)) broadcasts_S1x128_S4096x128)))
        (broadcast S4096x128 1#32) (broadcast S4096x128 0#32))
      0#32 reduces_S4096x128_S128 rfl) shapeCasts_S128_S1x128 (ix2 0 l) = BitVec.ofNat 32 a := by
  have hp : ∀ r : Fin 4096, (andi (k0_pay56 (BitVec.ofNat 32 n)) (cmpi .eq key
      (broadcastTo S4096x128 (k0_pay58 key (k0_pay56 (BitVec.ofNat 32 n)) (atLeast (BitVec.ofNat 32 n) key)) broadcasts_S1x128_S4096x128)))
        (reduces_S4096x128_S128.lift (ix1 l) r) = 1#1 ↔ r.val < 512 * n ∧ column key l r.val = t := by
    intro r
    rw [column_val]
    refine (iff_of_eq (congrArg (fun y : S4096x128.Idx => (andi (k0_pay56 (BitVec.ofNat 32 n)) (cmpi .eq key
      (broadcastTo S4096x128 (k0_pay58 key (k0_pay56 (BitVec.ofNat 32 n)) (atLeast (BitVec.ofNat 32 n) key)) broadcasts_S1x128_S4096x128))) y = 1#1)
      (lift_row l r))).trans ((and_one _ _).trans (and_congr (seen_apply n hn r l) ?_))
    have e2 : broadcastTo S4096x128 (k0_pay58 key (k0_pay56 (BitVec.ofNat 32 n)) (atLeast (BitVec.ofNat 32 n) key)) broadcasts_S1x128_S4096x128 (ix2 r l)
        = t := by
      refine (congrArg (k0_pay58 key (k0_pay56 (BitVec.ofNat 32 n)) (atLeast (BitVec.ofNat 32 n) key)) ?_).trans (thr_apply n hn key l h)
      funext a; revert a; intro a; fin_cases a <;> rfl
    refine (eq_one _ _).trans ?_
    rw [e2]
  have hc : (Finset.univ.filter fun r : Fin 4096 => (andi (k0_pay56 (BitVec.ofNat 32 n)) (cmpi .eq key
      (broadcastTo S4096x128 (k0_pay58 key (k0_pay56 (BitVec.ofNat 32 n)) (atLeast (BitVec.ofNat 32 n) key)) broadcasts_S1x128_S4096x128)))
        (reduces_S4096x128_S128.lift (ix1 l) r) = 1#1) = rowsAt n fun r => column key l r = t := Finset.filter_congr fun r _ => hp r
  rw [shapeCast_apply _ shapeCasts_S128_S1x128 (ix2 0 l) (ix1 l) (by rw [Shape.rowMajor_val_one, Shape.rowMajor_val_two]; show l.val = 0 * 128 + l.val; omega)]
  refine (count_ones reduces_S4096x128_S128 _ (ix1 l)).trans ?_
  rw [h.tie]
  exact congrArg (fun S : Finset (Fin 4096) => BitVec.ofNat 32 S.card) hc

/-- A lane's bit of the mask. -/
theorem tieMask_apply (n : ℕ) (hn : n ≤ 8) (key : IVec S4096x128 32) (l : Fin 128) {t : BitVec 32} {k a : ℕ} (h : Chosen (column key l) n t k a) (ha : a ≤ 4096) :
    tieMask key (k0_pay56 (BitVec.ofNat 32 n)) (atLeast (BitVec.ofNat 32 n) key) (ix2 0 l)
      = IntOp.andi (BitVec.ofBool (decide (k < a))) (IntOp.cmpi .sgt t 2394295605#32) := by
  show IntOp.andi (IntOp.cmpi .sgt (shapeCast S1x128 _ shapeCasts_S128_S1x128 (ix2 0 l)) (k0_pay59 _ _ _ (ix2 0 l))) (IntOp.cmpi .sgt (k0_pay58 _ _ _ (ix2 0 l)) 2394295605#32) = _
  rw [equal_apply n hn key l h, wanted_apply n hn key l h, thr_apply n hn key l h]
  congr 1
  show BitVec.ofBool (BitVec.slt (BitVec.ofNat 32 k) (BitVec.ofNat 32 a)) = _
  have := h.enough
  congr 1
  unfold BitVec.slt
  apply decide_eq_decide.2
  rw [BitVec.toInt_eq_toNat_cond, BitVec.toInt_eq_toNat_cond, BitVec.toNat_ofNat, BitVec.toNat_ofNat, if_pos (by omega), if_pos (by omega)]
  omega

/-- The number wanted, as the float it is compared to. -/
theorem quota_apply (n : ℕ) (hn : n ≤ 8) (key : IVec S4096x128 32) (l : Fin 128) {t : BitVec 32} {k a : ℕ} (h : Chosen (column key l) n t k a) (ha : a ≤ 4096) :
    k0_pay61 (F := Bits) key (k0_pay56 (BitVec.ofNat 32 n)) (atLeast (BitVec.ofNat 32 n) key) (ix2 0 l) = f32OfNat k := by
  show sitofp32 (k0_pay59 key (k0_pay56 (BitVec.ofNat 32 n)) (atLeast (BitVec.ofNat 32 n) key) (ix2 0 l)) = _
  rw [wanted_apply n hn key l h]
  have := h.enough
  exact sitofp32_ofNat (by omega)

end Cert.Proof.Plain

end
-- ==== Proof.Keys.lean ====
/- The keys a scoring trip writes: one tile of rows. Untrusted. -/
module

public import proofs.«01_k».proof.Proof.Planes

@[expose] public section

set_option maxRecDepth 8192
set_option maxHeartbeats 400000

noncomputable section

namespace Cert.Proof.Sel

open Cert.Kernel Cert.Kernel.Gen
open Idealize.ShloMosaic Idealize.ShloMosaic.TcCoe

variable {F : FTy → Type} [BitOps F]

/-! ## The keys -/

/-- The keys of a tile: of its index keys and the index queries, the queries' weights, the queries' chunks, the rows' numbers and
    the tile's first row. -/
def keyTile (w : FVec F S8x128 .f32) (qc : IVec S1x128 32) (rowNo : IVec S512x1 32) (start : BitVec 32) (ik : Vec F S512x32 .bf16)
    (qi : Vec F S32x1024 .bf16) : IVec S512x128 32 :=
  k0_pay10 w qc rowNo start (k0_pay7 ik qi) (k0_pay8 w ik qi) (k0_pay9 ik qi)

/-- A tile's words, the sign turned. -/
def turned (B : IVec S512x128 32) : IVec S512x128 32 := xori B (broadcast S512x128 2147483648#32)

/-- The tile of trip `k`. -/
def tripTile (i : grid0.Coords) (arg7 : Memref sig .tc .vmem S4096x32 .bf16) (arg11 : Memref sig .tc .vmem S32x1024 .bf16) (v54 : FVec F S8x128 .f32)
    (v55 : BitVec 32) (v56 : IVec S1x128 32) (v61 : IVec S512x1 32) (X7 : BufTy.Contents (Elt F) arg7.view.ty)
    (X11 : BufTy.Contents (Elt F) arg11.view.ty) (k : Fin (k0_t1_loop i).trips) : IVec S512x128 32 :=
  keyTile v54 (k0_pay1474 v55 v56) v61 (Scalar.muli (Scf.iv 0#32 1#32 k) 512#32)
    (View.readAt (Elt F) arg7.view (Rect.unit (s := S4096x32) (k0_off1 i k) S512x32.size (Facts₀.k0_off1_inb i k)).toLoadRect X7)
    (View.readAt (Elt F) arg11.view (Rect.unit (s := S32x1024) ![0, 0] S32x1024.size Gen.inb_S32x1024_S32x1024_0_0).toLoadRect X11)

theorem r3_eq (i : grid0.Coords) (arg7 : Memref sig .tc .vmem S4096x32 .bf16) (arg11 : Memref sig .tc .vmem S32x1024 .bf16) (v54 : FVec F S8x128 .f32)
    (v55 : BitVec 32) (v56 : IVec S1x128 32) (v61 : IVec S512x1 32) (X7 : BufTy.Contents (Elt F) arg7.view.ty)
    (X11 : BufTy.Contents (Elt F) arg11.view.ty) (k : Fin (k0_t1_loop i).trips) :
    scoreTrip.sl.r_3 (F := F) i arg7 arg11 v54 v55 v56 v61 X7 X11 k = turned (tripTile i arg7 arg11 v54 v55 v56 v61 X7 X11 k) := rfl

/-- The rows of the keys a trip writes: its tile. -/
theorem scoreTrip_keys (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty) (k : Fin (k0_t1_loop i).trips) :
    (scoreTrip (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 k).1
      = [⟨Rect.unit (k0_off2 i k) S512x128.size (Facts₀.k0_off2_inb i k), tripTile i arg7 arg11 v54 v55 v56 v61 X7 X11 k⟩] := by
  unfold scoreTrip
  exact congrArg (fun w => ([⟨Rect.unit (k0_off2 i k) S512x128.size (Facts₀.k0_off2_inb i k), w⟩] : List (View.Piece (Elt F) S4096x128 .i32)))
    (shapeCast_self (tripTile i arg7 arg11 v54 v55 v56 v61 X7 X11 k) _)

/-- What the keys' rows hold where `Ks` are the tiles. -/
def keysG (Ks : ℕ → IVec S512x128 32) : S4096x128.Idx → BitVec 32 := fun y =>
  Ks ((y 0).val / 512) (ix2 (⟨(y 0).val % 512, Nat.mod_lt _ (by decide)⟩ : Fin 512) (y 1 : Fin 128))

theorem scorePieces_keys (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v54 : FVec F S8x128 .f32) (v55 : BitVec 32) (v56 : IVec S1x128 32) (v61 : IVec S512x1 32) (X7 : BufTy.Contents (Elt F) arg7.view.ty) (X11 : BufTy.Contents (Elt F) arg11.view.ty)
    (Ks : ℕ → IVec S512x128 32) (hK : ∀ k : Fin (k0_t1_loop i).trips, Ks k.val = tripTile i arg7 arg11 v54 v55 v56 v61 X7 X11 k)
    (n : ℕ) (hn : n ≤ (k0_t1_loop i).trips) :
    (∀ p ∈ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).1, ∀ x : p.1.shape.Idx, p.2 x = keysG Ks (p.1.emb x))
    ∧ ∀ (r : Fin 4096) (l : Fin 128), r.val / 512 < n → ∃ q ∈ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).1, (ix2 r l : S4096x128.Idx) ∈ q.1.set := by
  induction n with
  | zero => exact ⟨fun p hp => absurd hp List.not_mem_nil, fun r l h => absurd h (Nat.not_lt_zero _)⟩
  | succ n ih =>
    obtain ⟨h1, h2⟩ := ih (Nat.le_of_succ_le hn)
    have he := off2_eq i ⟨n, hn⟩
    have hs : (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 (n + 1)).1
        = (⟨Rect.unit (k0_off2 i ⟨n, hn⟩) S512x128.size (Facts₀.k0_off2_inb i ⟨n, hn⟩), tripTile i arg7 arg11 v54 v55 v56 v61 X7 X11 ⟨n, hn⟩⟩
          : View.Piece (Elt F) S4096x128 .i32) :: (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).1 :=
      (congrArg Prod.fst (scorePieces_succ (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨n, hn⟩)).trans
        (congrArg (fun L => L ++ (scorePieces (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 n).1) (scoreTrip_keys (F := F) c i arg2 harg2 arg3 harg3 arg4 harg4 arg5 harg5 arg6 harg6 arg7 harg7 arg8 harg8 arg9 harg9 arg10 harg10 arg11 harg11 arg12 harg12 arg13 harg13 arg14 harg14 v4 v54 v55 v56 v61 X7 X11 ⟨n, hn⟩))
    rw [hs]
    have hk := hK ⟨n, hn⟩
    constructor
    · intro p hp
      rcases List.mem_cons.1 hp with rfl | hp
      · intro x
        obtain ⟨s, l, rfl⟩ : ∃ (s : Fin 512) (l : Fin 128), x = ix2 s l := ⟨x 0, x 1, eq_ix2 x⟩
        show tripTile i arg7 arg11 v54 v55 v56 v61 X7 X11 ⟨n, hn⟩ (ix2 s l) = _
        rw [← hk]
        have key : ∀ (off : Fin 2 → ℕ) (inb : ∀ a, off a + S512x128.size a ≤ S4096x128.size a), off = ![512 * n, 0] →
            Ks n (ix2 s l) = keysG Ks ((Rect.unit (s := S4096x128) off S512x128.size inb).emb (ix2 s l)) := by
          rintro off inb rfl
          have q : ∀ (a b : ℕ) (hb : b < 512) (d : Fin 128), a = n → b = s.val → d = l → Ks n (ix2 s l) = Ks a (ix2 (⟨b, hb⟩ : Fin 512) d) := by
            rintro a b hb d rfl rfl rfl; rfl
          refine q _ _ _ _ ?_ ?_ (Fin.ext ?_)
          · show (512 * n + 1 * s.val) / 512 = n
            omega
          · show (512 * n + 1 * s.val) % 512 = s.val
            omega
          · show 0 + 1 * l.val = l.val
            omega
        exact key _ (Facts₀.k0_off2_inb i ⟨n, hn⟩) he
      · exact h1 p hp
    · intro r l hr
      rcases Nat.lt_succ_iff_lt_or_eq.1 hr with hr | hr
      · obtain ⟨q, hq, hm⟩ := h2 r l hr
        exact ⟨q, List.mem_cons_of_mem _ hq, hm⟩
      · refine ⟨_, List.mem_cons_self, ?_⟩
        show (ix2 r l : S4096x128.Idx) ∈ (Rect.unit (s := S4096x128) (k0_off2 i ⟨n, hn⟩) S512x128.size (Facts₀.k0_off2_inb i ⟨n, hn⟩)).set
        rw [Rect.mem_set_unit]
        intro a
        rw [he]
        fin_cases a
        · show 512 * n ≤ r.val ∧ r.val < 512 * n + 512
          omega
        · show 0 ≤ l.val ∧ l.val < 0 + 128
          omega

end Cert.Proof.Sel

end
-- ==== Proof.Body.lean ====
/- The body of the sparse attention run once, in both of its branches: with ties at the threshold and without. Untrusted. -/
module

public import proofs.«01_k».proof.Proof.Score

@[expose] public section

set_option maxRecDepth 8192
set_option maxHeartbeats 4000000

noncomputable section

namespace Cert.Proof.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

theorem taken_iff : ∀ b : BitVec 1, Scalar.cmpi .ne (Scalar.extui b : BitVec 32) 0#32 = 1#1 ↔ b = 1#1 := by decide

theorem untaken_iff : ∀ b : BitVec 1, Scalar.cmpi .ne (Scalar.extui (Scalar.xori b 1#1) : BitVec 32) 0#32 = 1#1 ↔ ¬ b = 1#1 := by decide

/-- The output's pieces are one of two lists, by a bit. -/
def Picks {α β γ δ : Type} (C : β → BitVec 1) (P Q : α → β → γ → List δ) (x : α) (y : β) (z : γ) (L : List δ) : Prop :=
  (C y = 1#1 ∧ L = P x y z) ∨ (¬ C y = 1#1 ∧ L = Q x y z)

/-- The body, for any continuation: from the inputs' blocks, the output's block and the scratch at anything, to the inputs as
    they were, the scratch at some contents and the output's block written by one of two lists of pieces. -/
@[irreducible] def bodyRun (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    (C : BufTy.Contents (Elt F) arg10.view.ty → BitVec 1) ×'
    (P : BufTy.Contents (Elt F) arg9.view.ty → BufTy.Contents (Elt F) arg10.view.ty → BufTy.Contents (Elt F) arg13.view.ty → List (View.Piece (Elt F) S128x512 .bf16)) ×'
    { Q : BufTy.Contents (Elt F) arg9.view.ty → BufTy.Contents (Elt F) arg10.view.ty → BufTy.Contents (Elt F) arg13.view.ty → List (View.Piece (Elt F) S128x512 .bf16) //
      ∀ (K : PUnit → sProp 𝕄),
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f8 f9 f10 f13 L, (arg8.view.loc (c : Thread nD τ) ↦[arg8.view.set]{fullShare} (arg8.view.writes (Elt F) f8 L)) ∗ ⌜Picks C P Q f9 f10 f13 L⌝)) -∗ K ⟨⟩))
      ⊢ wp frame (wpE (defs₀ (F := F)) Variants.none (c : Thread nD τ) none) Set.univ
          (cc0_dsa_attention i arg2 harg2 arg3 harg3 arg4 harg4 arg5 harg5 arg6 harg6 arg7 harg7 arg8 harg8 arg9 harg9 arg10 harg10 arg11 harg11 arg12 harg12 arg13 harg13 arg14 harg14) K } := by
  refine ⟨?C, ?P, ?Q, fun K => ?run⟩
  rotate_left 3
  simp only [cc0_dsa_attention_eq_skeleton]; unfold cc0_dsa_attention_skel
  iintro ⟨H2, H3, H4, H5, H6, H7, ⟨%f8, H8⟩, ⟨%f9, H9⟩, ⟨%f10, H10⟩, ⟨%f11, H11⟩, ⟨%f12, H12⟩, ⟨%f13, H13⟩, ⟨%f14, H14⟩, Hk⟩
  sl_exec
  case C => exact bodyRun.sl.v749 (F := F) c i arg2 harg2 arg3 harg3 arg4 harg4 arg5 harg5 arg6 harg6 arg7 harg7 arg8 harg8 arg9 harg9 arg10 harg10 arg11 harg11 arg12 harg12 arg13 harg13 arg14 harg14 X3 X4 X7
  by_cases hn : bodyRun.sl.v749 (F := F) c i arg2 harg2 arg3 harg3 arg4 harg4 arg5 harg5 arg6 harg6 arg7 harg7 arg8 harg8 arg9 harg9 arg10 harg10 arg11 harg11 arg12 harg12 arg13 harg13 arg14 harg14 X3 X4 X7 f10 = 1#1
  have h1 : bodyRun.sl.v751 (F := F) c i arg2 harg2 arg3 harg3 arg4 harg4 arg5 harg5 arg6 harg6 arg7 harg7 arg8 harg8 arg9 harg9 arg10 harg10 arg11 harg11 arg12 harg12 arg13 harg13 arg14 harg14 X3 X4 X7 f10 = 1#1 := (taken_iff _).2 hn
  sl_exec
  have h2 : ¬ bodyRun.sl.v754 (F := F) c i arg2 harg2 arg3 harg3 arg4 harg4 arg5 harg5 arg6 harg6 arg7 harg7 arg8 harg8 arg9 harg9 arg10 harg10 arg11 harg11 arg12 harg12 arg13 harg13 arg14 harg14 X3 X4 X7 f10 = 1#1 := fun h => (untaken_iff _).1 h hn
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists f8; iexists f9; iexists f10; iexists f13; iexists _; isplitl [H8]; · iexact H8
  case P => exact fun f9 f10 f13 => bodyRun.sl.H8_4 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13
  ipureintro; exact Or.inl ⟨hn, rfl⟩
  case' neg => skip
  have h1 : ¬ bodyRun.sl.v751 (F := F) c i arg2 harg2 arg3 harg3 arg4 harg4 arg5 harg5 arg6 harg6 arg7 harg7 arg8 harg8 arg9 harg9 arg10 harg10 arg11 harg11 arg12 harg12 arg13 harg13 arg14 harg14 X3 X4 X7 f10 = 1#1 := fun h => hn ((taken_iff _).1 h)
  sl_exec
  have h2 : bodyRun.sl.v754_1 (F := F) c i arg2 harg2 arg3 harg3 arg4 harg4 arg5 harg5 arg6 harg6 arg7 harg7 arg8 harg8 arg9 harg9 arg10 harg10 arg11 harg11 arg12 harg12 arg13 harg13 arg14 harg14 X3 X4 X7 f10 = 1#1 := (untaken_iff _).2 hn
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists f8; iexists f9; iexists f10; iexists f13; iexists _; isplitl [H8]; · iexact H8
  case Q => exact fun f9 f10 f13 => [⟨Rect.unit (s := S128x512) ![0, 384] S128x128.size Gen.inb_S128x512_S128x128_0_384, k0_pay6 (bodyRun.sl.r_64 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v807 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v811 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13)⟩, ⟨Rect.unit (s := S128x512) ![0, 256] S128x128.size Gen.inb_S128x512_S128x128_0_256, k0_pay5 (bodyRun.sl.r_64 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v795 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v799 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13)⟩, ⟨Rect.unit (s := S128x512) ![0, 128] S128x128.size Gen.inb_S128x512_S128x128_0_128, k0_pay4 (bodyRun.sl.r_65 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.r_66 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13)⟩, ⟨Rect.unit (s := S128x512) ![0, 0] S128x128.size Gen.inb_S128x512_S128x128_0_0, k0_pay1460 (bodyRun.sl.v768_2 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v771_2 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13) (bodyRun.sl.v775_1 (F := F) c i arg2 harg2 arg3 harg3 arg4 harg4 arg5 harg5 arg6 harg6 arg7 harg7 arg8 harg8 arg9 harg9 arg10 harg10 arg11 harg11 arg12 harg12 arg13 harg13 arg14 harg14 X2 X3 X4 X5 X6 X7 f9 f10 f13)⟩]
  ipureintro; exact Or.inr ⟨hn, rfl⟩

end Cert.Proof.Sel

end
-- ==== Proof.Choice.lean ====
/- The threshold the body computes and the count it still wants, over the keys of the tiles in view. Untrusted. -/
module

public import proofs.«01_k».proof.Proof.Threshold
public import proofs.«01_k».proof.Proof.Keys
public import proofs.«01_k».proof.Proof.Body

@[expose] public section

set_option maxRecDepth 8192
set_option maxHeartbeats 1000000

noncomputable section

namespace Cert.Proof.Sel

open Cert.Kernel Cert.Kernel.Gen
open Idealize.ShloMosaic Idealize.ShloMosaic.TcCoe Idealize.ShloMosaic.Bits

theorem plane_at_inb (p : Fin 32) : ∀ a, (![p.val, 0, 0] : Fin 3 → ℕ) a + S1x128x128.size a ≤ S32x128x128.size a := by
  intro a
  fin_cases a
  · show p.val + 1 ≤ 32
    omega
  · show 0 + 128 ≤ 128
    omega
  · show 0 + 128 ≤ 128
    omega

/-- Plane `p` of what the planes' scratch holds. -/
def planeAt {F : FTy → Type} (arg10 : Memref sig .tc .vmem S32x128x128 .i32) (G : BufTy.Contents (Elt F) arg10.view.ty) (p : ℕ) : IVec ShW3 32 :=
  View.readAt (Elt F) arg10.view (Rect.unit (s := S32x128x128) ![(Fin.ofNat 32 p).val, 0, 0] S1x128x128.size (plane_at_inb (Fin.ofNat 32 p))).toLoadRect G

theorem trips_word : ∀ i : grid0.Coords, bodyRun.sl.v4 i = BitVec.ofNat 32 (k0_t1_loop i).trips ∧ 1 ≤ (k0_t1_loop i).trips := by decide +kernel

/-- The tiles of keys the scoring loop leaves, tile by tile. -/
def tiles (i : grid0.Coords) (arg7 : Memref sig .tc .vmem S4096x32 .bf16) (arg11 : Memref sig .tc .vmem S32x1024 .bf16) (v54 : FVec Bits S8x128 .f32)
    (v55 : BitVec 32) (v56 : IVec S1x128 32) (v61 : IVec S512x1 32) (X7 : BufTy.Contents (Elt Bits) arg7.view.ty)
    (X11 : BufTy.Contents (Elt Bits) arg11.view.ty) (j : ℕ) : IVec S512x128 32 :=
  if h : j < (k0_t1_loop i).trips then tripTile i arg7 arg11 v54 v55 v56 v61 X7 X11 ⟨j, h⟩ else fun _ => 0#32

/-- A lane's keys, row by row. -/
def laneKey (Ks : ℕ → IVec S512x128 32) (l : Fin 128) (row : ℕ) : BitVec 32 :=
  Ks (row / 512) (ix2 (⟨row % 512, Nat.mod_lt _ (by decide)⟩ : Fin 512) l)

theorem laneKey_at (Ks : ℕ → IVec S512x128 32) (l : Fin 128) (row q s : ℕ) (hs : s < 512) (e : row = 512 * q + s) :
    laneKey Ks l row = Ks q (ix2 (⟨s, hs⟩ : Fin 512) l) := by
  subst e
  unfold laneKey
  have a : ∀ (q' s' : ℕ) (h' : s' < 512), q' = q → s' = s → Ks q' (ix2 (⟨s', h'⟩ : Fin 512) l) = Ks q (ix2 (⟨s, hs⟩ : Fin 512) l) := by
    rintro _ _ _ rfl rfl; rfl
  exact a _ _ _ (by omega) (by omega)

/-- The choice the body makes at a lane. -/
theorem choice (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X3 : BufTy.Contents (Elt Bits) arg3.view.ty) (X4 : BufTy.Contents (Elt Bits) arg4.view.ty) (X7 : BufTy.Contents (Elt Bits) arg7.view.ty) (f10 : BufTy.Contents (Elt Bits) arg10.view.ty) (l : Fin 128) :
    ∃ k a, Chosen (laneKey (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3))) l) (k0_t1_loop i).trips
        (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10 (ix2 0 l)) k a
      ∧ bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10 (ix2 0 l) = f32OfNat k
      ∧ laneCount (bodyRun.sl.r_60 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (ix2 0 l) = f32OfNat a ∧ a ≤ 4096 := by
  let L := (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7
    (arg11.view.writes (Elt Bits) arg11.view.junk (bodyRun.sl.H11_8 (F := Bits) arg3 X3)) (k0_t1_loop i).trips).2
  let G0 : BufTy.Contents (Elt Bits) arg10.view.ty := if hc : bodyRun.sl.v9 i = 1#1 then arg10.view.writes (Elt Bits) f10
    [⟨Rect.unit (s := S32x128x128) ![0, 0, 0] S32x128x128.size Gen.inb_S32x128x128_S32x128x128_0_0_0, (fun _ => 0#32 : IVec S32x128x128 32)⟩] else f10
  obtain ⟨h60, h61, h62⟩ : bodyRun.sl.r_60 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10 = (lev (planeAt arg10 (arg10.view.writes (Elt Bits) G0 L)) (k0_pay1479 (bodyRun.sl.v4 i)) 32).1
      ∧ bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10 = (lev (planeAt arg10 (arg10.view.writes (Elt Bits) G0 L)) (k0_pay1479 (bodyRun.sl.v4 i)) 32).2.1
      ∧ bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10 = xori (lev (planeAt arg10 (arg10.view.writes (Elt Bits) G0 L)) (k0_pay1479 (bodyRun.sl.v4 i)) 32).2.2 (broadcast ShL 2147483648#32) :=
    levels (planeAt arg10 (arg10.view.writes (Elt Bits) G0 L)) (bodyRun.sl.v4 i) _ rfl (r_62 := bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_61 := bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_60 := bodyRun.sl.r_60 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_59 := bodyRun.sl.r_59 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_58 := bodyRun.sl.r_58 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_57 := bodyRun.sl.r_57 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_56 := bodyRun.sl.r_56 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_55 := bodyRun.sl.r_55 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_54 := bodyRun.sl.r_54 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_53 := bodyRun.sl.r_53 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_52 := bodyRun.sl.r_52 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_51 := bodyRun.sl.r_51 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_50 := bodyRun.sl.r_50 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_49 := bodyRun.sl.r_49 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_48 := bodyRun.sl.r_48 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_47 := bodyRun.sl.r_47 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_46 := bodyRun.sl.r_46 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_45 := bodyRun.sl.r_45 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_44 := bodyRun.sl.r_44 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_43 := bodyRun.sl.r_43 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_42 := bodyRun.sl.r_42 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_41 := bodyRun.sl.r_41 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_40 := bodyRun.sl.r_40 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_39 := bodyRun.sl.r_39 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_38 := bodyRun.sl.r_38 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_37 := bodyRun.sl.r_37 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_36 := bodyRun.sl.r_36 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_35 := bodyRun.sl.r_35 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_34 := bodyRun.sl.r_34 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_33 := bodyRun.sl.r_33 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_32 := bodyRun.sl.r_32 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_31 := bodyRun.sl.r_31 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_30 := bodyRun.sl.r_30 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_29 := bodyRun.sl.r_29 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_28 := bodyRun.sl.r_28 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_27 := bodyRun.sl.r_27 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_26 := bodyRun.sl.r_26 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_25 := bodyRun.sl.r_25 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_24 := bodyRun.sl.r_24 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_23 := bodyRun.sl.r_23 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_22 := bodyRun.sl.r_22 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_21 := bodyRun.sl.r_21 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_20 := bodyRun.sl.r_20 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_19 := bodyRun.sl.r_19 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_18 := bodyRun.sl.r_18 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_17 := bodyRun.sl.r_17 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_16 := bodyRun.sl.r_16 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_15 := bodyRun.sl.r_15 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_14 := bodyRun.sl.r_14 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_13 := bodyRun.sl.r_13 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_12 := bodyRun.sl.r_12 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_11 := bodyRun.sl.r_11 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_10 := bodyRun.sl.r_10 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_9 := bodyRun.sl.r_9 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_8 := bodyRun.sl.r_8 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_7 := bodyRun.sl.r_7 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_6 := bodyRun.sl.r_6 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_5 := bodyRun.sl.r_5 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_4 := bodyRun.sl.r_4 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_3 := bodyRun.sl.r_3 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_2 := bodyRun.sl.r_2 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (r_1 := bodyRun.sl.r_1 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl
  rw [h60, h61, h62, (trips_word i).1]
  refine chosen_of_levels (planeAt arg10 (arg10.view.writes (Elt Bits) G0 L)) (k0_t1_loop i).trips (trips_word i).2 (t1_trips_le i) l _ ?_
  intro p hp x hx
  obtain ⟨r, b⟩ := x
  have hr : r.val / 8 < 2 * (k0_t1_loop i).trips := by
    unfold flagsAt at hx; simpa only [Finset.mem_filter, Finset.mem_univ, true_and] using hx
  obtain ⟨hv, hc⟩ := scorePieces_planes (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7
    (arg11.view.writes (Elt Bits) arg11.view.junk (bodyRun.sl.H11_8 (F := Bits) arg3 X3))
    (fun j => turned (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3)) j))
    (fun k => (congrArg turned (dif_pos k.isLt)).trans (r3_eq (F := Bits) i arg7 arg11 _ _ _ _ X7 _ k).symm) (k0_t1_loop i).trips (le_refl _)
  have hread : planeAt arg10 (arg10.view.writes (Elt Bits) G0 L) p (ix3 0 r l)
      = planesV (fun j => turned (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3)) j)) p r.val l := by
    have hi : (Rect.unit (s := S32x128x128) ![(Fin.ofNat 32 p).val, 0, 0] S1x128x128.size (plane_at_inb (Fin.ofNat 32 p))).toLoadRect.idx (ix3 (0 : Fin 1) r l)
        = (ix3 (⟨p, hp⟩ : Fin 32) r l : S32x128x128.Idx) := by
      funext a
      apply Fin.ext
      fin_cases a
      · show p % 32 + 1 * 0 = p
        omega
      · show 0 + 1 * r.val = r.val
        omega
      · show 0 + 1 * l.val = l.val
        omega
    show View.read (Elt Bits) arg10.view _ _ = _
    rw [hi]
    exact View.read_writes_apply_of_pieces arg10.view G0 _ L hv _ (hc ⟨p, hp⟩ r l (by omega))
  rw [hread, planesV_bit _ p b.val hp b.isLt r l]
  refine congrArg (fun w : BitVec 32 => w.getLsbD (31 - p)) ?_
  show tiles i arg7 arg11 _ _ _ _ X7 _ (r.val / 16) _ ^^^ 2147483648#32 = _
  rw [laneKey_at _ l (rowOf r.val b.val) (r.val / 16) (r.val / 8 % 2 * 256 + (31 - b.val) * 8 + r.val % 8) (by omega) (by unfold rowOf; omega)]

end Cert.Proof.Sel

end
-- ==== Proof.Heads.lean ====
/- The attention's steps, head by head and with the heads side by side. Untrusted. -/
module

public import proofs.«01_k».proof.Proof.Counted
public import proofs.«01_k».proof.Proof.Choice

@[expose] public section

set_option maxRecDepth 8192
set_option maxHeartbeats 400000

noncomputable section

namespace Cert.Proof.Att

open Cert.Reference Cert.Reference.Gen
open Idealize.ShloMosaic Idealize.ShloMosaic.TcCoe

variable {F : FTy → Type} [BitOps F]

/-! ## Shapes -/

/-- Lane `l` of head `h`. -/
def colOf (h : Fin 8) (l : Fin 128) : Fin 1024 := ⟨128 * h.val + l.val, by omega⟩

theorem colOf_surj (c : Fin 1024) : ∃ h l, c = colOf h l :=
  ⟨⟨c.val / 128, by omega⟩, ⟨c.val % 128, Nat.mod_lt _ (by decide)⟩, Fin.ext (by show c.val = 128 * (c.val / 128) + c.val % 128; omega)⟩

theorem slS (h : Fin 8) : S512x1024.Slices ![0, 128 * h.val] S512x128 := by revert h; decide

theorem slM (h : Fin 8) : S8x128.Slices ![h.val, 0] S1x128 := by revert h; decide

/-- Eight pieces of one shape side by side, at an index. -/
theorem concat8_apply {α : Type} {t s₁ : Shape} (a : Fin t.rank) (f : Fin 8 → (s₁.Idx → α))
    (h : Shape.Concatenates (([⟨s₁, f 0⟩, ⟨s₁, f 1⟩, ⟨s₁, f 2⟩, ⟨s₁, f 3⟩, ⟨s₁, f 4⟩, ⟨s₁, f 5⟩, ⟨s₁, f 6⟩, ⟨s₁, f 7⟩]
      : List ((s : Shape) × (s.Idx → α))).map (·.1)) t a)
    (hr : s₁.rank = t.rank) (K : ℕ) (hK : s₁.size (a.cast hr.symm) = K) (j : t.Idx) (n : Fin 8) (hn : (j a).val / K = n.val)
    (i : s₁.Idx) (hia : (i (a.cast hr.symm)).val = (j a).val % K) (hi : ∀ b : Fin s₁.rank, b.cast hr ≠ a → (i b).val = (j (b.cast hr)).val) :
    concatenate t a [⟨s₁, f 0⟩, ⟨s₁, f 1⟩, ⟨s₁, f 2⟩, ⟨s₁, f 3⟩, ⟨s₁, f 4⟩, ⟨s₁, f 5⟩, ⟨s₁, f 6⟩, ⟨s₁, f 7⟩] h j = f n i :=
  concatenate_ofFn_apply (α := α) a f h hr K hK j n hn i hia hi

/-- Eight row vectors side by side, eight in rows, and eight blocks of columns. -/
theorem concatRow {α : Type} (f : Fin 8 → (S1x128.Idx → α)) (H) (h : Fin 8) (l : Fin 128) :
    concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] H
      (ix2 0 (colOf h l)) = f h (ix2 0 l) := by
  refine concat8_apply (t := S1x1024) (s₁ := S1x128) 1 f H rfl 128 rfl _ h ?_ _ ?_ ?_
  · show (128 * h.val + l.val) / 128 = h.val; omega
  · show l.val = (128 * h.val + l.val) % 128; omega
  · intro b hb; fin_cases b
    · rfl
    · exact absurd rfl hb

theorem concatCol {α : Type} (f : Fin 8 → (S512x128.Idx → α)) (H) (r : Fin 512) (h : Fin 8) (l : Fin 128) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] H
      (ix2 r (colOf h l)) = f h (ix2 r l) := by
  refine concat8_apply (t := S512x1024) (s₁ := S512x128) 1 f H rfl 128 rfl _ h ?_ _ ?_ ?_
  · show (128 * h.val + l.val) / 128 = h.val; omega
  · show l.val = (128 * h.val + l.val) % 128; omega
  · intro b hb; fin_cases b
    · rfl
    · exact absurd rfl hb

theorem concatStack {α : Type} (f : Fin 8 → (S1x128.Idx → α)) (H) (h : Fin 8) (l : Fin 128) :
    concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] H
      (ix2 h l) = f h (ix2 0 l) := by
  refine concat8_apply (t := S8x128) (s₁ := S1x128) 0 f H rfl 1 rfl _ h ?_ _ ?_ ?_
  · show h.val / 1 = h.val; omega
  · show 0 = h.val % 1; omega
  · intro b hb; fin_cases b
    · exact absurd rfl hb
    · rfl

/-! ## One head -/

/-- A head's scores, the bias added. -/
def headS (h : Fin 8) (s : FVec F S512x1024 .f32) (bias : FVec F S512x128 .f32) : FVec F S512x128 .f32 :=
  addf (extractStridedSlice S512x128 ![0, 128 * h.val] s (slS h)) bias

/-- A head's running maximum before the tile. -/
def headOld (h : Fin 8) (m : FVec F S8x128 .f32) : FVec F S1x128 .f32 := extractStridedSlice S1x128 ![h.val, 0] m (slM h)

/-- A head's running maximum after it. -/
def headM (h : Fin 8) (m : FVec F S8x128 .f32) (s : FVec F S512x1024 .f32) (bias : FVec F S512x128 .f32) : FVec F S1x128 .f32 :=
  maximumf (headOld h m) (shapeCast S1x128 (multiReduction .maximumf [0] S128 (headS h s bias) 0xFF800000#32 reduces_S512x128_S128 (.inl rfl) rfl)
    shapeCasts_S128_S1x128)

/-- A head's weights. -/
def headP (h : Fin 8) (m : FVec F S8x128 .f32) (s : FVec F S512x1024 .f32) (bias : FVec F S512x128 .f32) : FVec F S512x128 .bf16 :=
  truncf .bf16 (exp2 (subf (headS h s bias) (broadcastTo S512x128 (headM h m s bias) broadcasts_S1x128_S512x128))) bitsLt_bf16_f32

/-- A head's factor for what was summed before. -/
def headA (h : Fin 8) (m : FVec F S8x128 .f32) (s : FVec F S512x1024 .f32) (bias : FVec F S512x128 .f32) : FVec F S1x128 .f32 :=
  exp2 (subf (headOld h m) (headM h m s bias))

/-- The heads' weights side by side. -/
def weights (m : FVec F S8x128 .f32) (s : FVec F S512x1024 .f32) (bias : FVec F S512x128 .f32) : FVec F S512x1024 .bf16 := fun y =>
  headP (⟨(y 1).val / 128, by have h : (y 1).val < 1024 := (y 1).isLt; omega⟩ : Fin 8) m s bias
    (ix2 (y 0 : Fin 512) (⟨(y 1).val % 128, Nat.mod_lt _ (by decide)⟩ : Fin 128))

theorem weights_at (m : FVec F S8x128 .f32) (s : FVec F S512x1024 .f32) (bias : FVec F S512x128 .f32) (r : Fin 512) (h : Fin 8) (l : Fin 128) :
    weights m s bias (ix2 r (colOf h l)) = headP h m s bias (ix2 r l) := by
  have q : ∀ (h' : Fin 8) (l' : Fin 128), h' = h → l' = l → headP h' m s bias (ix2 r l') = headP h m s bias (ix2 r l) := by rintro _ _ rfl rfl; rfl
  refine q _ _ (Fin.ext ?_) (Fin.ext ?_)
  · show (128 * h.val + l.val) / 128 = h.val; omega
  · show (128 * h.val + l.val) % 128 = l.val; omega

theorem one_le_eight : Shape.Concatenates [S1x128, S1x128, S1x128, S1x128, S1x128, S1x128, S1x128, S1x128] S8x128 0 := by decide

theorem one_side_eight : Shape.Concatenates [S1x128, S1x128, S1x128, S1x128, S1x128, S1x128, S1x128, S1x128] S1x1024 1 := by decide

/-- The heads' maxima after a tile, in rows. -/
def stackM (m : FVec F S8x128 .f32) (s : FVec F S512x1024 .f32) (bias : FVec F S512x128 .f32) : FVec F S8x128 .f32 :=
  concatenate S8x128 0 [⟨S1x128, headM 0 m s bias⟩, ⟨S1x128, headM 1 m s bias⟩, ⟨S1x128, headM 2 m s bias⟩, ⟨S1x128, headM 3 m s bias⟩,
    ⟨S1x128, headM 4 m s bias⟩, ⟨S1x128, headM 5 m s bias⟩, ⟨S1x128, headM 6 m s bias⟩, ⟨S1x128, headM 7 m s bias⟩] one_le_eight

/-- The heads' factors side by side. -/
def rowA (m : FVec F S8x128 .f32) (s : FVec F S512x1024 .f32) (bias : FVec F S512x128 .f32) : FVec F S1x1024 .f32 :=
  concatenate S1x1024 1 [⟨S1x128, headA 0 m s bias⟩, ⟨S1x128, headA 1 m s bias⟩, ⟨S1x128, headA 2 m s bias⟩, ⟨S1x128, headA 3 m s bias⟩,
    ⟨S1x128, headA 4 m s bias⟩, ⟨S1x128, headA 5 m s bias⟩, ⟨S1x128, headA 6 m s bias⟩, ⟨S1x128, headA 7 m s bias⟩] one_side_eight

/-- The sums after a tile. -/
def accNext (acc : FVec F S144x1024 .f32) (a : FVec F S1x1024 .f32) (p : FVec F S512x1024 .bf16) (vT : Vec F S1x144x512 .bf16) : FVec F S144x1024 .f32 :=
  addf (mulf acc (broadcastTo S144x1024 a broadcasts_S1x1024_S144x1024))
    (matmul dot_S144x512_S512x1024_S144x1024_1_0_0_1_n_n none (shapeCast S144x512 vT shapeCasts_S1x144x512_S144x512) p (constant S144x1024 .f32 0x00000000#32))

/-! ## The heads together -/

/-- The scores and the bias repeated. -/
def sideS (s : FVec F S512x1024 .f32) (bias : FVec F S512x128 .f32) : FVec F S512x1024 .f32 :=
  addf s (concatenate S512x1024 1 [⟨S512x128, bias⟩, ⟨S512x128, bias⟩, ⟨S512x128, bias⟩, ⟨S512x128, bias⟩, ⟨S512x128, bias⟩, ⟨S512x128, bias⟩, ⟨S512x128, bias⟩, ⟨S512x128, bias⟩]
    concatenates_S512x128_S512x128_S512x128_S512x128_S512x128_S512x128_S512x128_S512x128_S512x1024_d1)

/-- The running maxima after a tile. -/
def sideM (m : FVec F S1x1024 .f32) (s : FVec F S512x1024 .f32) (bias : FVec F S512x128 .f32) : FVec F S1x1024 .f32 :=
  maximumf m (shapeCast S1x1024 (multiReduction .maximumf [0] S1024 (sideS s bias) 0xFF800000#32 reduces_S512x1024_S1024 (.inl rfl) rfl) shapeCasts_S1024_S1x1024)

/-- The weights. -/
def sideP (m : FVec F S1x1024 .f32) (s : FVec F S512x1024 .f32) (bias : FVec F S512x128 .f32) : FVec F S512x1024 .bf16 :=
  truncf .bf16 (exp2 (subf (sideS s bias) (broadcastTo S512x1024 (sideM m s bias) broadcasts_S1x1024_S512x1024))) bitsLt_bf16_f32

/-- The factors for what was summed before. -/
def sideA (m : FVec F S1x1024 .f32) (s : FVec F S512x1024 .f32) (bias : FVec F S512x128 .f32) : FVec F S1x1024 .f32 := exp2 (subf m (sideM m s bias))

/-- The maxima in rows are the maxima side by side. -/
def Same (m8 : FVec F S8x128 .f32) (m : FVec F S1x1024 .f32) : Prop := ∀ (h : Fin 8) (l : Fin 128), m8 (ix2 h l) = m (ix2 0 (colOf h l))

theorem headS_at (h : Fin 8) (s : FVec F S512x1024 .f32) (bias : FVec F S512x128 .f32) (r : Fin 512) (l : Fin 128) :
    headS h s bias (ix2 r l) = sideS s bias (ix2 r (colOf h l)) := by
  have e1 : extractStridedSlice S512x128 ![0, 128 * h.val] s (slS h) (ix2 r l) = s (ix2 r (colOf h l)) := by
    refine extractStridedSlice_apply _ s (slS h) (ix2 r l) (ix2 r (colOf h l)) fun a => ?_
    fin_cases a
    · show r.val = 0 + r.val; omega
    · rfl
  exact congrArg₂ FloatOps.addf e1 (concatCol (fun _ => bias) _ r h l).symm

theorem headOld_at (h : Fin 8) (m8 : FVec F S8x128 .f32) (l : Fin 128) : headOld h m8 (ix2 0 l) = m8 (ix2 h l) := by
  refine extractStridedSlice_apply _ m8 (slM h) (ix2 0 l) (ix2 h l) fun a => ?_
  fin_cases a
  · show h.val = h.val + 0; omega
  · show l.val = 0 + l.val; omega

theorem reduce_col {n : ℕ} (x : FVec F ⟨2, ![512, n]⟩ .f32) (H : (⟨2, ![512, n]⟩ : Shape).Reduces [0] ⟨1, ![n]⟩) (c : Fin n) :
    multiReduction .maximumf [0] ⟨1, ![n]⟩ x 0xFF800000#32 H (.inl rfl) rfl (ix1 c)
      = (List.finRange 512).foldl (fun acc r => FloatOps.maximumf acc (x (ix2 r c))) (FloatOps.ofBits .f32 0xFF800000#32) := by
  refine (congrFun (multiReduction_maximumf_eq_reduceFold x 0xFF800000#32 H (.inl rfl) rfl) (ix1 c)).trans ?_
  refine (reduceFold_rows H _ _ x (ix1 c)).trans ?_
  have e : ∀ r : Fin 512, (Shape.pair r (H.col (ix1 c)) : (⟨2, ![512, n]⟩ : Shape).Idx) = ix2 r c := by
    intro r; funext a; fin_cases a <;> rfl
  exact congrArg (fun g => (List.finRange 512).foldl g (FloatOps.ofBits .f32 0xFF800000#32)) (funext fun acc => funext fun r => by rw [e r])

theorem headM_at (h : Fin 8) {m8 : FVec F S8x128 .f32} {m : FVec F S1x1024 .f32} (hm : Same m8 m) (s : FVec F S512x1024 .f32) (bias : FVec F S512x128 .f32) (l : Fin 128) :
    headM h m8 s bias (ix2 0 l) = sideM m s bias (ix2 0 (colOf h l)) := by
  have e1 : shapeCast S1x128 (multiReduction .maximumf [0] S128 (headS h s bias) 0xFF800000#32 reduces_S512x128_S128 (.inl rfl) rfl) shapeCasts_S128_S1x128 (ix2 0 l)
      = shapeCast S1x1024 (multiReduction .maximumf [0] S1024 (sideS s bias) 0xFF800000#32 reduces_S512x1024_S1024 (.inl rfl) rfl) shapeCasts_S1024_S1x1024 (ix2 0 (colOf h l)) := by
    rw [shapeCast_apply _ _ (ix2 0 l) (ix1 l) (by rw [Shape.rowMajor_val_one, Shape.rowMajor_val_two]; show l.val = 0 * 128 + l.val; omega),
      shapeCast_apply _ _ (ix2 0 (colOf h l)) (ix1 (colOf h l)) (by rw [Shape.rowMajor_val_one, Shape.rowMajor_val_two]; show (colOf h l).val = 0 * 1024 + (colOf h l).val; omega)]
    refine (reduce_col (headS h s bias) reduces_S512x128_S128 l).trans (Eq.trans ?_ (reduce_col (sideS s bias) reduces_S512x1024_S1024 (colOf h l)).symm)
    exact congrArg (fun g => (List.finRange 512).foldl g (FloatOps.ofBits .f32 0xFF800000#32)) (funext fun acc => funext fun r => by rw [headS_at])
  exact congrArg₂ FloatOps.maximumf ((headOld_at h m8 l).trans (hm h l)) e1

theorem headP_at (h : Fin 8) {m8 : FVec F S8x128 .f32} {m : FVec F S1x1024 .f32} (hm : Same m8 m) (s : FVec F S512x1024 .f32) (bias : FVec F S512x128 .f32) (r : Fin 512) (l : Fin 128) :
    headP h m8 s bias (ix2 r l) = sideP m s bias (ix2 r (colOf h l)) := by
  have e1 : broadcastTo S512x128 (headM h m8 s bias) broadcasts_S1x128_S512x128 (ix2 r l) = broadcastTo S512x1024 (sideM m s bias) broadcasts_S1x1024_S512x1024 (ix2 r (colOf h l)) := by
    have a1 : broadcastTo S512x128 (headM h m8 s bias) broadcasts_S1x128_S512x128 (ix2 r l) = headM h m8 s bias (ix2 0 l) := by
      refine broadcastTo_apply _ _ _ _ fun a => ?_
      fin_cases a <;> rfl
    have a2 : broadcastTo S512x1024 (sideM m s bias) broadcasts_S1x1024_S512x1024 (ix2 r (colOf h l)) = sideM m s bias (ix2 0 (colOf h l)) := by
      refine broadcastTo_apply _ _ _ _ fun a => ?_
      fin_cases a <;> rfl
    rw [a1, a2, headM_at h hm]
  have e2 := congrArg₂ FloatOps.subf (headS_at h s bias r l) e1
  exact congrArg (fun x : F .f32 => FloatOps.truncf .bf16 bitsLt_bf16_f32 (FloatOps.exp2 x)) e2

theorem weights_eq {m8 : FVec F S8x128 .f32} {m : FVec F S1x1024 .f32} (hm : Same m8 m) (s : FVec F S512x1024 .f32) (bias : FVec F S512x128 .f32) :
    weights m8 s bias = sideP m s bias := by
  funext y
  obtain ⟨r, c, rfl⟩ : ∃ (r : Fin 512) (c : Fin 1024), y = ix2 r c := ⟨y 0, y 1, eq_ix2 y⟩
  obtain ⟨h, l, rfl⟩ := colOf_surj c
  rw [weights_at, headP_at h hm]

theorem stackM_same {m8 : FVec F S8x128 .f32} {m : FVec F S1x1024 .f32} (hm : Same m8 m) (s : FVec F S512x1024 .f32) (bias : FVec F S512x128 .f32) :
    Same (stackM m8 s bias) (sideM m s bias) := fun h l =>
  (concatStack (fun h => headM h m8 s bias) one_le_eight h l).trans (headM_at h hm s bias l)

theorem rowA_eq {m8 : FVec F S8x128 .f32} {m : FVec F S1x1024 .f32} (hm : Same m8 m) (s : FVec F S512x1024 .f32) (bias : FVec F S512x128 .f32) :
    rowA m8 s bias = sideA m s bias := by
  funext y
  obtain ⟨z, c, rfl⟩ : ∃ (z : Fin 1) (c : Fin 1024), y = ix2 z c := ⟨y 0, y 1, eq_ix2 y⟩
  obtain rfl : z = 0 := Subsingleton.elim _ _
  obtain ⟨h, l, rfl⟩ := colOf_surj c
  refine (concatRow (fun h => headA h m8 s bias) one_side_eight h l).trans ?_
  exact congrArg FloatOps.exp2 (congrArg₂ FloatOps.subf ((headOld_at h m8 l).trans (hm h l)) (headM_at h hm s bias l))

end Cert.Proof.Att

end
-- ==== Proof.Steps.lean ====
/- The attention's tiles one after another: the heads in rows, in the two cases of ties, and side by side. Untrusted. -/
module

public import proofs.«01_k».proof.Proof.Heads

@[expose] public section

set_option maxRecDepth 8192
set_option maxHeartbeats 400000

noncomputable section

namespace Cert.Proof.Att

open Cert.Reference Cert.Reference.Gen
open Idealize.ShloMosaic Idealize.ShloMosaic.TcCoe

variable {F : FTy → Type} [BitOps F]

/-- A tile's scores. -/
def scores (kT : Vec F S512x128 .bf16) (q2 : FVec F S128x1024 .bf16) : FVec F S512x1024 .f32 :=
  matmul dot_S512x128_S128x1024_S512x1024_1_0_0_1_n_n none kT q2 (constant S512x1024 .f32 0x00000000#32)

/-- What is added to a tile's scores: nothing at the keys taken. -/
def plainBias (thr : IVec S1x128 32) (tied : BitVec 1) (quota : FVec F S1x128 .f32) (earlier : FVec F S512x512 .bf16) (before : FVec F S1x128 .f32)
    (key : Vec F S512x128 .i32) : FVec F S512x128 .f32 :=
  select (andi (cmpi .sgt key (broadcast S512x128 2402684213#32))
      (ori (cmpi .sgt key (broadcastTo S512x128 thr broadcasts_S1x128_S512x128))
        (andi (cmpi .eq key (broadcastTo S512x128 thr broadcasts_S1x128_S512x128))
          (ori (broadcast S512x128 (Scalar.xori tied 1#1))
            (cmpf .olt (addf (broadcastTo S512x128 before broadcasts_S1x128_S512x128)
                (matmul dot_S512x512_S512x128_S512x128_1_0_0_1_n_n none earlier (truncf .bf16 (k0_pay1 thr key) bitsLt_bf16_f32) (constant S512x128 .f32 0x00000000#32)))
              (broadcastTo S512x128 quota broadcasts_S1x128_S512x128))))))
    (broadcast S512x128 (Scalar.ofBits .f32 0x00000000#32)) (broadcast S512x128 (Scalar.ofBits .f32 0xF149F2CA#32))

/-- The state before tile `n`: the running maxima, the sums, and the equal keys counted. -/
def plainAt (thr : IVec S1x128 32) (tied : BitVec 1) (quota : FVec F S1x128 .f32) (q2 : FVec F S128x1024 .bf16)
    (keyT : ℕ → Vec F S512x128 .i32) (kT : ℕ → Vec F S512x128 .bf16) (vT : ℕ → Vec F S1x144x512 .bf16) :
    ℕ → FVec F S1x1024 .f32 × FVec F S144x1024 .f32 × FVec F S1x128 .f32
  | 0 => (k0_pay64, k0_pay65, k0_pay66)
  | n + 1 =>
    (sideM (plainAt thr tied quota q2 keyT kT vT n).1 (scores (kT n) q2) (plainBias thr tied quota k0_pay62 (plainAt thr tied quota q2 keyT kT vT n).2.2 (keyT n)),
      accNext (plainAt thr tied quota q2 keyT kT vT n).2.1
        (sideA (plainAt thr tied quota q2 keyT kT vT n).1 (scores (kT n) q2) (plainBias thr tied quota k0_pay62 (plainAt thr tied quota q2 keyT kT vT n).2.2 (keyT n)))
        (sideP (plainAt thr tied quota q2 keyT kT vT n).1 (scores (kT n) q2) (plainBias thr tied quota k0_pay62 (plainAt thr tied quota q2 keyT kT vT n).2.2 (keyT n)))
        (vT n),
      k0_pay68 (plainAt thr tied quota q2 keyT kT vT n).2.2 (k0_pay1 thr (keyT n)))

/-- The heads in rows, where equal keys are counted. -/
def tiedAt (thr : IVec S1x128 32) (quota : FVec F S1x128 .f32) (q2 : FVec F S128x1024 .bf16)
    (keyT : ℕ → Vec F S512x128 .i32) (kT : ℕ → Vec F S512x128 .bf16) (vT : ℕ → Vec F S1x144x512 .bf16) :
    ℕ → FVec F S8x128 .f32 × FVec F S144x1024 .f32 × FVec F S1x128 .f32
  | 0 => (Cert.Kernel.Gen.k0_pay1349, k0_pay65, Cert.Kernel.Gen.k0_pay1350)
  | n + 1 =>
    (stackM (tiedAt thr quota q2 keyT kT vT n).1 (scores (kT n) q2)
        (Cert.Kernel.Gen.k0_pay1266 quota thr Cert.Kernel.Gen.k0_pay1348 (tiedAt thr quota q2 keyT kT vT n).2.2 (keyT n)),
      accNext (tiedAt thr quota q2 keyT kT vT n).2.1
        (rowA (tiedAt thr quota q2 keyT kT vT n).1 (scores (kT n) q2)
          (Cert.Kernel.Gen.k0_pay1266 quota thr Cert.Kernel.Gen.k0_pay1348 (tiedAt thr quota q2 keyT kT vT n).2.2 (keyT n)))
        (weights (tiedAt thr quota q2 keyT kT vT n).1 (scores (kT n) q2)
          (Cert.Kernel.Gen.k0_pay1266 quota thr Cert.Kernel.Gen.k0_pay1348 (tiedAt thr quota q2 keyT kT vT n).2.2 (keyT n)))
        (vT n),
      Cert.Kernel.Gen.k0_pay1265 thr (tiedAt thr quota q2 keyT kT vT n).2.2 (keyT n))

/-- The heads in rows, where all keys at the threshold are taken. -/
def freeAt (thr : IVec S1x128 32) (q2 : FVec F S128x1024 .bf16)
    (keyT : ℕ → Vec F S512x128 .i32) (kT : ℕ → Vec F S512x128 .bf16) (vT : ℕ → Vec F S1x144x512 .bf16) :
    ℕ → FVec F S8x128 .f32 × FVec F S144x1024 .f32
  | 0 => (Cert.Kernel.Gen.k0_pay1349, k0_pay65)
  | n + 1 =>
    (stackM (freeAt thr q2 keyT kT vT n).1 (scores (kT n) q2) (Cert.Kernel.Gen.k0_pay1365 thr (keyT n)),
      accNext (freeAt thr q2 keyT kT vT n).2
        (rowA (freeAt thr q2 keyT kT vT n).1 (scores (kT n) q2) (Cert.Kernel.Gen.k0_pay1365 thr (keyT n)))
        (weights (freeAt thr q2 keyT kT vT n).1 (scores (kT n) q2) (Cert.Kernel.Gen.k0_pay1365 thr (keyT n)))
        (vT n))

theorem same_start : Same (F := F) Cert.Kernel.Gen.k0_pay1349 k0_pay64 := fun _ _ => rfl

theorem tied_bias (thr : IVec S1x128 32) (quota : FVec F S1x128 .f32) (before : FVec F S1x128 .f32) (key : Vec F S512x128 .i32) :
    Cert.Kernel.Gen.k0_pay1266 quota thr Cert.Kernel.Gen.k0_pay1348 before key = plainBias thr 1#1 quota k0_pay62 before key := by
  have h : ∀ (a b e f : BitVec 1), IntOp.andi a (IntOp.ori b (IntOp.andi e f)) = IntOp.andi a (IntOp.ori b (IntOp.andi e (IntOp.ori (Scalar.xori 1#1 1#1) f))) := by decide
  funext y
  exact congrArg (fun w => Scalar.select w (Scalar.ofBits (F := F) .f32 0x00000000#32) (Scalar.ofBits .f32 0xF149F2CA#32)) (h _ _ _ _)

theorem sge_or (x y : BitVec 32) : IntOp.cmpi .sge x y = IntOp.ori (IntOp.cmpi .sgt x y) (IntOp.cmpi .eq x y) := by
  show BitVec.ofBool (BitVec.sle y x) = BitVec.ofBool (BitVec.slt y x) ||| BitVec.ofBool (x == y)
  have h : BitVec.sle y x = (BitVec.slt y x || x == y) := by
    rw [Bool.eq_iff_iff]
    simp only [BitVec.sle, BitVec.slt, decide_eq_true_eq, Bool.or_eq_true, beq_iff_eq]
    constructor
    · intro h
      rcases lt_or_eq_of_le h with h | h
      · exact Or.inl h
      · exact Or.inr (BitVec.eq_of_toInt_eq h.symm)
    · rintro (h | rfl)
      · exact le_of_lt h
      · exact le_refl _
  rw [h]
  generalize BitVec.slt y x = p
  generalize (x == y) = q
  revert p q; decide

theorem free_bias (thr : IVec S1x128 32) (quota : FVec F S1x128 .f32) (before : FVec F S1x128 .f32) (key : Vec F S512x128 .i32) :
    Cert.Kernel.Gen.k0_pay1365 thr key = plainBias thr 0#1 quota k0_pay62 before key := by
  have h : ∀ (a b e f : BitVec 1), IntOp.andi a (IntOp.ori b e) = IntOp.andi a (IntOp.ori b (IntOp.andi e (IntOp.ori (Scalar.xori 0#1 1#1) f))) := by decide
  funext y
  refine (congrArg (fun w => Scalar.select (IntOp.andi (IntOp.cmpi .sgt (key y) 2402684213#32) w) (Scalar.ofBits (F := F) .f32 0x00000000#32) (Scalar.ofBits .f32 0xF149F2CA#32))
    (sge_or (key y) (broadcastTo S512x128 thr broadcasts_S1x128_S512x128 y))).trans ?_
  exact congrArg (fun w => Scalar.select w (Scalar.ofBits (F := F) .f32 0x00000000#32) (Scalar.ofBits .f32 0xF149F2CA#32)) (h _ _ _ _)

theorem tied_eq (thr : IVec S1x128 32) (quota : FVec F S1x128 .f32) (q2 : FVec F S128x1024 .bf16)
    (keyT : ℕ → Vec F S512x128 .i32) (kT : ℕ → Vec F S512x128 .bf16) (vT : ℕ → Vec F S1x144x512 .bf16) (n : ℕ) :
    Same (tiedAt thr quota q2 keyT kT vT n).1 (plainAt thr 1#1 quota q2 keyT kT vT n).1
      ∧ (tiedAt thr quota q2 keyT kT vT n).2.1 = (plainAt thr 1#1 quota q2 keyT kT vT n).2.1
      ∧ (tiedAt thr quota q2 keyT kT vT n).2.2 = (plainAt thr 1#1 quota q2 keyT kT vT n).2.2 := by
  induction n with
  | zero => exact ⟨same_start, rfl, rfl⟩
  | succ n ih =>
    obtain ⟨h1, h2, h3⟩ := ih
    have hb := (tied_bias thr quota (tiedAt thr quota q2 keyT kT vT n).2.2 (keyT n)).trans
      (congrArg (fun b => plainBias thr 1#1 quota k0_pay62 b (keyT n)) h3)
    refine ⟨?_, ?_, ?_⟩
    · rw [tiedAt, plainAt]
      dsimp only
      rw [hb]
      exact stackM_same h1 _ _
    · rw [tiedAt, plainAt]
      dsimp only
      rw [hb, h2, rowA_eq h1, weights_eq h1]
    · rw [tiedAt, plainAt]
      dsimp only
      rw [h3]
      rfl

theorem free_eq (thr : IVec S1x128 32) (quota : FVec F S1x128 .f32) (q2 : FVec F S128x1024 .bf16)
    (keyT : ℕ → Vec F S512x128 .i32) (kT : ℕ → Vec F S512x128 .bf16) (vT : ℕ → Vec F S1x144x512 .bf16) (n : ℕ) :
    Same (freeAt thr q2 keyT kT vT n).1 (plainAt thr 0#1 quota q2 keyT kT vT n).1
      ∧ (freeAt thr q2 keyT kT vT n).2 = (plainAt thr 0#1 quota q2 keyT kT vT n).2.1 := by
  induction n with
  | zero => exact ⟨same_start, rfl⟩
  | succ n ih =>
    obtain ⟨h1, h2⟩ := ih
    have hb := free_bias thr quota (plainAt thr 0#1 quota q2 keyT kT vT n).2.2 (keyT n)
    refine ⟨?_, ?_⟩
    · rw [freeAt, plainAt]
      dsimp only
      rw [hb]
      exact stackM_same h1 _ _
    · rw [freeAt, plainAt]
      dsimp only
      rw [hb, h2, rowA_eq h1, weights_eq h1]

/-! ## What the reference's payloads are -/

theorem pay3_eq (thr : IVec S1x128 32) (tied : BitVec 1) (quota : FVec F S1x128 .f32) (earlier : FVec F S512x512 .bf16) (q2 : FVec F S128x1024 .bf16)
    (m : FVec F S1x1024 .f32) (before : FVec F S1x128 .f32) (key : Vec F S512x128 .i32) (kT : Vec F S512x128 .bf16) :
    k0_pay3 thr tied quota earlier q2 m before key kT = sideM m (scores kT q2) (plainBias thr tied quota earlier before key) := rfl

theorem pay67_eq (thr : IVec S1x128 32) (tied : BitVec 1) (quota : FVec F S1x128 .f32) (earlier : FVec F S512x512 .bf16) (q2 : FVec F S128x1024 .bf16)
    (m : FVec F S1x1024 .f32) (acc : FVec F S144x1024 .f32) (before : FVec F S1x128 .f32) (key : Vec F S512x128 .i32) (kT : Vec F S512x128 .bf16) (vT : Vec F S1x144x512 .bf16) :
    k0_pay67 acc (k0_pay4 thr tied quota earlier q2 m before key kT) (k0_pay5 thr tied quota earlier q2 m before key kT) vT
      = accNext acc (sideA m (scores kT q2) (plainBias thr tied quota earlier before key)) (sideP m (scores kT q2) (plainBias thr tied quota earlier before key)) vT := rfl

end Cert.Proof.Att

end
-- ==== Proof.Sheet.lean ====
/- A block of the attention as a function of what it reads: the keys of the tiles, the threshold among them, the count still
   wanted, whether equal keys are counted, and the output's rows. Untrusted. -/
module

public import proofs.«01_k».proof.Proof.Steps
public import proofs.«01_k».proof.Proof.Counted
public import proofs.«01_k».proof.Proof.Keys

@[expose] public section

set_option maxRecDepth 8192
set_option maxHeartbeats 400000

noncomputable section

namespace Cert.Proof.Att

open Cert.Reference Cert.Reference.Gen
open Idealize.ShloMosaic Idealize.ShloMosaic.TcCoe

/-- Eight tiles of keys, one under another. -/
def stacked (T : Fin 8 → IVec S512x128 32) : IVec S4096x128 32 :=
  concatenate S4096x128 0 [⟨S512x128, T 0⟩, ⟨S512x128, T 1⟩, ⟨S512x128, T 2⟩, ⟨S512x128, T 3⟩, ⟨S512x128, T 4⟩, ⟨S512x128, T 5⟩, ⟨S512x128, T 6⟩, ⟨S512x128, T 7⟩] concatenates_S512x128_S512x128_S512x128_S512x128_S512x128_S512x128_S512x128_S512x128_S4096x128_d0

theorem stacked_apply (T : Fin 8 → IVec S512x128 32) (j : Fin 8) (s : Fin 512) (l : Fin 128) (y : S4096x128.Idx)
    (h0 : (y 0).val = 512 * j.val + s.val) (h1 : (y 1).val = l.val) : stacked T y = T j (ix2 s l) := by
  refine concat8_apply (t := S4096x128) (s₁ := S512x128) 0 T _ rfl 512 rfl y j ?_ (ix2 s l) ?_ ?_
  · rw [h0]; have := s.isLt; omega
  · show s.val = (y 0).val % 512
    rw [h0]; have := s.isLt; omega
  · intro b hb; fin_cases b
    · exact absurd rfl hb
    · exact h1.symm

variable {F : FTy → Type} [BitOps F]

/-- The scoring queries, head beside head. -/
def scoring (iq : Fin 8 → Vec F S1x32x128 .bf16) : FVec F S32x1024 .bf16 :=
  concatenate S32x1024 1 [⟨S32x128, shapeCast S32x128 (iq 0) shapeCasts_S1x32x128_S32x128⟩, ⟨S32x128, shapeCast S32x128 (iq 1) shapeCasts_S1x32x128_S32x128⟩, ⟨S32x128, shapeCast S32x128 (iq 2) shapeCasts_S1x32x128_S32x128⟩, ⟨S32x128, shapeCast S32x128 (iq 3) shapeCasts_S1x32x128_S32x128⟩, ⟨S32x128, shapeCast S32x128 (iq 4) shapeCasts_S1x32x128_S32x128⟩, ⟨S32x128, shapeCast S32x128 (iq 5) shapeCasts_S1x32x128_S32x128⟩, ⟨S32x128, shapeCast S32x128 (iq 6) shapeCasts_S1x32x128_S32x128⟩, ⟨S32x128, shapeCast S32x128 (iq 7) shapeCasts_S1x32x128_S32x128⟩] concatenates_S32x128_S32x128_S32x128_S32x128_S32x128_S32x128_S32x128_S32x128_S32x1024_d1

/-- The keys of tile `j`. -/
def tileKeys (blk : BitVec 32) (sm : Vec F S128x128 .f32) (iq : Fin 8 → Vec F S1x32x128 .bf16) (ikT : ℕ → Vec F S512x32 .bf16) (j : ℕ) : IVec S512x128 32 :=
  Sel.keyTile (k0_pay11 sm) (k0_pay19 blk) (iota .tc S512x1 32 [0] iota_S512x1_d0_w32) (BitVec.ofNat 32 (512 * j)) (ikT j) (scoring iq)

/-- The keys of all tiles. -/
def allKeys (blk : BitVec 32) (sm : Vec F S128x128 .f32) (iq : Fin 8 → Vec F S1x32x128 .bf16) (ikT : ℕ → Vec F S512x32 .bf16) : IVec S4096x128 32 :=
  stacked fun j => tileKeys blk sm iq ikT j.val

/-- The attention's queries, as one matrix. -/
def queries (aq : Fin 8 → Vec F S1x64x128 .bf16) : FVec F S128x1024 .bf16 :=
  k0_pay63 (Scalar.ofBits .bf16 0x0000#16) (aq 0) (aq 1) (aq 2) (aq 3) (aq 4) (aq 5) (aq 6) (aq 7)

/-- The threshold, -/
def cut (w : BitVec 32) (key : IVec S4096x128 32) : IVec S1x128 32 := k0_pay58 key (k0_pay56 w) (Plain.atLeast w key)

/-- how many keys equal to it are taken, -/
def quota (w : BitVec 32) (key : IVec S4096x128 32) : FVec F S1x128 .f32 := k0_pay61 key (k0_pay56 w) (Plain.atLeast w key)

/-- and whether some lane has more of them than that. -/
def tied (w : BitVec 32) (key : IVec S4096x128 32) : BitVec 1 :=
  Scalar.cmpf (F := F) .ogt (k0_pay60 key (k0_pay56 w) (Plain.atLeast w key)) (Scalar.ofBits .f32 0x3F000000#32)

/-- The output's rows. -/
def sheet (w : BitVec 32) (n : ℕ) (blk : BitVec 32) (sm : Vec F S128x128 .f32) (iq : Fin 8 → Vec F S1x32x128 .bf16) (aq : Fin 8 → Vec F S1x64x128 .bf16)
    (ikT : ℕ → Vec F S512x32 .bf16) (kT : ℕ → Vec F S512x128 .bf16) (vT : ℕ → Vec F S1x144x512 .bf16) : FVec F S128x512 .bf16 :=
  k0_pay71 (plainAt (cut w (allKeys blk sm iq ikT)) (tied (F := F) w (allKeys blk sm iq ikT)) (quota w (allKeys blk sm iq ikT)) (queries aq)
    (fun j => tileKeys blk sm iq ikT j) kT vT n).2.1

/-- The state depends on the tiles before it alone. -/
theorem plainAt_congr (thr : IVec S1x128 32) (td : BitVec 1) (qt : FVec F S1x128 .f32) (q2 : FVec F S128x1024 .bf16)
    (keyT keyT' : ℕ → Vec F S512x128 .i32) (kT kT' : ℕ → Vec F S512x128 .bf16) (vT vT' : ℕ → Vec F S1x144x512 .bf16) (n : ℕ)
    (h : ∀ j < n, keyT j = keyT' j ∧ kT j = kT' j ∧ vT j = vT' j) :
    plainAt thr td qt q2 keyT kT vT n = plainAt thr td qt q2 keyT' kT' vT' n := by
  induction n with
  | zero => rfl
  | succ n ih =>
    have e := ih fun j hj => h j (Nat.lt_succ_of_lt hj)
    obtain ⟨h1, h2, h3⟩ := h n (Nat.lt_succ_self n)
    rw [plainAt, plainAt, e, h1, h2, h3]

/-! ## The blocks' parts of the arrays -/

/-- Head `h` of the scoring queries of block `t`. -/
def iqAt (IQ : S256x256x128.Idx → Elt F .bf16) (t : ℕ) (h : Fin 8) : Vec F S1x32x128 .bf16 :=
  fun x => IQ (ix3 (Fin.ofNat 256 t) (Fin.ofNat 256 (32 * h.val + (x 1).val)) (x 2))

/-- Head `h` of the attention's queries of block `t`. -/
def aqAt (AQ : S256x512x128.Idx → Elt F .bf16) (t : ℕ) (h : Fin 8) : Vec F S1x64x128 .bf16 :=
  fun x => AQ (ix3 (Fin.ofNat 256 t) (Fin.ofNat 512 (64 * h.val + (x 1).val)) (x 2))

/-- The rows of block `t` that hold the heads' weights. -/
def smAt (SM : S32768x128.Idx → Elt F .f32) (t : ℕ) : Vec F S128x128 .f32 :=
  fun x => SM (ix2 (Fin.ofNat 32768 (128 * t + (x 0).val)) (x 1))

/-- Tile `j` of sequence `b`: the keys, -/
def kAt (K : S32768x128.Idx → Elt F .bf16) (b j : ℕ) : Vec F S512x128 .bf16 :=
  fun x => K (ix2 (Fin.ofNat 32768 (4096 * b + 512 * j + (x 0).val)) (x 1))

/-- the scoring keys, -/
def ikAt (IK : S32768x32.Idx → Elt F .bf16) (b j : ℕ) : Vec F S512x32 .bf16 :=
  fun x => IK (ix2 (Fin.ofNat 32768 (4096 * b + 512 * j + (x 0).val)) (x 1))

/-- and the values. -/
def vAt (V : S64x144x512.Idx → Elt F .bf16) (b j : ℕ) : Vec F S1x144x512 .bf16 :=
  fun x => V (ix3 (Fin.ofNat 64 (8 * b + j)) (x 1) (x 2))

/-- How many tiles the queries of block `t` see. -/
def seen (t : ℕ) : ℕ := (t % 32 * 128 + 639) / 512

/-- The output's rows of block `t`. -/
def rowsOf (AQ : S256x512x128.Idx → Elt F .bf16) (IQ : S256x256x128.Idx → Elt F .bf16) (SM : S32768x128.Idx → Elt F .f32) (K : S32768x128.Idx → Elt F .bf16)
    (V : S64x144x512.Idx → Elt F .bf16) (IK : S32768x32.Idx → Elt F .bf16) (t : ℕ) : FVec F S128x512 .bf16 :=
  sheet (BitVec.ofNat 32 (seen t)) (seen t) (BitVec.ofNat 32 (t % 32)) (smAt SM t) (iqAt IQ t) (aqAt AQ t) (ikAt IK (t / 32)) (kAt K (t / 32)) (vAt V (t / 32))

/-- The whole output. -/
def attended (AQ : S256x512x128.Idx → Elt F .bf16) (IQ : S256x256x128.Idx → Elt F .bf16) (SM : S32768x128.Idx → Elt F .f32) (K : S32768x128.Idx → Elt F .bf16)
    (V : S64x144x512.Idx → Elt F .bf16) (IK : S32768x32.Idx → Elt F .bf16) : S32768x512.Idx → Elt F .bf16 :=
  fun y => rowsOf AQ IQ SM K V IK ((y 0).val / 128) (ix2 (⟨(y 0).val % 128, Nat.mod_lt _ (by decide)⟩ : Fin 128) (y 1 : Fin 512))

/-- A load through a rectangle, index by index. -/
theorem load_at {sig : RefSig} {κ : Kind} {sp : Space} {s : Shape} {e : EltTy} (v : View sig κ sp s e) (X : v.ty.Contents (Elt F)) (off size : Fin s.rank → ℕ)
    (inb : ∀ a, off a + size a ≤ s.size a) (off' : Fin s.rank → ℕ) (ho : off = off') (G : (Rect.unit (s := s) off size inb).shape.Idx → Elt F e)
    (h : ∀ x, ∃ y : s.Idx, (∀ a, off' a + 1 * (x a).val = (y a).val) ∧ v.read (Elt F) X y = G x) :
    View.readAt (Elt F) v (Rect.unit (s := s) off size inb).toLoadRect X = G :=
  funext fun x => by
    subst ho
    obtain ⟨y, h1, h2⟩ := h x
    exact (congrArg (v.read (Elt F) X) (funext fun a => Fin.ext (h1 a))).trans h2

/-- Eight values by number. -/
def pick {α : Type} (a0 a1 a2 a3 a4 a5 a6 a7 : α) : Fin 8 → α
  | 0 => a0 | 1 => a1 | 2 => a2 | 3 => a3 | 4 => a4 | 5 => a5 | 6 => a6 | 7 => a7

/-- The keys of all tiles depend on the eight tiles alone. -/
theorem allKeys_congr (blk : BitVec 32) (sm : Vec F S128x128 .f32) (iq : Fin 8 → Vec F S1x32x128 .bf16) (ikT ikT' : ℕ → Vec F S512x32 .bf16)
    (h : ∀ j : Fin 8, ikT j.val = ikT' j.val) : allKeys blk sm iq ikT = allKeys blk sm iq ikT' := by
  unfold allKeys
  refine congrArg stacked (funext fun j => ?_)
  unfold tileKeys
  rw [h j]

end Cert.Proof.Att

end
-- ==== Proof.Attend.lean ====
/- The attention's two loops, from their trips. Untrusted. -/
module

public import proofs.«01_k».proof.Proof.Steps
public import Mathlib.Tactic.IntervalCases

@[expose] public section

set_option maxRecDepth 8192
set_option maxHeartbeats 400000

noncomputable section

namespace Cert.Proof.Sel

open Cert.Kernel Cert.Kernel.Gen
open Idealize.ShloMosaic Idealize.ShloMosaic.TcCoe
open Cert.Proof.Att

variable {F : FTy → Type} [BitOps F]

/-- The heads side by side. -/
def spread (f : Fin 8 → Vec F S512x128 .bf16) : Vec F S512x1024 .bf16 :=
  fun y => f (⟨(y 1).val / 128, by have h : (y 1).val < 1024 := (y 1).isLt; omega⟩ : Fin 8)
        (ix2 (y 0 : Fin 512) (⟨(y 1).val % 128, Nat.mod_lt _ (by decide)⟩ : Fin 128))

/-- The heads' weights read back, all of them. -/
theorem weightsRead (v : View sig .tc .vmem S512x1024 .bf16) (f : Fin 8 → Vec F S512x128 .bf16) :
    v.readCov ([⟨Rect.unit (s := S512x1024) ![0, 896] S512x128.size Gen.inb_S512x1024_S512x128_0_896, shapeCast S512x128 (f 7) shapeCasts_S512x128_S512x128⟩,
      ⟨Rect.unit (s := S512x1024) ![0, 768] S512x128.size Gen.inb_S512x1024_S512x128_0_768, shapeCast S512x128 (f 6) shapeCasts_S512x128_S512x128⟩,
      ⟨Rect.unit (s := S512x1024) ![0, 640] S512x128.size Gen.inb_S512x1024_S512x128_0_640, shapeCast S512x128 (f 5) shapeCasts_S512x128_S512x128⟩,
      ⟨Rect.unit (s := S512x1024) ![0, 512] S512x128.size Gen.inb_S512x1024_S512x128_0_512, shapeCast S512x128 (f 4) shapeCasts_S512x128_S512x128⟩,
      ⟨Rect.unit (s := S512x1024) ![0, 384] S512x128.size Gen.inb_S512x1024_S512x128_0_384, shapeCast S512x128 (f 3) shapeCasts_S512x128_S512x128⟩,
      ⟨Rect.unit (s := S512x1024) ![0, 256] S512x128.size Gen.inb_S512x1024_S512x128_0_256, shapeCast S512x128 (f 2) shapeCasts_S512x128_S512x128⟩,
      ⟨Rect.unit (s := S512x1024) ![0, 128] S512x128.size Gen.inb_S512x1024_S512x128_0_128, shapeCast S512x128 (f 1) shapeCasts_S512x128_S512x128⟩,
      ⟨Rect.unit (s := S512x1024) ![0, 0] S512x128.size Gen.inb_S512x1024_S512x128_0_0, shapeCast S512x128 (f 0) shapeCasts_S512x128_S512x128⟩]
        : List (View.Piece (Elt F) S512x1024 .bf16))
      (Rect.unit (s := S512x1024) ![0, 0] S512x1024.size Gen.inb_S512x1024_S512x1024_0_0).toLoadRect
    = spread f := by
  simp only [shapeCast_self]
  funext y
  have hy : (y 1).val < 1024 := (y 1).isLt
  have hy0 : (y 0).val < 512 := (y 0).isLt
  have e : (Rect.unit (s := S512x1024) ![0, 0] S512x1024.size Gen.inb_S512x1024_S512x1024_0_0).toLoadRect.idx y = y := by
    funext a; apply Fin.ext; fin_cases a
    · show 0 + 1 * (y 0).val = (y 0).val; omega
    · show 0 + 1 * (y 1).val = (y 1).val; omega
  show v.read (Elt F) (v.writes (Elt F) v.junk _) ((Rect.unit (s := S512x1024) ![0, 0] S512x1024.size Gen.inb_S512x1024_S512x1024_0_0).toLoadRect.idx y) = _
  rw [e]
  have hp : ∀ (h : Fin 8) (inb) (x : (Rect.unit (s := S512x1024) ![0, 128 * h.val] S512x128.size inb).shape.Idx),
      f h x = spread f ((Rect.unit (s := S512x1024) ![0, 128 * h.val] S512x128.size inb).emb x) := by
    intro h inb x
    obtain ⟨r, l, rfl⟩ : ∃ (r : Fin 512) (l : Fin 128), x = ix2 r l := ⟨x 0, x 1, eq_ix2 x⟩
    have q : ∀ (a : Fin 8) (b : Fin 512) (d : Fin 128), a = h → b = r → d = l → f h (ix2 r l) = f a (ix2 b d) := by rintro _ _ _ rfl rfl rfl; rfl
    refine q _ _ _ (Fin.ext ?_) (Fin.ext ?_) (Fin.ext ?_)
    · show (128 * h.val + 1 * l.val) / 128 = h.val; omega
    · show 0 + 1 * r.val = r.val; omega
    · show (128 * h.val + 1 * l.val) % 128 = l.val; omega
  have hm : ∀ (h : ℕ) (inb), h = (y 1).val / 128 → y ∈ (Rect.unit (s := S512x1024) ![0, 128 * h] S512x128.size inb).set := by
    intro h inb hh
    rw [Rect.mem_set_unit]
    intro a
    fin_cases a
    · show 0 ≤ (y 0).val ∧ (y 0).val < 0 + 512; omega
    · show 128 * h ≤ (y 1).val ∧ (y 1).val < 128 * h + 128; omega
  refine View.read_writes_apply_of_pieces v v.junk (spread f) _ ?_ y ?_
  · intro p hp'
    simp only [List.mem_cons, List.not_mem_nil, or_false] at hp'
    rcases hp' with rfl | rfl | rfl | rfl | rfl | rfl | rfl | rfl
    · exact hp 7 Gen.inb_S512x1024_S512x128_0_896
    · exact hp 6 Gen.inb_S512x1024_S512x128_0_768
    · exact hp 5 Gen.inb_S512x1024_S512x128_0_640
    · exact hp 4 Gen.inb_S512x1024_S512x128_0_512
    · exact hp 3 Gen.inb_S512x1024_S512x128_0_384
    · exact hp 2 Gen.inb_S512x1024_S512x128_0_256
    · exact hp 1 Gen.inb_S512x1024_S512x128_0_128
    · exact hp 0 Gen.inb_S512x1024_S512x128_0_0
  · have h8 : (y 1).val / 128 < 8 := by omega
    generalize hk : (y 1).val / 128 = k at hm h8
    interval_cases k
    · exact ⟨_, .tail _ (.tail _ (.tail _ (.tail _ (.tail _ (.tail _ (.tail _ (.head _))))))), hm 0 Gen.inb_S512x1024_S512x128_0_0 rfl⟩
    · exact ⟨_, .tail _ (.tail _ (.tail _ (.tail _ (.tail _ (.tail _ (.head _)))))), hm 1 Gen.inb_S512x1024_S512x128_0_128 rfl⟩
    · exact ⟨_, .tail _ (.tail _ (.tail _ (.tail _ (.tail _ (.head _))))), hm 2 Gen.inb_S512x1024_S512x128_0_256 rfl⟩
    · exact ⟨_, .tail _ (.tail _ (.tail _ (.tail _ (.head _)))), hm 3 Gen.inb_S512x1024_S512x128_0_384 rfl⟩
    · exact ⟨_, .tail _ (.tail _ (.tail _ (.head _))), hm 4 Gen.inb_S512x1024_S512x128_0_512 rfl⟩
    · exact ⟨_, .tail _ (.tail _ (.head _)), hm 5 Gen.inb_S512x1024_S512x128_0_640 rfl⟩
    · exact ⟨_, .tail _ (.head _), hm 6 Gen.inb_S512x1024_S512x128_0_768 rfl⟩
    · exact ⟨_, .head _, hm 7 Gen.inb_S512x1024_S512x128_0_896 rfl⟩

/-- The last piece stored read back. -/
theorem pieceRead {s : Shape} {e : EltTy} (v : View sig .tc .vmem s e) (f : v.ty.Contents (Elt F)) (r : Rect s) (w : r.shape.Idx → Elt F e) (L : List (View.Piece (Elt F) s e)) :
    View.readAt (Elt F) v r.toLoadRect (v.writes (Elt F) f (⟨r, w⟩ :: L)) = w :=
  funext fun y => View.read_writes_cons_emb v f r w L y

theorem tiedYield (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v682 : FVec F S1x128 .f32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (k : Fin (k0_t3_loop i).trips) (acc : FVec F S8x128 .f32 × FVec F S1x128 .f32)
    (f13 : BufTy.Contents (Elt F) arg13.view.ty) (f14 : BufTy.Contents (Elt F) arg14.view.ty) :
    tripR_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 k acc f13 f14 = (stackM acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9)), k0_pay1265 v687 acc.2 (View.readAt (Elt F) arg9.view (Rect.unit (s := S4096x128) (k0_off69 i k) S512x128.size (Facts₀.k0_off69_inb i k)).toLoadRect X9)) := by
  unfold tripR_k0_t3 trip_k0_t3
  rfl

theorem tiedSums (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v682 : FVec F S1x128 .f32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (k : Fin (k0_t3_loop i).trips) (acc : FVec F S8x128 .f32 × FVec F S1x128 .f32)
    (f13 : BufTy.Contents (Elt F) arg13.view.ty) (f14 : BufTy.Contents (Elt F) arg14.view.ty) :
    (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 k acc f13 f14).2
      = [⟨Rect.unit (s := S144x1024) ![0, 0] S144x1024.size Gen.inb_S144x1024_S144x1024_0_0,
          accNext (View.readAt (Elt F) arg14.view (Rect.unit (s := S144x1024) ![0, 0] S144x1024.size Gen.inb_S144x1024_S144x1024_0_0).toLoadRect f14) (rowA acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))) (weights acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))) (View.readAt (Elt F) arg6.view (Rect.unit (s := S8x144x512) (k0_off70 i k) S1x144x512.size (Facts₀.k0_off70_inb i k)).toLoadRect X6)⟩] := by
  unfold tripL_k0_t3 trip_k0_t3
  exact (congrArg (fun p => ([⟨Rect.unit (s := S144x1024) ![0, 0] S144x1024.size Gen.inb_S144x1024_S144x1024_0_0,
          shapeCast S144x1024 (accNext (View.readAt (Elt F) arg14.view (Rect.unit (s := S144x1024) ![0, 0] S144x1024.size Gen.inb_S144x1024_S144x1024_0_0).toLoadRect f14) (rowA acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))) p (View.readAt (Elt F) arg6.view (Rect.unit (s := S8x144x512) (k0_off70 i k) S1x144x512.size (Facts₀.k0_off70_inb i k)).toLoadRect X6)) shapeCasts_S144x1024_S144x1024⟩] : List (View.Piece (Elt F) S144x1024 .f32)))
      (weightsRead arg13.view (fun h => headP h acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))))).trans
    (congrArg (fun w => ([⟨Rect.unit (s := S144x1024) ![0, 0] S144x1024.size Gen.inb_S144x1024_S144x1024_0_0, w⟩] : List (View.Piece (Elt F) S144x1024 .f32)))
      (shapeCast_self (accNext (View.readAt (Elt F) arg14.view (Rect.unit (s := S144x1024) ![0, 0] S144x1024.size Gen.inb_S144x1024_S144x1024_0_0).toLoadRect f14) (rowA acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))) (weights acc.1 (scores (View.readAt (Elt F) arg5.view (Rect.unit (s := S4096x128) (k0_off69 i k) S512x128.size (Facts₀.k0_off69_inb i k)).toLoadRect X5) (View.readAt (Elt F) arg12.view (Rect.unit (s := S128x1024) ![0, 0] S128x1024.size Gen.inb_S128x1024_S128x1024_0_0).toLoadRect X12)) (k0_pay1266 v682 v687 k0_pay1348 acc.2 (View.readAt (Elt F) arg9.view (Rect.unit (s := S4096x128) (k0_off69 i k) S512x128.size (Facts₀.k0_off69_inb i k)).toLoadRect X9))) (View.readAt (Elt F) arg6.view (Rect.unit (s := S8x144x512) (k0_off70 i k) S1x144x512.size (Facts₀.k0_off70_inb i k)).toLoadRect X6)) _))

theorem tiedLoop (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v682 : FVec F S1x128 .f32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (G13 : BufTy.Contents (Elt F) arg13.view.ty) (G14 : BufTy.Contents (Elt F) arg14.view.ty)
    (q2 : FVec F S128x1024 .bf16) (keyT : ℕ → Vec F S512x128 .i32) (kT : ℕ → Vec F S512x128 .bf16) (vT : ℕ → Vec F S1x144x512 .bf16)
    (hq : (View.readAt (Elt F) arg12.view (Rect.unit (s := S128x1024) ![0, 0] S128x1024.size Gen.inb_S128x1024_S128x1024_0_0).toLoadRect X12) = q2) (h0 : View.readAt (Elt F) arg14.view (Rect.unit (s := S144x1024) ![0, 0] S144x1024.size Gen.inb_S144x1024_S144x1024_0_0).toLoadRect G14 = Cert.Reference.Gen.k0_pay65)
    (hkey : ∀ k : Fin (k0_t3_loop i).trips, (View.readAt (Elt F) arg9.view (Rect.unit (s := S4096x128) (k0_off69 i k) S512x128.size (Facts₀.k0_off69_inb i k)).toLoadRect X9) = keyT k.val) (hk : ∀ k : Fin (k0_t3_loop i).trips, (View.readAt (Elt F) arg5.view (Rect.unit (s := S4096x128) (k0_off69 i k) S512x128.size (Facts₀.k0_off69_inb i k)).toLoadRect X5) = kT k.val)
    (hv : ∀ k : Fin (k0_t3_loop i).trips, (View.readAt (Elt F) arg6.view (Rect.unit (s := S8x144x512) (k0_off70 i k) S1x144x512.size (Facts₀.k0_off70_inb i k)).toLoadRect X6) = vT k.val) (n : ℕ) (hn : n ≤ (k0_t3_loop i).trips) :
    (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) n).1.1 = (tiedAt v687 v682 q2 keyT kT vT n).1 ∧ (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) n).1.2 = (tiedAt v687 v682 q2 keyT kT vT n).2.2 ∧ View.readAt (Elt F) arg14.view (Rect.unit (s := S144x1024) ![0, 0] S144x1024.size Gen.inb_S144x1024_S144x1024_0_0).toLoadRect (arg14.view.writes (Elt F) G14 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) n).2.2) = (tiedAt v687 v682 q2 keyT kT vT n).2.1 := by
  induction n with
  | zero => exact ⟨rfl, rfl, h0⟩
  | succ n ih =>
    have ih' := ih (Nat.le_of_succ_le hn)
    revert ih'
    have hs := st_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) ⟨n, hn⟩
    dsimp only at hs
    revert hs
    generalize st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) (n + 1) = s'
    generalize st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 G13 G14 (k0_pay1349, k0_pay1350) n = s
    intro hs ih'
    have es := tiedSums (F := F) c i arg2 harg2 arg3 harg3 arg4 harg4 arg5 harg5 arg6 harg6 arg7 harg7 arg8 harg8 arg9 harg9 arg10 harg10 arg11 harg11 arg12 harg12 arg13 harg13 arg14 harg14 v4 v682 v687 X5 X6 X9 X12 ⟨n, hn⟩ s.1 (arg13.view.writes (Elt F) G13 s.2.1) (arg14.view.writes (Elt F) G14 s.2.2)
    rw [hkey ⟨n, hn⟩, hk ⟨n, hn⟩, hv ⟨n, hn⟩, hq] at es
    rw [tiedYield, hkey ⟨n, hn⟩, hk ⟨n, hn⟩, hq] at hs
    subst hs
    obtain ⟨e1, e2, e3⟩ := ih'
    refine ⟨?_, ?_, ?_⟩
    · show stackM s.1.1 _ (k0_pay1266 _ _ _ s.1.2 _) = _
      rw [e1, e2]; rfl
    · show k0_pay1265 _ s.1.2 _ = _
      rw [e2]; rfl
    · refine (congrArg (fun L => View.readAt (Elt F) arg14.view (Rect.unit (s := S144x1024) ![0, 0] S144x1024.size Gen.inb_S144x1024_S144x1024_0_0).toLoadRect (arg14.view.writes (Elt F) G14 (L ++ s.2.2))) es).trans ?_
      refine (pieceRead arg14.view G14 _ _ _).trans ?_
      rw [e1, e2, e3]; rfl

theorem freeYield (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (k : Fin (k0_t5_loop i).trips) (acc : FVec F S8x128 .f32)
    (f13 : BufTy.Contents (Elt F) arg13.view.ty) (f14 : BufTy.Contents (Elt F) arg14.view.ty) :
    tripR_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 k acc f13 f14 = stackM acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9)) := by
  unfold tripR_k0_t5 trip_k0_t5
  rfl

theorem freeSums (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (k : Fin (k0_t5_loop i).trips) (acc : FVec F S8x128 .f32)
    (f13 : BufTy.Contents (Elt F) arg13.view.ty) (f14 : BufTy.Contents (Elt F) arg14.view.ty) :
    (tripL_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 k acc f13 f14).2
      = [⟨Rect.unit (s := S144x1024) ![0, 0] S144x1024.size Gen.inb_S144x1024_S144x1024_0_0,
          accNext (View.readAt (Elt F) arg14.view (Rect.unit (s := S144x1024) ![0, 0] S144x1024.size Gen.inb_S144x1024_S144x1024_0_0).toLoadRect f14) (rowA acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))) (weights acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))) (View.readAt (Elt F) arg6.view (Rect.unit (s := S8x144x512) (k0_off74 i k) S1x144x512.size (Facts₀.k0_off74_inb i k)).toLoadRect X6)⟩] := by
  unfold tripL_k0_t5 trip_k0_t5
  exact (congrArg (fun p => ([⟨Rect.unit (s := S144x1024) ![0, 0] S144x1024.size Gen.inb_S144x1024_S144x1024_0_0,
          shapeCast S144x1024 (accNext (View.readAt (Elt F) arg14.view (Rect.unit (s := S144x1024) ![0, 0] S144x1024.size Gen.inb_S144x1024_S144x1024_0_0).toLoadRect f14) (rowA acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))) p (View.readAt (Elt F) arg6.view (Rect.unit (s := S8x144x512) (k0_off74 i k) S1x144x512.size (Facts₀.k0_off74_inb i k)).toLoadRect X6)) shapeCasts_S144x1024_S144x1024⟩] : List (View.Piece (Elt F) S144x1024 .f32)))
      (weightsRead arg13.view (fun h => headP h acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))))).trans
    (congrArg (fun w => ([⟨Rect.unit (s := S144x1024) ![0, 0] S144x1024.size Gen.inb_S144x1024_S144x1024_0_0, w⟩] : List (View.Piece (Elt F) S144x1024 .f32)))
      (shapeCast_self (accNext (View.readAt (Elt F) arg14.view (Rect.unit (s := S144x1024) ![0, 0] S144x1024.size Gen.inb_S144x1024_S144x1024_0_0).toLoadRect f14) (rowA acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))) (weights acc (scores (View.readAt (Elt F) arg5.view (Rect.unit (s := S4096x128) (k0_off73 i k) S512x128.size (Facts₀.k0_off73_inb i k)).toLoadRect X5) (View.readAt (Elt F) arg12.view (Rect.unit (s := S128x1024) ![0, 0] S128x1024.size Gen.inb_S128x1024_S128x1024_0_0).toLoadRect X12)) (k0_pay1365 v687 (View.readAt (Elt F) arg9.view (Rect.unit (s := S4096x128) (k0_off73 i k) S512x128.size (Facts₀.k0_off73_inb i k)).toLoadRect X9))) (View.readAt (Elt F) arg6.view (Rect.unit (s := S8x144x512) (k0_off74 i k) S1x144x512.size (Facts₀.k0_off74_inb i k)).toLoadRect X6)) _))

theorem freeLoop (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (v4 : BitVec 32) (v687 : IVec S1x128 32) (X5 : BufTy.Contents (Elt F) arg5.view.ty) (X6 : BufTy.Contents (Elt F) arg6.view.ty) (X9 : BufTy.Contents (Elt F) arg9.view.ty) (X12 : BufTy.Contents (Elt F) arg12.view.ty) (G13 : BufTy.Contents (Elt F) arg13.view.ty) (G14 : BufTy.Contents (Elt F) arg14.view.ty)
    (q2 : FVec F S128x1024 .bf16) (keyT : ℕ → Vec F S512x128 .i32) (kT : ℕ → Vec F S512x128 .bf16) (vT : ℕ → Vec F S1x144x512 .bf16)
    (hq : (View.readAt (Elt F) arg12.view (Rect.unit (s := S128x1024) ![0, 0] S128x1024.size Gen.inb_S128x1024_S128x1024_0_0).toLoadRect X12) = q2) (h0 : View.readAt (Elt F) arg14.view (Rect.unit (s := S144x1024) ![0, 0] S144x1024.size Gen.inb_S144x1024_S144x1024_0_0).toLoadRect G14 = Cert.Reference.Gen.k0_pay65)
    (hkey : ∀ k : Fin (k0_t5_loop i).trips, (View.readAt (Elt F) arg9.view (Rect.unit (s := S4096x128) (k0_off73 i k) S512x128.size (Facts₀.k0_off73_inb i k)).toLoadRect X9) = keyT k.val) (hk : ∀ k : Fin (k0_t5_loop i).trips, (View.readAt (Elt F) arg5.view (Rect.unit (s := S4096x128) (k0_off73 i k) S512x128.size (Facts₀.k0_off73_inb i k)).toLoadRect X5) = kT k.val)
    (hv : ∀ k : Fin (k0_t5_loop i).trips, (View.readAt (Elt F) arg6.view (Rect.unit (s := S8x144x512) (k0_off74 i k) S1x144x512.size (Facts₀.k0_off74_inb i k)).toLoadRect X6) = vT k.val) (n : ℕ) (hn : n ≤ (k0_t5_loop i).trips) :
    (st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 G13 G14 k0_pay1349 n).1 = (freeAt v687 q2 keyT kT vT n).1 ∧ View.readAt (Elt F) arg14.view (Rect.unit (s := S144x1024) ![0, 0] S144x1024.size Gen.inb_S144x1024_S144x1024_0_0).toLoadRect (arg14.view.writes (Elt F) G14 (st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 G13 G14 k0_pay1349 n).2.2) = (freeAt v687 q2 keyT kT vT n).2 := by
  induction n with
  | zero => exact ⟨rfl, h0⟩
  | succ n ih =>
    have ih' := ih (Nat.le_of_succ_le hn)
    revert ih'
    have hs := st_k0_t5_succ (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 G13 G14 k0_pay1349 ⟨n, hn⟩
    dsimp only at hs
    revert hs
    generalize st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 G13 G14 k0_pay1349 (n + 1) = s'
    generalize st_k0_t5 (F := F) Variants.none c none i arg2 harg2 arg3 harg3 arg4 harg4 arg5 harg5 arg6 harg6 arg7 harg7 arg8 harg8 arg9 harg9 arg10 harg10 arg11 harg11 arg12 harg12 arg13 harg13 arg14 harg14 v4 v687 X5 X6 X9 X12 G13 G14 k0_pay1349 n = s
    intro hs ih'
    have es := freeSums (F := F) c i arg2 harg2 arg3 harg3 arg4 harg4 arg5 harg5 arg6 harg6 arg7 harg7 arg8 harg8 arg9 harg9 arg10 harg10 arg11 harg11 arg12 harg12 arg13 harg13 arg14 harg14 v4 v687 X5 X6 X9 X12 ⟨n, hn⟩ s.1 (arg13.view.writes (Elt F) G13 s.2.1) (arg14.view.writes (Elt F) G14 s.2.2)
    rw [hkey ⟨n, hn⟩, hk ⟨n, hn⟩, hv ⟨n, hn⟩, hq] at es
    rw [freeYield, hkey ⟨n, hn⟩, hk ⟨n, hn⟩, hq] at hs
    subst hs
    obtain ⟨e1, e3⟩ := ih'
    refine ⟨?_, ?_⟩
    · show stackM s.1 _ _ = _
      rw [e1]; rfl
    · refine (congrArg (fun L => View.readAt (Elt F) arg14.view (Rect.unit (s := S144x1024) ![0, 0] S144x1024.size Gen.inb_S144x1024_S144x1024_0_0).toLoadRect (arg14.view.writes (Elt F) G14 (L ++ s.2.2))) es).trans ?_
      refine (pieceRead arg14.view G14 _ _ _).trans ?_
      rw [e1, e3]; rfl

end Cert.Proof.Sel

end
-- ==== Proof.Stores.lean ====
/- The two matrices of queries the body lays out in its scratch, head by head, read back whole. Untrusted. -/
module

public import proofs.«01_k».proof.Proof.Sheet
public import proofs.«01_k».proof.Proof.Attend

@[expose] public section

set_option maxRecDepth 8192
set_option maxHeartbeats 400000

noncomputable section

namespace Cert.Proof.Sel

open Cert.Kernel Cert.Kernel.Gen
open Idealize.ShloMosaic Idealize.ShloMosaic.TcCoe Cert.Proof.Att

variable {F : FTy → Type} [BitOps F]

theorem scoring_apply (a : Fin 8 → Vec F S1x32x128 .bf16) (h : Fin 8) (r : Fin 32) (l : Fin 128) (y : S32x1024.Idx)
    (h0 : (y 0).val = r.val) (h1 : (y 1).val = 128 * h.val + l.val) :
    scoring a y = shapeCast S32x128 (a h) shapeCasts_S1x32x128_S32x128 (ix2 r l) := by
  refine concat8_apply (t := S32x1024) (s₁ := S32x128) 1 (fun h => shapeCast S32x128 (a h) shapeCasts_S1x32x128_S32x128) _ rfl 128 rfl y h ?_ (ix2 r l) ?_ ?_
  · rw [h1]; have := l.isLt; omega
  · show l.val = (y 1).val % 128
    rw [h1]; have := l.isLt; omega
  · intro b hb; fin_cases b
    · exact h0.symm
    · exact absurd rfl hb

theorem scoringRead (v : View sig .tc .vmem S32x1024 .bf16) (a : Fin 8 → Vec F S1x32x128 .bf16) :
    View.readAt (Elt F) v (Rect.unit (s := S32x1024) ![0, 0] S32x1024.size Gen.inb_S32x1024_S32x1024_0_0).toLoadRect (v.writes (Elt F) v.junk
      ([⟨Rect.unit (s := S32x1024) ![0, 896] S32x128.size Gen.inb_S32x1024_S32x128_0_896, shapeCast S32x128 (shapeCast S32x128 (a 7) shapeCasts_S1x32x128_S32x128) shapeCasts_S32x128_S32x128⟩,
      ⟨Rect.unit (s := S32x1024) ![0, 768] S32x128.size Gen.inb_S32x1024_S32x128_0_768, shapeCast S32x128 (shapeCast S32x128 (a 6) shapeCasts_S1x32x128_S32x128) shapeCasts_S32x128_S32x128⟩,
      ⟨Rect.unit (s := S32x1024) ![0, 640] S32x128.size Gen.inb_S32x1024_S32x128_0_640, shapeCast S32x128 (shapeCast S32x128 (a 5) shapeCasts_S1x32x128_S32x128) shapeCasts_S32x128_S32x128⟩,
      ⟨Rect.unit (s := S32x1024) ![0, 512] S32x128.size Gen.inb_S32x1024_S32x128_0_512, shapeCast S32x128 (shapeCast S32x128 (a 4) shapeCasts_S1x32x128_S32x128) shapeCasts_S32x128_S32x128⟩,
      ⟨Rect.unit (s := S32x1024) ![0, 384] S32x128.size Gen.inb_S32x1024_S32x128_0_384, shapeCast S32x128 (shapeCast S32x128 (a 3) shapeCasts_S1x32x128_S32x128) shapeCasts_S32x128_S32x128⟩,
      ⟨Rect.unit (s := S32x1024) ![0, 256] S32x128.size Gen.inb_S32x1024_S32x128_0_256, shapeCast S32x128 (shapeCast S32x128 (a 2) shapeCasts_S1x32x128_S32x128) shapeCasts_S32x128_S32x128⟩,
      ⟨Rect.unit (s := S32x1024) ![0, 128] S32x128.size Gen.inb_S32x1024_S32x128_0_128, shapeCast S32x128 (shapeCast S32x128 (a 1) shapeCasts_S1x32x128_S32x128) shapeCasts_S32x128_S32x128⟩,
      ⟨Rect.unit (s := S32x1024) ![0, 0] S32x128.size Gen.inb_S32x1024_S32x128_0_0, shapeCast S32x128 (shapeCast S32x128 (a 0) shapeCasts_S1x32x128_S32x128) shapeCasts_S32x128_S32x128⟩] : List (View.Piece (Elt F) S32x1024 .bf16))) = scoring a := by
  simp only [shapeCast_self]
  funext y
  have hy : (y 1).val < 1024 := (y 1).isLt
  have hy0 : (y 0).val < 32 := (y 0).isLt
  have e : (Rect.unit (s := S32x1024) ![0, 0] S32x1024.size Gen.inb_S32x1024_S32x1024_0_0).toLoadRect.idx y = y := by
    funext a; apply Fin.ext; fin_cases a
    · show 0 + 1 * (y 0).val = (y 0).val; omega
    · show 0 + 1 * (y 1).val = (y 1).val; omega
  show v.read (Elt F) (v.writes (Elt F) v.junk _) ((Rect.unit (s := S32x1024) ![0, 0] S32x1024.size Gen.inb_S32x1024_S32x1024_0_0).toLoadRect.idx y) = _
  rw [e]
  have hp : ∀ (h : Fin 8) (inb) (x : (Rect.unit (s := S32x1024) ![0, 128 * h.val] S32x128.size inb).shape.Idx),
      shapeCast S32x128 (a h) shapeCasts_S1x32x128_S32x128 x = scoring a ((Rect.unit (s := S32x1024) ![0, 128 * h.val] S32x128.size inb).emb x) := by
    intro h inb x
    obtain ⟨r, l, rfl⟩ : ∃ (r : Fin 32) (l : Fin 128), x = ix2 r l := ⟨x 0, x 1, eq_ix2 x⟩
    refine (scoring_apply a h r l _ ?_ ?_).symm
    · show 0 + 1 * r.val = r.val; omega
    · show 128 * h.val + 1 * l.val = 128 * h.val + l.val; omega
  have hm : ∀ (h : ℕ) (inb), h = (y 1).val / 128 → y ∈ (Rect.unit (s := S32x1024) ![0, 128 * h] S32x128.size inb).set := by
    intro h inb hh
    rw [Rect.mem_set_unit]
    intro a
    fin_cases a
    · show 0 ≤ (y 0).val ∧ (y 0).val < 0 + 32; omega
    · show 128 * h ≤ (y 1).val ∧ (y 1).val < 128 * h + 128; omega
  refine View.read_writes_apply_of_pieces (Val := Elt F) v v.junk (scoring a) _ ?_ y ?_
  · intro p hp'
    simp only [List.mem_cons, List.not_mem_nil, or_false] at hp'
    rcases hp' with rfl | rfl | rfl | rfl | rfl | rfl | rfl | rfl
    · exact hp 7 Gen.inb_S32x1024_S32x128_0_896
    · exact hp 6 Gen.inb_S32x1024_S32x128_0_768
    · exact hp 5 Gen.inb_S32x1024_S32x128_0_640
    · exact hp 4 Gen.inb_S32x1024_S32x128_0_512
    · exact hp 3 Gen.inb_S32x1024_S32x128_0_384
    · exact hp 2 Gen.inb_S32x1024_S32x128_0_256
    · exact hp 1 Gen.inb_S32x1024_S32x128_0_128
    · exact hp 0 Gen.inb_S32x1024_S32x128_0_0
  · have h8 : (y 1).val / 128 < 8 := by omega
    generalize hk : (y 1).val / 128 = k at hm h8
    interval_cases k
    · exact ⟨_, .tail _ (.tail _ (.tail _ (.tail _ (.tail _ (.tail _ (.tail _ (.head _))))))), hm 0 Gen.inb_S32x1024_S32x128_0_0 rfl⟩
    · exact ⟨_, .tail _ (.tail _ (.tail _ (.tail _ (.tail _ (.tail _ (.head _)))))), hm 1 Gen.inb_S32x1024_S32x128_0_128 rfl⟩
    · exact ⟨_, .tail _ (.tail _ (.tail _ (.tail _ (.tail _ (.head _))))), hm 2 Gen.inb_S32x1024_S32x128_0_256 rfl⟩
    · exact ⟨_, .tail _ (.tail _ (.tail _ (.tail _ (.head _)))), hm 3 Gen.inb_S32x1024_S32x128_0_384 rfl⟩
    · exact ⟨_, .tail _ (.tail _ (.tail _ (.head _))), hm 4 Gen.inb_S32x1024_S32x128_0_512 rfl⟩
    · exact ⟨_, .tail _ (.tail _ (.head _)), hm 5 Gen.inb_S32x1024_S32x128_0_640 rfl⟩
    · exact ⟨_, .tail _ (.head _), hm 6 Gen.inb_S32x1024_S32x128_0_768 rfl⟩
    · exact ⟨_, .head _, hm 7 Gen.inb_S32x1024_S32x128_0_896 rfl⟩

/-- A head's queries in its own half of the rows, zero in the other. -/
def halfOf (a : Fin 8 → Vec F S1x64x128 .bf16) : Fin 2 → Fin 8 → FVec F S64x128 .bf16
  | 0, 0 => shapeCast S64x128 (a 0) shapeCasts_S1x64x128_S64x128
  | 0, 1 => shapeCast S64x128 (a 1) shapeCasts_S1x64x128_S64x128
  | 0, 2 => shapeCast S64x128 (a 2) shapeCasts_S1x64x128_S64x128
  | 0, 3 => shapeCast S64x128 (a 3) shapeCasts_S1x64x128_S64x128
  | 0, 4 => broadcast S64x128 (Scalar.ofBits .bf16 0x0000#16)
  | 0, 5 => broadcast S64x128 (Scalar.ofBits .bf16 0x0000#16)
  | 0, 6 => broadcast S64x128 (Scalar.ofBits .bf16 0x0000#16)
  | 0, 7 => broadcast S64x128 (Scalar.ofBits .bf16 0x0000#16)
  | 1, 0 => broadcast S64x128 (Scalar.ofBits .bf16 0x0000#16)
  | 1, 1 => broadcast S64x128 (Scalar.ofBits .bf16 0x0000#16)
  | 1, 2 => broadcast S64x128 (Scalar.ofBits .bf16 0x0000#16)
  | 1, 3 => broadcast S64x128 (Scalar.ofBits .bf16 0x0000#16)
  | 1, 4 => shapeCast S64x128 (a 4) shapeCasts_S1x64x128_S64x128
  | 1, 5 => shapeCast S64x128 (a 5) shapeCasts_S1x64x128_S64x128
  | 1, 6 => shapeCast S64x128 (a 6) shapeCasts_S1x64x128_S64x128
  | 1, 7 => shapeCast S64x128 (a 7) shapeCasts_S1x64x128_S64x128

theorem halfOf_own (a : Fin 8 → Vec F S1x64x128 .bf16) (h : Fin 8) (g : Fin 2) (e : g.val = h.val / 4) :
    halfOf a g h = shapeCast S64x128 (a h) shapeCasts_S1x64x128_S64x128 := by
  fin_cases h <;> fin_cases g <;> first | rfl | (exact absurd e (by decide))

theorem halfOf_other (a : Fin 8 → Vec F S1x64x128 .bf16) (h : Fin 8) (g : Fin 2) (e : g.val ≠ h.val / 4) :
    halfOf a g h = broadcast S64x128 (Scalar.ofBits .bf16 0x0000#16) := by
  fin_cases h <;> fin_cases g <;> first | rfl | (exact absurd (by decide) e)

theorem queries_apply (a : Fin 8 → Vec F S1x64x128 .bf16) (g : Fin 2) (h : Fin 8) (r : Fin 64) (l : Fin 128) (y : S128x1024.Idx)
    (h0 : (y 0).val = 64 * g.val + r.val) (h1 : (y 1).val = 128 * h.val + l.val) : queries a y = halfOf a g h (ix2 r l) := by
  have hl : 128 * h.val + l.val < 1024 := by clear h0 h1; omega
  have row : ∀ (g : Fin 2) (hh), concatenate (Cert.Reference.S64x1024) 1 [⟨S64x128, halfOf a g 0⟩, ⟨S64x128, halfOf a g 1⟩, ⟨S64x128, halfOf a g 2⟩, ⟨S64x128, halfOf a g 3⟩, ⟨S64x128, halfOf a g 4⟩, ⟨S64x128, halfOf a g 5⟩, ⟨S64x128, halfOf a g 6⟩, ⟨S64x128, halfOf a g 7⟩] hh (ix2 r (⟨128 * h.val + l.val, hl⟩ : Fin 1024)) = halfOf a g h (ix2 r l) := by
    intro g hh
    refine concat8_apply (t := Cert.Reference.S64x1024) (s₁ := S64x128) 1 (halfOf a g) hh rfl 128 rfl _ h ?_ (ix2 r l) ?_ ?_
    · show (128 * h.val + l.val) / 128 = h.val; have := l.isLt; omega
    · show l.val = (128 * h.val + l.val) % 128; have := l.isLt; omega
    · intro b hb; fin_cases b
      · rfl
      · exact absurd rfl hb
  have q : ∀ (A B : FVec F (Cert.Reference.S64x1024) .bf16) (hh) (w : F .bf16) (k : ℕ) (hk : k = g.val) (hA : g.val = 0 → A (ix2 r (⟨128 * h.val + l.val, hl⟩ : Fin 1024)) = w)
      (hB : g.val = 1 → B (ix2 r (⟨128 * h.val + l.val, hl⟩ : Fin 1024)) = w),
      concatenate S128x1024 0 [⟨Cert.Reference.S64x1024, A⟩, ⟨Cert.Reference.S64x1024, B⟩] hh y = w := by
    intro A B hh w k hk hA hB
    have hg := g.isLt
    by_cases e : g.val = 0
    · refine (concatenate_apply_piece (t := S128x1024) 0 [⟨Cert.Reference.S64x1024, A⟩, ⟨Cert.Reference.S64x1024, B⟩] _ _ 0 Nat.zero_lt_two (Cert.Reference.S64x1024) A rfl rfl 0 rfl
        (ix2 r (⟨128 * h.val + l.val, hl⟩ : Fin 1024)) ?_ ?_).trans (hA e)
      · intro b hb; fin_cases b
        · exact absurd rfl hb
        · exact h1.symm
      · show 0 + r.val = (y 0).val; rw [h0, e]
    · refine (concatenate_apply_piece (t := S128x1024) 0 [⟨Cert.Reference.S64x1024, A⟩, ⟨Cert.Reference.S64x1024, B⟩] _ _ 1 Nat.one_lt_two (Cert.Reference.S64x1024) B rfl rfl 64 rfl
        (ix2 r (⟨128 * h.val + l.val, hl⟩ : Fin 1024)) ?_ ?_).trans (hB (by omega))
      · intro b hb; fin_cases b
        · exact absurd rfl hb
        · exact h1.symm
      · show 64 + r.val = (y 0).val; rw [h0]; omega
  refine q _ _ Cert.Reference.Gen.concatenates_S64x1024_S64x1024_S128x1024_d0 _ g.val rfl (fun e => ?_) (fun e => ?_)
  · rw [show g = 0 from Fin.ext e]; exact row 0 Cert.Reference.Gen.concatenates_S64x128_S64x128_S64x128_S64x128_S64x128_S64x128_S64x128_S64x128_S64x1024_d1
  · rw [show g = 1 from Fin.ext e]; exact row 1 Cert.Reference.Gen.concatenates_S64x128_S64x128_S64x128_S64x128_S64x128_S64x128_S64x128_S64x128_S64x1024_d1

/-- The stores of the heads' queries, before which the whole is cleared. -/
def queryPieces (a : Fin 8 → Vec F S1x64x128 .bf16) : List (View.Piece (Elt F) S128x1024 .bf16) :=
  [⟨Rect.unit (s := S128x1024) ![64, 896] S64x128.size Gen.inb_S128x1024_S64x128_64_896, shapeCast S64x128 (shapeCast S64x128 (a 7) shapeCasts_S1x64x128_S64x128) shapeCasts_S64x128_S64x128⟩,
      ⟨Rect.unit (s := S128x1024) ![64, 768] S64x128.size Gen.inb_S128x1024_S64x128_64_768, shapeCast S64x128 (shapeCast S64x128 (a 6) shapeCasts_S1x64x128_S64x128) shapeCasts_S64x128_S64x128⟩,
      ⟨Rect.unit (s := S128x1024) ![64, 640] S64x128.size Gen.inb_S128x1024_S64x128_64_640, shapeCast S64x128 (shapeCast S64x128 (a 5) shapeCasts_S1x64x128_S64x128) shapeCasts_S64x128_S64x128⟩,
      ⟨Rect.unit (s := S128x1024) ![64, 512] S64x128.size Gen.inb_S128x1024_S64x128_64_512, shapeCast S64x128 (shapeCast S64x128 (a 4) shapeCasts_S1x64x128_S64x128) shapeCasts_S64x128_S64x128⟩,
      ⟨Rect.unit (s := S128x1024) ![0, 384] S64x128.size Gen.inb_S128x1024_S64x128_0_384, shapeCast S64x128 (shapeCast S64x128 (a 3) shapeCasts_S1x64x128_S64x128) shapeCasts_S64x128_S64x128⟩,
      ⟨Rect.unit (s := S128x1024) ![0, 256] S64x128.size Gen.inb_S128x1024_S64x128_0_256, shapeCast S64x128 (shapeCast S64x128 (a 2) shapeCasts_S1x64x128_S64x128) shapeCasts_S64x128_S64x128⟩,
      ⟨Rect.unit (s := S128x1024) ![0, 128] S64x128.size Gen.inb_S128x1024_S64x128_0_128, shapeCast S64x128 (shapeCast S64x128 (a 1) shapeCasts_S1x64x128_S64x128) shapeCasts_S64x128_S64x128⟩,
      ⟨Rect.unit (s := S128x1024) ![0, 0] S64x128.size Gen.inb_S128x1024_S64x128_0_0, shapeCast S64x128 (shapeCast S64x128 (a 0) shapeCasts_S1x64x128_S64x128) shapeCasts_S64x128_S64x128⟩]

theorem queriesRead (v : View sig .tc .vmem S128x1024 .bf16) (a : Fin 8 → Vec F S1x64x128 .bf16) :
    View.readAt (Elt F) v (Rect.unit (s := S128x1024) ![0, 0] S128x1024.size Gen.inb_S128x1024_S128x1024_0_0).toLoadRect (v.writes (Elt F) v.junk
      (queryPieces a ++ [⟨Rect.unit (s := S128x1024) ![0, 0] S128x1024.size Gen.inb_S128x1024_S128x1024_0_0, shapeCast S128x1024 k0_pay1663 shapeCasts_S128x1024_S128x1024⟩])) = queries a := by
  funext y
  have hy : (y 1).val < 1024 := (y 1).isLt
  have hy0 : (y 0).val < 128 := (y 0).isLt
  have e : (Rect.unit (s := S128x1024) ![0, 0] S128x1024.size Gen.inb_S128x1024_S128x1024_0_0).toLoadRect.idx y = y := by
    funext a; apply Fin.ext; fin_cases a
    · show 0 + 1 * (y 0).val = (y 0).val; omega
    · show 0 + 1 * (y 1).val = (y 1).val; omega
  show v.read (Elt F) (v.writes (Elt F) v.junk _) ((Rect.unit (s := S128x1024) ![0, 0] S128x1024.size Gen.inb_S128x1024_S128x1024_0_0).toLoadRect.idx y) = _
  rw [e, View.writes_append]
  have hq := queries_apply a ⟨(y 0).val / 64, by omega⟩ ⟨(y 1).val / 128, by omega⟩ ⟨(y 0).val % 64, Nat.mod_lt _ (by decide)⟩ ⟨(y 1).val % 128, Nat.mod_lt _ (by decide)⟩ y
    (by show (y 0).val = 64 * ((y 0).val / 64) + (y 0).val % 64; omega) (by show (y 1).val = 128 * ((y 1).val / 128) + (y 1).val % 128; omega)
  by_cases hg : (y 0).val / 64 = (y 1).val / 128 / 4
  · have hp : ∀ (h : Fin 8) (inb) (x : (Rect.unit (s := S128x1024) ![64 * (h.val / 4), 128 * h.val] S64x128.size inb).shape.Idx),
        shapeCast S64x128 (shapeCast S64x128 (a h) shapeCasts_S1x64x128_S64x128) shapeCasts_S64x128_S64x128 x = queries a ((Rect.unit (s := S128x1024) ![64 * (h.val / 4), 128 * h.val] S64x128.size inb).emb x) := by
      intro h inb x
      obtain ⟨r, l, rfl⟩ : ∃ (r : Fin 64) (l : Fin 128), x = ix2 r l := ⟨x 0, x 1, eq_ix2 x⟩
      refine (congrFun (shapeCast_self _ _) _).trans ?_
      refine Eq.trans ?_ (queries_apply a ⟨h.val / 4, by omega⟩ h r l _ ?_ ?_).symm
      · rw [halfOf_own a h _ rfl]
      · show 64 * (h.val / 4) + 1 * r.val = 64 * (h.val / 4) + r.val; omega
      · show 128 * h.val + 1 * l.val = 128 * h.val + l.val; omega
    have hm : ∀ (h g : ℕ) (inb), h = (y 1).val / 128 → g = (y 1).val / 128 / 4 → y ∈ (Rect.unit (s := S128x1024) ![64 * g, 128 * h] S64x128.size inb).set := by
      intro h g inb hh hg'
      rw [Rect.mem_set_unit]
      intro a
      fin_cases a
      · show 64 * g ≤ (y 0).val ∧ (y 0).val < 64 * g + 64; omega
      · show 128 * h ≤ (y 1).val ∧ (y 1).val < 128 * h + 128; omega
    refine View.read_writes_apply_of_pieces (Val := Elt F) v _ (queries a) _ ?_ y ?_
    · intro p hp'
      simp only [queryPieces, List.mem_cons, List.not_mem_nil, or_false] at hp'
      rcases hp' with rfl | rfl | rfl | rfl | rfl | rfl | rfl | rfl
      · exact hp 7 Gen.inb_S128x1024_S64x128_64_896
      · exact hp 6 Gen.inb_S128x1024_S64x128_64_768
      · exact hp 5 Gen.inb_S128x1024_S64x128_64_640
      · exact hp 4 Gen.inb_S128x1024_S64x128_64_512
      · exact hp 3 Gen.inb_S128x1024_S64x128_0_384
      · exact hp 2 Gen.inb_S128x1024_S64x128_0_256
      · exact hp 1 Gen.inb_S128x1024_S64x128_0_128
      · exact hp 0 Gen.inb_S128x1024_S64x128_0_0
    · have h8 : (y 1).val / 128 < 8 := by omega
      clear hg hq
      generalize hk : (y 1).val / 128 = k at hm h8
      interval_cases k
      · exact ⟨_, .tail _ (.tail _ (.tail _ (.tail _ (.tail _ (.tail _ (.tail _ (.head _))))))), hm 0 0 Gen.inb_S128x1024_S64x128_0_0 rfl rfl⟩
      · exact ⟨_, .tail _ (.tail _ (.tail _ (.tail _ (.tail _ (.tail _ (.head _)))))), hm 1 0 Gen.inb_S128x1024_S64x128_0_128 rfl rfl⟩
      · exact ⟨_, .tail _ (.tail _ (.tail _ (.tail _ (.tail _ (.head _))))), hm 2 0 Gen.inb_S128x1024_S64x128_0_256 rfl rfl⟩
      · exact ⟨_, .tail _ (.tail _ (.tail _ (.tail _ (.head _)))), hm 3 0 Gen.inb_S128x1024_S64x128_0_384 rfl rfl⟩
      · exact ⟨_, .tail _ (.tail _ (.tail _ (.head _))), hm 4 1 Gen.inb_S128x1024_S64x128_64_512 rfl rfl⟩
      · exact ⟨_, .tail _ (.tail _ (.head _)), hm 5 1 Gen.inb_S128x1024_S64x128_64_640 rfl rfl⟩
      · exact ⟨_, .tail _ (.head _), hm 6 1 Gen.inb_S128x1024_S64x128_64_768 rfl rfl⟩
      · exact ⟨_, .head _, hm 7 1 Gen.inb_S128x1024_S64x128_64_896 rfl rfl⟩
  · have hn : ∀ (h : ℕ) (inb), y ∉ (Rect.unit (s := S128x1024) ![64 * (h / 4), 128 * h] S64x128.size inb).set := by
      intro h inb hm
      rw [Rect.mem_set_unit] at hm
      have a0 : 64 * (h / 4) ≤ (y 0).val ∧ (y 0).val < 64 * (h / 4) + 64 := hm 0
      have a1 : 128 * h ≤ (y 1).val ∧ (y 1).val < 128 * h + 128 := hm 1
      omega
    refine (View.read_writes_apply_of_forall_not_mem v _ y _ ?_).trans ?_
    · intro p hp'
      simp only [queryPieces, List.mem_cons, List.not_mem_nil, or_false] at hp'
      rcases hp' with rfl | rfl | rfl | rfl | rfl | rfl | rfl | rfl
      · exact hn 7 Gen.inb_S128x1024_S64x128_64_896
      · exact hn 6 Gen.inb_S128x1024_S64x128_64_768
      · exact hn 5 Gen.inb_S128x1024_S64x128_64_640
      · exact hn 4 Gen.inb_S128x1024_S64x128_64_512
      · exact hn 3 Gen.inb_S128x1024_S64x128_0_384
      · exact hn 2 Gen.inb_S128x1024_S64x128_0_256
      · exact hn 1 Gen.inb_S128x1024_S64x128_0_128
      · exact hn 0 Gen.inb_S128x1024_S64x128_0_0
    · rw [hq, halfOf_other a _ _ hg]
      refine View.read_writes_apply_of_pieces (Val := Elt F) v _ (fun _ => Scalar.ofBits .bf16 0x0000#16) _ ?_ y ⟨_, List.mem_cons_self, ?_⟩
      · intro p hp' x
        rcases List.mem_singleton.1 hp' with rfl
        exact (congrFun (shapeCast_self (k0_pay1663 (F := F)) shapeCasts_S128x1024_S128x1024) x).trans rfl
      · rw [Rect.mem_set_unit]
        intro a
        fin_cases a
        · show 0 ≤ (y 0).val ∧ (y 0).val < 0 + 128; omega
        · show 0 ≤ (y 1).val ∧ (y 1).val < 0 + 1024; omega

end Cert.Proof.Sel

end
-- ==== Proof.Inputs.lean ====
/- What the body reads of its blocks, when these are parts of the arrays: the queries of a block of rows, and the keys and values of its sequence. Untrusted. -/
module

public import proofs.«01_k».proof.Proof.Stores
public import proofs.«01_k».proof.Proof.Choice

@[expose] public section

set_option maxRecDepth 8192
set_option maxHeartbeats 400000

noncomputable section

namespace Cert.Proof.Sel

open Cert.Kernel Cert.Kernel.Gen
open Idealize.ShloMosaic Idealize.ShloMosaic.TcCoe Cert.Proof.Att

variable {F : FTy → Type} [BitOps F]

theorem scoring_in (arg3 : Memref sig .tc .vmem S1x256x128 .bf16) (X3 : BufTy.Contents (Elt F) arg3.view.ty) (IQ : Cert.Reference.S256x256x128.Idx → Elt F .bf16) (t : ℕ)
    (h3 : ∀ y : S1x256x128.Idx, arg3.view.read (Elt F) X3 y = IQ (ix3 (Fin.ofNat 256 t) (y 1 : Fin 256) (y 2 : Fin 128))) (arg11 : Memref sig .tc .vmem S32x1024 .bf16) :
    View.readAt (Elt F) arg11.view (Rect.unit (s := S32x1024) ![0, 0] S32x1024.size Gen.inb_S32x1024_S32x1024_0_0).toLoadRect
      (arg11.view.writes (Elt F) arg11.view.junk (bodyRun.sl.H11_8 (F := F) arg3 X3)) = scoring (iqAt IQ t) := by
  have hh : ∀ (h : Fin 8) (inb), View.readAt (Elt F) arg3.view (Rect.unit (s := S1x256x128) ![0, 32 * h.val, 0] S1x32x128.size inb).toLoadRect X3 = iqAt IQ t h := by
    intro h inb
    have hlt := h.isLt
    refine load_at arg3.view X3 _ _ _ _ rfl _ fun x => ⟨ix3 (0 : Fin 1) (Fin.ofNat 256 (32 * h.val + (x 1).val)) (x 2), fun a => ?_, h3 _⟩
    have b1 : (x 1).val < 32 := (x 1).isLt
    have b0 : (x 0).val < 1 := (x 0).isLt
    fin_cases a
    · show 0 + 1 * (x 0).val = 0; omega
    · show 32 * h.val + 1 * (x 1).val = (32 * h.val + (x 1).val) % 256; omega
    · show 0 + 1 * (x 2).val = (x 2).val; omega
  rw [← funext fun h => hh h (by revert h; decide)]
  exact scoringRead arg11.view fun h => View.readAt (Elt F) arg3.view (Rect.unit (s := S1x256x128) ![0, 32 * h.val, 0] S1x32x128.size (by revert h; decide)).toLoadRect X3

theorem queries_in (arg2 : Memref sig .tc .vmem S1x512x128 .bf16) (X2 : BufTy.Contents (Elt F) arg2.view.ty) (AQ : Cert.Reference.S256x512x128.Idx → Elt F .bf16) (t : ℕ)
    (h2 : ∀ y : S1x512x128.Idx, arg2.view.read (Elt F) X2 y = AQ (ix3 (Fin.ofNat 256 t) (y 1 : Fin 512) (y 2 : Fin 128))) (arg12 : Memref sig .tc .vmem S128x1024 .bf16) :
    View.readAt (Elt F) arg12.view (Rect.unit (s := S128x1024) ![0, 0] S128x1024.size Gen.inb_S128x1024_S128x1024_0_0).toLoadRect
      (arg12.view.writes (Elt F) arg12.view.junk (bodyRun.sl.H12_9 (F := F) arg2 X2)) = queries (aqAt AQ t) := by
  have hh : ∀ (h : Fin 8) (inb), View.readAt (Elt F) arg2.view (Rect.unit (s := S1x512x128) ![0, 64 * h.val, 0] S1x64x128.size inb).toLoadRect X2 = aqAt AQ t h := by
    intro h inb
    have hlt := h.isLt
    refine load_at arg2.view X2 _ _ _ _ rfl _ fun x => ⟨ix3 (0 : Fin 1) (Fin.ofNat 512 (64 * h.val + (x 1).val)) (x 2), fun a => ?_, h2 _⟩
    have b1 : (x 1).val < 64 := (x 1).isLt
    have b0 : (x 0).val < 1 := (x 0).isLt
    fin_cases a
    · show 0 + 1 * (x 0).val = 0; omega
    · show 64 * h.val + 1 * (x 1).val = (64 * h.val + (x 1).val) % 512; omega
    · show 0 + 1 * (x 2).val = (x 2).val; omega
  rw [← funext fun h => hh h (by revert h; decide)]
  exact queriesRead arg12.view fun h => View.readAt (Elt F) arg2.view (Rect.unit (s := S1x512x128) ![0, 64 * h.val, 0] S1x64x128.size (by revert h; decide)).toLoadRect X2

theorem weights_in (arg4 : Memref sig .tc .vmem S128x128 .f32) (X4 : BufTy.Contents (Elt F) arg4.view.ty) (SM : Cert.Reference.S32768x128.Idx → Elt F .f32) (t : ℕ)
    (h4 : ∀ y : S128x128.Idx, arg4.view.read (Elt F) X4 y = SM (ix2 (Fin.ofNat 32768 (128 * t + (y 0).val)) (y 1 : Fin 128))) : bodyRun.sl.r (F := F) arg4 X4 = Cert.Reference.Gen.k0_pay11 (smAt SM t) := by
  refine (show bodyRun.sl.r (F := F) arg4 X4 = Cert.Reference.Gen.k0_pay11 (View.readAt (Elt F) arg4.view (Rect.unit (s := S128x128) ![0, 0] S128x128.size Gen.inb_S128x128_S128x128_0_0).toLoadRect X4) from rfl).trans
    (congrArg _ ?_)
  refine load_at arg4.view X4 _ _ _ _ rfl _ fun x => ⟨x, fun a => ?_, h4 _⟩
  fin_cases a
  · show 0 + 1 * (x 0).val = (x 0).val; omega
  · show 0 + 1 * (x 1).val = (x 1).val; omega

theorem offsAll : ∀ (i : grid0.Coords) (k : Fin (k0_t1_loop i).trips), k0_off1 i k = ![512 * k.val, 0]
    ∧ Scalar.muli (Scf.iv 0#32 1#32 k) 512#32 = BitVec.ofNat 32 (512 * k.val) := by decide +kernel
theorem offsTied : ∀ (i : grid0.Coords) (k : Fin (k0_t3_loop i).trips), k0_off69 i k = ![512 * k.val, 0] ∧ k0_off70 i k = ![k.val, 0, 0] := by decide +kernel
theorem offsFree : ∀ (i : grid0.Coords) (k : Fin (k0_t5_loop i).trips), k0_off73 i k = ![512 * k.val, 0] ∧ k0_off74 i k = ![k.val, 0, 0] := by decide +kernel
theorem tripsAll : ∀ i : grid0.Coords, (k0_t1_loop i).trips = seen (32 * (i 0).val + (i 1).val) ∧ (k0_t3_loop i).trips = seen (32 * (i 0).val + (i 1).val)
    ∧ (k0_t5_loop i).trips = seen (32 * (i 0).val + (i 1).val) ∧ (k0_t4_loop i).trips = 0 ∧ (k0_t6_loop i).trips = 0 := by decide +kernel
theorem startWord : ∀ i : grid0.Coords, BitVec.ofNat 32 (i 1).val = BitVec.ofNat 32 ((32 * (i 0).val + (i 1).val) % 32)
    ∧ (32 * (i 0).val + (i 1).val) / 32 = (i 0).val ∧ (32 * (i 0).val + (i 1).val) < 256 := by decide +kernel
theorem seen_le (t : ℕ) : seen t ≤ 8 := by unfold seen; omega

theorem rows_in {e : EltTy} {w : ℕ} (hw : 0 < w) (v : View sig .tc .vmem ⟨2, ![4096, w]⟩ e) (X : v.ty.Contents (Elt F)) (b j : ℕ) (hj : j < 8)
    (G : Fin 32768 → Fin w → Elt F e) (h : ∀ y : (⟨2, ![4096, w]⟩ : Shape).Idx, v.read (Elt F) X y = G (Fin.ofNat 32768 (4096 * b + (y 0).val)) (y 1))
    (off) (inb) (ho : off = ![512 * j, 0]) :
    View.readAt (Elt F) v (Rect.unit (s := ⟨2, ![4096, w]⟩) off ![512, w] inb).toLoadRect X
      = fun x => G (Fin.ofNat 32768 (4096 * b + 512 * j + (x 0).val)) (x 1) := by
  refine load_at v X _ _ _ _ ho _ fun x => ⟨ix2 (Fin.ofNat 4096 (512 * j + (x 0).val)) (x 1), fun a => ?_, (h _).trans ?_⟩
  · have b0 : (x 0).val < 512 := (x 0).isLt
    fin_cases a
    · show 512 * j + 1 * (x 0).val = (512 * j + (x 0).val) % 4096; omega
    · show 0 + 1 * (x 1).val = (x 1).val; omega
  · have b0 : (x 0).val < 512 := (x 0).isLt
    refine congrArg (fun r => G r (x 1)) (congrArg (Fin.ofNat 32768) ?_)
    show 4096 * b + (512 * j + (x 0).val) % 4096 = _
    omega

theorem values_in (arg6 : Memref sig .tc .vmem S8x144x512 .bf16) (X6 : BufTy.Contents (Elt F) arg6.view.ty) (V : Cert.Reference.S64x144x512.Idx → Elt F .bf16) (b j : ℕ) (hj : j < 8)
    (h6 : ∀ y : S8x144x512.Idx, arg6.view.read (Elt F) X6 y = V (ix3 (Fin.ofNat 64 (8 * b + (y 0).val)) (y 1 : Fin 144) (y 2 : Fin 512))) (off) (inb) (ho : off = ![j, 0, 0]) :
    View.readAt (Elt F) arg6.view (Rect.unit (s := S8x144x512) off S1x144x512.size inb).toLoadRect X6 = vAt V b j := by
  refine load_at arg6.view X6 _ _ _ _ ho _ fun x => ⟨ix3 (Fin.ofNat 8 j) (x 1) (x 2), fun a => ?_, (h6 _).trans ?_⟩
  · have b0 : (x 0).val < 1 := (x 0).isLt
    fin_cases a
    · show j + 1 * (x 0).val = j % 8; omega
    · show 0 + 1 * (x 1).val = (x 1).val; omega
    · show 0 + 1 * (x 2).val = (x 2).val; omega
  · show V (ix3 (Fin.ofNat 64 (8 * b + j % 8)) _ _) = V (ix3 (Fin.ofNat 64 (8 * b + j)) _ _)
    rw [Nat.mod_eq_of_lt hj]
    rfl

theorem tiles_in (i : grid0.Coords) (arg3 : Memref sig .tc .vmem S1x256x128 .bf16) (X3 : BufTy.Contents (Elt F) arg3.view.ty) (arg4 : Memref sig .tc .vmem S128x128 .f32) (X4 : BufTy.Contents (Elt F) arg4.view.ty) (arg7 : Memref sig .tc .vmem S4096x32 .bf16) (X7 : BufTy.Contents (Elt F) arg7.view.ty)
    (arg11 : Memref sig .tc .vmem S32x1024 .bf16) (IQ : Cert.Reference.S256x256x128.Idx → Elt F .bf16) (SM : Cert.Reference.S32768x128.Idx → Elt F .f32) (IK : Cert.Reference.S32768x32.Idx → Elt F .bf16) (t b : ℕ) (ht : t = 32 * (i 0).val + (i 1).val)
    (h3 : ∀ y : S1x256x128.Idx, arg3.view.read (Elt F) X3 y = IQ (ix3 (Fin.ofNat 256 t) (y 1 : Fin 256) (y 2 : Fin 128)))
    (h4 : ∀ y : S128x128.Idx, arg4.view.read (Elt F) X4 y = SM (ix2 (Fin.ofNat 32768 (128 * t + (y 0).val)) (y 1 : Fin 128)))
    (h7 : ∀ y : S4096x32.Idx, arg7.view.read (Elt F) X7 y = IK (ix2 (Fin.ofNat 32768 (4096 * b + (y 0).val)) (y 1 : Fin 32))) (k : Fin (k0_t1_loop i).trips) :
    tripTile i arg7 arg11 (bodyRun.sl.r (F := F) arg4 X4) (bodyRun.sl.v0 i) bodyRun.sl.v56 bodyRun.sl.v61 X7
      (arg11.view.writes (Elt F) arg11.view.junk (bodyRun.sl.H11_8 (F := F) arg3 X3)) k
    = tileKeys (BitVec.ofNat 32 (t % 32)) (smAt SM t) (iqAt IQ t) (ikAt IK b) k.val := by
  have hk : k.val < 8 := Nat.lt_of_lt_of_le k.isLt ((tripsAll i).1 ▸ seen_le _)
  unfold tripTile tileKeys
  rw [(offsAll i k).2, scoring_in arg3 X3 IQ t h3 arg11, weights_in arg4 X4 SM t h4, ht, ← (startWord i).1,
    rows_in (by decide) arg7.view X7 b k.val hk (fun r l => IK (ix2 r l)) h7 _ _ (offsAll i k).1]
  rfl

end Cert.Proof.Sel

end
-- ==== Proof.Agree.lean ====
/- The threshold found over the bit planes and the one counted from all pairs of keys are the same, and so are the counts and
   the flag of ties. Untrusted. -/
module

public import proofs.«01_k».proof.Proof.Sheet
public import proofs.«01_k».proof.Proof.Choice

@[expose] public section

set_option maxRecDepth 8192
set_option maxHeartbeats 400000

noncomputable section

namespace Cert.Proof.Sel

open Cert.Kernel Cert.Kernel.Gen
open Idealize.ShloMosaic Idealize.ShloMosaic.TcCoe Idealize.ShloMosaic.Bits

/-- The choice depends on the rows in view alone. -/
theorem chosen_congr (key key' : ℕ → BitVec 32) (n : ℕ) (t : BitVec 32) (k a : ℕ) (h : ∀ row < 512 * n, key row = key' row)
    (H : Chosen key n t k a) : Chosen key' n t k a := by
  have e : ∀ (p : BitVec 32 → Prop) [DecidablePred p], (rowsAt n fun r => p (key r)) = rowsAt n fun r => p (key' r) := by
    intro p _
    refine Finset.filter_congr fun r _ => ?_
    show r.val < 512 * n ∧ p (key r.val) ↔ r.val < 512 * n ∧ p (key' r.val)
    by_cases hr : r.val < 512 * n
    · rw [h r.val hr]
    · simp only [hr, false_and]
  have e1 := e (fun x => t.toInt < x.toInt)
  have e2 := e (fun x => x = t)
  exact ⟨(congrArg (fun s => k + Finset.card s) e1.symm).trans H.above, H.tie.trans (congrArg Finset.card e2), H.pos, H.enough⟩

/-- One bit for the lanes: the greatest of their flags as numbers. -/
def flag {F : FTy → Type} [BitOps F] (mask : IVec S1x128 1) : F .f32 :=
  extractAt ![0, 0, 0] (shapeCast S1x1x1 (multiReduction .maximumf [1, 2] S1
    (shapeCast S1x1x128 (select mask (broadcast S1x128 (Scalar.ofBits (F := F) .f32 0x3F800000#32)) (broadcast S1x128 (Scalar.ofBits (F := F) .f32 0x00000000#32)))
      shapeCasts_S1x128_S1x1x128) 0xFF800000#32 reduces_S1x1x128_S1 (.inl rfl) rfl) shapeCasts_S1_S1x1x1) inpos_S1x1x1_p0_0_0

theorem flag_kernel (w : IVec S128x128 32) (q : FVec Bits S1x128 .f32) (t : IVec S1x128 32) :
    k0_pay1673 w q t = flag (F := Bits) (andi (cmpf .ogt (laneCount w) q) (cmpi .sgt t (broadcast S1x128 2394295605#32))) := rfl

theorem flag_plain (key : IVec S4096x128 32) (seen many : IVec S4096x128 1) :
    Cert.Reference.Gen.k0_pay60 (F := Bits) key seen many = flag (F := Bits) (Plain.tieMask key seen many) := rfl

theorem agree (r60 : IVec S128x128 32) (r61 : FVec Bits S1x128 .f32) (r62 : IVec S1x128 32) (Ks : ℕ → IVec S512x128 32) (n : ℕ) (hn : n ≤ 8)
    (key : IVec S4096x128 32) (hkey : ∀ l row, row < 512 * n → laneKey Ks l row = Plain.column key l row)
    (H : ∀ l : Fin 128, ∃ k a, Chosen (laneKey Ks l) n (r62 (ix2 0 l)) k a ∧ r61 (ix2 0 l) = f32OfNat k ∧ laneCount r60 (ix2 0 l) = f32OfNat a ∧ a ≤ 4096) :
    r62 = Att.cut (BitVec.ofNat 32 n) key ∧ r61 = Att.quota (F := Bits) (BitVec.ofNat 32 n) key
      ∧ Scalar.cmpf (F := Bits) .ogt (k0_pay1673 (F := Bits) r60 r61 r62) (Scalar.ofBits .f32 0x3F000000#32) = Att.tied (F := Bits) (BitVec.ofNat 32 n) key := by
  have hx : ∀ x : S1x128.Idx, ∃ l : Fin 128, x = ix2 0 l := by
    intro x
    refine ⟨x 1, ?_⟩
    rw [eq_ix2 x]
    congr 1
    exact Fin.ext (by have : (x 0).val < 1 := (x 0).isLt; show (x 0).val = 0; omega)
  have e1 : r62 = Att.cut (BitVec.ofNat 32 n) key := by
    funext x
    obtain ⟨l, rfl⟩ := hx x
    obtain ⟨k, a, h, -, -, -⟩ := H l
    exact (Plain.thr_apply n hn key l (chosen_congr _ _ n _ k a (hkey l) h)).symm
  have e2 : r61 = Att.quota (F := Bits) (BitVec.ofNat 32 n) key := by
    funext x
    obtain ⟨l, rfl⟩ := hx x
    obtain ⟨k, a, h, hk, -, ha⟩ := H l
    exact hk.trans (Plain.quota_apply n hn key l (chosen_congr _ _ n _ k a (hkey l) h) ha).symm
  refine ⟨e1, e2, ?_⟩
  refine congrArg (fun v => Scalar.cmpf (F := Bits) .ogt v (Scalar.ofBits .f32 0x3F000000#32)) ?_
  rw [flag_kernel, flag_plain]
  refine congrArg (flag (F := Bits)) ?_
  funext x
  obtain ⟨l, rfl⟩ := hx x
  obtain ⟨k, a, h, hk, hc, ha⟩ := H l
  rw [Plain.tieMask_apply n hn key l (chosen_congr _ _ n _ k a (hkey l) h) ha]
  show IntOp.andi (cmpf32 .ogt (laneCount r60 (ix2 0 l)) (r61 (ix2 0 l))) _ = _
  rw [hc, hk, cmpf32_ogt_nat (by omega) (by have := h.enough; omega)]
  rfl

end Cert.Proof.Sel

end
-- ==== Proof.Finish.lean ====
/- The attention's output: the heads' sums divided by their totals, in four pieces and whole. Untrusted. -/
module

public import proofs.«01_k».proof.Proof.Attend

@[expose] public section

set_option maxRecDepth 8192
set_option maxHeartbeats 400000

noncomputable section

namespace Cert.Proof.Sel

open Cert.Kernel Cert.Kernel.Gen
open Idealize.ShloMosaic Idealize.ShloMosaic.TcCoe
open Cert.Proof.Att

variable {F : FTy → Type} [BitOps F]

theorem slA (h : Fin 8) : S144x1024.Slices ![64 * (h.val / 4), 128 * h.val] S64x128 := by revert h; decide

theorem slRow (h : Fin 8) : S1x1024.Slices ![0, 128 * h.val] S1x128 := by revert h; decide

/-- A head's sums, divided by their total. -/
def headOut (A : FVec F S144x1024 .f32) (h : Fin 8) : FVec F S64x128 .f32 :=
  mulf (extractStridedSlice S64x128 ![64 * (h.val / 4), 128 * h.val] A (slA h))
    (broadcastTo S64x128 (extractStridedSlice S1x128 ![0, 128 * h.val]
      (divf (broadcast S1x1024 (Scalar.ofBits .f32 0x3F800000#32)) (extractStridedSlice S1x1024 ![128, 0] A Cert.Reference.Gen.slices_S144x1024_o128_0_S1x1024)) (slRow h)) Cert.Reference.Gen.broadcasts_S1x128_S64x128)

/-- Two heads' outputs, one above the other, turned and rounded. -/
def headPair (A : FVec F S144x1024 .f32) (h h' : Fin 8) : FVec F S128x128 .bf16 :=
  truncf .bf16 (transpose S128x128 [1, 0] (concatenate S128x128 0 [⟨S64x128, headOut A h⟩, ⟨S64x128, headOut A h'⟩] concatenates_S64x128_S64x128_S128x128_d0) transposes_S128x128_p1_0_S128x128) bitsLt_bf16_f32

theorem whole_apply (A : FVec F S144x1024 .f32) (r : Fin 128) (h : Fin 8) (d : Fin 64) (j : S128x512.Idx) (h0 : (j 0).val = r.val) (h1 : (j 1).val = 64 * h.val + d.val) :
    Cert.Reference.Gen.k0_pay71 A j = FloatOps.truncf .bf16 bitsLt_bf16_f32 (headOut A h (ix2 d r)) := by
  have hb : 64 * h.val + d.val < 512 := by clear h0 h1 j; omega
  have hj : j = ix2 r (⟨64 * h.val + d.val, hb⟩ : Fin 512) := by
    funext a; apply Fin.ext; fin_cases a
    · exact h0
    · exact h1
  subst hj
  refine congrArg (FloatOps.truncf .bf16 bitsLt_bf16_f32) ?_
  refine (transpose_apply [1, 0] _ Cert.Reference.Gen.transposes_S512x128_p1_0_S128x512 _ (ix2 (⟨64 * h.val + d.val, by omega⟩ : Fin 512) r) ?_).trans ?_
  · intro b; fin_cases b <;> rfl
  · refine concat8_apply (t := S512x128) (s₁ := S64x128) 0 (fun h => headOut A h) _ rfl 64 rfl _ h ?_ (ix2 d r) ?_ ?_
    · show (64 * h.val + d.val) / 64 = h.val; omega
    · show d.val = (64 * h.val + d.val) % 64; omega
    · intro b hb; fin_cases b
      · exact absurd rfl hb
      · rfl

theorem pair_fst (A : FVec F S144x1024 .f32) (h h' : Fin 8) (r : Fin 128) (d : Fin 64) (j : S128x128.Idx) (h0 : (j 0).val = r.val) (h1 : (j 1).val = d.val) :
    headPair A h h' j = FloatOps.truncf .bf16 bitsLt_bf16_f32 (headOut A h (ix2 d r)) := by
  have hb : d.val < 128 := by clear h0 h1 j; omega
  have hj : j = ix2 r (⟨d.val, hb⟩ : Fin 128) := by
    funext a; apply Fin.ext; fin_cases a
    · exact h0
    · exact h1
  subst hj
  refine congrArg (FloatOps.truncf .bf16 bitsLt_bf16_f32) ?_
  refine (transpose_apply [1, 0] _ transposes_S128x128_p1_0_S128x128 _ (ix2 (⟨d.val, by omega⟩ : Fin 128) r) ?_).trans ?_
  · intro b; fin_cases b <;> rfl
  · refine concatenate_apply_piece (t := S128x128) 0 [⟨S64x128, headOut A h⟩, ⟨S64x128, headOut A h'⟩] _ _ 0 Nat.zero_lt_two S64x128 (headOut A h) rfl rfl 0 rfl (ix2 d r) ?_ ?_
    · intro b hb; fin_cases b
      · exact absurd rfl hb
      · rfl
    · show 0 + d.val = d.val; omega

theorem pair_snd (A : FVec F S144x1024 .f32) (h h' : Fin 8) (r : Fin 128) (d : Fin 64) (j : S128x128.Idx) (h0 : (j 0).val = r.val) (h1 : (j 1).val = 64 + d.val) :
    headPair A h h' j = FloatOps.truncf .bf16 bitsLt_bf16_f32 (headOut A h' (ix2 d r)) := by
  have hb : 64 + d.val < 128 := by clear h0 h1 j; omega
  have hj : j = ix2 r (⟨64 + d.val, hb⟩ : Fin 128) := by
    funext a; apply Fin.ext; fin_cases a
    · exact h0
    · exact h1
  subst hj
  refine congrArg (FloatOps.truncf .bf16 bitsLt_bf16_f32) ?_
  refine (transpose_apply [1, 0] _ transposes_S128x128_p1_0_S128x128 _ (ix2 (⟨64 + d.val, by omega⟩ : Fin 128) r) ?_).trans ?_
  · intro b; fin_cases b <;> rfl
  · refine concatenate_apply_piece (t := S128x128) 0 [⟨S64x128, headOut A h⟩, ⟨S64x128, headOut A h'⟩] _ _ 1 Nat.one_lt_two S64x128 (headOut A h') rfl rfl 64 rfl (ix2 d r) ?_ ?_
    · intro b hb; fin_cases b
      · exact absurd rfl hb
      · rfl
    · rfl

/-- A piece of two heads is the whole's. -/
theorem pair_whole (A : FVec F S144x1024 .f32) (g : ℕ) (h h' : Fin 8) (e : h.val = 2 * g) (e' : h'.val = 2 * g + 1)
    (inb) (x : (Rect.unit (s := S128x512) ![0, 128 * g] S128x128.size inb).shape.Idx) :
    headPair A h h' x = Cert.Reference.Gen.k0_pay71 A ((Rect.unit (s := S128x512) ![0, 128 * g] S128x128.size inb).emb x) := by
  obtain ⟨r, l, rfl⟩ : ∃ (r : Fin 128) (l : Fin 128), x = ix2 r l := ⟨x 0, x 1, eq_ix2 x⟩
  by_cases hl : l.val < 64
  · refine (pair_fst A h h' r ⟨l.val, hl⟩ _ rfl rfl).trans (whole_apply A r h ⟨l.val, hl⟩ _ ?_ ?_).symm
    · show 0 + 1 * r.val = r.val; omega
    · show 128 * g + 1 * l.val = 64 * h.val + l.val; omega
  · refine (pair_snd A h h' r ⟨l.val - 64, by omega⟩ _ rfl ?_).trans (whole_apply A r h' ⟨l.val - 64, by omega⟩ _ ?_ ?_).symm
    · show l.val = 64 + (l.val - 64); omega
    · show 0 + 1 * r.val = r.val; omega
    · show 128 * g + 1 * l.val = 64 * h'.val + (l.val - 64); omega

/-- The four pieces. -/
def fourPieces (A : FVec F S144x1024 .f32) : List (View.Piece (Elt F) S128x512 .bf16) :=
  [⟨Rect.unit (s := S128x512) ![0, 384] S128x128.size Gen.inb_S128x512_S128x128_0_384, headPair A 6 7⟩, ⟨Rect.unit (s := S128x512) ![0, 256] S128x128.size Gen.inb_S128x512_S128x128_0_256, headPair A 4 5⟩, ⟨Rect.unit (s := S128x512) ![0, 128] S128x128.size Gen.inb_S128x512_S128x128_0_128, headPair A 2 3⟩, ⟨Rect.unit (s := S128x512) ![0, 0] S128x128.size Gen.inb_S128x512_S128x128_0_0, headPair A 0 1⟩]

theorem fourRead (v : View sig .tc .vmem S128x512 .bf16) (f : v.ty.Contents (Elt F)) (A : FVec F S144x1024 .f32) :
    v.read (Elt F) (v.writes (Elt F) f (fourPieces A)) = Cert.Reference.Gen.k0_pay71 A := by
  funext y
  have hy : (y 1).val < 512 := (y 1).isLt
  have hy0 : (y 0).val < 128 := (y 0).isLt
  have hm : ∀ (h : ℕ) (inb), h = (y 1).val / 128 → y ∈ (Rect.unit (s := S128x512) ![0, 128 * h] S128x128.size inb).set := by
    intro h inb hh
    rw [Rect.mem_set_unit]
    intro a
    fin_cases a
    · show 0 ≤ (y 0).val ∧ (y 0).val < 0 + 128; omega
    · show 128 * h ≤ (y 1).val ∧ (y 1).val < 128 * h + 128; omega
  refine View.read_writes_apply_of_pieces v f (Cert.Reference.Gen.k0_pay71 A) _ ?_ y ?_
  · intro p hp'
    simp only [fourPieces, List.mem_cons, List.not_mem_nil, or_false] at hp'
    rcases hp' with rfl | rfl | rfl | rfl
    · exact pair_whole A 3 6 7 rfl rfl Gen.inb_S128x512_S128x128_0_384
    · exact pair_whole A 2 4 5 rfl rfl Gen.inb_S128x512_S128x128_0_256
    · exact pair_whole A 1 2 3 rfl rfl Gen.inb_S128x512_S128x128_0_128
    · exact pair_whole A 0 0 1 rfl rfl Gen.inb_S128x512_S128x128_0_0
  · have h8 : (y 1).val / 128 < 4 := by omega
    generalize hk : (y 1).val / 128 = k at hm h8
    interval_cases k
    · exact ⟨_, .tail _ (.tail _ (.tail _ (.head _))), hm 0 Gen.inb_S128x512_S128x128_0_0 rfl⟩
    · exact ⟨_, .tail _ (.tail _ (.head _)), hm 1 Gen.inb_S128x512_S128x128_0_128 rfl⟩
    · exact ⟨_, .tail _ (.head _), hm 2 Gen.inb_S128x512_S128x128_0_256 rfl⟩
    · exact ⟨_, .head _, hm 3 Gen.inb_S128x512_S128x128_0_384 rfl⟩

theorem rowRead (v : View sig .tc .vmem S144x1024 .f32) (C : v.ty.Contents (Elt F)) :
    (View.readAt (Elt F) v (Rect.unit (s := S144x1024) ![128, 0] S1x1024.size Gen.inb_S144x1024_S1x1024_128_0).toLoadRect C) = extractStridedSlice (s := S144x1024) S1x1024 ![128, 0] ((View.readAt (Elt F) v (Rect.unit (s := S144x1024) ![0, 0] S144x1024.size Gen.inb_S144x1024_S144x1024_0_0).toLoadRect C) : FVec F S144x1024 .f32) Cert.Reference.Gen.slices_S144x1024_o128_0_S1x1024 := by
  funext j
  refine Eq.trans ?_ (extractStridedSlice_apply (s := S144x1024) ![128, 0] ((View.readAt (Elt F) v (Rect.unit (s := S144x1024) ![0, 0] S144x1024.size Gen.inb_S144x1024_S144x1024_0_0).toLoadRect C) : FVec F S144x1024 .f32) _ j ((Rect.unit (s := S144x1024) ![128, 0] S1x1024.size Gen.inb_S144x1024_S1x1024_128_0).toLoadRect.idx j) ?_).symm
  · refine congrArg (v.read (Elt F) C) (funext fun a => Fin.ext ?_)
    fin_cases a
    · show 128 + 1 * (j 0).val = 0 + 1 * (128 + 1 * (j 0).val); omega
    · show 0 + 1 * (j 1).val = 0 + 1 * (0 + 1 * (j 1).val); omega
  · intro a; fin_cases a
    · show 128 + 1 * (j 0).val = 128 + (j 0).val; omega
    · show 0 + 1 * (j 1).val = 0 + (j 1).val; omega

theorem cutRead (v : View sig .tc .vmem S144x1024 .f32) (C : v.ty.Contents (Elt F)) (h : Fin 8)
    (inb : ∀ a, (![64 * (h.val / 4), 128 * h.val] : Fin 2 → ℕ) a + S64x128.size a ≤ S144x1024.size a) :
    View.readAt (Elt F) v (Rect.unit (s := S144x1024) ![64 * (h.val / 4), 128 * h.val] S64x128.size inb).toLoadRect C
      = extractStridedSlice (s := S144x1024) S64x128 ![64 * (h.val / 4), 128 * h.val] ((View.readAt (Elt F) v (Rect.unit (s := S144x1024) ![0, 0] S144x1024.size Gen.inb_S144x1024_S144x1024_0_0).toLoadRect C) : FVec F S144x1024 .f32) (slA h) := by
  funext j
  refine Eq.trans ?_ (extractStridedSlice_apply (s := S144x1024) ![64 * (h.val / 4), 128 * h.val] ((View.readAt (Elt F) v (Rect.unit (s := S144x1024) ![0, 0] S144x1024.size Gen.inb_S144x1024_S144x1024_0_0).toLoadRect C) : FVec F S144x1024 .f32) _ j ((Rect.unit (s := S144x1024) ![64 * (h.val / 4), 128 * h.val] S64x128.size inb).toLoadRect.idx j) ?_).symm
  · refine congrArg (v.read (Elt F) C) (funext fun a => Fin.ext ?_)
    fin_cases a
    · show 64 * (h.val / 4) + 1 * (j 0).val = 0 + 1 * (64 * (h.val / 4) + 1 * (j 0).val); omega
    · show 128 * h.val + 1 * (j 1).val = 0 + 1 * (128 * h.val + 1 * (j 1).val); omega
  · intro a; fin_cases a
    · show 64 * (h.val / 4) + 1 * (j 0).val = 64 * (h.val / 4) + (j 0).val; omega
    · show 128 * h.val + 1 * (j 1).val = 128 * h.val + (j 1).val; omega

theorem tiedPieces (v : View sig .tc .vmem S144x1024 .f32) (C : v.ty.Contents (Elt F)) :
    ([⟨Rect.unit (s := S128x512) ![0, 384] S128x128.size Gen.inb_S128x512_S128x128_0_384, k0_pay3 (k0_pay1363 (View.readAt (Elt F) v (Rect.unit (s := S144x1024) ![128, 0] S1x1024.size Gen.inb_S144x1024_S1x1024_128_0).toLoadRect C)) (View.readAt (Elt F) v (Rect.unit (s := S144x1024) ![64, 768] S64x128.size Gen.inb_S144x1024_S64x128_64_768).toLoadRect C) (View.readAt (Elt F) v (Rect.unit (s := S144x1024) ![64, 896] S64x128.size Gen.inb_S144x1024_S64x128_64_896).toLoadRect C)⟩, ⟨Rect.unit (s := S128x512) ![0, 256] S128x128.size Gen.inb_S128x512_S128x128_0_256, k0_pay2 (k0_pay1363 (View.readAt (Elt F) v (Rect.unit (s := S144x1024) ![128, 0] S1x1024.size Gen.inb_S144x1024_S1x1024_128_0).toLoadRect C)) (View.readAt (Elt F) v (Rect.unit (s := S144x1024) ![64, 512] S64x128.size Gen.inb_S144x1024_S64x128_64_512).toLoadRect C) (View.readAt (Elt F) v (Rect.unit (s := S144x1024) ![64, 640] S64x128.size Gen.inb_S144x1024_S64x128_64_640).toLoadRect C)⟩, ⟨Rect.unit (s := S128x512) ![0, 128] S128x128.size Gen.inb_S128x512_S128x128_0_128, k0_pay1 (k0_pay1363 (View.readAt (Elt F) v (Rect.unit (s := S144x1024) ![128, 0] S1x1024.size Gen.inb_S144x1024_S1x1024_128_0).toLoadRect C)) (View.readAt (Elt F) v (Rect.unit (s := S144x1024) ![0, 256] S64x128.size Gen.inb_S144x1024_S64x128_0_256).toLoadRect C) (View.readAt (Elt F) v (Rect.unit (s := S144x1024) ![0, 384] S64x128.size Gen.inb_S144x1024_S64x128_0_384).toLoadRect C)⟩, ⟨Rect.unit (s := S128x512) ![0, 0] S128x128.size Gen.inb_S128x512_S128x128_0_0, k0_pay1364 (View.readAt (Elt F) v (Rect.unit (s := S144x1024) ![128, 0] S1x1024.size Gen.inb_S144x1024_S1x1024_128_0).toLoadRect C) (View.readAt (Elt F) v (Rect.unit (s := S144x1024) ![0, 0] S64x128.size Gen.inb_S144x1024_S64x128_0_0).toLoadRect C) (View.readAt (Elt F) v (Rect.unit (s := S144x1024) ![0, 128] S64x128.size Gen.inb_S144x1024_S64x128_0_128).toLoadRect C)⟩] : List (View.Piece (Elt F) S128x512 .bf16)) = fourPieces (View.readAt (Elt F) v (Rect.unit (s := S144x1024) ![0, 0] S144x1024.size Gen.inb_S144x1024_S144x1024_0_0).toLoadRect C) := by
  have key : ∀ (A : FVec F S144x1024 .f32) (x : FVec F S1x1024 .f32) (c0 c1 c2 c3 c4 c5 c6 c7 : FVec F S64x128 .f32),
      x = extractStridedSlice S1x1024 ![128, 0] A Cert.Reference.Gen.slices_S144x1024_o128_0_S1x1024 →
      c0 = extractStridedSlice S64x128 ![64 * (((0 : Fin 8)).val / 4), 128 * ((0 : Fin 8)).val] A (slA 0) → c1 = extractStridedSlice S64x128 ![64 * (((1 : Fin 8)).val / 4), 128 * ((1 : Fin 8)).val] A (slA 1) → c2 = extractStridedSlice S64x128 ![64 * (((2 : Fin 8)).val / 4), 128 * ((2 : Fin 8)).val] A (slA 2) → c3 = extractStridedSlice S64x128 ![64 * (((3 : Fin 8)).val / 4), 128 * ((3 : Fin 8)).val] A (slA 3) → c4 = extractStridedSlice S64x128 ![64 * (((4 : Fin 8)).val / 4), 128 * ((4 : Fin 8)).val] A (slA 4) → c5 = extractStridedSlice S64x128 ![64 * (((5 : Fin 8)).val / 4), 128 * ((5 : Fin 8)).val] A (slA 5) → c6 = extractStridedSlice S64x128 ![64 * (((6 : Fin 8)).val / 4), 128 * ((6 : Fin 8)).val] A (slA 6) → c7 = extractStridedSlice S64x128 ![64 * (((7 : Fin 8)).val / 4), 128 * ((7 : Fin 8)).val] A (slA 7) →
      ([⟨Rect.unit (s := S128x512) ![0, 384] S128x128.size Gen.inb_S128x512_S128x128_0_384, k0_pay3 (k0_pay1363 x) c6 c7⟩, ⟨Rect.unit (s := S128x512) ![0, 256] S128x128.size Gen.inb_S128x512_S128x128_0_256, k0_pay2 (k0_pay1363 x) c4 c5⟩, ⟨Rect.unit (s := S128x512) ![0, 128] S128x128.size Gen.inb_S128x512_S128x128_0_128, k0_pay1 (k0_pay1363 x) c2 c3⟩, ⟨Rect.unit (s := S128x512) ![0, 0] S128x128.size Gen.inb_S128x512_S128x128_0_0, k0_pay1364 x c0 c1⟩] : List (View.Piece (Elt F) S128x512 .bf16)) = fourPieces A := by
    rintro A _ _ _ _ _ _ _ _ _ rfl rfl rfl rfl rfl rfl rfl rfl rfl
    rfl
  exact key _ _ _ _ _ _ _ _ _ _ (rowRead v C) (cutRead v C 0 Gen.inb_S144x1024_S64x128_0_0) (cutRead v C 1 Gen.inb_S144x1024_S64x128_0_128) (cutRead v C 2 Gen.inb_S144x1024_S64x128_0_256) (cutRead v C 3 Gen.inb_S144x1024_S64x128_0_384) (cutRead v C 4 Gen.inb_S144x1024_S64x128_64_512) (cutRead v C 5 Gen.inb_S144x1024_S64x128_64_640) (cutRead v C 6 Gen.inb_S144x1024_S64x128_64_768) (cutRead v C 7 Gen.inb_S144x1024_S64x128_64_896)

theorem freePieces (v : View sig .tc .vmem S144x1024 .f32) (C : v.ty.Contents (Elt F)) :
    ([⟨Rect.unit (s := S128x512) ![0, 384] S128x128.size Gen.inb_S128x512_S128x128_0_384, k0_pay6 (k0_pay1459 (View.readAt (Elt F) v (Rect.unit (s := S144x1024) ![128, 0] S1x1024.size Gen.inb_S144x1024_S1x1024_128_0).toLoadRect C)) (View.readAt (Elt F) v (Rect.unit (s := S144x1024) ![64, 768] S64x128.size Gen.inb_S144x1024_S64x128_64_768).toLoadRect C) (View.readAt (Elt F) v (Rect.unit (s := S144x1024) ![64, 896] S64x128.size Gen.inb_S144x1024_S64x128_64_896).toLoadRect C)⟩, ⟨Rect.unit (s := S128x512) ![0, 256] S128x128.size Gen.inb_S128x512_S128x128_0_256, k0_pay5 (k0_pay1459 (View.readAt (Elt F) v (Rect.unit (s := S144x1024) ![128, 0] S1x1024.size Gen.inb_S144x1024_S1x1024_128_0).toLoadRect C)) (View.readAt (Elt F) v (Rect.unit (s := S144x1024) ![64, 512] S64x128.size Gen.inb_S144x1024_S64x128_64_512).toLoadRect C) (View.readAt (Elt F) v (Rect.unit (s := S144x1024) ![64, 640] S64x128.size Gen.inb_S144x1024_S64x128_64_640).toLoadRect C)⟩, ⟨Rect.unit (s := S128x512) ![0, 128] S128x128.size Gen.inb_S128x512_S128x128_0_128, k0_pay4 (k0_pay1461 (View.readAt (Elt F) v (Rect.unit (s := S144x1024) ![128, 0] S1x1024.size Gen.inb_S144x1024_S1x1024_128_0).toLoadRect C) (View.readAt (Elt F) v (Rect.unit (s := S144x1024) ![0, 256] S64x128.size Gen.inb_S144x1024_S64x128_0_256).toLoadRect C)) (k0_pay1462 (View.readAt (Elt F) v (Rect.unit (s := S144x1024) ![128, 0] S1x1024.size Gen.inb_S144x1024_S1x1024_128_0).toLoadRect C) (View.readAt (Elt F) v (Rect.unit (s := S144x1024) ![0, 384] S64x128.size Gen.inb_S144x1024_S64x128_0_384).toLoadRect C))⟩, ⟨Rect.unit (s := S128x512) ![0, 0] S128x128.size Gen.inb_S128x512_S128x128_0_0, k0_pay1460 (View.readAt (Elt F) v (Rect.unit (s := S144x1024) ![128, 0] S1x1024.size Gen.inb_S144x1024_S1x1024_128_0).toLoadRect C) (View.readAt (Elt F) v (Rect.unit (s := S144x1024) ![0, 0] S64x128.size Gen.inb_S144x1024_S64x128_0_0).toLoadRect C) (View.readAt (Elt F) v (Rect.unit (s := S144x1024) ![0, 128] S64x128.size Gen.inb_S144x1024_S64x128_0_128).toLoadRect C)⟩] : List (View.Piece (Elt F) S128x512 .bf16)) = fourPieces (View.readAt (Elt F) v (Rect.unit (s := S144x1024) ![0, 0] S144x1024.size Gen.inb_S144x1024_S144x1024_0_0).toLoadRect C) := by
  have key : ∀ (A : FVec F S144x1024 .f32) (x : FVec F S1x1024 .f32) (c0 c1 c2 c3 c4 c5 c6 c7 : FVec F S64x128 .f32),
      x = extractStridedSlice S1x1024 ![128, 0] A Cert.Reference.Gen.slices_S144x1024_o128_0_S1x1024 →
      c0 = extractStridedSlice S64x128 ![64 * (((0 : Fin 8)).val / 4), 128 * ((0 : Fin 8)).val] A (slA 0) → c1 = extractStridedSlice S64x128 ![64 * (((1 : Fin 8)).val / 4), 128 * ((1 : Fin 8)).val] A (slA 1) → c2 = extractStridedSlice S64x128 ![64 * (((2 : Fin 8)).val / 4), 128 * ((2 : Fin 8)).val] A (slA 2) → c3 = extractStridedSlice S64x128 ![64 * (((3 : Fin 8)).val / 4), 128 * ((3 : Fin 8)).val] A (slA 3) → c4 = extractStridedSlice S64x128 ![64 * (((4 : Fin 8)).val / 4), 128 * ((4 : Fin 8)).val] A (slA 4) → c5 = extractStridedSlice S64x128 ![64 * (((5 : Fin 8)).val / 4), 128 * ((5 : Fin 8)).val] A (slA 5) → c6 = extractStridedSlice S64x128 ![64 * (((6 : Fin 8)).val / 4), 128 * ((6 : Fin 8)).val] A (slA 6) → c7 = extractStridedSlice S64x128 ![64 * (((7 : Fin 8)).val / 4), 128 * ((7 : Fin 8)).val] A (slA 7) →
      ([⟨Rect.unit (s := S128x512) ![0, 384] S128x128.size Gen.inb_S128x512_S128x128_0_384, k0_pay6 (k0_pay1459 x) c6 c7⟩, ⟨Rect.unit (s := S128x512) ![0, 256] S128x128.size Gen.inb_S128x512_S128x128_0_256, k0_pay5 (k0_pay1459 x) c4 c5⟩, ⟨Rect.unit (s := S128x512) ![0, 128] S128x128.size Gen.inb_S128x512_S128x128_0_128, k0_pay4 (k0_pay1461 x c2) (k0_pay1462 x c3)⟩, ⟨Rect.unit (s := S128x512) ![0, 0] S128x128.size Gen.inb_S128x512_S128x128_0_0, k0_pay1460 x c0 c1⟩] : List (View.Piece (Elt F) S128x512 .bf16)) = fourPieces A := by
    rintro A _ _ _ _ _ _ _ _ _ rfl rfl rfl rfl rfl rfl rfl rfl rfl
    rfl
  exact key _ _ _ _ _ _ _ _ _ _ (rowRead v C) (cutRead v C 0 Gen.inb_S144x1024_S64x128_0_0) (cutRead v C 1 Gen.inb_S144x1024_S64x128_0_128) (cutRead v C 2 Gen.inb_S144x1024_S64x128_0_256) (cutRead v C 3 Gen.inb_S144x1024_S64x128_0_384) (cutRead v C 4 Gen.inb_S144x1024_S64x128_64_512) (cutRead v C 5 Gen.inb_S144x1024_S64x128_64_640) (cutRead v C 6 Gen.inb_S144x1024_S64x128_64_768) (cutRead v C 7 Gen.inb_S144x1024_S64x128_64_896)

end Cert.Proof.Sel

end
-- ==== Proof.Output.lean ====
/- What the body leaves in the output: the rows of its block. Untrusted. -/
module

public import proofs.«01_k».proof.Proof.Inputs
public import proofs.«01_k».proof.Proof.Agree
public import proofs.«01_k».proof.Proof.Attend
public import proofs.«01_k».proof.Proof.Finish
public import proofs.«01_k».proof.Proof.Body

@[expose] public section

set_option maxRecDepth 8192
set_option maxHeartbeats 400000

noncomputable section

namespace Cert.Proof.Sel

open Cert.Kernel Cert.Kernel.Gen
open Idealize.ShloMosaic Idealize.ShloMosaic.TcCoe Cert.Proof.Att

theorem keys_in (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X3 : BufTy.Contents (Elt Bits) arg3.view.ty) (X4 : BufTy.Contents (Elt Bits) arg4.view.ty) (X7 : BufTy.Contents (Elt Bits) arg7.view.ty) (f9 : BufTy.Contents (Elt Bits) arg9.view.ty) (j : ℕ) (hj : j < (k0_t1_loop i).trips)
    (off) (inb) (ho : off = ![512 * j, 0]) :
    View.readAt (Elt Bits) arg9.view (Rect.unit (s := S4096x128) off S512x128.size inb).toLoadRect (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) = (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3))) j := by
  obtain ⟨hv, hc⟩ := scorePieces_keys (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3)))
    (fun k => dif_pos k.isLt) (k0_t1_loop i).trips (le_refl _)
  have h8 : j < 8 := Nat.lt_of_lt_of_le hj ((tripsAll i).1 ▸ seen_le _)
  refine load_at arg9.view _ _ _ _ _ ho _ fun x => ⟨ix2 (⟨512 * j + (x 0).val, by have b0 : (x 0).val < 512 := (x 0).isLt; omega⟩ : Fin 4096) (x 1 : Fin 128), fun a => ?_, ?_⟩
  · fin_cases a
    · show 512 * j + 1 * (x 0).val = 512 * j + (x 0).val; omega
    · show 0 + 1 * (x 1).val = (x 1).val; omega
  · have b0 : (x 0).val < 512 := (x 0).isLt
    refine (View.read_writes_apply_of_pieces (Val := Elt Bits) arg9.view f9 (keysG (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3)))) _ hv _ (hc _ _ ?_)).trans ?_
    · show (512 * j + (x 0).val) / 512 < _
      rw [show (512 * j + (x 0).val) / 512 = j by omega]; exact hj
    · generalize (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3))) = Ks
      obtain ⟨r, l, rfl⟩ : ∃ (r : Fin 512) (l : Fin 128), x = ix2 r l := ⟨x 0, x 1, eq_ix2 x⟩
      exact laneKey_at Ks l (512 * j + r.val) j r.val r.isLt rfl

theorem none_left4 (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X5 : BufTy.Contents (Elt Bits) arg5.view.ty) (X6 : BufTy.Contents (Elt Bits) arg6.view.ty) (w0 w1 w2 w3 A9 A12 w13 w14 acc) :
    (st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 A9 A12 w13 w14 acc (k0_t4_loop i).trips).2.2 = [] := by
  rw [(tripsAll i).2.2.2.1]; rfl

theorem none_left6 (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X5 : BufTy.Contents (Elt Bits) arg5.view.ty) (X6 : BufTy.Contents (Elt Bits) arg6.view.ty) (w0 w1 w2 A9 A12 w13 w14 acc) :
    (st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 A9 A12 w13 w14 acc (k0_t6_loop i).trips).2.2 = [] := by
  rw [(tripsAll i).2.2.2.2]; rfl

theorem tiedList (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty) (f9 : BufTy.Contents (Elt Bits) arg9.view.ty) (f10 : BufTy.Contents (Elt Bits) arg10.view.ty) (f13 : BufTy.Contents (Elt Bits) arg13.view.ty) :
    (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 f9 f10 f13
      = fourPieces (View.readAt (Elt Bits) arg14.view (Rect.unit (s := S144x1024) ![0, 0] S144x1024.size Gen.inb_S144x1024_S144x1024_0_0).toLoadRect (arg14.view.writes (Elt Bits) (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2)) := by
  have e : ∃ w0 w1 w2 w3 w13 w14 acc, (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 f9 f10 f13
      = ([⟨Rect.unit (s := S128x512) ![0, 384] S128x128.size Gen.inb_S128x512_S128x128_0_384, k0_pay3 (k0_pay1363 (View.readAt (Elt Bits) arg14.view (Rect.unit (s := S144x1024) ![128, 0] S1x1024.size Gen.inb_S144x1024_S1x1024_128_0).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))) (View.readAt (Elt Bits) arg14.view (Rect.unit (s := S144x1024) ![64, 768] S64x128.size Gen.inb_S144x1024_S64x128_64_768).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32)))))) (View.readAt (Elt Bits) arg14.view (Rect.unit (s := S144x1024) ![64, 896] S64x128.size Gen.inb_S144x1024_S64x128_64_896).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))⟩, ⟨Rect.unit (s := S128x512) ![0, 256] S128x128.size Gen.inb_S128x512_S128x128_0_256, k0_pay2 (k0_pay1363 (View.readAt (Elt Bits) arg14.view (Rect.unit (s := S144x1024) ![128, 0] S1x1024.size Gen.inb_S144x1024_S1x1024_128_0).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))) (View.readAt (Elt Bits) arg14.view (Rect.unit (s := S144x1024) ![64, 512] S64x128.size Gen.inb_S144x1024_S64x128_64_512).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32)))))) (View.readAt (Elt Bits) arg14.view (Rect.unit (s := S144x1024) ![64, 640] S64x128.size Gen.inb_S144x1024_S64x128_64_640).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))⟩, ⟨Rect.unit (s := S128x512) ![0, 128] S128x128.size Gen.inb_S128x512_S128x128_0_128, k0_pay1 (k0_pay1363 (View.readAt (Elt Bits) arg14.view (Rect.unit (s := S144x1024) ![128, 0] S1x1024.size Gen.inb_S144x1024_S1x1024_128_0).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))) (View.readAt (Elt Bits) arg14.view (Rect.unit (s := S144x1024) ![0, 256] S64x128.size Gen.inb_S144x1024_S64x128_0_256).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32)))))) (View.readAt (Elt Bits) arg14.view (Rect.unit (s := S144x1024) ![0, 384] S64x128.size Gen.inb_S144x1024_S64x128_0_384).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))⟩, ⟨Rect.unit (s := S128x512) ![0, 0] S128x128.size Gen.inb_S128x512_S128x128_0_0, k0_pay1364 (View.readAt (Elt Bits) arg14.view (Rect.unit (s := S144x1024) ![128, 0] S1x1024.size Gen.inb_S144x1024_S1x1024_128_0).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32)))))) (View.readAt (Elt Bits) arg14.view (Rect.unit (s := S144x1024) ![0, 0] S64x128.size Gen.inb_S144x1024_S64x128_0_0).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32)))))) (View.readAt (Elt Bits) arg14.view (Rect.unit (s := S144x1024) ![0, 128] S64x128.size Gen.inb_S144x1024_S64x128_0_128).toLoadRect (arg14.view.writes (Elt Bits) arg14.view.junk ((st_k0_t4 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 w3 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t4_loop i).trips).2.2 ++ ((st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2 ++ ([⟨(Rect.unit (s := S144x1024) ![0, 0] S144x1024.size Gen.inb_S144x1024_S144x1024_0_0), (k0_pay1347 (F := Bits))⟩] : List (View.Piece (Elt Bits) S144x1024 .f32))))))⟩] : List (View.Piece (Elt Bits) S128x512 .bf16)) := by
    unfold bodyRun
    exact ⟨_, _, _, _, _, _, _, rfl⟩
  obtain ⟨w0, w1, w2, w3, w13, w14, acc, e⟩ := e
  rw [e, tiedPieces, none_left4, List.nil_append, View.writes_append]

theorem freeList (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty) (f9 : BufTy.Contents (Elt Bits) arg9.view.ty) (f10 : BufTy.Contents (Elt Bits) arg10.view.ty) (f13 : BufTy.Contents (Elt Bits) arg13.view.ty) :
    (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 f9 f10 f13
      = fourPieces (View.readAt (Elt Bits) arg14.view (Rect.unit (s := S144x1024) ![0, 0] S144x1024.size Gen.inb_S144x1024_S144x1024_0_0).toLoadRect (arg14.view.writes (Elt Bits) (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) (st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2)) := by
  have e : ∃ w0 w1 w2 w13 w14 acc, (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 f9 f10 f13
      = ([⟨Rect.unit (s := S128x512) ![0, 384] S128x128.size Gen.inb_S128x512_S128x128_0_384, k0_pay6 (k0_pay1459 (View.readAt (Elt Bits) arg14.view (Rect.unit (s := S144x1024) ![128, 0] S1x1024.size Gen.inb_S144x1024_S1x1024_128_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))) (View.readAt (Elt Bits) arg14.view (Rect.unit (s := S144x1024) ![64, 768] S64x128.size Gen.inb_S144x1024_S64x128_64_768).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![64, 896] S64x128.size Gen.inb_S144x1024_S64x128_64_896).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))⟩, ⟨Rect.unit (s := S128x512) ![0, 256] S128x128.size Gen.inb_S128x512_S128x128_0_256, k0_pay5 (k0_pay1459 (View.readAt (Elt Bits) arg14.view (Rect.unit (s := S144x1024) ![128, 0] S1x1024.size Gen.inb_S144x1024_S1x1024_128_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))) (View.readAt (Elt Bits) arg14.view (Rect.unit (s := S144x1024) ![64, 512] S64x128.size Gen.inb_S144x1024_S64x128_64_512).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![64, 640] S64x128.size Gen.inb_S144x1024_S64x128_64_640).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))⟩, ⟨Rect.unit (s := S128x512) ![0, 128] S128x128.size Gen.inb_S128x512_S128x128_0_128, k0_pay4 (k0_pay1461 (View.readAt (Elt Bits) arg14.view (Rect.unit (s := S144x1024) ![128, 0] S1x1024.size Gen.inb_S144x1024_S1x1024_128_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![0, 256] S64x128.size Gen.inb_S144x1024_S64x128_0_256).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))) (k0_pay1462 (View.readAt (Elt Bits) arg14.view (Rect.unit (s := S144x1024) ![128, 0] S1x1024.size Gen.inb_S144x1024_S1x1024_128_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![0, 384] S64x128.size Gen.inb_S144x1024_S64x128_0_384).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))))⟩, ⟨Rect.unit (s := S128x512) ![0, 0] S128x128.size Gen.inb_S128x512_S128x128_0_0, k0_pay1460 (View.readAt (Elt Bits) arg14.view (Rect.unit (s := S144x1024) ![128, 0] S1x1024.size Gen.inb_S144x1024_S1x1024_128_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![0, 0] S64x128.size Gen.inb_S144x1024_S64x128_0_0).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32)))))) (View.readAt (Elt Bits) arg14.view (Rect.unit (s := S144x1024) ![0, 128] S64x128.size Gen.inb_S144x1024_S64x128_0_128).toLoadRect (arg14.view.writes (Elt Bits) arg14.view.junk ((st_k0_t6 (F := Bits) Variants.none c none i arg2 harg2 arg3 harg3 arg4 harg4 arg5 harg5 arg6 harg6 arg7 harg7 arg8 harg8 arg9 harg9 arg10 harg10 arg11 harg11 arg12 harg12 arg13 harg13 arg14 harg14 w0 w1 w2 X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) w13 w14 acc (k0_t6_loop i).trips).2.2 ++ ((st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2 ++ ([⟨(Rect.unit (s := S144x1024) ![0, 0] S144x1024.size Gen.inb_S144x1024_S144x1024_0_0), (k0_pay1453 (F := Bits))⟩] : List (View.Piece (Elt Bits) S144x1024 .f32))))))⟩] : List (View.Piece (Elt Bits) S128x512 .bf16)) := by
    unfold bodyRun
    exact ⟨_, _, _, _, _, _, rfl⟩
  obtain ⟨w0, w1, w2, w13, w14, acc, e⟩ := e
  rw [e, freePieces, none_left6, List.nil_append, View.writes_append]

end Cert.Proof.Sel

end
-- ==== Proof.BlockOut.lean ====
/- The rows a grid point leaves in the output, as the plain mathematics gives them. Untrusted. -/
module

public import proofs.«01_k».proof.Proof.Output

@[expose] public section

set_option maxRecDepth 8192
set_option maxHeartbeats 400000

noncomputable section

namespace Cert.Proof.Sel

open Cert.Kernel Cert.Kernel.Gen
open Idealize.ShloMosaic Idealize.ShloMosaic.TcCoe Cert.Proof.Att Idealize.ShloMosaic.Bits

/-- A tile in view is the plain one. -/
theorem tile_plain (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty)
    (AQ : Cert.Reference.S256x512x128.Idx → Elt Bits .bf16) (IQ : Cert.Reference.S256x256x128.Idx → Elt Bits .bf16) (SM : Cert.Reference.S32768x128.Idx → Elt Bits .f32) (K : Cert.Reference.S32768x128.Idx → Elt Bits .bf16) (V : Cert.Reference.S64x144x512.Idx → Elt Bits .bf16) (IK : Cert.Reference.S32768x32.Idx → Elt Bits .bf16) (t : ℕ) (ht : t = 32 * (i 0).val + (i 1).val)
    (h2 : ∀ y : S1x512x128.Idx, arg2.view.read (Elt Bits) X2 y = AQ (ix3 (Fin.ofNat 256 t) (y 1 : Fin 512) (y 2 : Fin 128)))
    (h3 : ∀ y : S1x256x128.Idx, arg3.view.read (Elt Bits) X3 y = IQ (ix3 (Fin.ofNat 256 t) (y 1 : Fin 256) (y 2 : Fin 128)))
    (h4 : ∀ y : S128x128.Idx, arg4.view.read (Elt Bits) X4 y = SM (ix2 (Fin.ofNat 32768 (128 * t + (y 0).val)) (y 1 : Fin 128)))
    (h5 : ∀ y : S4096x128.Idx, arg5.view.read (Elt Bits) X5 y = K (ix2 (Fin.ofNat 32768 (4096 * (t / 32) + (y 0).val)) (y 1 : Fin 128)))
    (h6 : ∀ y : S8x144x512.Idx, arg6.view.read (Elt Bits) X6 y = V (ix3 (Fin.ofNat 64 (8 * (t / 32) + (y 0).val)) (y 1 : Fin 144) (y 2 : Fin 512)))
    (h7 : ∀ y : S4096x32.Idx, arg7.view.read (Elt Bits) X7 y = IK (ix2 (Fin.ofNat 32768 (4096 * (t / 32) + (y 0).val)) (y 1 : Fin 32)))
 (j : ℕ) (hj : j < (k0_t1_loop i).trips) : (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3))) j = tileKeys (BitVec.ofNat 32 (t % 32)) (smAt SM t) (iqAt IQ t) (ikAt IK (t / 32)) j := by
  refine Eq.trans ?_ (tiles_in i arg3 X3 arg4 X4 arg7 X7 arg11 IQ SM IK t (t / 32) ht h3 h4 h7 ⟨j, hj⟩)
  unfold tiles
  exact dif_pos hj

/-- The threshold, its quota and the tie's bit are the plain ones. -/
theorem chosen_out (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty)
    (AQ : Cert.Reference.S256x512x128.Idx → Elt Bits .bf16) (IQ : Cert.Reference.S256x256x128.Idx → Elt Bits .bf16) (SM : Cert.Reference.S32768x128.Idx → Elt Bits .f32) (K : Cert.Reference.S32768x128.Idx → Elt Bits .bf16) (V : Cert.Reference.S64x144x512.Idx → Elt Bits .bf16) (IK : Cert.Reference.S32768x32.Idx → Elt Bits .bf16) (t : ℕ) (ht : t = 32 * (i 0).val + (i 1).val)
    (h2 : ∀ y : S1x512x128.Idx, arg2.view.read (Elt Bits) X2 y = AQ (ix3 (Fin.ofNat 256 t) (y 1 : Fin 512) (y 2 : Fin 128)))
    (h3 : ∀ y : S1x256x128.Idx, arg3.view.read (Elt Bits) X3 y = IQ (ix3 (Fin.ofNat 256 t) (y 1 : Fin 256) (y 2 : Fin 128)))
    (h4 : ∀ y : S128x128.Idx, arg4.view.read (Elt Bits) X4 y = SM (ix2 (Fin.ofNat 32768 (128 * t + (y 0).val)) (y 1 : Fin 128)))
    (h5 : ∀ y : S4096x128.Idx, arg5.view.read (Elt Bits) X5 y = K (ix2 (Fin.ofNat 32768 (4096 * (t / 32) + (y 0).val)) (y 1 : Fin 128)))
    (h6 : ∀ y : S8x144x512.Idx, arg6.view.read (Elt Bits) X6 y = V (ix3 (Fin.ofNat 64 (8 * (t / 32) + (y 0).val)) (y 1 : Fin 144) (y 2 : Fin 512)))
    (h7 : ∀ y : S4096x32.Idx, arg7.view.read (Elt Bits) X7 y = IK (ix2 (Fin.ofNat 32768 (4096 * (t / 32) + (y 0).val)) (y 1 : Fin 32)))
    (f9 : BufTy.Contents (Elt Bits) arg9.view.ty) (f10 : BufTy.Contents (Elt Bits) arg10.view.ty) (f13 : BufTy.Contents (Elt Bits) arg13.view.ty) :
    (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = cut (BitVec.ofNat 32 (seen t)) (allKeys (BitVec.ofNat 32 (t % 32)) (smAt SM t) (iqAt IQ t) (ikAt IK (t / 32))) ∧ (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = quota (F := Bits) (BitVec.ofNat 32 (seen t)) (allKeys (BitVec.ofNat 32 (t % 32)) (smAt SM t) (iqAt IQ t) (ikAt IK (t / 32)))
      ∧ (bodyRun.sl.v749 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = tied (F := Bits) (BitVec.ofNat 32 (seen t)) (allKeys (BitVec.ofNat 32 (t % 32)) (smAt SM t) (iqAt IQ t) (ikAt IK (t / 32))) := by
  have hn : (k0_t1_loop i).trips = seen t := by rw [ht]; exact (tripsAll i).1
  have H := agree (bodyRun.sl.r_60 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (tiles i arg7 arg11 (bodyRun.sl.r (F := Bits) arg4 X4) (bodyRun.sl.v0 i) bodyRun.sl.v56 bodyRun.sl.v61 X7 (arg11.view.writes (Elt Bits) arg11.view.junk (bodyRun.sl.H11_8 (F := Bits) arg3 X3))) (k0_t1_loop i).trips (hn ▸ seen_le t) (allKeys (BitVec.ofNat 32 (t % 32)) (smAt SM t) (iqAt IQ t) (ikAt IK (t / 32))) ?_
    (fun l => choice c i arg2 harg2 arg3 harg3 arg4 harg4 arg5 harg5 arg6 harg6 arg7 harg7 arg8 harg8 arg9 harg9 arg10 harg10 arg11 harg11 arg12 harg12 arg13 harg13 arg14 harg14 X3 X4 X7 f10 l)
  · rw [hn] at H
    exact H
  · intro l row hrow
    have h8 : (k0_t1_loop i).trips ≤ 8 := hn ▸ seen_le t
    have hr : row < 4096 := by omega
    have hq : row / 512 < (k0_t1_loop i).trips := by omega
    refine (laneKey_at _ l row (row / 512) (row % 512) (Nat.mod_lt _ (by decide)) (by omega)).trans ?_
    rw [tile_plain c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 (row / 512) hq]
    refine Eq.trans ?_ (stacked_apply (fun j : Fin 8 => tileKeys (BitVec.ofNat 32 (t % 32)) (smAt SM t) (iqAt IQ t) (ikAt IK (t / 32)) j.val) ⟨row / 512, by omega⟩ ⟨row % 512, Nat.mod_lt _ (by decide)⟩ l
      (ix2 (Fin.ofNat 4096 row) l) ?_ rfl).symm
    · rfl
    · show row % 4096 = 512 * (row / 512) + row % 512
      omega

theorem tied_out (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty)
    (AQ : Cert.Reference.S256x512x128.Idx → Elt Bits .bf16) (IQ : Cert.Reference.S256x256x128.Idx → Elt Bits .bf16) (SM : Cert.Reference.S32768x128.Idx → Elt Bits .f32) (K : Cert.Reference.S32768x128.Idx → Elt Bits .bf16) (V : Cert.Reference.S64x144x512.Idx → Elt Bits .bf16) (IK : Cert.Reference.S32768x32.Idx → Elt Bits .bf16) (t : ℕ) (ht : t = 32 * (i 0).val + (i 1).val)
    (h2 : ∀ y : S1x512x128.Idx, arg2.view.read (Elt Bits) X2 y = AQ (ix3 (Fin.ofNat 256 t) (y 1 : Fin 512) (y 2 : Fin 128)))
    (h3 : ∀ y : S1x256x128.Idx, arg3.view.read (Elt Bits) X3 y = IQ (ix3 (Fin.ofNat 256 t) (y 1 : Fin 256) (y 2 : Fin 128)))
    (h4 : ∀ y : S128x128.Idx, arg4.view.read (Elt Bits) X4 y = SM (ix2 (Fin.ofNat 32768 (128 * t + (y 0).val)) (y 1 : Fin 128)))
    (h5 : ∀ y : S4096x128.Idx, arg5.view.read (Elt Bits) X5 y = K (ix2 (Fin.ofNat 32768 (4096 * (t / 32) + (y 0).val)) (y 1 : Fin 128)))
    (h6 : ∀ y : S8x144x512.Idx, arg6.view.read (Elt Bits) X6 y = V (ix3 (Fin.ofNat 64 (8 * (t / 32) + (y 0).val)) (y 1 : Fin 144) (y 2 : Fin 512)))
    (h7 : ∀ y : S4096x32.Idx, arg7.view.read (Elt Bits) X7 y = IK (ix2 (Fin.ofNat 32768 (4096 * (t / 32) + (y 0).val)) (y 1 : Fin 32)))
    (f9 : BufTy.Contents (Elt Bits) arg9.view.ty) (f10 : BufTy.Contents (Elt Bits) arg10.view.ty) (f13 : BufTy.Contents (Elt Bits) arg13.view.ty)
    (e62 : (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = cut (BitVec.ofNat 32 (seen t)) (allKeys (BitVec.ofNat 32 (t % 32)) (smAt SM t) (iqAt IQ t) (ikAt IK (t / 32)))) (e61 : (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = quota (F := Bits) (BitVec.ofNat 32 (seen t)) (allKeys (BitVec.ofNat 32 (t % 32)) (smAt SM t) (iqAt IQ t) (ikAt IK (t / 32)))) (hT : tied (F := Bits) (BitVec.ofNat 32 (seen t)) (allKeys (BitVec.ofNat 32 (t % 32)) (smAt SM t) (iqAt IQ t) (ikAt IK (t / 32))) = 1#1) :
    View.readAt (Elt Bits) arg14.view (Rect.unit (s := S144x1024) ![0, 0] S144x1024.size Gen.inb_S144x1024_S144x1024_0_0).toLoadRect (arg14.view.writes (Elt Bits) (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (st_k0_t3 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32))) (k0_pay1349, k0_pay1350) (k0_t3_loop i).trips).2.2)
      = (plainAt (cut (BitVec.ofNat 32 (seen t)) (allKeys (BitVec.ofNat 32 (t % 32)) (smAt SM t) (iqAt IQ t) (ikAt IK (t / 32)))) (tied (F := Bits) (BitVec.ofNat 32 (seen t)) (allKeys (BitVec.ofNat 32 (t % 32)) (smAt SM t) (iqAt IQ t) (ikAt IK (t / 32)))) (quota (BitVec.ofNat 32 (seen t)) (allKeys (BitVec.ofNat 32 (t % 32)) (smAt SM t) (iqAt IQ t) (ikAt IK (t / 32)))) (queries (aqAt AQ t)) (fun j => tileKeys (BitVec.ofNat 32 (t % 32)) (smAt SM t) (iqAt IQ t) (ikAt IK (t / 32)) j) (kAt K (t / 32)) (vAt V (t / 32)) (seen t)).2.1 := by
  have hb : t / 32 = (i 0).val := by rw [ht]; exact (startWord i).2.1
  have hn : (k0_t3_loop i).trips = seen t := by rw [ht]; exact (tripsAll i).2.1
  have hn1 : (k0_t1_loop i).trips = seen t := by rw [ht]; exact (tripsAll i).1
  have h8 : ∀ k : Fin (k0_t3_loop i).trips, k.val < 8 := fun k => Nat.lt_of_lt_of_le k.isLt (hn ▸ seen_le t)
  have hlt : ∀ k : Fin (k0_t3_loop i).trips, k.val < (k0_t1_loop i).trips := fun k => Nat.lt_of_lt_of_le k.isLt (le_of_eq (hn.trans hn1.symm))
  have hkeys : ∀ k : Fin (k0_t3_loop i).trips, View.readAt (Elt Bits) arg9.view (Rect.unit (s := S4096x128) (k0_off69 i k) S512x128.size (Facts₀.k0_off69_inb i k)).toLoadRect (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) = (fun j => tileKeys (BitVec.ofNat 32 (t % 32)) (smAt SM t) (iqAt IQ t) (ikAt IK (t / 32)) j) k.val :=
    fun k => (keys_in c i arg2 harg2 arg3 harg3 arg4 harg4 arg5 harg5 arg6 harg6 arg7 harg7 arg8 harg8 arg9 harg9 arg10 harg10 arg11 harg11 arg12 harg12 arg13 harg13 arg14 harg14 X3 X4 X7 f9 k.val (hlt k) _ _ (offsTied i k).1).trans (tile_plain c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 k.val (hlt k))
  have hks : ∀ k : Fin (k0_t3_loop i).trips, View.readAt (Elt Bits) arg5.view (Rect.unit (s := S4096x128) (k0_off69 i k) S512x128.size (Facts₀.k0_off69_inb i k)).toLoadRect X5 = kAt K (t / 32) k.val :=
    fun k => rows_in (by decide) arg5.view X5 (t / 32) k.val (h8 k) (fun r l => K (ix2 r l)) h5 _ _ (offsTied i k).1
  have hvs : ∀ k : Fin (k0_t3_loop i).trips, View.readAt (Elt Bits) arg6.view (Rect.unit (s := S8x144x512) (k0_off70 i k) S1x144x512.size (Facts₀.k0_off70_inb i k)).toLoadRect X6 = vAt V (t / 32) k.val :=
    fun k => values_in arg6 X6 V (t / 32) k.val (h8 k) h6 _ _ (offsTied i k).2
  have loop := (tiedLoop (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_61 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1347 (F := Bits))⟩] : List (View.Piece (Elt Bits) S144x1024 .f32)))
    (queries (aqAt AQ t)) (fun j => tileKeys (BitVec.ofNat 32 (t % 32)) (smAt SM t) (iqAt IQ t) (ikAt IK (t / 32)) j) (kAt K (t / 32)) (vAt V (t / 32))
    (queries_in arg2 X2 AQ t h2 arg12) ((pieceRead arg14.view _ _ _ _).trans (shapeCast_self _ _))
    hkeys hks hvs
    (k0_t3_loop i).trips (le_refl _)).2.2
  refine loop.trans ?_
  rw [(tied_eq _ _ _ _ _ _ _).2.1, e62, e61, hT, hn]

theorem free_out (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty)
    (AQ : Cert.Reference.S256x512x128.Idx → Elt Bits .bf16) (IQ : Cert.Reference.S256x256x128.Idx → Elt Bits .bf16) (SM : Cert.Reference.S32768x128.Idx → Elt Bits .f32) (K : Cert.Reference.S32768x128.Idx → Elt Bits .bf16) (V : Cert.Reference.S64x144x512.Idx → Elt Bits .bf16) (IK : Cert.Reference.S32768x32.Idx → Elt Bits .bf16) (t : ℕ) (ht : t = 32 * (i 0).val + (i 1).val)
    (h2 : ∀ y : S1x512x128.Idx, arg2.view.read (Elt Bits) X2 y = AQ (ix3 (Fin.ofNat 256 t) (y 1 : Fin 512) (y 2 : Fin 128)))
    (h3 : ∀ y : S1x256x128.Idx, arg3.view.read (Elt Bits) X3 y = IQ (ix3 (Fin.ofNat 256 t) (y 1 : Fin 256) (y 2 : Fin 128)))
    (h4 : ∀ y : S128x128.Idx, arg4.view.read (Elt Bits) X4 y = SM (ix2 (Fin.ofNat 32768 (128 * t + (y 0).val)) (y 1 : Fin 128)))
    (h5 : ∀ y : S4096x128.Idx, arg5.view.read (Elt Bits) X5 y = K (ix2 (Fin.ofNat 32768 (4096 * (t / 32) + (y 0).val)) (y 1 : Fin 128)))
    (h6 : ∀ y : S8x144x512.Idx, arg6.view.read (Elt Bits) X6 y = V (ix3 (Fin.ofNat 64 (8 * (t / 32) + (y 0).val)) (y 1 : Fin 144) (y 2 : Fin 512)))
    (h7 : ∀ y : S4096x32.Idx, arg7.view.read (Elt Bits) X7 y = IK (ix2 (Fin.ofNat 32768 (4096 * (t / 32) + (y 0).val)) (y 1 : Fin 32)))
    (f9 : BufTy.Contents (Elt Bits) arg9.view.ty) (f10 : BufTy.Contents (Elt Bits) arg10.view.ty) (f13 : BufTy.Contents (Elt Bits) arg13.view.ty)
    (e62 : (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) = cut (BitVec.ofNat 32 (seen t)) (allKeys (BitVec.ofNat 32 (t % 32)) (smAt SM t) (iqAt IQ t) (ikAt IK (t / 32)))) (hT : tied (F := Bits) (BitVec.ofNat 32 (seen t)) (allKeys (BitVec.ofNat 32 (t % 32)) (smAt SM t) (iqAt IQ t) (ikAt IK (t / 32))) = 0#1) :
    View.readAt (Elt Bits) arg14.view (Rect.unit (s := S144x1024) ![0, 0] S144x1024.size Gen.inb_S144x1024_S144x1024_0_0).toLoadRect (arg14.view.writes (Elt Bits) (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) (st_k0_t5 (F := Bits) Variants.none c none i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32))) k0_pay1349 (k0_t5_loop i).trips).2.2)
      = (plainAt (cut (BitVec.ofNat 32 (seen t)) (allKeys (BitVec.ofNat 32 (t % 32)) (smAt SM t) (iqAt IQ t) (ikAt IK (t / 32)))) (tied (F := Bits) (BitVec.ofNat 32 (seen t)) (allKeys (BitVec.ofNat 32 (t % 32)) (smAt SM t) (iqAt IQ t) (ikAt IK (t / 32)))) (quota (BitVec.ofNat 32 (seen t)) (allKeys (BitVec.ofNat 32 (t % 32)) (smAt SM t) (iqAt IQ t) (ikAt IK (t / 32)))) (queries (aqAt AQ t)) (fun j => tileKeys (BitVec.ofNat 32 (t % 32)) (smAt SM t) (iqAt IQ t) (ikAt IK (t / 32)) j) (kAt K (t / 32)) (vAt V (t / 32)) (seen t)).2.1 := by
  have hb : t / 32 = (i 0).val := by rw [ht]; exact (startWord i).2.1
  have hn : (k0_t5_loop i).trips = seen t := by rw [ht]; exact (tripsAll i).2.2.1
  have hn1 : (k0_t1_loop i).trips = seen t := by rw [ht]; exact (tripsAll i).1
  have h8 : ∀ k : Fin (k0_t5_loop i).trips, k.val < 8 := fun k => Nat.lt_of_lt_of_le k.isLt (hn ▸ seen_le t)
  have hlt : ∀ k : Fin (k0_t5_loop i).trips, k.val < (k0_t1_loop i).trips := fun k => Nat.lt_of_lt_of_le k.isLt (le_of_eq (hn.trans hn1.symm))
  have hkeys : ∀ k : Fin (k0_t5_loop i).trips, View.readAt (Elt Bits) arg9.view (Rect.unit (s := S4096x128) (k0_off73 i k) S512x128.size (Facts₀.k0_off73_inb i k)).toLoadRect (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) = (fun j => tileKeys (BitVec.ofNat 32 (t % 32)) (smAt SM t) (iqAt IQ t) (ikAt IK (t / 32)) j) k.val :=
    fun k => (keys_in c i arg2 harg2 arg3 harg3 arg4 harg4 arg5 harg5 arg6 harg6 arg7 harg7 arg8 harg8 arg9 harg9 arg10 harg10 arg11 harg11 arg12 harg12 arg13 harg13 arg14 harg14 X3 X4 X7 f9 k.val (hlt k) _ _ (offsFree i k).1).trans (tile_plain c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 k.val (hlt k))
  have hks : ∀ k : Fin (k0_t5_loop i).trips, View.readAt (Elt Bits) arg5.view (Rect.unit (s := S4096x128) (k0_off73 i k) S512x128.size (Facts₀.k0_off73_inb i k)).toLoadRect X5 = kAt K (t / 32) k.val :=
    fun k => rows_in (by decide) arg5.view X5 (t / 32) k.val (h8 k) (fun r l => K (ix2 r l)) h5 _ _ (offsFree i k).1
  have hvs : ∀ k : Fin (k0_t5_loop i).trips, View.readAt (Elt Bits) arg6.view (Rect.unit (s := S8x144x512) (k0_off74 i k) S1x144x512.size (Facts₀.k0_off74_inb i k)).toLoadRect X6 = vAt V (t / 32) k.val :=
    fun k => values_in arg6 X6 V (t / 32) k.val (h8 k) h6 _ _ (offsFree i k).2
  have loop := (freeLoop (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r_62 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) X5 X6 (arg9.view.writes (Elt Bits) f9 (scorePieces (F := Bits) c i arg2 harg2 arg3 harg3 arg4 harg4 arg5 harg5 arg6 harg6 arg7 harg7 arg8 harg8 arg9 harg9 arg10 harg10 arg11 harg11 arg12 harg12 arg13 harg13 arg14 harg14 (bodyRun.sl.v4 i) (bodyRun.sl.r (F := Bits) arg4 X4) (bodyRun.sl.v0 i) bodyRun.sl.v56 bodyRun.sl.v61 X7 (arg11.view.writes (Elt Bits) arg11.view.junk (bodyRun.sl.H11_8 (F := Bits) arg3 X3)) (k0_t1_loop i).trips).1) (arg12.view.writes (Elt Bits) arg12.view.junk (bodyRun.sl.H12_9 (F := Bits) arg2 X2)) f13 (arg14.view.writes (Elt Bits) arg14.view.junk ([⟨(Rect.unit (s := S144x1024) ![0, 0] S144x1024.size Gen.inb_S144x1024_S144x1024_0_0), (k0_pay1453 (F := Bits))⟩] : List (View.Piece (Elt Bits) S144x1024 .f32)))
    (queries (aqAt AQ t)) (fun j => tileKeys (BitVec.ofNat 32 (t % 32)) (smAt SM t) (iqAt IQ t) (ikAt IK (t / 32)) j) (kAt K (t / 32)) (vAt V (t / 32))
    (queries_in arg2 X2 AQ t h2 arg12) ((pieceRead arg14.view _ _ _ _).trans (shapeCast_self _ _))
    hkeys hks hvs
    (k0_t5_loop i).trips (le_refl _)).2
  refine loop.trans ?_
  rw [(free_eq _ (quota (F := Bits) (BitVec.ofNat 32 (seen t)) (allKeys (BitVec.ofNat 32 (t % 32)) (smAt SM t) (iqAt IQ t) (ikAt IK (t / 32)))) _ _ _ _ _).2, e62, hT, hn]

theorem fst_eq (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty) :
    (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = fun f10 => (bodyRun.sl.v749 (F := Bits) c i arg2 harg2 arg3 harg3 arg4 harg4 arg5 harg5 arg6 harg6 arg7 harg7 arg8 harg8 arg9 harg9 arg10 harg10 arg11 harg11 arg12 harg12 arg13 harg13 arg14 harg14 X3 X4 X7 f10) := by
  unfold bodyRun; rfl

/-- The output's block holds the rows of the plain mathematics. -/
theorem block_out (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S128x128 .f32) (harg4 : arg4.IsWhole) (arg5 : Memref sig .tc .vmem S4096x128 .bf16) (harg5 : arg5.IsWhole) (arg6 : Memref sig .tc .vmem S8x144x512 .bf16) (harg6 : arg6.IsWhole) (arg7 : Memref sig .tc .vmem S4096x32 .bf16) (harg7 : arg7.IsWhole) (arg8 : Memref sig .tc .vmem S128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S32x1024 .bf16) (harg11 : arg11.IsWhole) (arg12 : Memref sig .tc .vmem S128x1024 .bf16) (harg12 : arg12.IsWhole) (arg13 : Memref sig .tc .vmem S512x1024 .bf16) (harg13 : arg13.IsWhole) (arg14 : Memref sig .tc .vmem S144x1024 .f32) (harg14 : arg14.IsWhole) (X2 : BufTy.Contents (Elt Bits) arg2.view.ty) (X3 : BufTy.Contents (Elt Bits) arg3.view.ty) (X4 : BufTy.Contents (Elt Bits) arg4.view.ty) (X5 : BufTy.Contents (Elt Bits) arg5.view.ty) (X6 : BufTy.Contents (Elt Bits) arg6.view.ty) (X7 : BufTy.Contents (Elt Bits) arg7.view.ty)
    (AQ : Cert.Reference.S256x512x128.Idx → Elt Bits .bf16) (IQ : Cert.Reference.S256x256x128.Idx → Elt Bits .bf16) (SM : Cert.Reference.S32768x128.Idx → Elt Bits .f32) (K : Cert.Reference.S32768x128.Idx → Elt Bits .bf16) (V : Cert.Reference.S64x144x512.Idx → Elt Bits .bf16) (IK : Cert.Reference.S32768x32.Idx → Elt Bits .bf16) (t : ℕ) (ht : t = 32 * (i 0).val + (i 1).val)
    (h2 : ∀ y : S1x512x128.Idx, arg2.view.read (Elt Bits) X2 y = AQ (ix3 (Fin.ofNat 256 t) (y 1 : Fin 512) (y 2 : Fin 128)))
    (h3 : ∀ y : S1x256x128.Idx, arg3.view.read (Elt Bits) X3 y = IQ (ix3 (Fin.ofNat 256 t) (y 1 : Fin 256) (y 2 : Fin 128)))
    (h4 : ∀ y : S128x128.Idx, arg4.view.read (Elt Bits) X4 y = SM (ix2 (Fin.ofNat 32768 (128 * t + (y 0).val)) (y 1 : Fin 128)))
    (h5 : ∀ y : S4096x128.Idx, arg5.view.read (Elt Bits) X5 y = K (ix2 (Fin.ofNat 32768 (4096 * (t / 32) + (y 0).val)) (y 1 : Fin 128)))
    (h6 : ∀ y : S8x144x512.Idx, arg6.view.read (Elt Bits) X6 y = V (ix3 (Fin.ofNat 64 (8 * (t / 32) + (y 0).val)) (y 1 : Fin 144) (y 2 : Fin 512)))
    (h7 : ∀ y : S4096x32.Idx, arg7.view.read (Elt Bits) X7 y = IK (ix2 (Fin.ofNat 32768 (4096 * (t / 32) + (y 0).val)) (y 1 : Fin 32)))
    (f9 : BufTy.Contents (Elt Bits) arg9.view.ty) (f10 : BufTy.Contents (Elt Bits) arg10.view.ty) (f13 : BufTy.Contents (Elt Bits) arg13.view.ty)
    (f8 : BufTy.Contents (Elt Bits) arg8.view.ty) (L : List (View.Piece (Elt Bits) S128x512 .bf16))
    (hL : Picks (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1
      (bodyRun (F := Bits) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 f9 f10 f13 L) :
    arg8.view.read (Elt Bits) (arg8.view.writes (Elt Bits) f8 L) = rowsOf AQ IQ SM K V IK t := by
  obtain ⟨e62, e61, eT⟩ := chosen_out c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 f9 f10 f13
  rcases hL with ⟨hc, rfl⟩ | ⟨hc, rfl⟩
  · rw [fst_eq] at hc
    have hT := eT.symm.trans hc
    rw [tiedList, fourRead, tied_out c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 f9 f10 f13 e62 e61 hT]
    rfl
  · rw [fst_eq] at hc
    have hT : tied (F := Bits) (BitVec.ofNat 32 (seen t)) (allKeys (BitVec.ofNat 32 (t % 32)) (smAt SM t) (iqAt IQ t) (ikAt IK (t / 32))) = 0#1 := by
      have h01 : ∀ b : BitVec 1, ¬ b = 1#1 → b = 0#1 := by decide
      exact h01 _ fun h => hc (eT.trans h)
    rw [freeList, fourRead, free_out c i arg2 harg2 arg3 harg3 arg4 harg4 arg5 harg5 arg6 harg6 arg7 harg7 arg8 harg8 arg9 harg9 arg10 harg10 arg11 harg11 arg12 harg12 arg13 harg13 arg14 harg14 X2 X3 X4 X5 X6 X7 AQ IQ SM K V IK t ht h2 h3 h4 h5 h6 h7 f9 f10 f13 e62 hT]
    rfl

end Cert.Proof.Sel

end
-- ==== Proof.Launch.lean ====
/- The run of the sparse attention from launch to end: every grid point's body obligation with the output's block held to
   its rows, the inputs kept, the scratch at some contents between points. Untrusted. -/
module

public import proofs.«01_k».proof.Proof.BlockOut
public import Idealize.ShloMosaic.Lib.Pipeline.ArrRel
public import Idealize.ShloMosaic.Lib.Pipeline.Value
public import Idealize.ShloMosaic.Lib.Pipeline.DatRel
public import Idealize.ShloMosaic.Lib.Pipeline.Frame
public import Idealize.ShloMosaic.Lib.Claim

@[expose] public section

set_option maxRecDepth 8192
set_option maxHeartbeats 1000000

noncomputable section

namespace Cert.Proof.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

open Cert.Proof.Att

local notation "𝕄" => MT nD τ sig Unit (Elt Bits) ℕ (UR sig nD τ) ℕ

variable (m : (ℓ : Loc nD τ sig) → Buf (Elt Bits) ℓ) (ρ : Dev nD → PrngReg)

theorem point : ∀ t : Fin cfg0.N, t.val = 32 * (grid0.coords t 0).val + (grid0.coords t 1).val := by decide +kernel
theorem block0 : ∀ t : Fin cfg0.N, cc0_transform_0 (grid0.coords t) = ![t.val, 0, 0] := by decide +kernel
theorem block1 : ∀ t : Fin cfg0.N, cc0_transform_1 (grid0.coords t) = ![t.val, 0, 0] := by decide +kernel
theorem block2 : ∀ t : Fin cfg0.N, cc0_transform_2 (grid0.coords t) = ![t.val, 0] := by decide +kernel
theorem block3 : ∀ t : Fin cfg0.N, cc0_transform_3 (grid0.coords t) = ![t.val / 32, 0] := by decide +kernel
theorem block4 : ∀ t : Fin cfg0.N, cc0_transform_4 (grid0.coords t) = ![t.val / 32, 0, 0] := by decide +kernel
theorem block5 : ∀ t : Fin cfg0.N, cc0_transform_5 (grid0.coords t) = ![t.val / 32, 0] := by decide +kernel
theorem block6 : ∀ t : Fin cfg0.N, cc0_transform_6 (grid0.coords t) = ![t.val, 0] := by decide +kernel

theorem blk_at0 (c : Dev nD) (t : Fin cfg0.N) (y) : iblk m c 0 t y = V m c main_arg0 (ix3 (Fin.ofNat 256 t.val) (y 1 : Fin 512) (y 2 : Fin 128)) := by
  have ht : t.val < 256 := t.isLt
  refine congrArg (V m c main_arg0) (funext fun a => Fin.ext ?_)
  have y0 : (y 0).val < 1 := (y 0).isLt
  have y1 : (y 1).val < 512 := (y 1).isLt
  have y2 : (y 2).val < 128 := (y 2).isLt
  fin_cases a
  · show cc0_transform_0 (grid0.coords t) 0 * 1 + 1 * (y 0).val = t.val % 256
    rw [block0]
    show (t.val) * 1 + 1 * (y 0).val = t.val % 256
    omega
  · show cc0_transform_0 (grid0.coords t) 1 * 512 + 1 * (y 1).val = (y 1).val
    rw [block0]
    show (0) * 512 + 1 * (y 1).val = (y 1).val
    omega
  · show cc0_transform_0 (grid0.coords t) 2 * 128 + 1 * (y 2).val = (y 2).val
    rw [block0]
    show (0) * 128 + 1 * (y 2).val = (y 2).val
    omega

theorem blk_at1 (c : Dev nD) (t : Fin cfg0.N) (y) : iblk m c 1 t y = V m c main_arg1 (ix3 (Fin.ofNat 256 t.val) (y 1 : Fin 256) (y 2 : Fin 128)) := by
  have ht : t.val < 256 := t.isLt
  refine congrArg (V m c main_arg1) (funext fun a => Fin.ext ?_)
  have y0 : (y 0).val < 1 := (y 0).isLt
  have y1 : (y 1).val < 256 := (y 1).isLt
  have y2 : (y 2).val < 128 := (y 2).isLt
  fin_cases a
  · show cc0_transform_1 (grid0.coords t) 0 * 1 + 1 * (y 0).val = t.val % 256
    rw [block1]
    show (t.val) * 1 + 1 * (y 0).val = t.val % 256
    omega
  · show cc0_transform_1 (grid0.coords t) 1 * 256 + 1 * (y 1).val = (y 1).val
    rw [block1]
    show (0) * 256 + 1 * (y 1).val = (y 1).val
    omega
  · show cc0_transform_1 (grid0.coords t) 2 * 128 + 1 * (y 2).val = (y 2).val
    rw [block1]
    show (0) * 128 + 1 * (y 2).val = (y 2).val
    omega

theorem blk_at2 (c : Dev nD) (t : Fin cfg0.N) (y) : iblk m c 2 t y = V m c main_arg2 (ix2 (Fin.ofNat 32768 (128 * t.val + (y 0).val)) (y 1 : Fin 128)) := by
  have ht : t.val < 256 := t.isLt
  refine congrArg (V m c main_arg2) (funext fun a => Fin.ext ?_)
  have y0 : (y 0).val < 128 := (y 0).isLt
  have y1 : (y 1).val < 128 := (y 1).isLt
  fin_cases a
  · show cc0_transform_2 (grid0.coords t) 0 * 128 + 1 * (y 0).val = (128 * t.val + (y 0).val) % 32768
    rw [block2]
    show (t.val) * 128 + 1 * (y 0).val = (128 * t.val + (y 0).val) % 32768
    omega
  · show cc0_transform_2 (grid0.coords t) 1 * 128 + 1 * (y 1).val = (y 1).val
    rw [block2]
    show (0) * 128 + 1 * (y 1).val = (y 1).val
    omega

theorem blk_at3 (c : Dev nD) (t : Fin cfg0.N) (y) : iblk m c 3 t y = V m c main_arg3 (ix2 (Fin.ofNat 32768 (4096 * (t.val / 32) + (y 0).val)) (y 1 : Fin 128)) := by
  have ht : t.val < 256 := t.isLt
  refine congrArg (V m c main_arg3) (funext fun a => Fin.ext ?_)
  have y0 : (y 0).val < 4096 := (y 0).isLt
  have y1 : (y 1).val < 128 := (y 1).isLt
  fin_cases a
  · show cc0_transform_3 (grid0.coords t) 0 * 4096 + 1 * (y 0).val = (4096 * (t.val / 32) + (y 0).val) % 32768
    rw [block3]
    show (t.val / 32) * 4096 + 1 * (y 0).val = (4096 * (t.val / 32) + (y 0).val) % 32768
    omega
  · show cc0_transform_3 (grid0.coords t) 1 * 128 + 1 * (y 1).val = (y 1).val
    rw [block3]
    show (0) * 128 + 1 * (y 1).val = (y 1).val
    omega

theorem blk_at4 (c : Dev nD) (t : Fin cfg0.N) (y) : iblk m c 4 t y = V m c main_arg4 (ix3 (Fin.ofNat 64 (8 * (t.val / 32) + (y 0).val)) (y 1 : Fin 144) (y 2 : Fin 512)) := by
  have ht : t.val < 256 := t.isLt
  refine congrArg (V m c main_arg4) (funext fun a => Fin.ext ?_)
  have y0 : (y 0).val < 8 := (y 0).isLt
  have y1 : (y 1).val < 144 := (y 1).isLt
  have y2 : (y 2).val < 512 := (y 2).isLt
  fin_cases a
  · show cc0_transform_4 (grid0.coords t) 0 * 8 + 1 * (y 0).val = (8 * (t.val / 32) + (y 0).val) % 64
    rw [block4]
    show (t.val / 32) * 8 + 1 * (y 0).val = (8 * (t.val / 32) + (y 0).val) % 64
    omega
  · show cc0_transform_4 (grid0.coords t) 1 * 144 + 1 * (y 1).val = (y 1).val
    rw [block4]
    show (0) * 144 + 1 * (y 1).val = (y 1).val
    omega
  · show cc0_transform_4 (grid0.coords t) 2 * 512 + 1 * (y 2).val = (y 2).val
    rw [block4]
    show (0) * 512 + 1 * (y 2).val = (y 2).val
    omega

theorem blk_at5 (c : Dev nD) (t : Fin cfg0.N) (y) : iblk m c 5 t y = V m c main_arg5 (ix2 (Fin.ofNat 32768 (4096 * (t.val / 32) + (y 0).val)) (y 1 : Fin 32)) := by
  have ht : t.val < 256 := t.isLt
  refine congrArg (V m c main_arg5) (funext fun a => Fin.ext ?_)
  have y0 : (y 0).val < 4096 := (y 0).isLt
  have y1 : (y 1).val < 32 := (y 1).isLt
  fin_cases a
  · show cc0_transform_5 (grid0.coords t) 0 * 4096 + 1 * (y 0).val = (4096 * (t.val / 32) + (y 0).val) % 32768
    rw [block5]
    show (t.val / 32) * 4096 + 1 * (y 0).val = (4096 * (t.val / 32) + (y 0).val) % 32768
    omega
  · show cc0_transform_5 (grid0.coords t) 1 * 32 + 1 * (y 1).val = (y 1).val
    rw [block5]
    show (0) * 32 + 1 * (y 1).val = (y 1).val
    omega

/-- The output window is held to a relation; the inputs are exact. -/
def held : Fin 7 → Bool := fun w => w == 6

/-- The relation on the output's block at point `t`. -/
def Leaves (c : Dev nD) (w : Fin cfg0.W) (t : Fin cfg0.N) (X : (cfg0.win w).block.Idx → Elt Bits (cfg0.win w).elt) : Prop :=
  match w, X with
  | ⟨6, _⟩, X => X = rowsOf (V m c main_arg0) (V m c main_arg1) (V m c main_arg2) (V m c main_arg3) (V m c main_arg4) (V m c main_arg5) t.val
  | _, _ => True

/-- The proof data: the arrays as found, each input's block kept, the scratch and the generator register at anything. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ Y, ⌜((dats m 0 c).toRRel held (Leaves m c)).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, ⌜Leaves m c 6 t X⌝ ∗ owns (c : Thread nD τ) (st0_6 t) fullShare X))

/-- The scratch between points, buffer by buffer, and the generator register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  unfold owns
  iintro ⟨⟨⟨⟨%e0, %s0, -, S0⟩, ⟨%e1, %s1, -, S1⟩, ⟨%e2, %s2, -, S2⟩, ⟨%e3, %s3, -, S3⟩, ⟨%e4, %s4, -, S4⟩, ⟨%e5, %s5, -, S5⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%Y, -, %f6, -, H6⟩⟩
  iapply ((bodyRun (F := Bits) c (grid0.coords t) _ _ _ _ _ _ _ _ _ _ _ _ _ _ _ _ _ _ _ _ _ _ _ _ _ _ f0 f1 f2 f3 f4 f5).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists s0; iexact S0
  isplitl [S1]; · iexists s1; iexact S1
  isplitl [S2]; · iexists s2; iexact S2
  isplitl [S3]; · iexists s3; iexact S3
  isplitl [S4]; · iexists s4; iexact S4
  isplitl [S5]; · iexists s5; iexact S5
  iintro ⟨H0, H1, H2, H3, H4, H5, ⟨%u0, S0⟩, ⟨%u1, S1⟩, ⟨%u2, S2⟩, ⟨%u3, S3⟩, ⟨%u4, S4⟩, ⟨%u5, S5⟩, ⟨%f8, %f9, %f10, %f13, %L, H6, %h8⟩⟩
  isplitl [S0 S1 S2 S3 S4 S5 Hg]
  · isplitr [Hg]; swap; · iexact Hg
    isplitl [S0]
    · iexists _; iexists u0; isplitr; · ipureintro; rfl
      iexact S0
    isplitl [S1]
    · iexists _; iexists u1; isplitr; · ipureintro; rfl
      iexact S1
    isplitl [S2]
    · iexists _; iexists u2; isplitr; · ipureintro; rfl
      iexact S2
    isplitl [S3]
    · iexists _; iexists u3; isplitr; · ipureintro; rfl
      iexact S3
    isplitl [S4]
    · iexists _; iexists u4; isplitr; · ipureintro; rfl
      iexact S4
    iexists _; iexists u5; isplitr; · ipureintro; rfl
    iexact S5
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  iexists _; isplitr
  · ipureintro
    exact block_out c (grid0.coords t) _ _ _ _ _ _ _ _ _ _ _ _ _ _ _ _ _ _ _ _ _ _ _ _ _ _ f0 f1 f2 f3 f4 f5 (V m c main_arg0) (V m c main_arg1) (V m c main_arg2) (V m c main_arg3) (V m c main_arg4) (V m c main_arg5) t.val (point t)
      (fun y => (congrFun h0 y).trans (blk_at0 m c t y)) (fun y => (congrFun h1 y).trans (blk_at1 m c t y)) (fun y => (congrFun h2 y).trans (blk_at2 m c t y))
      (fun y => (congrFun h3 y).trans (blk_at3 m c t y)) (fun y => (congrFun h4 y).trans (blk_at4 m c t y)) (fun y => (congrFun h5 y).trans (blk_at5 m c t y))
      f9 f10 f13 f8 L h8
  iexists _; isplitr; · ipureintro; rfl
  iexact H6

theorem defs₀_row (t : Fin cfg0.N) :
    defs₀ (F := Bits) .tc cfg0.body (cfg0.bodyArgs t (cfg0.slots t)) = bodyAt0 t := by
  unfold defs₀; rw [Defs.onTc_tc]

/-- The body obligation with the output held to `Leaves`. -/
theorem body_obligation (c : Dev nD) :
    BodyObligationRel (dats m 0 c) (defs₀ (F := Bits)) Variants.none () Set.univ held (Leaves m c) := fun t => by
  rw [bigSep_W0, bigSep_W0, defs₀_row]
  exact triple_restated (sound_body m c t) rfl .rfl fun _ => .rfl

-- the launch theorem's implicit arguments are found by unifying its conclusion with the statement, which unifies only when
-- unification may unfold plain definitions in a metavariable's type
set_option backward.isDefEq.respectTransparency.types false in
/-- From launch to end: every array at what the relation lets the points leave there, every counter at zero. -/
theorem run_main :
    θ_run defs (onTc (τ := τ) (main (F := Bits))) (s₀ m ρ)
      (fun r => Pipeline.RDat.FramePost (cfgs 0) (fun c => (dats m 0 c).toRRel held (Leaves m c)) (V m) r ∧ r.2.sem = fun _ => 0) :=
  Pipeline.RDat.θ_run_frame_track (Q' := _) cfgs (0 : Fin 1) launch0 defs₀ Variants.none (fun c => (dats m 0 c).toRRel held (Leaves m c)) m ρ main
    (hbody := fun c => (body_obligation m c).toRRel) (hshare := fun c => (dats m 0 c).share_full fun _ => rfl)
    (howed := fun _ _ => rfl) (V := V m) (hmain := hmain m Variants.none) (hA := A_eq m)
    (hin := fun _ => .rfl) (hout := fun _ => .rfl)

variable {m}

theorem final_in {r : PUnit × MemSt nD τ sig (Elt Bits)}
    (h : Pipeline.RDat.FramePost (cfgs 0) (fun c => (dats m 0 c).toRRel held (Leaves m c)) (V m) r) (c : Dev nD) (w : Fin 7)
    (hin : (cfg0.win w).isOut = false) :
    r.2.mem ((spec0 w).arr.view.loc (c : Thread nD τ)) = V m c (Pipeline.arrRef spec0 w) :=
  (h.arr_in c w hin).trans (A_eq m c w)

variable (m)

/-- The arguments end unchanged and every counter ends at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨final_in h.1 c 0 rfl, final_in h.1 c 1 rfl, final_in h.1 c 2 rfl, final_in h.1 c 3 rfl, final_in h.1 c 4 rfl, final_in h.1 c 5 rfl⟩, h.2⟩) (run_main m ρ)

end Cert.Proof.Sel

end
-- ==== Proof.Result.lean ====
/- The result array after the run: block by block the rows of the attention. Untrusted. -/
module

public import proofs.«01_k».proof.Proof.Launch

@[expose] public section

set_option maxRecDepth 8192
set_option maxHeartbeats 1000000

noncomputable section

namespace Cert.Proof.Sel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

open Cert.Proof.Att

local notation "𝕄" => MT nD τ sig Unit (Elt Bits) ℕ (UR sig nD τ) ℕ

variable (m : (ℓ : Loc nD τ sig) → Buf (Elt Bits) ℓ) (ρ : Dev nD → PrngReg)

/-- The attention over the whole arrays, as the result array holds it. -/
abbrev whole (c : Dev nD) : Buf (Elt Bits) ((c : Thread nD τ).loc main_v0) :=
  attended (V m c main_arg0) (V m c main_arg1) (V m c main_arg2) (V m c main_arg3) (V m c main_arg4) (V m c main_arg5)

/-- An index of the result array is in point `t`'s block: rows `128 t` to `128 t + 127`. -/
theorem mem_blk (t : Fin cfg0.N) (i : S32768x512.Idx) :
    i ∈ ((cfg0.win 6).blk t).view.set ↔ 128 * t.val ≤ (i 0).val ∧ (i 0).val < 128 * t.val + 128 := by
  show i ∈ ((View.whole main_v0).slice (win0_6.rect t)).set ↔ _
  rw [View.set_slice_whole, Rect.mem_set_unit]
  have h1 : (i 1).val < 512 := (i 1).isLt
  have i0 : win0_6.index t 0 = t.val := congrFun (block6 t) 0
  have i1 : win0_6.index t 1 = 0 := congrFun (block6 t) 1
  have e0 : win0_6.index t 0 * win0_6.size 0 = 128 * t.val := by
    rw [i0]; exact Nat.mul_comm _ _
  have e1 : win0_6.index t 1 * win0_6.size 1 = 0 := by rw [i1]; exact Nat.zero_mul _
  have x0 : win0_6.xsize (grid0.coords t) 0 = 128 := rfl
  have x1 : win0_6.xsize (grid0.coords t) 1 = 512 := rfl
  refine ⟨fun h => ?_, fun h a => ?_⟩
  · have : win0_6.index t 0 * win0_6.size 0 ≤ (i 0).val ∧ (i 0).val < win0_6.index t 0 * win0_6.size 0 + win0_6.xsize (grid0.coords t) 0 := h 0
    rw [e0, x0] at this; exact this
  · match a with
    | ⟨0, _⟩ => show win0_6.index t 0 * win0_6.size 0 ≤ (i 0).val ∧ (i 0).val < win0_6.index t 0 * win0_6.size 0 + win0_6.xsize (grid0.coords t) 0
                rw [e0, x0]; exact h
    | ⟨1, _⟩ => show win0_6.index t 1 * win0_6.size 1 ≤ (i 1).val ∧ (i 1).val < win0_6.index t 1 * win0_6.size 1 + win0_6.xsize (grid0.coords t) 1
                rw [e1, x1]; omega

/-- The blocks tile the result array. -/
theorem cover (i : S32768x512.Idx) :
    ∃ t : Fin cfg0.N, (cfg0.win 6).flush t = true ∧ i ∈ ((cfg0.win 6).blk t).view.set := by
  have h0 : (i 0).val < 32768 := (i 0).isLt
  have ht : (i 0).val / 128 < cfg0.N := by
    show (i 0).val / 128 < 256
    omega
  refine ⟨⟨_, ht⟩, flush0_6 _, ?_⟩
  rw [mem_blk]
  dsimp only
  omega

theorem attended_at {AQ IQ SM K V IK} (t : ℕ) (y : S32768x512.Idx) (x : S128x512.Idx) (h0 : (y 0).val = 128 * t + (x 0).val)
    (h1 : (y 1).val = (x 1).val) : attended (F := Bits) AQ IQ SM K V IK y = rowsOf AQ IQ SM K V IK t x := by
  have x0 : (x 0).val < 128 := (x 0).isLt
  have hd : (y 0).val / 128 = t := by omega
  have hm : (y 0).val % 128 = (x 0).val := by omega
  unfold attended
  rw [hd]
  refine congrArg _ (funext fun a => Fin.ext ?_)
  match a with
  | ⟨0, _⟩ => exact hm
  | ⟨1, _⟩ => exact h1

/-- The rows of point `t` are its block of the whole. -/
theorem sent (c : Dev nD) (t : Fin cfg0.N) :
    (cfg0.win 6).cut (grid0.coords t) (rowsOf (V m c main_arg0) (V m c main_arg1) (V m c main_arg2) (V m c main_arg3) (V m c main_arg4) (V m c main_arg5) t.val) = ((cfg0.win 6).blk t).view.read (Elt Bits) (whole m c) := by
  funext x
  refine (attended_at t.val _ x ?_ ?_).symm
  · show cc0_transform_6 (grid0.coords t) 0 * 128 + 1 * (x 0).val = 128 * t.val + (x 0).val
    rw [block6]
    show t.val * 128 + 1 * (x 0).val = 128 * t.val + (x 0).val
    omega
  · show cc0_transform_6 (grid0.coords t) 1 * 512 + 1 * (x 1).val = (x 1).val
    rw [block6]
    show 0 * 512 + 1 * (x 1).val = (x 1).val
    omega

variable {m}

theorem final_out {r : PUnit × MemSt nD τ sig (Elt Bits)}
    (h : Pipeline.RDat.FramePost (cfgs 0) (fun c => (dats m 0 c).toRRel held (Leaves m c)) (V m) r) (c : Dev nD) :
    r.2.mem ((c : Thread nD τ).loc main_v0) = whole m c := by
  obtain ⟨after, hl, hr⟩ := Pipeline.RDat.FramePost.exists_exact h c
  have hall : ∀ t : Fin cfg0.N, (cfg0.win 6).cut (grid0.coords t) (after 6 t) = ((cfg0.win 6).blk t).view.read (Elt Bits) (whole m c) := fun t => by
    rw [show after 6 t = rowsOf (V m c main_arg0) (V m c main_arg1) (V m c main_arg2) (V m c main_arg3) (V m c main_arg4) (V m c main_arg5) t.val from Pipeline.Dat.toRRel_leaves (dats m 0 c) rfl (hl 6 t (flush0_6 t))]
    exact sent m c t
  exact (hr 6).trans ((((dats m 0 c).toRRel held (Leaves m c)).withAfter after).arrAt_eq_of_cover (6 : Fin 7) (whole m c) (fun t _ => hall t) cover)

variable (m)

/-- From launch to end: the result array at the attention's rows, the arguments unchanged, every counter at zero. -/
theorem ends : θ_run defs (onTc (τ := τ) (main (F := Bits))) ⟨m, fun _ => 0, ρ⟩ (fun r => (∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨final_out h.1 c, final_in h.1 c 0 rfl, final_in h.1 c 1 rfl, final_in h.1 c 2 rfl, final_in h.1 c 3 rfl, final_in h.1 c 4 rfl, final_in h.1 c 5 rfl⟩, h.2⟩) (run_main m ρ)

end Cert.Proof.Sel

end
-- ==== Proof.Rows.lean ====
/- One block of the reference: the rows it writes are the sheet of the arrays' parts it reads. Untrusted. -/
module

public import proofs.«01_k».proof.Proof.Blocks
public import proofs.«01_k».proof.Proof.Sheet

@[expose] public section

set_option maxRecDepth 8192
set_option maxHeartbeats 1000000

noncomputable section

namespace Cert.Proof.Plain

open Cert.Reference Cert.Reference.Gen
open Idealize.ShloMosaic Idealize.ShloMosaic.TcCoe
open Cert.Proof.Att

variable {F : FTy → Type} [BitOps F]

theorem offsRows : ∀ k : Fin k0_t1_loop.trips, k0_off1 k = ![128 * k.val, 0] ∧ k0_off25 k = ![128 * k.val, 0] := by decide +kernel
theorem offI0 : ∀ k : Fin k0_t1_loop.trips, k0_off2 k = ![k.val, 0, 0] := by decide +kernel
theorem offI1 : ∀ k : Fin k0_t1_loop.trips, k0_off3 k = ![k.val, 32, 0] := by decide +kernel
theorem offI2 : ∀ k : Fin k0_t1_loop.trips, k0_off4 k = ![k.val, 64, 0] := by decide +kernel
theorem offI3 : ∀ k : Fin k0_t1_loop.trips, k0_off5 k = ![k.val, 96, 0] := by decide +kernel
theorem offI4 : ∀ k : Fin k0_t1_loop.trips, k0_off6 k = ![k.val, 128, 0] := by decide +kernel
theorem offI5 : ∀ k : Fin k0_t1_loop.trips, k0_off7 k = ![k.val, 160, 0] := by decide +kernel
theorem offI6 : ∀ k : Fin k0_t1_loop.trips, k0_off8 k = ![k.val, 192, 0] := by decide +kernel
theorem offI7 : ∀ k : Fin k0_t1_loop.trips, k0_off9 k = ![k.val, 224, 0] := by decide +kernel
theorem offA0 : ∀ k : Fin k0_t1_loop.trips, k0_off11 k = ![k.val, 0, 0] := by decide +kernel
theorem offA1 : ∀ k : Fin k0_t1_loop.trips, k0_off12 k = ![k.val, 64, 0] := by decide +kernel
theorem offA2 : ∀ k : Fin k0_t1_loop.trips, k0_off13 k = ![k.val, 128, 0] := by decide +kernel
theorem offA3 : ∀ k : Fin k0_t1_loop.trips, k0_off14 k = ![k.val, 192, 0] := by decide +kernel
theorem offA4 : ∀ k : Fin k0_t1_loop.trips, k0_off15 k = ![k.val, 256, 0] := by decide +kernel
theorem offA5 : ∀ k : Fin k0_t1_loop.trips, k0_off16 k = ![k.val, 320, 0] := by decide +kernel
theorem offA6 : ∀ k : Fin k0_t1_loop.trips, k0_off17 k = ![k.val, 384, 0] := by decide +kernel
theorem offA7 : ∀ k : Fin k0_t1_loop.trips, k0_off18 k = ![k.val, 448, 0] := by decide +kernel

theorem offK : ∀ (k : Fin k0_t1_loop.trips) (j : Fin 8), k0_off10 k (BitVec.ofNat 32 (512 * j.val)) = ![4096 * (k.val / 32) + 512 * j.val, 0] := by decide +kernel
theorem offT : ∀ (k : Fin k0_t1_loop.trips) (j : Fin (k0_t2_loop k).trips), k0_off19 k j = ![512 * j.val, 0]
    ∧ k0_off20 k j = ![4096 * (k.val / 32) + 512 * j.val, 0] ∧ k0_off21 k j = ![8 * (k.val / 32) + j.val, 0, 0] := by decide +kernel
theorem words : ∀ k : Fin k0_t1_loop.trips, blockTrip.sl.v7 k = BitVec.ofNat 32 (seen k.val) ∧ (k0_t2_loop k).trips = seen k.val ∧ seen k.val ≤ 8
    ∧ (k0_t3_loop k).trips = 0 ∧ blockTrip.sl.v2 k = BitVec.ofNat 32 (k.val % 32) := by decide +kernel

theorem plainYield (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (k : Fin k0_t1_loop.trips) (arg8 v1 v7 v9 : BitVec 32) (v678 : IVec S1x128 32) (v708 : BitVec 1) (v709 : FVec F S1x128 .f32)
    (cst_157 : F .bf16) (v719 v722 v725 v728 v732 v735 v738 v741 : Vec F S1x64x128 .bf16) (X3 : BufTy.Contents (Elt F) arg3.view.ty) (X4 : BufTy.Contents (Elt F) arg4.view.ty) (X7 : BufTy.Contents (Elt F) arg7.view.ty)
    (k2 : Fin (k0_t2_loop k).trips) (acc : FVec F S1x1024 .f32 × FVec F S144x1024 .f32 × FVec F S1x128 .f32) :
    tripR_k0_t2 (F := F) Variants.none c none arg0 harg0 arg1 harg1 arg2 harg2 arg3 harg3 arg4 harg4 arg5 harg5 arg6 harg6 arg7 harg7 k arg8 v1 v7 v9 v678 v708 v709 k0_pay62 cst_157 v719 v722 v725 v728 v732 v735 v738 v741 X3 X4 X7 k2 acc
      = (sideM acc.1 (scores (View.readAt (Elt F) arg3.view (Rect.unit (s := S32768x128) (k0_off20 k k2) S512x128.size (Facts₀.k0_off20_inb k k2)).toLoadRect X3) (k0_pay63 cst_157 v719 v722 v725 v728 v732 v735 v738 v741)) (plainBias v678 v708 v709 k0_pay62 acc.2.2 (View.readAt (Elt F) arg7.view (Rect.unit (s := S4096x128) (k0_off19 k k2) S512x128.size (Facts₀.k0_off19_inb k k2)).toLoadRect X7)),
        accNext acc.2.1 (sideA acc.1 (scores (View.readAt (Elt F) arg3.view (Rect.unit (s := S32768x128) (k0_off20 k k2) S512x128.size (Facts₀.k0_off20_inb k k2)).toLoadRect X3) (k0_pay63 cst_157 v719 v722 v725 v728 v732 v735 v738 v741)) (plainBias v678 v708 v709 k0_pay62 acc.2.2 (View.readAt (Elt F) arg7.view (Rect.unit (s := S4096x128) (k0_off19 k k2) S512x128.size (Facts₀.k0_off19_inb k k2)).toLoadRect X7)))
          (sideP acc.1 (scores (View.readAt (Elt F) arg3.view (Rect.unit (s := S32768x128) (k0_off20 k k2) S512x128.size (Facts₀.k0_off20_inb k k2)).toLoadRect X3) (k0_pay63 cst_157 v719 v722 v725 v728 v732 v735 v738 v741)) (plainBias v678 v708 v709 k0_pay62 acc.2.2 (View.readAt (Elt F) arg7.view (Rect.unit (s := S4096x128) (k0_off19 k k2) S512x128.size (Facts₀.k0_off19_inb k k2)).toLoadRect X7))) (View.readAt (Elt F) arg4.view (Rect.unit (s := S64x144x512) (k0_off21 k k2) S1x144x512.size (Facts₀.k0_off21_inb k k2)).toLoadRect X4),
        k0_pay68 acc.2.2 (k0_pay1 v678 (View.readAt (Elt F) arg7.view (Rect.unit (s := S4096x128) (k0_off19 k k2) S512x128.size (Facts₀.k0_off19_inb k k2)).toLoadRect X7))) := by
  unfold tripR_k0_t2 trip_k0_t2
  rfl

theorem plainLoop (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (k : Fin k0_t1_loop.trips) (arg8 v1 v7 v9 : BitVec 32) (v678 : IVec S1x128 32) (v708 : BitVec 1) (v709 : FVec F S1x128 .f32)
    (cst_157 : F .bf16) (v719 v722 v725 v728 v732 v735 v738 v741 : Vec F S1x64x128 .bf16) (X3 : BufTy.Contents (Elt F) arg3.view.ty) (X4 : BufTy.Contents (Elt F) arg4.view.ty) (X7 : BufTy.Contents (Elt F) arg7.view.ty)
    (q2 : FVec F S128x1024 .bf16) (hq : k0_pay63 cst_157 v719 v722 v725 v728 v732 v735 v738 v741 = q2)
    (keyT : ℕ → Vec F S512x128 .i32) (kT : ℕ → Vec F S512x128 .bf16) (vT : ℕ → Vec F S1x144x512 .bf16)
    (hkey : ∀ k2 : Fin (k0_t2_loop k).trips, (View.readAt (Elt F) arg7.view (Rect.unit (s := S4096x128) (k0_off19 k k2) S512x128.size (Facts₀.k0_off19_inb k k2)).toLoadRect X7) = keyT k2.val) (hk : ∀ k2 : Fin (k0_t2_loop k).trips, (View.readAt (Elt F) arg3.view (Rect.unit (s := S32768x128) (k0_off20 k k2) S512x128.size (Facts₀.k0_off20_inb k k2)).toLoadRect X3) = kT k2.val)
    (hv : ∀ k2 : Fin (k0_t2_loop k).trips, (View.readAt (Elt F) arg4.view (Rect.unit (s := S64x144x512) (k0_off21 k k2) S1x144x512.size (Facts₀.k0_off21_inb k k2)).toLoadRect X4) = vT k2.val) (n : ℕ) (hn : n ≤ (k0_t2_loop k).trips) :
    st_k0_t2 (F := F) Variants.none c none arg0 harg0 arg1 harg1 arg2 harg2 arg3 harg3 arg4 harg4 arg5 harg5 arg6 harg6 arg7 harg7 k arg8 v1 v7 v9 v678 v708 v709 k0_pay62 cst_157 v719 v722 v725 v728 v732 v735 v738 v741 X3 X4 X7 (k0_pay64, k0_pay65, k0_pay66) n = plainAt v678 v708 v709 q2 keyT kT vT n := by
  induction n with
  | zero => rfl
  | succ n ih =>
    have hs := st_k0_t2_succ (F := F) Variants.none c none arg0 harg0 arg1 harg1 arg2 harg2 arg3 harg3 arg4 harg4 arg5 harg5 arg6 harg6 arg7 harg7 k arg8 v1 v7 v9 v678 v708 v709 k0_pay62 cst_157 v719 v722 v725 v728 v732 v735 v738 v741 X3 X4 X7 (k0_pay64, k0_pay65, k0_pay66) ⟨n, hn⟩
    dsimp only at hs
    refine hs.trans ?_
    rw [plainYield, ih (Nat.le_of_succ_le hn), hkey ⟨n, hn⟩, hk ⟨n, hn⟩, hv ⟨n, hn⟩, hq]
    rfl

/-- The keys, from what is read. -/
theorem keys_read (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    blockTrip.sl.r_42 (F := F) arg1 arg2 arg5 X1 X2 X5 k = allKeys (blockTrip.sl.v2 k) (View.readAt (Elt F) arg2.view (Rect.unit (s := S32768x128) (k0_off1 k) S128x128.size (Facts₀.k0_off1_inb k)).toLoadRect X2) (pick (View.readAt (Elt F) arg1.view (Rect.unit (s := S256x256x128) (k0_off2 k) S1x32x128.size (Facts₀.k0_off2_inb k)).toLoadRect X1) (View.readAt (Elt F) arg1.view (Rect.unit (s := S256x256x128) (k0_off3 k) S1x32x128.size (Facts₀.k0_off3_inb k)).toLoadRect X1) (View.readAt (Elt F) arg1.view (Rect.unit (s := S256x256x128) (k0_off4 k) S1x32x128.size (Facts₀.k0_off4_inb k)).toLoadRect X1) (View.readAt (Elt F) arg1.view (Rect.unit (s := S256x256x128) (k0_off5 k) S1x32x128.size (Facts₀.k0_off5_inb k)).toLoadRect X1) (View.readAt (Elt F) arg1.view (Rect.unit (s := S256x256x128) (k0_off6 k) S1x32x128.size (Facts₀.k0_off6_inb k)).toLoadRect X1) (View.readAt (Elt F) arg1.view (Rect.unit (s := S256x256x128) (k0_off7 k) S1x32x128.size (Facts₀.k0_off7_inb k)).toLoadRect X1) (View.readAt (Elt F) arg1.view (Rect.unit (s := S256x256x128) (k0_off8 k) S1x32x128.size (Facts₀.k0_off8_inb k)).toLoadRect X1) (View.readAt (Elt F) arg1.view (Rect.unit (s := S256x256x128) (k0_off9 k) S1x32x128.size (Facts₀.k0_off9_inb k)).toLoadRect X1))
      (fun j => pick (View.readAt (Elt F) arg5.view (Rect.unit (s := S32768x32) (k0_off10 k 0#32) S512x32.size (Facts₀.k0_off10_inb k 0)).toLoadRect X5) (View.readAt (Elt F) arg5.view (Rect.unit (s := S32768x32) (k0_off10 k 512#32) S512x32.size (Facts₀.k0_off10_inb k 1)).toLoadRect X5) (View.readAt (Elt F) arg5.view (Rect.unit (s := S32768x32) (k0_off10 k 1024#32) S512x32.size (Facts₀.k0_off10_inb k 2)).toLoadRect X5) (View.readAt (Elt F) arg5.view (Rect.unit (s := S32768x32) (k0_off10 k 1536#32) S512x32.size (Facts₀.k0_off10_inb k 3)).toLoadRect X5) (View.readAt (Elt F) arg5.view (Rect.unit (s := S32768x32) (k0_off10 k 2048#32) S512x32.size (Facts₀.k0_off10_inb k 4)).toLoadRect X5) (View.readAt (Elt F) arg5.view (Rect.unit (s := S32768x32) (k0_off10 k 2560#32) S512x32.size (Facts₀.k0_off10_inb k 5)).toLoadRect X5) (View.readAt (Elt F) arg5.view (Rect.unit (s := S32768x32) (k0_off10 k 3072#32) S512x32.size (Facts₀.k0_off10_inb k 6)).toLoadRect X5) (View.readAt (Elt F) arg5.view (Rect.unit (s := S32768x32) (k0_off10 k 3584#32) S512x32.size (Facts₀.k0_off10_inb k 7)).toLoadRect X5) (Fin.ofNat 8 j)) := rfl

/-- The keys, from the arrays. -/
theorem keys_arrays (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    blockTrip.sl.r_42 (F := F) arg1 arg2 arg5 X1 X2 X5 k = allKeys (BitVec.ofNat 32 (k.val % 32)) (smAt (arg2.view.read (Elt F) X2) k.val) (iqAt (arg1.view.read (Elt F) X1) k.val)
      (ikAt (arg5.view.read (Elt F) X5) (k.val / 32)) := by
  have hk : k.val < 256 := k.isLt
  refine (keys_read arg0 harg0 arg1 harg1 arg2 harg2 arg3 harg3 arg4 harg4 arg5 harg5 arg6 harg6 arg7 harg7 X0 X1 X2 X3 X4 X5 k).trans ?_
  rw [(words k).2.2.2.2]
  have e1 : (View.readAt (Elt F) arg2.view (Rect.unit (s := S32768x128) (k0_off1 k) S128x128.size (Facts₀.k0_off1_inb k)).toLoadRect X2) = smAt (arg2.view.read (Elt F) X2) k.val := by
    refine load_at arg2.view X2 _ _ _ _ ((offsRows k).1) _ fun x => ⟨ix2 (Fin.ofNat 32768 (128 * k.val + (x 0).val)) (x 1), fun a => ?_, rfl⟩
    have h0 : (x 0).val < 128 := (x 0).isLt
    fin_cases a
    · show 128 * k.val + 1 * (x 0).val = (128 * k.val + (x 0).val) % 32768; omega
    · show 0 + 1 * (x 1).val = (x 1).val; omega
  have e2 : pick (View.readAt (Elt F) arg1.view (Rect.unit (s := S256x256x128) (k0_off2 k) S1x32x128.size (Facts₀.k0_off2_inb k)).toLoadRect X1) (View.readAt (Elt F) arg1.view (Rect.unit (s := S256x256x128) (k0_off3 k) S1x32x128.size (Facts₀.k0_off3_inb k)).toLoadRect X1) (View.readAt (Elt F) arg1.view (Rect.unit (s := S256x256x128) (k0_off4 k) S1x32x128.size (Facts₀.k0_off4_inb k)).toLoadRect X1) (View.readAt (Elt F) arg1.view (Rect.unit (s := S256x256x128) (k0_off5 k) S1x32x128.size (Facts₀.k0_off5_inb k)).toLoadRect X1) (View.readAt (Elt F) arg1.view (Rect.unit (s := S256x256x128) (k0_off6 k) S1x32x128.size (Facts₀.k0_off6_inb k)).toLoadRect X1) (View.readAt (Elt F) arg1.view (Rect.unit (s := S256x256x128) (k0_off7 k) S1x32x128.size (Facts₀.k0_off7_inb k)).toLoadRect X1) (View.readAt (Elt F) arg1.view (Rect.unit (s := S256x256x128) (k0_off8 k) S1x32x128.size (Facts₀.k0_off8_inb k)).toLoadRect X1) (View.readAt (Elt F) arg1.view (Rect.unit (s := S256x256x128) (k0_off9 k) S1x32x128.size (Facts₀.k0_off9_inb k)).toLoadRect X1) = iqAt (arg1.view.read (Elt F) X1) k.val := by
    funext h
    fin_cases h
    · refine load_at arg1.view X1 _ _ _ _ (offI0 k) _ fun x => ⟨ix3 (Fin.ofNat 256 k.val) (Fin.ofNat 256 (32 * 0 + (x 1).val)) (x 2), fun a => ?_, rfl⟩
      have h0 : (x 0).val < 1 := (x 0).isLt
      have h1 : (x 1).val < 32 := (x 1).isLt
      fin_cases a
      · show k.val + 1 * (x 0).val = k.val % 256; omega
      · show 0 + 1 * (x 1).val = (32 * 0 + (x 1).val) % 256; omega
      · show 0 + 1 * (x 2).val = (x 2).val; omega
    · refine load_at arg1.view X1 _ _ _ _ (offI1 k) _ fun x => ⟨ix3 (Fin.ofNat 256 k.val) (Fin.ofNat 256 (32 * 1 + (x 1).val)) (x 2), fun a => ?_, rfl⟩
      have h0 : (x 0).val < 1 := (x 0).isLt
      have h1 : (x 1).val < 32 := (x 1).isLt
      fin_cases a
      · show k.val + 1 * (x 0).val = k.val % 256; omega
      · show 32 + 1 * (x 1).val = (32 * 1 + (x 1).val) % 256; omega
      · show 0 + 1 * (x 2).val = (x 2).val; omega
    · refine load_at arg1.view X1 _ _ _ _ (offI2 k) _ fun x => ⟨ix3 (Fin.ofNat 256 k.val) (Fin.ofNat 256 (32 * 2 + (x 1).val)) (x 2), fun a => ?_, rfl⟩
      have h0 : (x 0).val < 1 := (x 0).isLt
      have h1 : (x 1).val < 32 := (x 1).isLt
      fin_cases a
      · show k.val + 1 * (x 0).val = k.val % 256; omega
      · show 64 + 1 * (x 1).val = (32 * 2 + (x 1).val) % 256; omega
      · show 0 + 1 * (x 2).val = (x 2).val; omega
    · refine load_at arg1.view X1 _ _ _ _ (offI3 k) _ fun x => ⟨ix3 (Fin.ofNat 256 k.val) (Fin.ofNat 256 (32 * 3 + (x 1).val)) (x 2), fun a => ?_, rfl⟩
      have h0 : (x 0).val < 1 := (x 0).isLt
      have h1 : (x 1).val < 32 := (x 1).isLt
      fin_cases a
      · show k.val + 1 * (x 0).val = k.val % 256; omega
      · show 96 + 1 * (x 1).val = (32 * 3 + (x 1).val) % 256; omega
      · show 0 + 1 * (x 2).val = (x 2).val; omega
    · refine load_at arg1.view X1 _ _ _ _ (offI4 k) _ fun x => ⟨ix3 (Fin.ofNat 256 k.val) (Fin.ofNat 256 (32 * 4 + (x 1).val)) (x 2), fun a => ?_, rfl⟩
      have h0 : (x 0).val < 1 := (x 0).isLt
      have h1 : (x 1).val < 32 := (x 1).isLt
      fin_cases a
      · show k.val + 1 * (x 0).val = k.val % 256; omega
      · show 128 + 1 * (x 1).val = (32 * 4 + (x 1).val) % 256; omega
      · show 0 + 1 * (x 2).val = (x 2).val; omega
    · refine load_at arg1.view X1 _ _ _ _ (offI5 k) _ fun x => ⟨ix3 (Fin.ofNat 256 k.val) (Fin.ofNat 256 (32 * 5 + (x 1).val)) (x 2), fun a => ?_, rfl⟩
      have h0 : (x 0).val < 1 := (x 0).isLt
      have h1 : (x 1).val < 32 := (x 1).isLt
      fin_cases a
      · show k.val + 1 * (x 0).val = k.val % 256; omega
      · show 160 + 1 * (x 1).val = (32 * 5 + (x 1).val) % 256; omega
      · show 0 + 1 * (x 2).val = (x 2).val; omega
    · refine load_at arg1.view X1 _ _ _ _ (offI6 k) _ fun x => ⟨ix3 (Fin.ofNat 256 k.val) (Fin.ofNat 256 (32 * 6 + (x 1).val)) (x 2), fun a => ?_, rfl⟩
      have h0 : (x 0).val < 1 := (x 0).isLt
      have h1 : (x 1).val < 32 := (x 1).isLt
      fin_cases a
      · show k.val + 1 * (x 0).val = k.val % 256; omega
      · show 192 + 1 * (x 1).val = (32 * 6 + (x 1).val) % 256; omega
      · show 0 + 1 * (x 2).val = (x 2).val; omega
    · refine load_at arg1.view X1 _ _ _ _ (offI7 k) _ fun x => ⟨ix3 (Fin.ofNat 256 k.val) (Fin.ofNat 256 (32 * 7 + (x 1).val)) (x 2), fun a => ?_, rfl⟩
      have h0 : (x 0).val < 1 := (x 0).isLt
      have h1 : (x 1).val < 32 := (x 1).isLt
      fin_cases a
      · show k.val + 1 * (x 0).val = k.val % 256; omega
      · show 224 + 1 * (x 1).val = (32 * 7 + (x 1).val) % 256; omega
      · show 0 + 1 * (x 2).val = (x 2).val; omega
  rw [e1, e2]
  refine allKeys_congr _ _ _ _ _ fun j => ?_
  have q : pick (View.readAt (Elt F) arg5.view (Rect.unit (s := S32768x32) (k0_off10 k 0#32) S512x32.size (Facts₀.k0_off10_inb k 0)).toLoadRect X5) (View.readAt (Elt F) arg5.view (Rect.unit (s := S32768x32) (k0_off10 k 512#32) S512x32.size (Facts₀.k0_off10_inb k 1)).toLoadRect X5) (View.readAt (Elt F) arg5.view (Rect.unit (s := S32768x32) (k0_off10 k 1024#32) S512x32.size (Facts₀.k0_off10_inb k 2)).toLoadRect X5) (View.readAt (Elt F) arg5.view (Rect.unit (s := S32768x32) (k0_off10 k 1536#32) S512x32.size (Facts₀.k0_off10_inb k 3)).toLoadRect X5) (View.readAt (Elt F) arg5.view (Rect.unit (s := S32768x32) (k0_off10 k 2048#32) S512x32.size (Facts₀.k0_off10_inb k 4)).toLoadRect X5) (View.readAt (Elt F) arg5.view (Rect.unit (s := S32768x32) (k0_off10 k 2560#32) S512x32.size (Facts₀.k0_off10_inb k 5)).toLoadRect X5) (View.readAt (Elt F) arg5.view (Rect.unit (s := S32768x32) (k0_off10 k 3072#32) S512x32.size (Facts₀.k0_off10_inb k 6)).toLoadRect X5) (View.readAt (Elt F) arg5.view (Rect.unit (s := S32768x32) (k0_off10 k 3584#32) S512x32.size (Facts₀.k0_off10_inb k 7)).toLoadRect X5) (Fin.ofNat 8 j.val) = (View.readAt (Elt F) arg5.view (Rect.unit (s := S32768x32) (k0_off10 k (BitVec.ofNat 32 (512 * j.val))) S512x32.size (Facts₀.k0_off10_inb k j)).toLoadRect X5) := by
    fin_cases j <;> rfl
  refine q.trans ?_
  refine load_at arg5.view X5 _ _ _ _ (offK k j) _ fun x => ⟨ix2 (Fin.ofNat 32768 (4096 * (k.val / 32) + 512 * j.val + (x 0).val)) (x 1), fun a => ?_, rfl⟩
  have h0 : (x 0).val < 512 := (x 0).isLt
  fin_cases a
  · show 4096 * (k.val / 32) + 512 * j.val + 1 * (x 0).val = (4096 * (k.val / 32) + 512 * j.val + (x 0).val) % 32768; omega
  · show 0 + 1 * (x 1).val = (x 1).val; omega

/-- The queries, from the array. -/
theorem queries_arrays (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    blockTrip.sl.r_47 (F := F) arg0 X0 k = queries (aqAt (arg0.view.read (Elt F) X0) k.val) := by
  have hk : k.val < 256 := k.isLt
  have e2 : pick (View.readAt (Elt F) arg0.view (Rect.unit (s := S256x512x128) (k0_off11 k) S1x64x128.size (Facts₀.k0_off11_inb k)).toLoadRect X0) (View.readAt (Elt F) arg0.view (Rect.unit (s := S256x512x128) (k0_off12 k) S1x64x128.size (Facts₀.k0_off12_inb k)).toLoadRect X0) (View.readAt (Elt F) arg0.view (Rect.unit (s := S256x512x128) (k0_off13 k) S1x64x128.size (Facts₀.k0_off13_inb k)).toLoadRect X0) (View.readAt (Elt F) arg0.view (Rect.unit (s := S256x512x128) (k0_off14 k) S1x64x128.size (Facts₀.k0_off14_inb k)).toLoadRect X0) (View.readAt (Elt F) arg0.view (Rect.unit (s := S256x512x128) (k0_off15 k) S1x64x128.size (Facts₀.k0_off15_inb k)).toLoadRect X0) (View.readAt (Elt F) arg0.view (Rect.unit (s := S256x512x128) (k0_off16 k) S1x64x128.size (Facts₀.k0_off16_inb k)).toLoadRect X0) (View.readAt (Elt F) arg0.view (Rect.unit (s := S256x512x128) (k0_off17 k) S1x64x128.size (Facts₀.k0_off17_inb k)).toLoadRect X0) (View.readAt (Elt F) arg0.view (Rect.unit (s := S256x512x128) (k0_off18 k) S1x64x128.size (Facts₀.k0_off18_inb k)).toLoadRect X0) = aqAt (arg0.view.read (Elt F) X0) k.val := by
    funext h
    fin_cases h
    · refine load_at arg0.view X0 _ _ _ _ (offA0 k) _ fun x => ⟨ix3 (Fin.ofNat 256 k.val) (Fin.ofNat 512 (64 * 0 + (x 1).val)) (x 2), fun a => ?_, rfl⟩
      have h0 : (x 0).val < 1 := (x 0).isLt
      have h1 : (x 1).val < 64 := (x 1).isLt
      fin_cases a
      · show k.val + 1 * (x 0).val = k.val % 256; omega
      · show 0 + 1 * (x 1).val = (64 * 0 + (x 1).val) % 512; omega
      · show 0 + 1 * (x 2).val = (x 2).val; omega
    · refine load_at arg0.view X0 _ _ _ _ (offA1 k) _ fun x => ⟨ix3 (Fin.ofNat 256 k.val) (Fin.ofNat 512 (64 * 1 + (x 1).val)) (x 2), fun a => ?_, rfl⟩
      have h0 : (x 0).val < 1 := (x 0).isLt
      have h1 : (x 1).val < 64 := (x 1).isLt
      fin_cases a
      · show k.val + 1 * (x 0).val = k.val % 256; omega
      · show 64 + 1 * (x 1).val = (64 * 1 + (x 1).val) % 512; omega
      · show 0 + 1 * (x 2).val = (x 2).val; omega
    · refine load_at arg0.view X0 _ _ _ _ (offA2 k) _ fun x => ⟨ix3 (Fin.ofNat 256 k.val) (Fin.ofNat 512 (64 * 2 + (x 1).val)) (x 2), fun a => ?_, rfl⟩
      have h0 : (x 0).val < 1 := (x 0).isLt
      have h1 : (x 1).val < 64 := (x 1).isLt
      fin_cases a
      · show k.val + 1 * (x 0).val = k.val % 256; omega
      · show 128 + 1 * (x 1).val = (64 * 2 + (x 1).val) % 512; omega
      · show 0 + 1 * (x 2).val = (x 2).val; omega
    · refine load_at arg0.view X0 _ _ _ _ (offA3 k) _ fun x => ⟨ix3 (Fin.ofNat 256 k.val) (Fin.ofNat 512 (64 * 3 + (x 1).val)) (x 2), fun a => ?_, rfl⟩
      have h0 : (x 0).val < 1 := (x 0).isLt
      have h1 : (x 1).val < 64 := (x 1).isLt
      fin_cases a
      · show k.val + 1 * (x 0).val = k.val % 256; omega
      · show 192 + 1 * (x 1).val = (64 * 3 + (x 1).val) % 512; omega
      · show 0 + 1 * (x 2).val = (x 2).val; omega
    · refine load_at arg0.view X0 _ _ _ _ (offA4 k) _ fun x => ⟨ix3 (Fin.ofNat 256 k.val) (Fin.ofNat 512 (64 * 4 + (x 1).val)) (x 2), fun a => ?_, rfl⟩
      have h0 : (x 0).val < 1 := (x 0).isLt
      have h1 : (x 1).val < 64 := (x 1).isLt
      fin_cases a
      · show k.val + 1 * (x 0).val = k.val % 256; omega
      · show 256 + 1 * (x 1).val = (64 * 4 + (x 1).val) % 512; omega
      · show 0 + 1 * (x 2).val = (x 2).val; omega
    · refine load_at arg0.view X0 _ _ _ _ (offA5 k) _ fun x => ⟨ix3 (Fin.ofNat 256 k.val) (Fin.ofNat 512 (64 * 5 + (x 1).val)) (x 2), fun a => ?_, rfl⟩
      have h0 : (x 0).val < 1 := (x 0).isLt
      have h1 : (x 1).val < 64 := (x 1).isLt
      fin_cases a
      · show k.val + 1 * (x 0).val = k.val % 256; omega
      · show 320 + 1 * (x 1).val = (64 * 5 + (x 1).val) % 512; omega
      · show 0 + 1 * (x 2).val = (x 2).val; omega
    · refine load_at arg0.view X0 _ _ _ _ (offA6 k) _ fun x => ⟨ix3 (Fin.ofNat 256 k.val) (Fin.ofNat 512 (64 * 6 + (x 1).val)) (x 2), fun a => ?_, rfl⟩
      have h0 : (x 0).val < 1 := (x 0).isLt
      have h1 : (x 1).val < 64 := (x 1).isLt
      fin_cases a
      · show k.val + 1 * (x 0).val = k.val % 256; omega
      · show 384 + 1 * (x 1).val = (64 * 6 + (x 1).val) % 512; omega
      · show 0 + 1 * (x 2).val = (x 2).val; omega
    · refine load_at arg0.view X0 _ _ _ _ (offA7 k) _ fun x => ⟨ix3 (Fin.ofNat 256 k.val) (Fin.ofNat 512 (64 * 7 + (x 1).val)) (x 2), fun a => ?_, rfl⟩
      have h0 : (x 0).val < 1 := (x 0).isLt
      have h1 : (x 1).val < 64 := (x 1).isLt
      fin_cases a
      · show k.val + 1 * (x 0).val = k.val % 256; omega
      · show 448 + 1 * (x 1).val = (64 * 7 + (x 1).val) % 512; omega
      · show 0 + 1 * (x 2).val = (x 2).val; omega
  exact (show blockTrip.sl.r_47 (F := F) arg0 X0 k = queries (pick (View.readAt (Elt F) arg0.view (Rect.unit (s := S256x512x128) (k0_off11 k) S1x64x128.size (Facts₀.k0_off11_inb k)).toLoadRect X0) (View.readAt (Elt F) arg0.view (Rect.unit (s := S256x512x128) (k0_off12 k) S1x64x128.size (Facts₀.k0_off12_inb k)).toLoadRect X0) (View.readAt (Elt F) arg0.view (Rect.unit (s := S256x512x128) (k0_off13 k) S1x64x128.size (Facts₀.k0_off13_inb k)).toLoadRect X0) (View.readAt (Elt F) arg0.view (Rect.unit (s := S256x512x128) (k0_off14 k) S1x64x128.size (Facts₀.k0_off14_inb k)).toLoadRect X0) (View.readAt (Elt F) arg0.view (Rect.unit (s := S256x512x128) (k0_off15 k) S1x64x128.size (Facts₀.k0_off15_inb k)).toLoadRect X0) (View.readAt (Elt F) arg0.view (Rect.unit (s := S256x512x128) (k0_off16 k) S1x64x128.size (Facts₀.k0_off16_inb k)).toLoadRect X0) (View.readAt (Elt F) arg0.view (Rect.unit (s := S256x512x128) (k0_off17 k) S1x64x128.size (Facts₀.k0_off17_inb k)).toLoadRect X0) (View.readAt (Elt F) arg0.view (Rect.unit (s := S256x512x128) (k0_off18 k) S1x64x128.size (Facts₀.k0_off18_inb k)).toLoadRect X0)) from rfl).trans (congrArg queries e2)

/-- The rows a trip writes. -/
theorem rows_arrays (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    blockTrip.sl.r_51 (F := F) c arg0 harg0 arg1 harg1 arg2 harg2 arg3 harg3 arg4 harg4 arg5 harg5 arg6 harg6 arg7 harg7 X0 X1 X2 X3 X4 X5 k = rowsOf (arg0.view.read (Elt F) X0) (arg1.view.read (Elt F) X1) (arg2.view.read (Elt F) X2) (arg3.view.read (Elt F) X3)
      (arg4.view.read (Elt F) X4) (arg5.view.read (Elt F) X5) k.val := by
  have hk : k.val < 256 := k.isLt
  obtain ⟨hw, ht, h8, h3, -⟩ := words k
  have hkeys := keys_arrays (F := F) arg0 harg0 arg1 harg1 arg2 harg2 arg3 harg3 arg4 harg4 arg5 harg5 arg6 harg6 arg7 harg7 X0 X1 X2 X3 X4 X5 k
  have hL := plainLoop (F := F) c arg0 harg0 arg1 harg1 arg2 harg2 arg3 harg3 arg4 harg4 arg5 harg5 arg6 harg6 arg7 harg7 k (Scf.iv 0#32 1#32 k) (blockTrip.sl.v1 k) (blockTrip.sl.v7 k) (blockTrip.sl.v8 k) (blockTrip.sl.r_45 (F := F) arg1 arg2 arg5 X1 X2 X5 k) (blockTrip.sl.v708 (F := F) arg1 arg2 arg5 X1 X2 X5 k) (blockTrip.sl.r_46 (F := F) arg1 arg2 arg5 X1 X2 X5 k)
    (Scalar.ofBits .bf16 0x0000#16) (View.readAt (Elt F) arg0.view (Rect.unit (s := S256x512x128) (k0_off11 k) S1x64x128.size (Facts₀.k0_off11_inb k)).toLoadRect X0) (View.readAt (Elt F) arg0.view (Rect.unit (s := S256x512x128) (k0_off12 k) S1x64x128.size (Facts₀.k0_off12_inb k)).toLoadRect X0) (View.readAt (Elt F) arg0.view (Rect.unit (s := S256x512x128) (k0_off13 k) S1x64x128.size (Facts₀.k0_off13_inb k)).toLoadRect X0) (View.readAt (Elt F) arg0.view (Rect.unit (s := S256x512x128) (k0_off14 k) S1x64x128.size (Facts₀.k0_off14_inb k)).toLoadRect X0) (View.readAt (Elt F) arg0.view (Rect.unit (s := S256x512x128) (k0_off15 k) S1x64x128.size (Facts₀.k0_off15_inb k)).toLoadRect X0) (View.readAt (Elt F) arg0.view (Rect.unit (s := S256x512x128) (k0_off16 k) S1x64x128.size (Facts₀.k0_off16_inb k)).toLoadRect X0) (View.readAt (Elt F) arg0.view (Rect.unit (s := S256x512x128) (k0_off17 k) S1x64x128.size (Facts₀.k0_off17_inb k)).toLoadRect X0) (View.readAt (Elt F) arg0.view (Rect.unit (s := S256x512x128) (k0_off18 k) S1x64x128.size (Facts₀.k0_off18_inb k)).toLoadRect X0) X3 X4 (arg7.view.writes (Elt F) arg7.view.junk (blockTrip.sl.H7_1 (F := F) arg1 arg2 arg5 X1 X2 X5 k))
    (queries (aqAt (arg0.view.read (Elt F) X0) k.val)) (queries_arrays arg0 harg0 arg1 harg1 arg2 harg2 arg3 harg3 arg4 harg4 arg5 harg5 arg6 harg6 arg7 harg7 X0 X1 X2 X3 X4 X5 k)
    (fun j => tileKeys (BitVec.ofNat 32 (k.val % 32)) (smAt (arg2.view.read (Elt F) X2) k.val) (iqAt (arg1.view.read (Elt F) X1) k.val)
      (ikAt (arg5.view.read (Elt F) X5) (k.val / 32)) j)
    (kAt (arg3.view.read (Elt F) X3) (k.val / 32)) (vAt (arg4.view.read (Elt F) X4) (k.val / 32)) ?hkey ?hkk ?hvv (k0_t2_loop k).trips (le_refl _)
  case hkey =>
    intro k2
    have hk2 : k2.val < 8 := lt_of_lt_of_le k2.isLt (ht ▸ h8)
    refine load_at arg7.view _ _ _ _ _ ((offT k k2).1) _ fun x => ⟨ix2 (Fin.ofNat 4096 (512 * k2.val + (x 0).val)) (x 1), fun a => ?_, ?_⟩
    · have h0 : (x 0).val < 512 := (x 0).isLt
      fin_cases a
      · show 512 * k2.val + 1 * (x 0).val = (512 * k2.val + (x 0).val) % 4096; omega
      · show 0 + 1 * (x 1).val = (x 1).val; omega
    have h0 : (x 0).val < 512 := (x 0).isLt
    have hp : ∀ (w : IVec S4096x128 32) (y : S4096x128.Idx),
        arg7.view.read (Elt F) (arg7.view.writes (Elt F) arg7.view.junk [⟨Rect.unit (s := S4096x128) ![0, 0] S4096x128.size inb_S4096x128_S4096x128_0_0, shapeCast S4096x128 w shapeCasts_S4096x128_S4096x128⟩]) y = w y := by
      intro w y
      refine View.read_writes_apply_of_pieces (Val := Elt F) arg7.view _ w _ ?_ y ⟨_, List.mem_cons_self, ?_⟩
      · intro p hp z
        rcases List.mem_singleton.1 hp with rfl
        refine (congrFun (shapeCast_self w _) z).trans (congrArg w (funext fun a => Fin.ext ?_))
        fin_cases a
        · show (z 0).val = 0 + 1 * (z 0).val; omega
        · show (z 1).val = 0 + 1 * (z 1).val; omega
      · rw [Rect.mem_set_unit]
        intro a
        fin_cases a
        · exact ⟨Nat.zero_le _, by have := (y 0).isLt; show (y 0).val < 0 + 4096; exact (Nat.zero_add 4096).symm ▸ this⟩
        · exact ⟨Nat.zero_le _, by have := (y 1).isLt; show (y 1).val < 0 + 128; exact (Nat.zero_add 128).symm ▸ this⟩
    refine (hp (blockTrip.sl.r_42 (F := F) arg1 arg2 arg5 X1 X2 X5 k) _).trans ?_
    rw [hkeys]
    refine (stacked_apply _ ⟨k2.val, hk2⟩ ⟨(x 0).val, h0⟩ (x 1) _ ?_ rfl).trans (congrArg _ (eq_ix2 x).symm)
    show (512 * k2.val + (x 0).val) % 4096 = 512 * k2.val + (x 0).val
    omega
  case hkk =>
    intro k2
    have hk2 : k2.val < 8 := lt_of_lt_of_le k2.isLt (ht ▸ h8)
    refine load_at arg3.view _ _ _ _ _ ((offT k k2).2.1) _ fun x => ⟨ix2 (Fin.ofNat 32768 (4096 * (k.val / 32) + 512 * k2.val + (x 0).val)) (x 1), fun a => ?_, rfl⟩
    have h0 : (x 0).val < 512 := (x 0).isLt
    fin_cases a
    · show 4096 * (k.val / 32) + 512 * k2.val + 1 * (x 0).val = (4096 * (k.val / 32) + 512 * k2.val + (x 0).val) % 32768; omega
    · show 0 + 1 * (x 1).val = (x 1).val; omega
  case hvv =>
    intro k2
    have hk2 : k2.val < 8 := lt_of_lt_of_le k2.isLt (ht ▸ h8)
    refine load_at arg4.view _ _ _ _ _ ((offT k k2).2.2) _ fun x => ⟨ix3 (Fin.ofNat 64 (8 * (k.val / 32) + k2.val)) (x 1) (x 2), fun a => ?_, rfl⟩
    have h0 : (x 0).val < 1 := (x 0).isLt
    fin_cases a
    · show 8 * (k.val / 32) + k2.val + 1 * (x 0).val = (8 * (k.val / 32) + k2.val) % 64; omega
    · show 0 + 1 * (x 1).val = (x 1).val; omega
    · show 0 + 1 * (x 2).val = (x 2).val; omega
  have e : blockTrip.sl.r_51 (F := F) c arg0 harg0 arg1 harg1 arg2 harg2 arg3 harg3 arg4 harg4 arg5 harg5 arg6 harg6 arg7 harg7 X0 X1 X2 X3 X4 X5 k = k0_pay71 (plainAt (blockTrip.sl.r_45 (F := F) arg1 arg2 arg5 X1 X2 X5 k) (blockTrip.sl.v708 (F := F) arg1 arg2 arg5 X1 X2 X5 k) (blockTrip.sl.r_46 (F := F) arg1 arg2 arg5 X1 X2 X5 k) (queries (aqAt (arg0.view.read (Elt F) X0) k.val))
      (fun j => tileKeys (BitVec.ofNat 32 (k.val % 32)) (smAt (arg2.view.read (Elt F) X2) k.val) (iqAt (arg1.view.read (Elt F) X1) k.val)
        (ikAt (arg5.view.read (Elt F) X5) (k.val / 32)) j)
      (kAt (arg3.view.read (Elt F) X3) (k.val / 32)) (vAt (arg4.view.read (Elt F) X4) (k.val / 32)) (k0_t2_loop k).trips).2.1 := by
    rw [← hL]
    unfold blockTrip.sl.r_51
    rw [show Scf.trips (k0_t3_loop k).lb (k0_t3_loop k).ub (k0_t3_loop k).st = 0 from h3]
    rfl
  rw [e, ht]
  have eq1 : blockTrip.sl.r_45 (F := F) arg1 arg2 arg5 X1 X2 X5 k = cut (BitVec.ofNat 32 (seen k.val)) (allKeys (BitVec.ofNat 32 (k.val % 32)) (smAt (arg2.view.read (Elt F) X2) k.val) (iqAt (arg1.view.read (Elt F) X1) k.val)
      (ikAt (arg5.view.read (Elt F) X5) (k.val / 32))) := by
    rw [← hkeys, ← hw]; rfl
  have eq2 : blockTrip.sl.r_46 (F := F) arg1 arg2 arg5 X1 X2 X5 k = quota (BitVec.ofNat 32 (seen k.val)) (allKeys (BitVec.ofNat 32 (k.val % 32)) (smAt (arg2.view.read (Elt F) X2) k.val) (iqAt (arg1.view.read (Elt F) X1) k.val)
      (ikAt (arg5.view.read (Elt F) X5) (k.val / 32))) := by
    rw [← hkeys, ← hw]; rfl
  have eq3 : blockTrip.sl.v708 (F := F) arg1 arg2 arg5 X1 X2 X5 k = tied (F := F) (BitVec.ofNat 32 (seen k.val)) (allKeys (BitVec.ofNat 32 (k.val % 32)) (smAt (arg2.view.read (Elt F) X2) k.val) (iqAt (arg1.view.read (Elt F) X1) k.val)
      (ikAt (arg5.view.read (Elt F) X5) (k.val / 32))) := by
    rw [← hkeys, ← hw]; rfl
  rw [eq1, eq2, eq3]
  rfl

end Cert.Proof.Plain

end
-- ==== Proof.Whole.lean ====
/- The reference block by block, and its whole run: what it leaves in the output is the plain mathematics of its arrays. Untrusted. -/
module

public import proofs.«01_k».proof.Proof.Rows

@[expose] public section

set_option maxRecDepth 8192
set_option maxHeartbeats 4000000

noncomputable section

namespace Cert.Proof.Plain

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

open Cert.Proof.Att

/-- What the first blocks write. -/
def wholePieces (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : ℕ → List (View.Piece (Elt F) S32768x512 .bf16)
  | 0 => []
  | k + 1 => if h : k < k0_t1_loop.trips then (blockTrip (F := F) c arg0 harg0 arg1 harg1 arg2 harg2 arg3 harg3 arg4 harg4 arg5 harg5 arg6 harg6 arg7 harg7 X0 X1 X2 X3 X4 X5 ⟨k, h⟩).1 ++ wholePieces c arg0 harg0 arg1 harg1 arg2 harg2 arg3 harg3 arg4 harg4 arg5 harg5 arg6 harg6 arg7 harg7 X0 X1 X2 X3 X4 X5 k else wholePieces c arg0 harg0 arg1 harg1 arg2 harg2 arg3 harg3 arg4 harg4 arg5 harg5 arg6 harg6 arg7 harg7 X0 X1 X2 X3 X4 X5 k

theorem wholePieces_succ (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    wholePieces (F := F) c arg0 harg0 arg1 harg1 arg2 harg2 arg3 harg3 arg4 harg4 arg5 harg5 arg6 harg6 arg7 harg7 X0 X1 X2 X3 X4 X5 (k.val + 1) = (blockTrip (F := F) c arg0 harg0 arg1 harg1 arg2 harg2 arg3 harg3 arg4 harg4 arg5 harg5 arg6 harg6 arg7 harg7 X0 X1 X2 X3 X4 X5 k).1 ++ wholePieces (F := F) c arg0 harg0 arg1 harg1 arg2 harg2 arg3 harg3 arg4 harg4 arg5 harg5 arg6 harg6 arg7 harg7 X0 X1 X2 X3 X4 X5 k.val := by
  rw [wholePieces, dif_pos k.isLt]

theorem blockPieces (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    (blockTrip (F := F) c arg0 harg0 arg1 harg1 arg2 harg2 arg3 harg3 arg4 harg4 arg5 harg5 arg6 harg6 arg7 harg7 X0 X1 X2 X3 X4 X5 k).1 = [⟨Rect.unit (s := S32768x512) (k0_off25 k) S128x512.size (Facts₀.k0_off25_inb k), rowsOf (arg0.view.read (Elt F) X0) (arg1.view.read (Elt F) X1) (arg2.view.read (Elt F) X2) (arg3.view.read (Elt F) X3) (arg4.view.read (Elt F) X4) (arg5.view.read (Elt F) X5) k.val⟩] := by
  refine Eq.trans ?_ (congrArg (fun w => ([⟨Rect.unit (s := S32768x512) (k0_off25 k) S128x512.size (Facts₀.k0_off25_inb k), w⟩] : List (View.Piece (Elt F) S32768x512 .bf16)))
    (rows_arrays (F := F) c arg0 harg0 arg1 harg1 arg2 harg2 arg3 harg3 arg4 harg4 arg5 harg5 arg6 harg6 arg7 harg7 X0 X1 X2 X3 X4 X5 k))
  unfold blockTrip
  rfl

/-- One block more. -/
theorem grow (v : View sig .tc .vmem S32768x512 .bf16) (f : v.ty.Contents (Elt F)) (R : ℕ → FVec F S128x512 .bf16) (n : ℕ)
    (off : Fin S32768x512.rank → ℕ) (inb) (ho : off = ![128 * n, 0])
    (h : ∀ y : S32768x512.Idx, (y 0).val < 128 * n → v.read (Elt F) f y = R ((y 0).val / 128) (ix2 (⟨(y 0).val % 128, Nat.mod_lt _ (by decide)⟩ : Fin 128) (y 1 : Fin 512)))
    (y : S32768x512.Idx) (hy : (y 0).val < 128 * (n + 1)) :
    v.read (Elt F) (v.writes (Elt F) f [⟨Rect.unit (s := S32768x512) off S128x512.size inb, R n⟩]) y
      = R ((y 0).val / 128) (ix2 (⟨(y 0).val % 128, Nat.mod_lt _ (by decide)⟩ : Fin 128) (y 1 : Fin 512)) := by
  subst ho
  have y1 : (y 1).val < 512 := (y 1).isLt
  by_cases hd : (y 0).val < 128 * n
  · refine (View.read_writes_apply_of_forall_not_mem v _ y _ ?_).trans (h y hd)
    intro p hp hm
    rcases List.mem_singleton.1 hp with rfl
    have hm' : y ∈ (Rect.unit (s := S32768x512) ![128 * n, 0] S128x512.size inb).set := hm
    rw [Rect.mem_set_unit] at hm'
    have h0 : 128 * n ≤ (y 0).val ∧ (y 0).val < 128 * n + 128 := hm' 0
    omega
  · refine View.read_writes_apply_of_pieces (Val := Elt F) v _ (fun y => R ((y 0).val / 128) (ix2 (⟨(y 0).val % 128, Nat.mod_lt _ (by decide)⟩ : Fin 128) (y 1 : Fin 512))) _ ?_ y ⟨_, List.mem_cons_self, ?_⟩
    · intro p hp x
      rcases List.mem_singleton.1 hp with rfl
      obtain ⟨r, l, rfl⟩ : ∃ (r : Fin 128) (l : Fin 512), x = ix2 r l := ⟨x 0, x 1, eq_ix2 x⟩
      have e0 : (((Rect.unit (s := S32768x512) ![128 * n, 0] S128x512.size inb).emb (ix2 r l)) 0).val = 128 * n + r.val := by
        show 128 * n + 1 * r.val = _; omega
      have e1 : (((Rect.unit (s := S32768x512) ![128 * n, 0] S128x512.size inb).emb (ix2 r l)) 1).val = l.val := by
        show 0 + 1 * l.val = _; omega
      revert e0 e1
      generalize (Rect.unit (s := S32768x512) ![128 * n, 0] S128x512.size inb).emb (ix2 r l) = z
      intro e0 e1
      have a1 : (z 0).val / 128 = n := by have := r.isLt; omega
      have a2 : (⟨(z 0).val % 128, Nat.mod_lt _ (by decide)⟩ : Fin 128) = r := Fin.ext (by show (z 0).val % 128 = r.val; have := r.isLt; omega)
      have a3 : (z 1 : Fin 512) = l := Fin.ext e1
      show R n (ix2 r l) = R ((z 0).val / 128) (ix2 (⟨(z 0).val % 128, Nat.mod_lt _ (by decide)⟩ : Fin 128) (z 1 : Fin 512))
      rw [a1, a2, a3]
    · rw [Rect.mem_set_unit]
      intro a
      fin_cases a
      · show 128 * n ≤ (y 0).val ∧ (y 0).val < 128 * n + 128; omega
      · show 0 ≤ (y 1).val ∧ (y 1).val < 0 + 512; omega

theorem wholePieces_rows (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (n : ℕ) (hn : n ≤ k0_t1_loop.trips) :
    ∀ y : S32768x512.Idx, (y 0).val < 128 * n → arg6.view.read (Elt F) (arg6.view.writes (Elt F) f6 (wholePieces (F := F) c arg0 harg0 arg1 harg1 arg2 harg2 arg3 harg3 arg4 harg4 arg5 harg5 arg6 harg6 arg7 harg7 X0 X1 X2 X3 X4 X5 n)) y = attended (arg0.view.read (Elt F) X0) (arg1.view.read (Elt F) X1) (arg2.view.read (Elt F) X2) (arg3.view.read (Elt F) X3) (arg4.view.read (Elt F) X4) (arg5.view.read (Elt F) X5) y := by
  induction n with
  | zero => exact fun y hy => absurd hy (Nat.not_lt_zero _)
  | succ n ih =>
    intro y hy
    have hlt : n < k0_t1_loop.trips := hn
    rw [show wholePieces (F := F) c arg0 harg0 arg1 harg1 arg2 harg2 arg3 harg3 arg4 harg4 arg5 harg5 arg6 harg6 arg7 harg7 X0 X1 X2 X3 X4 X5 (n + 1) = _ from wholePieces_succ (F := F) c arg0 harg0 arg1 harg1 arg2 harg2 arg3 harg3 arg4 harg4 arg5 harg5 arg6 harg6 arg7 harg7 X0 X1 X2 X3 X4 X5 ⟨n, hlt⟩, View.writes_append, blockPieces]
    exact grow arg6.view _ (rowsOf (arg0.view.read (Elt F) X0) (arg1.view.read (Elt F) X1) (arg2.view.read (Elt F) X2) (arg3.view.read (Elt F) X3) (arg4.view.read (Elt F) X4) (arg5.view.read (Elt F) X5)) n _ _ (offsRows ⟨n, hlt⟩).2 (ih (Nat.le_of_succ_le hn)) y hy

theorem blocks_all : k0_t1_loop.trips = 256 := by decide +kernel

set_option warn.classDefReducibility false in
/-- The loop over the blocks of rows. -/
@[sl_loop] def wholeLoop (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) :
    LoopInvTy_k0_t1 (F := F) Unit ℕ (UR sig nD τ) ℕ Variants.none c none Set.univ arg0 harg0 arg1 harg1 arg2 harg2 arg3 harg3 arg4 harg4 arg5 harg5 arg6 harg6 arg7 harg7 where
  inv := fun k _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜f = arg6.view.writes (Elt F) G6 (wholePieces (F := F) c arg0 harg0 arg1 harg1 arg2 harg2 arg3 harg3 arg4 harg4 arg5 harg5 arg6 harg6 arg7 harg7 X0 X1 X2 X3 X4 X5 k)⌝) ∗ (∃ f, (arg7.view.loc (c : Thread nD τ) ↦[arg7.view.set]{fullShare} f)))
  step k acc := by
    iintro ⟨H0, H1, H2, H3, H4, H5, ⟨%f6, H6, %h6⟩, ⟨%f7, H7⟩⟩
    iapply (wp_wand_r Idealize.ShloMosaic.frame (wpE (defs₀ (F := F)) Variants.none (c : Thread nD τ) none) Set.univ)
    isplitl [H0 H1 H2 H3 H4 H5 H6 H7]
    · iapply ((blockTrip (F := F) c arg0 harg0 arg1 harg1 arg2 harg2 arg3 harg3 arg4 harg4 arg5 harg5 arg6 harg6 arg7 harg7 X0 X1 X2 X3 X4 X5 k).2 Set.univ f7 f6)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iintro %yld ⟨H0, H1, H2, H3, H4, H5, H6, H7⟩
      isplitl [H0]; · iexact H0
      isplitl [H1]; · iexact H1
      isplitl [H2]; · iexact H2
      isplitl [H3]; · iexact H3
      isplitl [H4]; · iexact H4
      isplitl [H5]; · iexact H5
      simp only [wholePieces_succ]
      isplitl [H6]
      · iexists _; isplitl [H6]; · iexact H6
        ipureintro; rw [h6, ← View.writes_append]
      · iexact H7

/-- The reference, for any continuation. -/
theorem wholeRun (c : Dev nD) (arg0 : Memref sig .tc .vmem S256x512x128 .bf16) (harg0 : arg0.IsWhole) (arg1 : Memref sig .tc .vmem S256x256x128 .bf16) (harg1 : arg1.IsWhole) (arg2 : Memref sig .tc .vmem S32768x128 .f32) (harg2 : arg2.IsWhole) (arg3 : Memref sig .tc .vmem S32768x128 .bf16) (harg3 : arg3.IsWhole) (arg4 : Memref sig .tc .vmem S64x144x512 .bf16) (harg4 : arg4.IsWhole) (arg5 : Memref sig .tc .vmem S32768x32 .bf16) (harg5 : arg5.IsWhole) (arg6 : Memref sig .tc .vmem S32768x512 .bf16) (harg6 : arg6.IsWhole) (arg7 : Memref sig .tc .vmem S4096x128 .i32) (harg7 : arg7.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (K : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f)) ∗ (∃ f, (arg7.view.loc (c : Thread nD τ) ↦[arg7.view.set]{fullShare} f))
      ∗ (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f)) ∗ (∃ f, (arg6.view.loc (c : Thread nD τ) ↦[arg6.view.set]{fullShare} f) ∗ ⌜∀ y, arg6.view.read (Elt F) f y = attended (arg0.view.read (Elt F) X0) (arg1.view.read (Elt F) X1) (arg2.view.read (Elt F) X2) (arg3.view.read (Elt F) X3) (arg4.view.read (Elt F) X4) (arg5.view.read (Elt F) X5) y⌝)) -∗ K ⟨⟩))
      ⊢ wp frame (wpE (defs₀ (F := F)) Variants.none (c : Thread nD τ) none) Set.univ
          (cc0_sparse_attention arg0 harg0 arg1 harg1 arg2 harg2 arg3 harg3 arg4 harg4 arg5 harg5 arg6 harg6 arg7 harg7) K := by
  simp only [cc0_sparse_attention_eq_skeleton]; unfold cc0_sparse_attention_skel
  iintro ⟨H0, H1, H2, H3, H4, H5, ⟨%f6, H6⟩, ⟨%f7, H7⟩, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iexists _; isplitl [H6]; · iexact H6
  ipureintro
  intro y
  exact wholePieces_rows (F := F) c arg0 harg0 arg1 harg1 arg2 harg2 arg3 harg3 arg4 harg4 arg5 harg5 arg6 harg6 arg7 harg7 X0 X1 X2 X3 X4 X5 f6 _ (le_refl _) y (by rw [blocks_all]; exact (y 0).isLt)

end Cert.Proof.Plain

end
-- ==== Proof.PlainRun.lean ====
/- The run of the reference from launch to end, its one point holding the result array to the rows of the attention. Untrusted. -/
module

public import proofs.«01_k».proof.Proof.Whole
public import proofs.«01_k».proof.Proof.Gen.Reference.Frame
public import Idealize.ShloMosaic.Lib.Pipeline.ArrRel
public import Idealize.ShloMosaic.Lib.Pipeline.Value
public import Idealize.ShloMosaic.Lib.Pipeline.DatRel
public import Idealize.ShloMosaic.Lib.Pipeline.Frame
public import Idealize.ShloMosaic.Lib.Claim

@[expose] public section

set_option maxRecDepth 8192
set_option maxHeartbeats 1000000

noncomputable section

namespace Cert.Proof.Plain

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

open Cert.Proof.Att

local notation "𝕄" => MT nD τ sig Unit (Elt Bits) ℕ (UR sig nD τ) ℕ

variable (m : (ℓ : Loc nD τ sig) → Buf (Elt Bits) ℓ) (ρ : Dev nD → PrngReg)

/-- The attention over the whole arrays, as the result array holds it. -/
abbrev whole (c : Dev nD) : Buf (Elt Bits) ((c : Thread nD τ).loc main_v0) :=
  attended (V m c main_arg0) (V m c main_arg1) (V m c main_arg2) (V m c main_arg3) (V m c main_arg4) (V m c main_arg5)

theorem blk0 (c : Dev nD) (t : Fin cfg0.N) : iblk m c 0 t = V m c main_arg0 := by
  funext y
  refine congrArg (V m c main_arg0) (funext fun a => Fin.ext ?_)
  rcases fin_N0 t with rfl
  fin_cases a
  · show 0 + 1 * (y 0).val = (y 0).val
    omega
  · show 0 + 1 * (y 1).val = (y 1).val
    omega
  · show 0 + 1 * (y 2).val = (y 2).val
    omega

theorem blk1 (c : Dev nD) (t : Fin cfg0.N) : iblk m c 1 t = V m c main_arg1 := by
  funext y
  refine congrArg (V m c main_arg1) (funext fun a => Fin.ext ?_)
  rcases fin_N0 t with rfl
  fin_cases a
  · show 0 + 1 * (y 0).val = (y 0).val
    omega
  · show 0 + 1 * (y 1).val = (y 1).val
    omega
  · show 0 + 1 * (y 2).val = (y 2).val
    omega

theorem blk2 (c : Dev nD) (t : Fin cfg0.N) : iblk m c 2 t = V m c main_arg2 := by
  funext y
  refine congrArg (V m c main_arg2) (funext fun a => Fin.ext ?_)
  rcases fin_N0 t with rfl
  fin_cases a
  · show 0 + 1 * (y 0).val = (y 0).val
    omega
  · show 0 + 1 * (y 1).val = (y 1).val
    omega

theorem blk3 (c : Dev nD) (t : Fin cfg0.N) : iblk m c 3 t = V m c main_arg3 := by
  funext y
  refine congrArg (V m c main_arg3) (funext fun a => Fin.ext ?_)
  rcases fin_N0 t with rfl
  fin_cases a
  · show 0 + 1 * (y 0).val = (y 0).val
    omega
  · show 0 + 1 * (y 1).val = (y 1).val
    omega

theorem blk4 (c : Dev nD) (t : Fin cfg0.N) : iblk m c 4 t = V m c main_arg4 := by
  funext y
  refine congrArg (V m c main_arg4) (funext fun a => Fin.ext ?_)
  rcases fin_N0 t with rfl
  fin_cases a
  · show 0 + 1 * (y 0).val = (y 0).val
    omega
  · show 0 + 1 * (y 1).val = (y 1).val
    omega
  · show 0 + 1 * (y 2).val = (y 2).val
    omega

theorem blk5 (c : Dev nD) (t : Fin cfg0.N) : iblk m c 5 t = V m c main_arg5 := by
  funext y
  refine congrArg (V m c main_arg5) (funext fun a => Fin.ext ?_)
  rcases fin_N0 t with rfl
  fin_cases a
  · show 0 + 1 * (y 0).val = (y 0).val
    omega
  · show 0 + 1 * (y 1).val = (y 1).val
    omega

theorem mem_blk (t : Fin cfg0.N) (i : S32768x512.Idx) : i ∈ ((cfg0.win 6).blk t).view.set := by
  show i ∈ ((View.whole main_v0).slice (win0_6.rect t)).set
  rw [View.set_slice_whole, Rect.mem_set_unit]
  have h0 : (i 0).val < 32768 := (i 0).isLt
  have h1 : (i 1).val < 512 := (i 1).isLt
  have e : win0_6.index t 0 * win0_6.size 0 = 0 ∧ win0_6.xsize (grid0.coords t) 0 = 32768
      ∧ win0_6.index t 1 * win0_6.size 1 = 0 ∧ win0_6.xsize (grid0.coords t) 1 = 512 := by
    rcases fin_N0 t with rfl; decide +kernel
  intro a
  match a with
  | ⟨0, _⟩ => show win0_6.index t 0 * win0_6.size 0 ≤ (i 0).val ∧ (i 0).val < win0_6.index t 0 * win0_6.size 0 + win0_6.xsize (grid0.coords t) 0
              rw [e.1, e.2.1]; omega
  | ⟨1, _⟩ => show win0_6.index t 1 * win0_6.size 1 ≤ (i 1).val ∧ (i 1).val < win0_6.index t 1 * win0_6.size 1 + win0_6.xsize (grid0.coords t) 1
              rw [e.2.2.1, e.2.2.2]; omega

theorem cover (i : S32768x512.Idx) :
    ∃ t : Fin cfg0.N, (cfg0.win 6).flush t = true ∧ i ∈ ((cfg0.win 6).blk t).view.set :=
  ⟨t0_0, flush0_6 _, mem_blk _ i⟩

/-- The one block is the whole array. -/
theorem sent (c : Dev nD) (t : Fin cfg0.N) :
    (cfg0.win 6).cut (grid0.coords t) (whole m c) = ((cfg0.win 6).blk t).view.read (Elt Bits) (whole m c) := by
  funext x
  refine congrArg (whole m c) (funext fun a => Fin.ext ?_)
  rcases fin_N0 t with rfl
  fin_cases a
  · show (x 0).val = 0 + 1 * (x 0).val
    omega
  · show (x 1).val = 0 + 1 * (x 1).val
    omega

theorem attended_congr {AQ AQ' IQ IQ' SM SM' K K' V V' IK IK'} (h0 : AQ = AQ') (h1 : IQ = IQ') (h2 : SM = SM') (h3 : K = K') (h4 : V = V')
    (h5 : IK = IK') : attended (F := Bits) AQ IQ SM K V IK = attended AQ' IQ' SM' K' V' IK' := by
  subst h0; subst h1; subst h2; subst h3; subst h4; subst h5; rfl

/-- The output window is held to a relation; the inputs are exact. -/
def held : Fin 7 → Bool := fun w => w == 6

/-- The relation on the output's block at point `t`. -/
def Leaves (c : Dev nD) (w : Fin cfg0.W) (t : Fin cfg0.N) (X : (cfg0.win w).block.Idx → Elt Bits (cfg0.win w).elt) : Prop :=
  match w, X with
  | ⟨6, _⟩, X => X = whole m c
  | _, _ => True

/-- The proof data: the arrays as found, each input's block kept, the scratch and the generator register at anything. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ Y, ⌜((dats m 0 c).toRRel held (Leaves m c)).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, ⌜Leaves m c 6 t X⌝ ∗ owns (c : Thread nD τ) (st0_6 t) fullShare X))

/-- The scratch between points, buffer by buffer, and the generator register. -/
theorem Phi_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  unfold owns
  iintro ⟨⟨⟨%e0, %s0, -, S0⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%Y, -, %f6, -, H6⟩⟩
  iapply (wholeRun (F := Bits) c _ _ _ _ _ _ _ _ _ _ _ _ _ _ _ _ f0 f1 f2 f3 f4 f5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists s0; iexact S0
  iintro ⟨H0, H1, H2, H3, H4, H5, ⟨%u0, S0⟩, ⟨%f8, H6, %h8⟩⟩
  isplitl [S0 Hg]
  · isplitr [Hg]; swap; · iexact Hg
    iexists _; iexists u0; isplitr; · ipureintro; rfl
    iexact S0
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  iexists _; isplitr
  · ipureintro
    exact (funext h8).trans (attended_congr (h0.trans (blk0 m c t)) (h1.trans (blk1 m c t)) (h2.trans (blk2 m c t)) (h3.trans (blk3 m c t)) (h4.trans (blk4 m c t)) (h5.trans (blk5 m c t)))
  iexists _; isplitr; · ipureintro; rfl
  iexact H6

theorem defs₀_row (t : Fin cfg0.N) :
    defs₀ (F := Bits) .tc cfg0.body (cfg0.bodyArgs t (cfg0.slots t)) = bodyAt0 t := by
  unfold defs₀; rw [Defs.onTc_tc]

/-- The body obligation with the output held to `Leaves`. -/
theorem body_obligation (c : Dev nD) :
    BodyObligationRel (dats m 0 c) (defs₀ (F := Bits)) Variants.none () Set.univ held (Leaves m c) := fun t => by
  rw [bigSep_W0, bigSep_W0, defs₀_row]
  exact triple_restated (sound_body m c t) rfl .rfl fun _ => .rfl

-- the launch theorem's implicit arguments are found by unifying its conclusion with the statement, which unifies only when
-- unification may unfold plain definitions in a metavariable's type
set_option backward.isDefEq.respectTransparency.types false in
/-- From launch to end: every array at what the relation lets the points leave there, every counter at zero. -/
theorem run_main :
    θ_run defs (onTc (τ := τ) (main (F := Bits))) (s₀ m ρ)
      (fun r => Pipeline.RDat.FramePost (cfgs 0) (fun c => (dats m 0 c).toRRel held (Leaves m c)) (V m) r ∧ r.2.sem = fun _ => 0) :=
  Pipeline.RDat.θ_run_frame_track (Q' := _) cfgs (0 : Fin 1) launch0 defs₀ Variants.none (fun c => (dats m 0 c).toRRel held (Leaves m c)) m ρ main
    (hbody := fun c => (body_obligation m c).toRRel) (hshare := fun c => (dats m 0 c).share_full fun _ => rfl)
    (howed := fun _ _ => rfl) (V := V m) (hmain := hmain m Variants.none) (hA := A_eq m)
    (hin := fun _ => .rfl) (hout := fun _ => .rfl)

variable {m}

theorem final_in {r : PUnit × MemSt nD τ sig (Elt Bits)}
    (h : Pipeline.RDat.FramePost (cfgs 0) (fun c => (dats m 0 c).toRRel held (Leaves m c)) (V m) r) (c : Dev nD) (w : Fin 7)
    (hin : (cfg0.win w).isOut = false) :
    r.2.mem ((spec0 w).arr.view.loc (c : Thread nD τ)) = V m c (Pipeline.arrRef spec0 w) :=
  (h.arr_in c w hin).trans (A_eq m c w)

variable (m)

variable {m}

theorem final_out {r : PUnit × MemSt nD τ sig (Elt Bits)}
    (h : Pipeline.RDat.FramePost (cfgs 0) (fun c => (dats m 0 c).toRRel held (Leaves m c)) (V m) r) (c : Dev nD) :
    r.2.mem ((c : Thread nD τ).loc main_v0) = whole m c := by
  obtain ⟨after, hl, hr⟩ := Pipeline.RDat.FramePost.exists_exact h c
  have hall : ∀ t : Fin cfg0.N, (cfg0.win 6).cut (grid0.coords t) (after 6 t) = ((cfg0.win 6).blk t).view.read (Elt Bits) (whole m c) := fun t => by
    rw [show after 6 t = whole m c from Pipeline.Dat.toRRel_leaves (dats m 0 c) rfl (hl 6 t (flush0_6 t))]
    exact sent m c t
  exact (hr 6).trans ((((dats m 0 c).toRRel held (Leaves m c)).withAfter after).arrAt_eq_of_cover (6 : Fin 7) (whole m c) (fun t _ => hall t) cover)

variable (m)

/-- From launch to end: the result array at the attention's rows, the arguments unchanged, every counter at zero. -/
theorem ends : θ_run defs (onTc (τ := τ) (main (F := Bits))) ⟨m, fun _ => 0, ρ⟩ (fun r => (∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨final_out h.1 c, final_in h.1 c 0 rfl, final_in h.1 c 1 rfl, final_in h.1 c 2 rfl, final_in h.1 c 3 rfl, final_in h.1 c 4 rfl, final_in h.1 c 5 rfl⟩, h.2⟩) (run_main m ρ)

end Cert.Proof.Plain

end
-- ==== Proof.ProjHost.lean ====
module

public import proofs.«01_k».proof.Proof.Gen.Kernel2Ideal.Frame
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.Proj
open Cert.Kernel2Ideal Cert.Kernel2Ideal.Gen

variable (m : (ℓ : Loc nD τ sig) → Buf (Elt Ideal) ℓ)

/-- The columns from 1152 to 3200: the argument's, 88 columns before. -/
theorem w_mid (c : Dev nD) (i : S1024x5248.Idx) (j : S1024x5168.Idx) (h0 : (i 0 : ℕ) = j 0)
    (h1 : 1152 ≤ (i 1 : ℕ)) (h2 : (i 1 : ℕ) < 3200) (h3 : (i 1 : ℕ) = (j 1 : ℕ) + 88) :
    V m c main_v17 i = m ((c : Thread nD τ).loc main_arg3) j := by
  unfold_abbrev_sides
  after_reads_simp
  dsimp only [Matrix.cons_val]
  pointwise
  refine (dif_neg ?_).trans ?_
  · omega
  refine (dif_neg ?_).trans ?_
  · omega
  refine (dif_neg ?_).trans ?_
  · omega
  refine (dif_neg ?_).trans ?_
  · omega
  refine (dif_neg ?_).trans ?_
  · omega
  by_cases hk : (i 1 : ℕ) < 1664
  · refine (dif_pos ?_).trans ?_
    · omega
    after_reads_simp
    pointwise
    blk_ext
  refine (dif_neg ?_).trans ?_
  · omega
  by_cases hk : (i 1 : ℕ) < 2176
  · refine (dif_pos ?_).trans ?_
    · omega
    after_reads_simp
    pointwise
    blk_ext
  refine (dif_neg ?_).trans ?_
  · omega
  by_cases hk : (i 1 : ℕ) < 2688
  · refine (dif_pos ?_).trans ?_
    · omega
    after_reads_simp
    pointwise
    blk_ext
  refine (dif_neg ?_).trans ?_
  · omega
  refine (dif_pos ?_).trans ?_
  · omega
  after_reads_simp
  pointwise
  blk_ext

/-- The columns from 3200 to the end: the argument's, 80 columns before. -/
theorem w_gate (c : Dev nD) (i : S1024x5248.Idx) (j : S1024x5168.Idx) (h0 : (i 0 : ℕ) = j 0)
    (h1 : 3200 ≤ (i 1 : ℕ)) (h2 : (i 1 : ℕ) < 5248) (h3 : (i 1 : ℕ) = (j 1 : ℕ) + 80) :
    V m c main_v17 i = m ((c : Thread nD τ).loc main_arg3) j := by
  unfold_abbrev_sides
  after_reads_simp
  dsimp only [Matrix.cons_val]
  pointwise
  refine (dif_neg ?_).trans ?_
  · omega
  refine (dif_neg ?_).trans ?_
  · omega
  refine (dif_neg ?_).trans ?_
  · omega
  refine (dif_neg ?_).trans ?_
  · omega
  refine (dif_neg ?_).trans ?_
  · omega
  refine (dif_neg ?_).trans ?_
  · omega
  refine (dif_neg ?_).trans ?_
  · omega
  refine (dif_neg ?_).trans ?_
  · omega
  refine (dif_neg ?_).trans ?_
  · omega
  by_cases hk : (i 1 : ℕ) < 4224
  · refine (dif_pos ?_).trans ?_
    · omega
    after_reads_simp
    pointwise
    blk_ext
  refine (dif_neg ?_).trans ?_
  · omega
  after_reads_simp
  pointwise
  blk_ext

/-- The row of gains at a column: the argument's entry there. -/
theorem gain (c : Dev nD) (i : S1x1024.Idx) (k : S1024.Idx) (h : (k 0 : ℕ) = i 1) :
    V m c main_v27 i = m ((c : Thread nD τ).loc main_arg2) k := by
  unfold_abbrev_sides
  after_reads_simp
  pointwise
  blk_ext

end Cert.Proof.Proj

end
-- ==== Proof.ProjSigmoid.lean ====
/- The sigmoid on the extended reals: half the hyperbolic tangent of half the argument, plus one half,
   is one over one plus the exponential of the negated argument, at the infinities too. -/
module

public import Idealize.ShloMosaic.PureOps.Ideal.Laws
public import Idealize.ShloMosaic.Lib.IdealHost

@[expose] public section

noncomputable section

namespace Cert.Proof.Proj

open Idealize.ShloMosaic

/-- The bit pattern of one half, as an extended real. -/
theorem half_bits : Ideal.ofBits .f32 0x3F000000#32 = ((1 / 2 : ℝ) : EReal) := by
  simp [Ideal.ofBits, Ideal.ieee, -EReal.coe_mul]; norm_num

/-- The identity on the reals. -/
theorem sigmoid_real (r : ℝ) : 1 / 2 * Real.tanh (1 / 2 * r) + 1 / 2 = 1 / (1 + Real.exp (-r)) := by
  have e : Real.exp (-r) = Real.exp (-(1 / 2 * r)) * Real.exp (-(1 / 2 * r)) := by
    rw [← Real.exp_add]; congr 1; ring
  have o : Real.exp (1 / 2 * r) * Real.exp (-(1 / 2 * r)) = 1 := by
    rw [← Real.exp_add]; simp
  rw [Real.tanh_eq_sinh_div_cosh, Real.sinh_eq, Real.cosh_eq, e]
  have ha := Real.exp_pos (1 / 2 * r)
  have hb := Real.exp_pos (-(1 / 2 * r))
  generalize Real.exp (1 / 2 * r) = a at *
  generalize Real.exp (-(1 / 2 * r)) = b at *
  have h1 : (1 + b * b) ≠ 0 := by positivity
  have h2 : (a + b) ≠ 0 := by positivity
  field_simp
  linear_combination (2 * b) * o

/-- The identity on the extended reals. -/
theorem sigmoid_ereal (x : EReal) :
    ((1 / 2 : ℝ) : EReal) * Ideal.tanh (((1 / 2 : ℝ) : EReal) * x) + ((1 / 2 : ℝ) : EReal)
      = Ideal.div 1 (1 + Ideal.exp (-x)) := by
  induction x with
  | bot =>
    rw [EReal.coe_mul_bot_of_pos (by norm_num), Ideal.tanh_bot, EReal.neg_bot, Ideal.exp_top]
    have e : (1 : EReal) + ⊤ = ⊤ := rfl
    rw [e]
    have z : Ideal.div 1 ⊤ = 0 := by simp [Ideal.div]
    rw [z]
    have o : (-1 : EReal) = ((-1 : ℝ) : EReal) := by simp
    rw [o, ← EReal.coe_mul, ← EReal.coe_add]
    norm_num
  | top =>
    rw [EReal.coe_mul_top_of_pos (by norm_num), Ideal.tanh_top, EReal.neg_top, Ideal.exp_bot, mul_one, add_zero,
      ← EReal.coe_add]
    have d : Ideal.div 1 1 = 1 := by simp [Ideal.div]
    rw [d]
    norm_num
  | coe r =>
    rw [← EReal.coe_mul, Ideal.tanh_coe, ← EReal.coe_mul, ← EReal.coe_add, ← EReal.coe_neg, Ideal.exp_coe,
      ← EReal.coe_one, ← EReal.coe_add, Ideal.div_coe (by positivity), ← EReal.coe_mul, sigmoid_real, one_mul]

end Cert.Proof.Proj

end
-- ==== Proof.ProjBlock.lean ====
/- The rows, gains and weights that a grid point of the projection call reads, and the product of its normalized rows
   with columns of the packed matrix as the reference's product. -/
module

public import proofs.«01_k».proof.Proof.Gen.Kernel2Ideal.Frame
public import Idealize.ShloMosaic.Lib.Pipeline.ValueKit
public import Idealize.ShloMosaic.Lib.Pointwise
public import Idealize.ShloMosaic.Lib.StableHlo.RunRead
public import proofs.«01_k».proof.Proof.Gen.Reference2Ideal.Read
public import proofs.«01_k».proof.Proof.ProjHost
public import proofs.«01_k».proof.Proof.ProjSigmoid

@[expose] public section

set_option maxRecDepth 16384

noncomputable section

open Idealize.ShloMosaic Idealize.ShloMosaic.TcCoe Idealize.SL.Sem
open Idealize.ShloMosaic.Pipeline (Dat)

namespace Cert.Proof.Proj
open Cert.Kernel2Ideal Cert.Kernel2Ideal.Gen

variable (m : (ℓ : Loc nD τ sig) → Buf (Elt Ideal) ℓ)

open Cert.Reference2Ideal.Read

/-- Which block each window reads or writes at each grid point. -/
theorem idx : ∀ t : Fin cfg0.N, win0_0.index t = ![t.val, 0] ∧ win0_2.index t = ![0, 0] ∧ win0_3.index t = ![0, 0]
    ∧ win0_14.index t = ![t.val, 0] ∧ win0_15.index t = ![t.val, 0] ∧ win0_16.index t = ![t.val, 0]
    ∧ win0_17.index t = ![t.val, 0] ∧ win0_18.index t = ![t.val, 0] :=
  (by decide +kernel : ∀ t : Fin grid0.N, _)

/-- The rows a grid point reads are the rows of its own block. -/
theorem x_at (c : Dev nD) (t : Fin cfg0.N) (y : S512x1024.Idx) (j : S32768x1024.Idx) (h0 : (j 0 : ℕ) = t.val * 512 + y 0)
    (h1 : (j 1 : ℕ) = y 1) : iblk m c 0 t y = m ((c : Thread nD τ).loc main_arg0) j := by
  blk_ext [iblk, V_main_arg0, idx t]

/-- Every grid point reads the whole row of gains. -/
theorem g_at (c : Dev nD) (t : Fin cfg0.N) (y : S1x1024.Idx) (k : S1024.Idx) (h : (k 0 : ℕ) = y 1) :
    iblk m c 2 t y = m ((c : Thread nD τ).loc main_arg2) k := by
  blk_simp [iblk]
  refine gain m c _ k ?_
  blk_simp [idx t]
  simpa using h

/-- Every grid point reads the whole packed matrix. -/
theorem w_at (c : Dev nD) (t : Fin cfg0.N) (y : S1024x5248.Idx) : iblk m c 3 t y = V m c main_v17 y := by
  blk_ext [iblk, idx t]

/-- A normalized row, of the kernel and of the reference. -/
theorem row (x : Vec Ideal S512x1024 .f32) (g : Vec Ideal S1x1024 .f32) (X : Vec Ideal S32768x1024 .f32)
    (G : Vec Ideal S1024 .f32) (r : Fin 512) (R : Fin 32768) (k : Fin 1024)
    (hx : ∀ k : Fin 1024, x (ix2 r k) = X (ix2 R k)) (hg : g (ix2 0 k) = G (ix1 k)) :
    k0_pay5 (F := Ideal) x g (ix2 r k) = val_main_v12 (F := Ideal) X G (ix2 R k) := by
  pointwise [k0_pay5, val_main_v12, val_main_v11, val_main_v10, val_main_v9, val_main_v8, val_main_v7, val_main_v6,
    val_main_v5, val_main_v4, val_main_v3, val_main_v2, val_main_v1, val_main_v0, hx, hg, val_main_cst, val_main_cst_0, val_main_cst_1]

/-- A product of the normalized rows with a column of the packed matrix is the reference's product with the column of
    the argument matrix it was taken from. -/
theorem dot (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (p : Fin 512) (q : Fin 5248) (R : Fin 32768) (C : Fin 5168)
    (hx : ∀ k : Fin 1024, x (ix2 p k) = X (ix2 R k)) (hg : ∀ k : Fin 1024, g (ix2 0 k) = G (ix1 k))
    (hw : ∀ k : Fin 1024, w (ix2 k q) = W (ix2 k C)) :
    ∑ k : Fin 1024, k0_pay5 (F := Ideal) x g (ix2 p k) * w (ix2 k q) = val_main_v13 (F := Ideal) X G W (ix2 R C) := by
  pointwise [val_main_v13]
  refine Fin.sum_fin_congr fun k => ?_
  rw [hw k, row x g X G p R k hx (hg k)]

end Cert.Proof.Proj

end
-- ==== Proof.ProjPoint.lean ====
/- What each store of the projection call's body leaves at an index, over blocks as variables: the reference's entry. -/
module

public import proofs.«01_k».proof.Proof.Gen.Kernel2Ideal.Frame
public import Idealize.ShloMosaic.Lib.Pipeline.ValueKit
public import Idealize.ShloMosaic.Lib.Pointwise
public import Idealize.ShloMosaic.Lib.StableHlo.RunRead
public import proofs.«01_k».proof.Proof.Gen.Reference2Ideal.Read
public import proofs.«01_k».proof.Proof.ProjHost
public import proofs.«01_k».proof.Proof.ProjBlock
public import proofs.«01_k».proof.Proof.ProjSigmoid

@[expose] public section

set_option maxRecDepth 16384

noncomputable section

open Idealize.ShloMosaic Idealize.ShloMosaic.TcCoe Idealize.SL.Sem
open Idealize.ShloMosaic.Pipeline (Dat)

namespace Cert.Proof.Proj
open Cert.Kernel2Ideal Cert.Kernel2Ideal.Gen

variable (m : (ℓ : Loc nD τ sig) → Buf (Elt Ideal) ℓ)

open Cert.Reference2Ideal.Read

/-- What a grid point stores from the columns from 2176 on, at an index of its block, is the reference's entry there. -/
theorem point15 (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 512) (hC : (C : ℕ) = y1)
    (hx : ∀ k : Fin 1024, x (ix2 y0 k) = X (ix2 R k)) (hg : ∀ k : Fin 1024, g (ix2 0 k) = G (ix1 k))
    (hw : ∀ (k : Fin 1024) (q : Fin 5248) (C : Fin 5168), 1152 ≤ (q : ℕ) ∧ (q : ℕ) < 3200 ∧ (q : ℕ) = C + 88 → w (ix2 k q) = W (ix2 k C)) :
    k0_pay75 (F := Ideal) (k0_pay5 x g)
      (View.ld w (Rect.unit ![0, 2176] ![1024, 512] inb_S1024x5248_S1024x512_0_2176)) (ix2 y0 y1)
      = val_main_v29 (F := Ideal) X G W (ix2 R C) := by
  have hb := y1.isLt
  pointwise [k0_pay75, val_main_v29, val_main_v22, hC]
  exact dot x g w X G W y0 _ R _ hx hg fun k => hw k _ _ (by simp only []; omega)

/-- What a grid point stores from the columns from 2688 on, at an index of its block, is the reference's entry there. -/
theorem point16 (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 512) (hC : (C : ℕ) = y1)
    (hx : ∀ k : Fin 1024, x (ix2 y0 k) = X (ix2 R k)) (hg : ∀ k : Fin 1024, g (ix2 0 k) = G (ix1 k))
    (hw : ∀ (k : Fin 1024) (q : Fin 5248) (C : Fin 5168), 1152 ≤ (q : ℕ) ∧ (q : ℕ) < 3200 ∧ (q : ℕ) = C + 88 → w (ix2 k q) = W (ix2 k C)) :
    k0_pay76 (F := Ideal) (k0_pay5 x g)
      (View.ld w (Rect.unit ![0, 2688] ![1024, 512] inb_S1024x5248_S1024x512_0_2688)) (ix2 y0 y1)
      = val_main_v36 (F := Ideal) X G W (ix2 R C) := by
  have hb := y1.isLt
  pointwise [k0_pay76, val_main_v36, val_main_v35, val_main_v34, val_main_v33, val_main_v32, val_main_v31, val_main_v30, val_main_v23,
    val_main_cst_2, val_main_cst_3, hC]
  rw [half_bits, sigmoid_ereal]
  congr 5
  exact dot x g w X G W y0 _ R _ hx hg fun k => hw k _ _ (by simp only []; omega)

/-- What a grid point stores from the columns from 1152 on, at an index of its block, is the reference's entry there. -/
theorem point14a (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = y1)
    (hx : ∀ k : Fin 1024, x (ix2 y0 k) = X (ix2 R k)) (hg : ∀ k : Fin 1024, g (ix2 0 k) = G (ix1 k))
    (hw : ∀ (k : Fin 1024) (q : Fin 5248) (C : Fin 5168), 1152 ≤ (q : ℕ) ∧ (q : ℕ) < 3200 ∧ (q : ℕ) = C + 88 → w (ix2 k q) = W (ix2 k C)) :
    k0_pay73 (F := Ideal) (k0_pay5 x g)
      (View.ld w (Rect.unit ![0, 1152] ![1024, 512] inb_S1024x5248_S1024x512_0_1152)) (ix2 y0 y1)
      = val_main_v28 (F := Ideal) X G W (ix2 R C) := by
  have hb := y1.isLt
  pointwise [k0_pay73, val_main_v28, val_main_v20, val_main_v21, hC]
  exact dot x g w X G W y0 _ R _ hx hg fun k => hw k _ _ (by simp only []; omega)

/-- What a grid point stores from the columns from 1664 on, at an index of its block, is the reference's entry there. -/
theorem point14b (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = 512 + y1)
    (hx : ∀ k : Fin 1024, x (ix2 y0 k) = X (ix2 R k)) (hg : ∀ k : Fin 1024, g (ix2 0 k) = G (ix1 k))
    (hw : ∀ (k : Fin 1024) (q : Fin 5248) (C : Fin 5168), 1152 ≤ (q : ℕ) ∧ (q : ℕ) < 3200 ∧ (q : ℕ) = C + 88 → w (ix2 k q) = W (ix2 k C)) :
    k0_pay74 (F := Ideal) (k0_pay5 x g)
      (View.ld w (Rect.unit ![0, 1664] ![1024, 512] inb_S1024x5248_S1024x512_0_1664)) (ix2 y0 y1)
      = val_main_v28 (F := Ideal) X G W (ix2 R C) := by
  have hb := y1.isLt
  pointwise [k0_pay74, val_main_v28, val_main_v20, val_main_v21, hC]
  exact dot x g w X G W y0 _ R _ hx hg fun k => hw k _ _ (by simp only []; omega)

/-- What a grid point stores from the columns from 3200 on, at an index of its block, is the reference's entry there. -/
theorem point17a (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = y1)
    (hx : ∀ k : Fin 1024, x (ix2 y0 k) = X (ix2 R k)) (hg : ∀ k : Fin 1024, g (ix2 0 k) = G (ix1 k))
    (hw : ∀ (k : Fin 1024) (q : Fin 5248) (C : Fin 5168), 3200 ≤ (q : ℕ) ∧ (q : ℕ) = C + 80 → w (ix2 k q) = W (ix2 k C)) :
    k0_pay1 (F := Ideal) (k0_pay5 x g)
      (View.ld w (Rect.unit ![0, 3200] ![1024, 512] inb_S1024x5248_S1024x512_0_3200)) (ix2 y0 y1)
      = val_main_v37 (F := Ideal) X G W (ix2 R C) := by
  have hb := y1.isLt
  pointwise [k0_pay1, val_main_v37, val_main_v26, hC]
  exact dot x g w X G W y0 _ R _ hx hg fun k => hw k _ _ (by simp only []; omega)

/-- What a grid point stores from the columns from 3712 on, at an index of its block, is the reference's entry there. -/
theorem point17b (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = 512 + y1)
    (hx : ∀ k : Fin 1024, x (ix2 y0 k) = X (ix2 R k)) (hg : ∀ k : Fin 1024, g (ix2 0 k) = G (ix1 k))
    (hw : ∀ (k : Fin 1024) (q : Fin 5248) (C : Fin 5168), 3200 ≤ (q : ℕ) ∧ (q : ℕ) = C + 80 → w (ix2 k q) = W (ix2 k C)) :
    k0_pay3 (F := Ideal) (k0_pay5 x g)
      (View.ld w (Rect.unit ![0, 3712] ![1024, 512] inb_S1024x5248_S1024x512_0_3712)) (ix2 y0 y1)
      = val_main_v37 (F := Ideal) X G W (ix2 R C) := by
  have hb := y1.isLt
  pointwise [k0_pay3, val_main_v37, val_main_v26, hC]
  exact dot x g w X G W y0 _ R _ hx hg fun k => hw k _ _ (by simp only []; omega)

/-- What a grid point stores from the columns from 4224 on, at an index of its block, is the reference's entry there. -/
theorem point18a (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = y1)
    (hx : ∀ k : Fin 1024, x (ix2 y0 k) = X (ix2 R k)) (hg : ∀ k : Fin 1024, g (ix2 0 k) = G (ix1 k))
    (hw : ∀ (k : Fin 1024) (q : Fin 5248) (C : Fin 5168), 3200 ≤ (q : ℕ) ∧ (q : ℕ) = C + 80 → w (ix2 k q) = W (ix2 k C)) :
    k0_pay2 (F := Ideal) (k0_pay5 x g)
      (View.ld w (Rect.unit ![0, 4224] ![1024, 512] inb_S1024x5248_S1024x512_0_4224)) (ix2 y0 y1)
      = val_main_v38 (F := Ideal) X G W (ix2 R C) := by
  have hb := y1.isLt
  pointwise [k0_pay2, val_main_v38, val_main_v27, hC]
  exact dot x g w X G W y0 _ R _ hx hg fun k => hw k _ _ (by simp only []; omega)

/-- What a grid point stores from the columns from 4736 on, at an index of its block, is the reference's entry there. -/
theorem point18b (x : Vec Ideal S512x1024 .f32) (g : Vec Ideal S1x1024 .f32) (w : Vec Ideal S1024x5248 .bf16)
    (X : Vec Ideal S32768x1024 .f32) (G : Vec Ideal S1024 .f32) (W : Vec Ideal S1024x5168 .f32)
    (y0 y1 : Fin 512) (R : Fin 32768) (C : Fin 1024) (hC : (C : ℕ) = 512 + y1)
    (hx : ∀ k : Fin 1024, x (ix2 y0 k) = X (ix2 R k)) (hg : ∀ k : Fin 1024, g (ix2 0 k) = G (ix1 k))
    (hw : ∀ (k : Fin 1024) (q : Fin 5248) (C : Fin 5168), 3200 ≤ (q : ℕ) ∧ (q : ℕ) = C + 80 → w (ix2 k q) = W (ix2 k C)) :
    k0_pay4 (F := Ideal) (k0_pay5 x g)
      (View.ld w (Rect.unit ![0, 4736] ![1024, 512] inb_S1024x5248_S1024x512_0_4736)) (ix2 y0 y1)
      = val_main_v38 (F := Ideal) X G W (ix2 R C) := by
  have hb := y1.isLt
  pointwise [k0_pay4, val_main_v38, val_main_v27, hC]
  exact dot x g w X G W y0 _ R _ hx hg fun k => hw k _ _ (by simp only []; omega)

end Cert.Proof.Proj

end
-- ==== Proof.ProjFinal.lean ====
/- The five result arrays of the projection call after its run, as the reference's terms over the arguments. -/
module

public import proofs.«01_k».proof.Proof.Gen.Kernel2Ideal.Frame
public import Idealize.ShloMosaic.Lib.Pipeline.ValueKit
public import Idealize.ShloMosaic.Lib.Pointwise
public import Idealize.ShloMosaic.Lib.StableHlo.RunRead
public import proofs.«01_k».proof.Proof.Gen.Reference2Ideal.Read
public import proofs.«01_k».proof.Proof.ProjHost
public import proofs.«01_k».proof.Proof.ProjBlock
public import proofs.«01_k».proof.Proof.ProjPoint
public import proofs.«01_k».proof.Proof.ProjSigmoid

@[expose] public section

set_option maxRecDepth 16384

noncomputable section

open Idealize.ShloMosaic Idealize.ShloMosaic.TcCoe Idealize.SL.Sem
open Idealize.ShloMosaic.Pipeline (Dat)

namespace Cert.Proof.Proj
open Cert.Kernel2Ideal Cert.Kernel2Ideal.Gen

variable (m : (ℓ : Loc nD τ sig) → Buf (Elt Ideal) ℓ)

open Cert.Reference2Ideal.Read

/-- One store of a grid point, over the blocks it read. -/
theorem at15 (c : Dev nD) (t : Fin cfg0.N) (y : S512x512.Idx) (j : Cert.Reference2Ideal.S32768x512.Idx)
    (h0 : (j 0 : ℕ) = t.val * 512 + y 0) (h1 : (j 1 : ℕ) = y 1) :
    k0_pay75 (F := Ideal) (k0_pay5 (iblk m c 0 t) (iblk m c 2 t))
      (View.ld (iblk m c 3 t) (Rect.unit ![0, 2176] ![1024, 512] inb_S1024x5248_S1024x512_0_2176)) y
      = val_main_v29 (F := Ideal) (m ((c : Thread nD τ).loc main_arg0))
      (m ((c : Thread nD τ).loc main_arg2)) (m ((c : Thread nD τ).loc main_arg3)) j := by
  idx_vars y
  idx_vars j
  exact point15 (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_mid m c _ _ rfl h.1 h.2.1 h.2.2)

/-- One store of a grid point, over the blocks it read. -/
theorem at16 (c : Dev nD) (t : Fin cfg0.N) (y : S512x512.Idx) (j : Cert.Reference2Ideal.S32768x512.Idx)
    (h0 : (j 0 : ℕ) = t.val * 512 + y 0) (h1 : (j 1 : ℕ) = y 1) :
    k0_pay76 (F := Ideal) (k0_pay5 (iblk m c 0 t) (iblk m c 2 t))
      (View.ld (iblk m c 3 t) (Rect.unit ![0, 2688] ![1024, 512] inb_S1024x5248_S1024x512_0_2688)) y
      = val_main_v36 (F := Ideal) (m ((c : Thread nD τ).loc main_arg0))
      (m ((c : Thread nD τ).loc main_arg2)) (m ((c : Thread nD τ).loc main_arg3)) j := by
  idx_vars y
  idx_vars j
  exact point16 (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_mid m c _ _ rfl h.1 h.2.1 h.2.2)

/-- One store of a grid point, over the blocks it read. -/
theorem at14a (c : Dev nD) (t : Fin cfg0.N) (y : S512x512.Idx) (j : Cert.Reference2Ideal.S32768x1024.Idx)
    (h0 : (j 0 : ℕ) = t.val * 512 + y 0) (h1 : (j 1 : ℕ) = y 1) :
    k0_pay73 (F := Ideal) (k0_pay5 (iblk m c 0 t) (iblk m c 2 t))
      (View.ld (iblk m c 3 t) (Rect.unit ![0, 1152] ![1024, 512] inb_S1024x5248_S1024x512_0_1152)) y
      = val_main_v28 (F := Ideal) (m ((c : Thread nD τ).loc main_arg0))
      (m ((c : Thread nD τ).loc main_arg2)) (m ((c : Thread nD τ).loc main_arg3)) j := by
  idx_vars y
  idx_vars j
  exact point14a (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_mid m c _ _ rfl h.1 h.2.1 h.2.2)

/-- One store of a grid point, over the blocks it read. -/
theorem at14b (c : Dev nD) (t : Fin cfg0.N) (y : S512x512.Idx) (j : Cert.Reference2Ideal.S32768x1024.Idx)
    (h0 : (j 0 : ℕ) = t.val * 512 + y 0) (h1 : (j 1 : ℕ) = 512 + y 1) :
    k0_pay74 (F := Ideal) (k0_pay5 (iblk m c 0 t) (iblk m c 2 t))
      (View.ld (iblk m c 3 t) (Rect.unit ![0, 1664] ![1024, 512] inb_S1024x5248_S1024x512_0_1664)) y
      = val_main_v28 (F := Ideal) (m ((c : Thread nD τ).loc main_arg0))
      (m ((c : Thread nD τ).loc main_arg2)) (m ((c : Thread nD τ).loc main_arg3)) j := by
  idx_vars y
  idx_vars j
  exact point14b (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_mid m c _ _ rfl h.1 h.2.1 h.2.2)

/-- One store of a grid point, over the blocks it read. -/
theorem at17a (c : Dev nD) (t : Fin cfg0.N) (y : S512x512.Idx) (j : Cert.Reference2Ideal.S32768x1024.Idx)
    (h0 : (j 0 : ℕ) = t.val * 512 + y 0) (h1 : (j 1 : ℕ) = y 1) :
    k0_pay1 (F := Ideal) (k0_pay5 (iblk m c 0 t) (iblk m c 2 t))
      (View.ld (iblk m c 3 t) (Rect.unit ![0, 3200] ![1024, 512] inb_S1024x5248_S1024x512_0_3200)) y
      = val_main_v37 (F := Ideal) (m ((c : Thread nD τ).loc main_arg0))
      (m ((c : Thread nD τ).loc main_arg2)) (m ((c : Thread nD τ).loc main_arg3)) j := by
  idx_vars y
  idx_vars j
  exact point17a (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_gate m c _ _ rfl h.1 q.isLt h.2)

/-- One store of a grid point, over the blocks it read. -/
theorem at17b (c : Dev nD) (t : Fin cfg0.N) (y : S512x512.Idx) (j : Cert.Reference2Ideal.S32768x1024.Idx)
    (h0 : (j 0 : ℕ) = t.val * 512 + y 0) (h1 : (j 1 : ℕ) = 512 + y 1) :
    k0_pay3 (F := Ideal) (k0_pay5 (iblk m c 0 t) (iblk m c 2 t))
      (View.ld (iblk m c 3 t) (Rect.unit ![0, 3712] ![1024, 512] inb_S1024x5248_S1024x512_0_3712)) y
      = val_main_v37 (F := Ideal) (m ((c : Thread nD τ).loc main_arg0))
      (m ((c : Thread nD τ).loc main_arg2)) (m ((c : Thread nD τ).loc main_arg3)) j := by
  idx_vars y
  idx_vars j
  exact point17b (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_gate m c _ _ rfl h.1 q.isLt h.2)

/-- One store of a grid point, over the blocks it read. -/
theorem at18a (c : Dev nD) (t : Fin cfg0.N) (y : S512x512.Idx) (j : Cert.Reference2Ideal.S32768x1024.Idx)
    (h0 : (j 0 : ℕ) = t.val * 512 + y 0) (h1 : (j 1 : ℕ) = y 1) :
    k0_pay2 (F := Ideal) (k0_pay5 (iblk m c 0 t) (iblk m c 2 t))
      (View.ld (iblk m c 3 t) (Rect.unit ![0, 4224] ![1024, 512] inb_S1024x5248_S1024x512_0_4224)) y
      = val_main_v38 (F := Ideal) (m ((c : Thread nD τ).loc main_arg0))
      (m ((c : Thread nD τ).loc main_arg2)) (m ((c : Thread nD τ).loc main_arg3)) j := by
  idx_vars y
  idx_vars j
  exact point18a (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_gate m c _ _ rfl h.1 q.isLt h.2)

/-- One store of a grid point, over the blocks it read. -/
theorem at18b (c : Dev nD) (t : Fin cfg0.N) (y : S512x512.Idx) (j : Cert.Reference2Ideal.S32768x1024.Idx)
    (h0 : (j 0 : ℕ) = t.val * 512 + y 0) (h1 : (j 1 : ℕ) = 512 + y 1) :
    k0_pay4 (F := Ideal) (k0_pay5 (iblk m c 0 t) (iblk m c 2 t))
      (View.ld (iblk m c 3 t) (Rect.unit ![0, 4736] ![1024, 512] inb_S1024x5248_S1024x512_0_4736)) y
      = val_main_v38 (F := Ideal) (m ((c : Thread nD τ).loc main_arg0))
      (m ((c : Thread nD τ).loc main_arg2)) (m ((c : Thread nD τ).loc main_arg3)) j := by
  idx_vars y
  idx_vars j
  exact point18b (iblk m c 0 t) (iblk m c 2 t) (iblk m c 3 t) (m ((c : Thread nD τ).loc main_arg0))
    (m ((c : Thread nD τ).loc main_arg2)) (m ((c : Thread nD τ).loc main_arg3)) y0 y1 j0 j1 h1
    (fun k => x_at m c t _ _ h0 rfl) (fun k => g_at m c t _ _ rfl) fun k q C h => (w_at m c t _).trans (w_gate m c _ _ rfl h.1 q.isLt h.2)

/-- The values of the memory layer, after the run: the reference's. -/
theorem final15 (c : Dev nD) : (dats m 0 c).arrAt 15 cfg0.N = val_main_v29 (F := Ideal) (m ((c : Thread nD τ).loc main_arg0))
      (m ((c : Thread nD τ).loc main_arg2)) (m ((c : Thread nD τ).loc main_arg3)) := by
  refine (dats m 0 c).arrAt_eq_of_covers 15 _ (by decide +kernel) fun t hf y => ?_
  blk_simp
  rw [after0_15]
  unfold outsAt0
  frame_out
  refine at15 m c t y _ ?_ ?_ <;> (blk_simp [idx t] <;> try omega)

/-- The output gate of the memory layer, after the run: the reference's. -/
theorem final16 (c : Dev nD) : (dats m 0 c).arrAt 16 cfg0.N = val_main_v36 (F := Ideal) (m ((c : Thread nD τ).loc main_arg0))
      (m ((c : Thread nD τ).loc main_arg2)) (m ((c : Thread nD τ).loc main_arg3)) := by
  refine (dats m 0 c).arrAt_eq_of_covers 16 _ (by decide +kernel) fun t hf y => ?_
  blk_simp
  rw [after0_16]
  unfold outsAt0
  frame_out
  refine at16 m c t y _ ?_ ?_ <;> (blk_simp [idx t] <;> try omega)

/-- The queries and keys of the memory layer, after the run: the reference's. -/
theorem final14 (c : Dev nD) : (dats m 0 c).arrAt 14 cfg0.N = val_main_v28 (F := Ideal) (m ((c : Thread nD τ).loc main_arg0))
      (m ((c : Thread nD τ).loc main_arg2)) (m ((c : Thread nD τ).loc main_arg3)) := by
  refine (dats m 0 c).arrAt_eq_of_covers 14 _ (by decide +kernel) fun t hf y => ?_
  blk_simp
  rw [after0_14]
  unfold outsAt0
  frame_out
  canon_tiles x h
  · refine at14b m c t x _ ?_ ?_ <;> (blk_simp [idx t] <;> try omega)
  · refine at14a m c t x _ ?_ ?_ <;> (blk_simp [idx t] <;> try omega)

/-- The first gate, after the run: the reference's. -/
theorem final17 (c : Dev nD) : (dats m 0 c).arrAt 17 cfg0.N = val_main_v37 (F := Ideal) (m ((c : Thread nD τ).loc main_arg0))
      (m ((c : Thread nD τ).loc main_arg2)) (m ((c : Thread nD τ).loc main_arg3)) := by
  refine (dats m 0 c).arrAt_eq_of_covers 17 _ (by decide +kernel) fun t hf y => ?_
  blk_simp
  rw [after0_17]
  unfold outsAt0
  frame_out
  canon_tiles x h
  · refine at17b m c t x _ ?_ ?_ <;> (blk_simp [idx t] <;> try omega)
  · refine at17a m c t x _ ?_ ?_ <;> (blk_simp [idx t] <;> try omega)

/-- The second gate, after the run: the reference's. -/
theorem final18 (c : Dev nD) : (dats m 0 c).arrAt 18 cfg0.N = val_main_v38 (F := Ideal) (m ((c : Thread nD τ).loc main_arg0))
      (m ((c : Thread nD τ).loc main_arg2)) (m ((c : Thread nD τ).loc main_arg3)) := by
  refine (dats m 0 c).arrAt_eq_of_covers 18 _ (by decide +kernel) fun t hf y => ?_
  blk_simp
  rw [after0_18]
  unfold outsAt0
  frame_out
  canon_tiles x h
  · refine at18b m c t x _ ?_ ?_ <;> (blk_simp [idx t] <;> try omega)
  · refine at18a m c t x _ ?_ ?_ <;> (blk_simp [idx t] <;> try omega)

end Cert.Proof.Proj

end
-- ==== Proof.ProjRun.lean ====
/- The projection call and its reference: their frames, and the equality of their result arrays over the extended reals. -/
module

public import proofs.«01_k».proof.Defs
public import proofs.«01_k».proof.Proof.Gen.Kernel2.Frame
public import proofs.«01_k».proof.Proof.Gen.Kernel2Ideal.Value
public import proofs.«01_k».proof.Proof.ProjFinal
public import Idealize.ShloMosaic.Lib.Quiescent

@[expose] public section

set_option maxRecDepth 16384

noncomputable section

namespace Cert.Proof.Proj

open Idealize.ShloMosaic Idealize.ShloMosaic.TcCoe Idealize.SL.Sem

/-- The reference's frame. -/
theorem plain_frame : Cert.quiescent_Reference2Ideal (hReference2Ideal := Cert.Reference2Ideal.Gen.facts) := by
  intro m ρ _
  exact (θ_run _ _ _).mono (fun r h => ⟨fun c => (h c).2.2.2.2.2, sem_eq_zero_of_no_sems (by decide) r.2⟩)
    (Cert.Reference2Ideal.Value.run m ρ)

/-- The call's arrays are its reference's. -/
theorem equal : Cert.algebraic_Kernel2Ideal_Reference2Ideal (hKernel2Ideal := Cert.Kernel2Ideal.Gen.facts)
    (hReference2Ideal := Cert.Reference2Ideal.Gen.facts) := by
  intro m g m' g' _ agree
  refine ⟨_, _, _, _, _, (θ_run _ _ _).mono (fun _ h c => (h c).2.2.2.2.2.2) (Cert.Kernel2Ideal.Value.run_blocks m g),
    (θ_run _ _ _).mono (fun _ h c => ?_) (Cert.Reference2Ideal.Value.run m' g')⟩
  obtain ⟨a0, a1, a2, a3, a4, a5⟩ := agree c
  obtain ⟨e0, e1, e2, e3, e4, rest⟩ := h c
  rw [Cert.Reference2Ideal.Read.val_main_v28_eq] at e0
  rw [Cert.Reference2Ideal.Read.val_main_v29_eq] at e1
  rw [Cert.Reference2Ideal.Read.val_main_v36_eq] at e2
  rw [Cert.Reference2Ideal.Read.val_main_v37_eq] at e3
  rw [Cert.Reference2Ideal.Read.val_main_v38_eq] at e4
  rw [a0, a2, a3] at e0 e1 e2 e3 e4
  exact ⟨e0.trans (final14 m c).symm, e1.trans (final15 m c).symm, e2.trans (final16 m c).symm, e3.trans (final17 m c).symm,
    e4.trans (final18 m c).symm, rest⟩

end Cert.Proof.Proj

end
-- ==== Proof.MergeHost.lean ====
/- The rows, gains and matrices that a grid point of the merging call reads, over its arguments. -/
module

public import proofs.«01_k».proof.Proof.Gen.Kernel3Ideal.Frame
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.Merge
open Cert.Kernel3Ideal Cert.Kernel3Ideal.Gen

variable (m : (ℓ : Loc nD τ sig) → Buf (Elt Ideal) ℓ)

/-- The first projection, as the call takes it: the argument's entries. -/
theorem wa_host (c : Dev nD) (i : S512x1024.Idx) : V m c main_v9 i = m ((c : Thread nD τ).loc main_arg5) i := by
  unfold_abbrev_sides
  after_reads_simp
  pointwise

/-- The second projection, as the call takes it: the argument's entries. -/
theorem wm_host (c : Dev nD) (i : S512x1024.Idx) : V m c main_v10 i = m ((c : Thread nD τ).loc main_arg6) i := by
  unfold_abbrev_sides
  after_reads_simp
  pointwise

/-- The output matrix, as the call takes it: the argument's entries. -/
theorem wo_host (c : Dev nD) (i : S1024x1024.Idx) : V m c main_v11 i = m ((c : Thread nD τ).loc main_arg7) i := by
  unfold_abbrev_sides
  after_reads_simp
  pointwise

/-- The row of gains at a column: the argument's entry there. -/
theorem gain (c : Dev nD) (i : S1x1024.Idx) (k : S1024.Idx) (h : (k 0 : ℕ) = i 1) :
    V m c main_v12 i = m ((c : Thread nD τ).loc main_arg8) k := by
  unfold_abbrev_sides
  after_reads_simp
  pointwise
  blk_ext

/-- Which block each window reads or writes at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_12.index t = ![t.val, 0] ∧ win0_13.index t = ![t.val, 0] :=
  (by decide +kernel : ∀ t : Fin grid0.N, _)

/-- The rows of the residual that a grid point reads are those of its own block. -/
theorem x_at (c : Dev nD) (t : Fin cfg0.N) (y : S512x1024.Idx) (j : S32768x1024.Idx) (h0 : (j 0 : ℕ) = t.val * 512 + y 0)
    (h1 : (j 1 : ℕ) = y 1) : iblk m c 0 t y = m ((c : Thread nD τ).loc main_arg0) j := by
  blk_ext [iblk, V_main_arg0, idx t]

/-- The rows of the attention that a grid point reads are those of its own block. -/
theorem ya_at (c : Dev nD) (t : Fin cfg0.N) (y : S512x512.Idx) (j : S32768x512.Idx) (h0 : (j 0 : ℕ) = t.val * 512 + y 0)
    (h1 : (j 1 : ℕ) = y 1) : iblk m c 1 t y = m ((c : Thread nD τ).loc main_arg1) j := by
  blk_ext [iblk, V_main_arg1, idx t]

/-- The rows of the memory that a grid point reads are those of its own block. -/
theorem ym_at (c : Dev nD) (t : Fin cfg0.N) (y : S512x512.Idx) (j : S32768x512.Idx) (h0 : (j 0 : ℕ) = t.val * 512 + y 0)
    (h1 : (j 1 : ℕ) = y 1) : iblk m c 2 t y = m ((c : Thread nD τ).loc main_arg2) j := by
  blk_ext [iblk, V_main_arg2, idx t]

/-- The rows of the first gate that a grid point reads are those of its own block. -/
theorem ga_at (c : Dev nD) (t : Fin cfg0.N) (y : S512x1024.Idx) (j : S32768x1024.Idx) (h0 : (j 0 : ℕ) = t.val * 512 + y 0)
    (h1 : (j 1 : ℕ) = y 1) : iblk m c 3 t y = m ((c : Thread nD τ).loc main_arg3) j := by
  blk_ext [iblk, V_main_arg3, idx t]

/-- The rows of the second gate that a grid point reads are those of its own block. -/
theorem gm_at (c : Dev nD) (t : Fin cfg0.N) (y : S512x1024.Idx) (j : S32768x1024.Idx) (h0 : (j 0 : ℕ) = t.val * 512 + y 0)
    (h1 : (j 1 : ℕ) = y 1) : iblk m c 4 t y = m ((c : Thread nD τ).loc main_arg4) j := by
  blk_ext [iblk, V_main_arg4, idx t]

/-- Every grid point reads the whole first projection. -/
theorem wa_at (c : Dev nD) (t : Fin cfg0.N) (y : S512x1024.Idx) : iblk m c 5 t y = m ((c : Thread nD τ).loc main_arg5) y := by
  refine Eq.trans ?_ (wa_host m c y)
  blk_ext [iblk, idx t]

/-- Every grid point reads the whole second projection. -/
theorem wm_at (c : Dev nD) (t : Fin cfg0.N) (y : S512x1024.Idx) : iblk m c 6 t y = m ((c : Thread nD τ).loc main_arg6) y := by
  refine Eq.trans ?_ (wm_host m c y)
  blk_ext [iblk, idx t]

/-- Every grid point reads the whole output matrix. -/
theorem wo_at (c : Dev nD) (t : Fin cfg0.N) (y : S1024x1024.Idx) : iblk m c 7 t y = m ((c : Thread nD τ).loc main_arg7) y := by
  refine Eq.trans ?_ (wo_host m c y)
  blk_ext [iblk, idx t]

/-- Every grid point reads the whole row of gains. -/
theorem g_at (c : Dev nD) (t : Fin cfg0.N) (y : S1x1024.Idx) (k : S1024.Idx) (h : (k 0 : ℕ) = y 1) :
    iblk m c 8 t y = m ((c : Thread nD τ).loc main_arg8) k := by
  blk_simp [iblk]
  refine gain m c _ k ?_
  blk_simp [idx t]
  simpa using h

end Cert.Proof.Merge

end
-- ==== Proof.MergePoint.lean ====
/- What the stores of the merging call leave at an index, over blocks as variables: the reference's entry. -/
module

public import proofs.«01_k».proof.Proof.Gen.Kernel3Ideal.Frame
public import Idealize.ShloMosaic.Lib.Pipeline.ValueKit
public import Idealize.ShloMosaic.Lib.Pointwise
public import Idealize.ShloMosaic.Lib.StableHlo.RunRead
public import proofs.«01_k».proof.Proof.Gen.Reference3Ideal.Read
public import proofs.«01_k».proof.Proof.ProjSigmoid

@[expose] public section

set_option maxRecDepth 16384

noncomputable section

open Idealize.ShloMosaic Idealize.ShloMosaic.TcCoe Idealize.SL.Sem
open Idealize.ShloMosaic.Pipeline (Dat)

namespace Cert.Proof.Merge
open Cert.Kernel3Ideal Cert.Kernel3Ideal.Gen

open Cert.Reference3Ideal.Read
open Cert.Proof.Proj (half_bits sigmoid_ereal)

/-- A gated sum of the two projected rows, of the kernel and of the reference, at an index. -/
theorem gated (ya ym : Vec Ideal S512x512 .bf16) (wa wm : Vec Ideal S512x1024 .bf16) (ga gm : Vec Ideal S512x1024 .bf16)
    (w : Vec Ideal S1024x1024 .bf16)
    (YA YM : Vec Ideal S32768x512 .bf16) (GA GM : Vec Ideal S32768x1024 .bf16) (WA WM : Vec Ideal S512x1024 .f32)
    (W : Vec Ideal S1024x1024 .f32) (r : Fin 512) (R : Fin 32768) (C : Fin 1024)
    (hya : ∀ k : Fin 512, ya (ix2 r k) = YA (ix2 R k)) (hym : ∀ k : Fin 512, ym (ix2 r k) = YM (ix2 R k))
    (hga : ∀ k : Fin 1024, ga (ix2 r k) = GA (ix2 R k)) (hgm : ∀ k : Fin 1024, gm (ix2 r k) = GM (ix2 R k))
    (hwa : ∀ (k : Fin 512) (q : Fin 1024), wa (ix2 k q) = WA (ix2 k q)) (hwm : ∀ (k : Fin 512) (q : Fin 1024), wm (ix2 k q) = WM (ix2 k q))
    (hw : ∀ k q : Fin 1024, w (ix2 k q) = W (ix2 k q)) :
    k0_pay2 (F := Ideal) ya wa ym wm ga gm w (ix2 r C) = val_main_v21 (F := Ideal) YA YM GA GM WA WM W (ix2 R C) := by
  pointwise [k0_pay2, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, hya, hym, hga, hgm, hwa, hwm, hw]
  refine Fin.sum_fin_congr fun k => ?_
  simp only [half_bits, sigmoid_ereal]

/-- A row of the new residual, of the kernel and of the reference, at an index. -/
theorem residual (x : Vec Ideal S512x1024 .f32) (ya ym : Vec Ideal S512x512 .bf16) (wa wm : Vec Ideal S512x1024 .bf16) (ga gm : Vec Ideal S512x1024 .bf16)
    (w : Vec Ideal S1024x1024 .bf16)
    (X : Vec Ideal S32768x1024 .f32) (YA YM : Vec Ideal S32768x512 .bf16) (GA GM : Vec Ideal S32768x1024 .bf16) (WA WM : Vec Ideal S512x1024 .f32)
    (W : Vec Ideal S1024x1024 .f32) (r : Fin 512) (R : Fin 32768) (C : Fin 1024)
    (hya : ∀ k : Fin 512, ya (ix2 r k) = YA (ix2 R k)) (hym : ∀ k : Fin 512, ym (ix2 r k) = YM (ix2 R k))
    (hga : ∀ k : Fin 1024, ga (ix2 r k) = GA (ix2 R k)) (hgm : ∀ k : Fin 1024, gm (ix2 r k) = GM (ix2 R k))
    (hwa : ∀ (k : Fin 512) (q : Fin 1024), wa (ix2 k q) = WA (ix2 k q)) (hwm : ∀ (k : Fin 512) (q : Fin 1024), wm (ix2 k q) = WM (ix2 k q))
    (hw : ∀ k q : Fin 1024, w (ix2 k q) = W (ix2 k q)) (hx : ∀ k : Fin 1024, x (ix2 r k) = X (ix2 R k)) :
    k0_pay3 (F := Ideal) x (k0_pay2 ya wa ym wm ga gm w) (ix2 r C) = val_main_v22 (F := Ideal) X YA YM GA GM WA WM W (ix2 R C) := by
  pointwise [k0_pay3, val_main_v22, hx]
  rw [gated ya ym wa wm ga gm w YA YM GA GM WA WM W r R C hya hym hga hgm hwa hwm hw]

/-- A row of the kernel's normalization over a row that is the reference's, at an index. -/
theorem normed (x d : Vec Ideal S512x1024 .f32) (g : Vec Ideal S1x1024 .f32)
    (X : Vec Ideal S32768x1024 .f32) (YA YM : Vec Ideal S32768x512 .bf16) (GA GM : Vec Ideal S32768x1024 .bf16) (WA WM : Vec Ideal S512x1024 .f32)
    (W : Vec Ideal S1024x1024 .f32) (G : Vec Ideal S1024 .f32) (r : Fin 512) (R : Fin 32768) (C : Fin 1024)
    (hr : ∀ k : Fin 1024, k0_pay3 (F := Ideal) x d (ix2 r k) = val_main_v22 (F := Ideal) X YA YM GA GM WA WM W (ix2 R k))
    (hg : ∀ k : Fin 1024, g (ix2 0 k) = G (ix1 k)) :
    k0_pay4 (F := Ideal) x d g (ix2 r C) = val_main_v35 (F := Ideal) X YA YM GA GM WA WM W G (ix2 R C) := by
  pointwise [k0_pay4, val_main_v35, val_main_v34, val_main_v33, val_main_v32, val_main_v31, val_main_v30, val_main_v29,
    val_main_v28, val_main_v27, val_main_v26, val_main_v25, val_main_v24, val_main_v23, val_main_cst_3, val_main_cst_4,
    val_main_cst_5, hr, hg]

end Cert.Proof.Merge

end
-- ==== Proof.MergeFinal.lean ====
/- The residual and the normalized rows that the merging call leaves after its run, as the reference's terms over the arguments. -/
module

public import proofs.«01_k».proof.Proof.Gen.Kernel3Ideal.Frame
public import Idealize.ShloMosaic.Lib.Pipeline.ValueKit
public import Idealize.ShloMosaic.Lib.Pointwise
public import Idealize.ShloMosaic.Lib.StableHlo.RunRead
public import proofs.«01_k».proof.Proof.Gen.Reference3Ideal.Read
public import proofs.«01_k».proof.Proof.MergeHost
public import proofs.«01_k».proof.Proof.MergePoint

@[expose] public section

set_option maxRecDepth 16384

noncomputable section

open Idealize.ShloMosaic Idealize.ShloMosaic.TcCoe Idealize.SL.Sem
open Idealize.ShloMosaic.Pipeline (Dat)

namespace Cert.Proof.Merge
open Cert.Kernel3Ideal Cert.Kernel3Ideal.Gen

variable (m : (ℓ : Loc nD τ sig) → Buf (Elt Ideal) ℓ)

open Cert.Reference3Ideal.Read

/-- What a grid point stores of the new residual, over the blocks it read, in one of its rows. -/
theorem row12 (c : Dev nD) (t : Fin cfg0.N) (y0 : Fin 512) (j0 : Fin 32768) (h0 : (j0 : ℕ) = t.val * 512 + y0) (k : Fin 1024) :
    k0_pay3 (F := Ideal) (iblk m c 0 t) (k0_pay2 (iblk m c 1 t) (iblk m c 5 t) (iblk m c 2 t) (iblk m c 6 t) (iblk m c 3 t) (iblk m c 4 t) (iblk m c 7 t)) (ix2 y0 k)
      = val_main_v22 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (ix2 j0 k) :=
  residual (iblk m c 0 t) (iblk m c 1 t) (iblk m c 2 t) (iblk m c 5 t) (iblk m c 6 t) (iblk m c 3 t) (iblk m c 4 t) (iblk m c 7 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) y0 j0 k
    (fun k => ya_at m c t _ _ h0 rfl) (fun k => ym_at m c t _ _ h0 rfl) (fun k => ga_at m c t _ _ h0 rfl)
    (fun k => gm_at m c t _ _ h0 rfl) (fun k q => wa_at m c t _) (fun k q => wm_at m c t _) (fun k q => wo_at m c t _)
    (fun k => x_at m c t _ _ h0 rfl)

/-- The new residual that a grid point stores. -/
theorem at12 (c : Dev nD) (t : Fin cfg0.N) (y : S512x1024.Idx) (j : Cert.Reference3Ideal.S32768x1024.Idx)
    (h0 : (j 0 : ℕ) = t.val * 512 + y 0) (h1 : (j 1 : ℕ) = y 1) :
    k0_pay3 (F := Ideal) (iblk m c 0 t) (k0_pay2 (iblk m c 1 t) (iblk m c 5 t) (iblk m c 2 t) (iblk m c 6 t) (iblk m c 3 t) (iblk m c 4 t) (iblk m c 7 t)) y
      = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  idx_vars y
  idx_vars j
  obtain rfl : j1 = y1 := Fin.ext h1
  exact row12 m c t y0 j0 h0 _

/-- The normalized rows that a grid point stores. -/
theorem at13 (c : Dev nD) (t : Fin cfg0.N) (y : S512x1024.Idx) (j : Cert.Reference3Ideal.S32768x1024.Idx)
    (h0 : (j 0 : ℕ) = t.val * 512 + y 0) (h1 : (j 1 : ℕ) = y 1) :
    k0_pay4 (F := Ideal) (iblk m c 0 t) (k0_pay2 (iblk m c 1 t) (iblk m c 5 t) (iblk m c 2 t) (iblk m c 6 t) (iblk m c 3 t) (iblk m c 4 t) (iblk m c 7 t)) (iblk m c 8 t) y
      = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  idx_vars y
  idx_vars j
  obtain rfl : j1 = y1 := Fin.ext h1
  exact normed (iblk m c 0 t) (k0_pay2 (iblk m c 1 t) (iblk m c 5 t) (iblk m c 2 t) (iblk m c 6 t) (iblk m c 3 t) (iblk m c 4 t) (iblk m c 7 t)) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) y0 j0 _ (row12 m c t y0 j0 h0) (fun k => g_at m c t _ _ rfl)

/-- The new residual, after the run: the reference's. -/
theorem final12 (c : Dev nD) : (dats m 0 c).arrAt 12 cfg0.N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  unfold_out out0_12
  frame_out
  refine at12 m c t y _ ?_ ?_ <;> (blk_simp [idx t] <;> try omega)

/-- The normalized rows, after the run: the reference's. -/
theorem final13 (c : Dev nD) : (dats m 0 c).arrAt 13 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  unfold_out out0_13
  frame_out
  refine at13 m c t y _ ?_ ?_ <;> (blk_simp [idx t] <;> try omega)

end Cert.Proof.Merge

end
-- ==== Proof.MergeRun.lean ====
/- The merging call and its reference: their frames, and the equality of their result arrays over the extended reals. -/
module

public import proofs.«01_k».proof.Defs
public import proofs.«01_k».proof.Proof.Gen.Kernel3.Frame
public import proofs.«01_k».proof.Proof.Gen.Kernel3Ideal.Value
public import proofs.«01_k».proof.Proof.MergeFinal
public import Idealize.ShloMosaic.Lib.Quiescent

@[expose] public section

set_option maxRecDepth 16384

noncomputable section

namespace Cert.Proof.Merge

open Idealize.ShloMosaic Idealize.ShloMosaic.TcCoe Idealize.SL.Sem

/-- The reference's frame. -/
theorem plain_frame : Cert.quiescent_Reference3Ideal (hReference3Ideal := Cert.Reference3Ideal.Gen.facts) := by
  intro m ρ _
  exact (θ_run _ _ _).mono (fun r h => ⟨fun c => (h c).2.2, sem_eq_zero_of_no_sems (by decide) r.2⟩)
    (Cert.Reference3Ideal.Value.run m ρ)

/-- The call's arrays are its reference's. -/
theorem equal : Cert.algebraic_Kernel3Ideal_Reference3Ideal (hKernel3Ideal := Cert.Kernel3Ideal.Gen.facts)
    (hReference3Ideal := Cert.Reference3Ideal.Gen.facts) := by
  intro m g m' g' _ agree
  refine ⟨_, _, (θ_run _ _ _).mono (fun _ h c => ⟨(h c).1, (h c).2.1, (h c).2.2.2.2⟩) (Cert.Kernel3Ideal.Value.run_blocks m g),
    (θ_run _ _ _).mono (fun _ h c => ?_) (Cert.Reference3Ideal.Value.run m' g')⟩
  obtain ⟨a0, a1, a2, a3, a4, a5, a6, a7, a8, -⟩ := agree c
  obtain ⟨e0, e1, rest⟩ := h c
  rw [Cert.Reference3Ideal.Read.val_main_v22_eq] at e0
  rw [Cert.Reference3Ideal.Read.val_main_v35_eq] at e1
  rw [a0, a1, a2, a3, a4, a5, a6, a7] at e0 e1
  rw [a8] at e1
  exact ⟨e0.trans (final12 m c).symm, e1.trans (final13 m c).symm, rest⟩

end Cert.Proof.Merge

end
-- ==== Proof.lean ====
/- The certificate: both programs' side conditions, both frames, and the equality of the two results bit by bit. Untrusted. -/
module

public import proofs.«01_k».proof.Defs
public import proofs.«01_k».proof.Proof.Result
public import proofs.«01_k».proof.Proof.PlainRun
public import proofs.«01_k».proof.Proof.ProjRun
public import proofs.«01_k».proof.Proof.MergeRun

@[expose] public section

noncomputable section

namespace Cert.Proof

open Idealize.ShloMosaic Idealize.SL.Sem

/-- The frames of all programs, the bit-exact equality of the sparse attention, and the equality over the extended reals
    of the input projection and of the merging call. -/
theorem claim : Cert.Claim :=
  ⟨Cert.Kernel.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    fun m ρ _ => (θ_run _ _ _).mono (fun _ h => ⟨fun c => (h.1 c).2, h.2⟩) (Sel.ends m ρ),
    fun m ρ _ => (θ_run _ _ _).mono (fun _ h => ⟨fun c => (h.1 c).2, h.2⟩) (Plain.ends m ρ),
    fun m ρ _ => Cert.Kernel2.Gen.frame m ρ,
    fun m ρ _ => Cert.Kernel2Ideal.Gen.frame m ρ,
    Proj.plain_frame,
    fun m ρ _ => Cert.Kernel3.Gen.frame m ρ,
    fun m ρ _ => Cert.Kernel3Ideal.Gen.frame m ρ,
    Merge.plain_frame,
    fun m ρ m' ρ' _ agree => ⟨fun c => Sel.whole m c,
      (θ_run _ _ _).mono (fun _ h => h.1) (Sel.ends m ρ),
      (θ_run _ _ _).mono (fun _ h c => ⟨(h.1 c).1.trans
        (Plain.attended_congr (agree c).1 (agree c).2.1 (agree c).2.2.1 (agree c).2.2.2.1 (agree c).2.2.2.2.1 (agree c).2.2.2.2.2),
        (h.1 c).2⟩) (Plain.ends m' ρ')⟩,
    trivial, Proj.equal, trivial, Merge.equal⟩

end Cert.Proof
